-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_attention_finite [hPre_attention_finite : Cert.Pre_attention_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_attention_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_attention_finite [hPre_attention_finite : Cert.Pre_attention_finite.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_attention_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_InProjConformer (m : (ℓ : Loc Cert.InProjConformer.nD Cert.InProjConformer.τ Cert.InProjConformer.sig) → Buf (Elt Bits) ℓ) : Prop :=
  True

def Pre_InProjConformerIdeal (m : (ℓ : Loc Cert.InProjConformerIdeal.nD Cert.InProjConformerIdeal.τ Cert.InProjConformerIdeal.sig) → Buf (Elt Ideal) ℓ) : Prop :=
  True

def Pre_InProjConformerReferenceIdeal (m : (ℓ : Loc Cert.InProjConformerReferenceIdeal.nD Cert.InProjConformerReferenceIdeal.τ Cert.InProjConformerReferenceIdeal.sig) → Buf (Elt Ideal) ℓ) : Prop :=
  True

def Pre_InProjGdn (m : (ℓ : Loc Cert.InProjGdn.nD Cert.InProjGdn.τ Cert.InProjGdn.sig) → Buf (Elt Bits) ℓ) : Prop :=
  True

def Pre_InProjGdnIdeal (m : (ℓ : Loc Cert.InProjGdnIdeal.nD Cert.InProjGdnIdeal.τ Cert.InProjGdnIdeal.sig) → Buf (Elt Ideal) ℓ) : Prop :=
  True

def Pre_InProjGdnReferenceIdeal (m : (ℓ : Loc Cert.InProjGdnReferenceIdeal.nD Cert.InProjGdnReferenceIdeal.τ Cert.InProjGdnReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_OutProjHyena (m : (ℓ : Loc Cert.OutProjHyena.nD Cert.OutProjHyena.τ Cert.OutProjHyena.sig) → Buf (Elt Bits) ℓ) : Prop :=
  True

def Pre_OutProjHyenaIdeal (m : (ℓ : Loc Cert.OutProjHyenaIdeal.nD Cert.OutProjHyenaIdeal.τ Cert.OutProjHyenaIdeal.sig) → Buf (Elt Ideal) ℓ) : Prop :=
  True

def Pre_OutProjHyenaReferenceIdeal (m : (ℓ : Loc Cert.OutProjHyenaReferenceIdeal.nD Cert.OutProjHyenaReferenceIdeal.τ Cert.OutProjHyenaReferenceIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutReferenceIdeal (m : (ℓ : Loc Cert.GdnOutReferenceIdeal.nD Cert.GdnOutReferenceIdeal.τ Cert.GdnOutReferenceIdeal.sig) → Buf (Elt Ideal) ℓ) : Prop :=
  True

def Pre_GdnScan (m : (ℓ : Loc Cert.GdnScan.nD Cert.GdnScan.τ Cert.GdnScan.sig) → Buf (Elt Bits) ℓ) : Prop :=
  True

def Pre_GdnScanIdeal (m : (ℓ : Loc Cert.GdnScanIdeal.nD Cert.GdnScanIdeal.τ Cert.GdnScanIdeal.sig) → Buf (Elt Ideal) ℓ) : Prop :=
  True

def Pre_GdnScanIdeal_scan_finite [hPre_scan_finite : Cert.Pre_scan_finite.Facts] (m : (ℓ : Loc Cert.GdnScanIdeal.nD Cert.GdnScanIdeal.τ Cert.GdnScanIdeal.sig) → Buf (Elt Ideal) ℓ) : Prop :=
  ∀ c : Dev Cert.GdnScanIdeal.nD,
    (Cert.Pre_scan_finite.fn (F := Ideal) (m ((c.tc : Thread Cert.GdnScanIdeal.nD Cert.GdnScanIdeal.τ).loc Cert.GdnScanIdeal.main_arg0)) (m ((c.tc : Thread Cert.GdnScanIdeal.nD Cert.GdnScanIdeal.τ).loc Cert.GdnScanIdeal.main_arg1)) (m ((c.tc : Thread Cert.GdnScanIdeal.nD Cert.GdnScanIdeal.τ).loc Cert.GdnScanIdeal.main_arg2)) (m ((c.tc : Thread Cert.GdnScanIdeal.nD Cert.GdnScanIdeal.τ).loc Cert.GdnScanIdeal.main_arg3))) = (fun _ => 1#1)

def Pre_GdnScanReferenceIdeal (m : (ℓ : Loc Cert.GdnScanReferenceIdeal.nD Cert.GdnScanReferenceIdeal.τ Cert.GdnScanReferenceIdeal.sig) → Buf (Elt Ideal) ℓ) : Prop :=
  True

def Pre_GdnScanReferenceIdeal_scan_finite [hPre_scan_finite : Cert.Pre_scan_finite.Facts] (m : (ℓ : Loc Cert.GdnScanReferenceIdeal.nD Cert.GdnScanReferenceIdeal.τ Cert.GdnScanReferenceIdeal.sig) → Buf (Elt Ideal) ℓ) : Prop :=
  ∀ c : Dev Cert.GdnScanReferenceIdeal.nD,
    (Cert.Pre_scan_finite.fn (F := Ideal) (m ((c.tc : Thread Cert.GdnScanReferenceIdeal.nD Cert.GdnScanReferenceIdeal.τ).loc Cert.GdnScanReferenceIdeal.main_arg0)) (m ((c.tc : Thread Cert.GdnScanReferenceIdeal.nD Cert.GdnScanReferenceIdeal.τ).loc Cert.GdnScanReferenceIdeal.main_arg1)) (m ((c.tc : Thread Cert.GdnScanReferenceIdeal.nD Cert.GdnScanReferenceIdeal.τ).loc Cert.GdnScanReferenceIdeal.main_arg2)) (m ((c.tc : Thread Cert.GdnScanReferenceIdeal.nD Cert.GdnScanReferenceIdeal.τ).loc Cert.GdnScanReferenceIdeal.main_arg3))) = (fun _ => 1#1)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionIdeal_pre_attention_finite [hAttentionIdeal : Cert.AttentionIdeal.Facts] [hPre_attention_finite : Cert.Pre_attention_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_attention_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def quiescent_AttentionReferenceIdeal_pre_attention_finite [hAttentionReferenceIdeal : Cert.AttentionReferenceIdeal.Facts] [hPre_attention_finite : Cert.Pre_attention_finite.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_attention_finite m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_InProjConformer [hInProjConformer : Cert.InProjConformer.Facts] : Prop :=
  ∀ (m : (ℓ : Loc Cert.InProjConformer.nD Cert.InProjConformer.τ Cert.InProjConformer.sig) → Buf (Elt Bits) ℓ) (g : Dev Cert.InProjConformer.nD → PrngReg), Pre_InProjConformer m →
    θ_run (Cert.InProjConformer.defs (F := Bits)) (onTc (τ := Cert.InProjConformer.τ) (Cert.InProjConformer.main (F := Bits))) ⟨m, fun _ => 0, g⟩ (fun r => (∀ c : Dev Cert.InProjConformer.nD,
      r.2.mem ((c.tc : Thread Cert.InProjConformer.nD Cert.InProjConformer.τ).loc Cert.InProjConformer.main_arg0) = m ((c.tc : Thread Cert.InProjConformer.nD Cert.InProjConformer.τ).loc Cert.InProjConformer.main_arg0)
      ∧ r.2.mem ((c.tc : Thread Cert.InProjConformer.nD Cert.InProjConformer.τ).loc Cert.InProjConformer.main_arg1) = m ((c.tc : Thread Cert.InProjConformer.nD Cert.InProjConformer.τ).loc Cert.InProjConformer.main_arg1)
      ∧ r.2.mem ((c.tc : Thread Cert.InProjConformer.nD Cert.InProjConformer.τ).loc Cert.InProjConformer.main_arg2) = m ((c.tc : Thread Cert.InProjConformer.nD Cert.InProjConformer.τ).loc Cert.InProjConformer.main_arg2)
      ∧ r.2.mem ((c.tc : Thread Cert.InProjConformer.nD Cert.InProjConformer.τ).loc Cert.InProjConformer.main_arg3) = m ((c.tc : Thread Cert.InProjConformer.nD Cert.InProjConformer.τ).loc Cert.InProjConformer.main_arg3))
      ∧ r.2.sem = fun _ => 0)

def quiescent_InProjConformerIdeal [hInProjConformerIdeal : Cert.InProjConformerIdeal.Facts] : Prop :=
  ∀ (m : (ℓ : Loc Cert.InProjConformerIdeal.nD Cert.InProjConformerIdeal.τ Cert.InProjConformerIdeal.sig) → Buf (Elt Ideal) ℓ) (g : Dev Cert.InProjConformerIdeal.nD → PrngReg), Pre_InProjConformerIdeal m →
    θ_run (Cert.InProjConformerIdeal.defs (F := Ideal)) (onTc (τ := Cert.InProjConformerIdeal.τ) (Cert.InProjConformerIdeal.main (F := Ideal))) ⟨m, fun _ => 0, g⟩ (fun r => (∀ c : Dev Cert.InProjConformerIdeal.nD,
      r.2.mem ((c.tc : Thread Cert.InProjConformerIdeal.nD Cert.InProjConformerIdeal.τ).loc Cert.InProjConformerIdeal.main_arg0) = m ((c.tc : Thread Cert.InProjConformerIdeal.nD Cert.InProjConformerIdeal.τ).loc Cert.InProjConformerIdeal.main_arg0)
      ∧ r.2.mem ((c.tc : Thread Cert.InProjConformerIdeal.nD Cert.InProjConformerIdeal.τ).loc Cert.InProjConformerIdeal.main_arg1) = m ((c.tc : Thread Cert.InProjConformerIdeal.nD Cert.InProjConformerIdeal.τ).loc Cert.InProjConformerIdeal.main_arg1)
      ∧ r.2.mem ((c.tc : Thread Cert.InProjConformerIdeal.nD Cert.InProjConformerIdeal.τ).loc Cert.InProjConformerIdeal.main_arg2) = m ((c.tc : Thread Cert.InProjConformerIdeal.nD Cert.InProjConformerIdeal.τ).loc Cert.InProjConformerIdeal.main_arg2)
      ∧ r.2.mem ((c.tc : Thread Cert.InProjConformerIdeal.nD Cert.InProjConformerIdeal.τ).loc Cert.InProjConformerIdeal.main_arg3) = m ((c.tc : Thread Cert.InProjConformerIdeal.nD Cert.InProjConformerIdeal.τ).loc Cert.InProjConformerIdeal.main_arg3))
      ∧ r.2.sem = fun _ => 0)

def quiescent_InProjConformerReferenceIdeal [hInProjConformerReferenceIdeal : Cert.InProjConformerReferenceIdeal.Facts] : Prop :=
  ∀ (m : (ℓ : Loc Cert.InProjConformerReferenceIdeal.nD Cert.InProjConformerReferenceIdeal.τ Cert.InProjConformerReferenceIdeal.sig) → Buf (Elt Ideal) ℓ) (g : Dev Cert.InProjConformerReferenceIdeal.nD → PrngReg), Pre_InProjConformerReferenceIdeal m →
    θ_run (Cert.InProjConformerReferenceIdeal.defs (F := Ideal)) (onTc (τ := Cert.InProjConformerReferenceIdeal.τ) (Cert.InProjConformerReferenceIdeal.main (F := Ideal))) ⟨m, fun _ => 0, g⟩ (fun r => (∀ c : Dev Cert.InProjConformerReferenceIdeal.nD,
      r.2.mem ((c.tc : Thread Cert.InProjConformerReferenceIdeal.nD Cert.InProjConformerReferenceIdeal.τ).loc Cert.InProjConformerReferenceIdeal.main_arg0) = m ((c.tc : Thread Cert.InProjConformerReferenceIdeal.nD Cert.InProjConformerReferenceIdeal.τ).loc Cert.InProjConformerReferenceIdeal.main_arg0)
      ∧ r.2.mem ((c.tc : Thread Cert.InProjConformerReferenceIdeal.nD Cert.InProjConformerReferenceIdeal.τ).loc Cert.InProjConformerReferenceIdeal.main_arg1) = m ((c.tc : Thread Cert.InProjConformerReferenceIdeal.nD Cert.InProjConformerReferenceIdeal.τ).loc Cert.InProjConformerReferenceIdeal.main_arg1)
      ∧ r.2.mem ((c.tc : Thread Cert.InProjConformerReferenceIdeal.nD Cert.InProjConformerReferenceIdeal.τ).loc Cert.InProjConformerReferenceIdeal.main_arg2) = m ((c.tc : Thread Cert.InProjConformerReferenceIdeal.nD Cert.InProjConformerReferenceIdeal.τ).loc Cert.InProjConformerReferenceIdeal.main_arg2)
      ∧ r.2.mem ((c.tc : Thread Cert.InProjConformerReferenceIdeal.nD Cert.InProjConformerReferenceIdeal.τ).loc Cert.InProjConformerReferenceIdeal.main_arg3) = m ((c.tc : Thread Cert.InProjConformerReferenceIdeal.nD Cert.InProjConformerReferenceIdeal.τ).loc Cert.InProjConformerReferenceIdeal.main_arg3))
      ∧ r.2.sem = fun _ => 0)

def quiescent_InProjGdn [hInProjGdn : Cert.InProjGdn.Facts] : Prop :=
  ∀ (m : (ℓ : Loc Cert.InProjGdn.nD Cert.InProjGdn.τ Cert.InProjGdn.sig) → Buf (Elt Bits) ℓ) (g : Dev Cert.InProjGdn.nD → PrngReg), Pre_InProjGdn m →
    θ_run (Cert.InProjGdn.defs (F := Bits)) (onTc (τ := Cert.InProjGdn.τ) (Cert.InProjGdn.main (F := Bits))) ⟨m, fun _ => 0, g⟩ (fun r => (∀ c : Dev Cert.InProjGdn.nD,
      r.2.mem ((c.tc : Thread Cert.InProjGdn.nD Cert.InProjGdn.τ).loc Cert.InProjGdn.main_arg0) = m ((c.tc : Thread Cert.InProjGdn.nD Cert.InProjGdn.τ).loc Cert.InProjGdn.main_arg0)
      ∧ r.2.mem ((c.tc : Thread Cert.InProjGdn.nD Cert.InProjGdn.τ).loc Cert.InProjGdn.main_arg1) = m ((c.tc : Thread Cert.InProjGdn.nD Cert.InProjGdn.τ).loc Cert.InProjGdn.main_arg1)
      ∧ r.2.mem ((c.tc : Thread Cert.InProjGdn.nD Cert.InProjGdn.τ).loc Cert.InProjGdn.main_arg2) = m ((c.tc : Thread Cert.InProjGdn.nD Cert.InProjGdn.τ).loc Cert.InProjGdn.main_arg2)
      ∧ r.2.mem ((c.tc : Thread Cert.InProjGdn.nD Cert.InProjGdn.τ).loc Cert.InProjGdn.main_arg3) = m ((c.tc : Thread Cert.InProjGdn.nD Cert.InProjGdn.τ).loc Cert.InProjGdn.main_arg3))
      ∧ r.2.sem = fun _ => 0)

def quiescent_InProjGdnIdeal [hInProjGdnIdeal : Cert.InProjGdnIdeal.Facts] : Prop :=
  ∀ (m : (ℓ : Loc Cert.InProjGdnIdeal.nD Cert.InProjGdnIdeal.τ Cert.InProjGdnIdeal.sig) → Buf (Elt Ideal) ℓ) (g : Dev Cert.InProjGdnIdeal.nD → PrngReg), Pre_InProjGdnIdeal m →
    θ_run (Cert.InProjGdnIdeal.defs (F := Ideal)) (onTc (τ := Cert.InProjGdnIdeal.τ) (Cert.InProjGdnIdeal.main (F := Ideal))) ⟨m, fun _ => 0, g⟩ (fun r => (∀ c : Dev Cert.InProjGdnIdeal.nD,
      r.2.mem ((c.tc : Thread Cert.InProjGdnIdeal.nD Cert.InProjGdnIdeal.τ).loc Cert.InProjGdnIdeal.main_arg0) = m ((c.tc : Thread Cert.InProjGdnIdeal.nD Cert.InProjGdnIdeal.τ).loc Cert.InProjGdnIdeal.main_arg0)
      ∧ r.2.mem ((c.tc : Thread Cert.InProjGdnIdeal.nD Cert.InProjGdnIdeal.τ).loc Cert.InProjGdnIdeal.main_arg1) = m ((c.tc : Thread Cert.InProjGdnIdeal.nD Cert.InProjGdnIdeal.τ).loc Cert.InProjGdnIdeal.main_arg1)
      ∧ r.2.mem ((c.tc : Thread Cert.InProjGdnIdeal.nD Cert.InProjGdnIdeal.τ).loc Cert.InProjGdnIdeal.main_arg2) = m ((c.tc : Thread Cert.InProjGdnIdeal.nD Cert.InProjGdnIdeal.τ).loc Cert.InProjGdnIdeal.main_arg2)
      ∧ r.2.mem ((c.tc : Thread Cert.InProjGdnIdeal.nD Cert.InProjGdnIdeal.τ).loc Cert.InProjGdnIdeal.main_arg3) = m ((c.tc : Thread Cert.InProjGdnIdeal.nD Cert.InProjGdnIdeal.τ).loc Cert.InProjGdnIdeal.main_arg3))
      ∧ r.2.sem = fun _ => 0)

def quiescent_InProjGdnReferenceIdeal [hInProjGdnReferenceIdeal : Cert.InProjGdnReferenceIdeal.Facts] : Prop :=
  ∀ (m : (ℓ : Loc Cert.InProjGdnReferenceIdeal.nD Cert.InProjGdnReferenceIdeal.τ Cert.InProjGdnReferenceIdeal.sig) → Buf (Elt Ideal) ℓ) (g : Dev Cert.InProjGdnReferenceIdeal.nD → PrngReg), Pre_InProjGdnReferenceIdeal m →
    θ_run (Cert.InProjGdnReferenceIdeal.defs (F := Ideal)) (onTc (τ := Cert.InProjGdnReferenceIdeal.τ) (Cert.InProjGdnReferenceIdeal.main (F := Ideal))) ⟨m, fun _ => 0, g⟩ (fun r => (∀ c : Dev Cert.InProjGdnReferenceIdeal.nD,
      r.2.mem ((c.tc : Thread Cert.InProjGdnReferenceIdeal.nD Cert.InProjGdnReferenceIdeal.τ).loc Cert.InProjGdnReferenceIdeal.main_arg0) = m ((c.tc : Thread Cert.InProjGdnReferenceIdeal.nD Cert.InProjGdnReferenceIdeal.τ).loc Cert.InProjGdnReferenceIdeal.main_arg0)
      ∧ r.2.mem ((c.tc : Thread Cert.InProjGdnReferenceIdeal.nD Cert.InProjGdnReferenceIdeal.τ).loc Cert.InProjGdnReferenceIdeal.main_arg1) = m ((c.tc : Thread Cert.InProjGdnReferenceIdeal.nD Cert.InProjGdnReferenceIdeal.τ).loc Cert.InProjGdnReferenceIdeal.main_arg1)
      ∧ r.2.mem ((c.tc : Thread Cert.InProjGdnReferenceIdeal.nD Cert.InProjGdnReferenceIdeal.τ).loc Cert.InProjGdnReferenceIdeal.main_arg2) = m ((c.tc : Thread Cert.InProjGdnReferenceIdeal.nD Cert.InProjGdnReferenceIdeal.τ).loc Cert.InProjGdnReferenceIdeal.main_arg2)
      ∧ r.2.mem ((c.tc : Thread Cert.InProjGdnReferenceIdeal.nD Cert.InProjGdnReferenceIdeal.τ).loc Cert.InProjGdnReferenceIdeal.main_arg3) = m ((c.tc : Thread Cert.InProjGdnReferenceIdeal.nD Cert.InProjGdnReferenceIdeal.τ).loc Cert.InProjGdnReferenceIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_OutProjHyena [hOutProjHyena : Cert.OutProjHyena.Facts] : Prop :=
  ∀ (m : (ℓ : Loc Cert.OutProjHyena.nD Cert.OutProjHyena.τ Cert.OutProjHyena.sig) → Buf (Elt Bits) ℓ) (g : Dev Cert.OutProjHyena.nD → PrngReg), Pre_OutProjHyena m →
    θ_run (Cert.OutProjHyena.defs (F := Bits)) (onTc (τ := Cert.OutProjHyena.τ) (Cert.OutProjHyena.main (F := Bits))) ⟨m, fun _ => 0, g⟩ (fun r => (∀ c : Dev Cert.OutProjHyena.nD,
      r.2.mem ((c.tc : Thread Cert.OutProjHyena.nD Cert.OutProjHyena.τ).loc Cert.OutProjHyena.main_arg0) = m ((c.tc : Thread Cert.OutProjHyena.nD Cert.OutProjHyena.τ).loc Cert.OutProjHyena.main_arg0)
      ∧ r.2.mem ((c.tc : Thread Cert.OutProjHyena.nD Cert.OutProjHyena.τ).loc Cert.OutProjHyena.main_arg1) = m ((c.tc : Thread Cert.OutProjHyena.nD Cert.OutProjHyena.τ).loc Cert.OutProjHyena.main_arg1)
      ∧ r.2.mem ((c.tc : Thread Cert.OutProjHyena.nD Cert.OutProjHyena.τ).loc Cert.OutProjHyena.main_arg2) = m ((c.tc : Thread Cert.OutProjHyena.nD Cert.OutProjHyena.τ).loc Cert.OutProjHyena.main_arg2)
      ∧ r.2.mem ((c.tc : Thread Cert.OutProjHyena.nD Cert.OutProjHyena.τ).loc Cert.OutProjHyena.main_arg3) = m ((c.tc : Thread Cert.OutProjHyena.nD Cert.OutProjHyena.τ).loc Cert.OutProjHyena.main_arg3)
      ∧ r.2.mem ((c.tc : Thread Cert.OutProjHyena.nD Cert.OutProjHyena.τ).loc Cert.OutProjHyena.main_arg4) = m ((c.tc : Thread Cert.OutProjHyena.nD Cert.OutProjHyena.τ).loc Cert.OutProjHyena.main_arg4))
      ∧ r.2.sem = fun _ => 0)

def quiescent_OutProjHyenaIdeal [hOutProjHyenaIdeal : Cert.OutProjHyenaIdeal.Facts] : Prop :=
  ∀ (m : (ℓ : Loc Cert.OutProjHyenaIdeal.nD Cert.OutProjHyenaIdeal.τ Cert.OutProjHyenaIdeal.sig) → Buf (Elt Ideal) ℓ) (g : Dev Cert.OutProjHyenaIdeal.nD → PrngReg), Pre_OutProjHyenaIdeal m →
    θ_run (Cert.OutProjHyenaIdeal.defs (F := Ideal)) (onTc (τ := Cert.OutProjHyenaIdeal.τ) (Cert.OutProjHyenaIdeal.main (F := Ideal))) ⟨m, fun _ => 0, g⟩ (fun r => (∀ c : Dev Cert.OutProjHyenaIdeal.nD,
      r.2.mem ((c.tc : Thread Cert.OutProjHyenaIdeal.nD Cert.OutProjHyenaIdeal.τ).loc Cert.OutProjHyenaIdeal.main_arg0) = m ((c.tc : Thread Cert.OutProjHyenaIdeal.nD Cert.OutProjHyenaIdeal.τ).loc Cert.OutProjHyenaIdeal.main_arg0)
      ∧ r.2.mem ((c.tc : Thread Cert.OutProjHyenaIdeal.nD Cert.OutProjHyenaIdeal.τ).loc Cert.OutProjHyenaIdeal.main_arg1) = m ((c.tc : Thread Cert.OutProjHyenaIdeal.nD Cert.OutProjHyenaIdeal.τ).loc Cert.OutProjHyenaIdeal.main_arg1)
      ∧ r.2.mem ((c.tc : Thread Cert.OutProjHyenaIdeal.nD Cert.OutProjHyenaIdeal.τ).loc Cert.OutProjHyenaIdeal.main_arg2) = m ((c.tc : Thread Cert.OutProjHyenaIdeal.nD Cert.OutProjHyenaIdeal.τ).loc Cert.OutProjHyenaIdeal.main_arg2)
      ∧ r.2.mem ((c.tc : Thread Cert.OutProjHyenaIdeal.nD Cert.OutProjHyenaIdeal.τ).loc Cert.OutProjHyenaIdeal.main_arg3) = m ((c.tc : Thread Cert.OutProjHyenaIdeal.nD Cert.OutProjHyenaIdeal.τ).loc Cert.OutProjHyenaIdeal.main_arg3)
      ∧ r.2.mem ((c.tc : Thread Cert.OutProjHyenaIdeal.nD Cert.OutProjHyenaIdeal.τ).loc Cert.OutProjHyenaIdeal.main_arg4) = m ((c.tc : Thread Cert.OutProjHyenaIdeal.nD Cert.OutProjHyenaIdeal.τ).loc Cert.OutProjHyenaIdeal.main_arg4))
      ∧ r.2.sem = fun _ => 0)

def quiescent_OutProjHyenaReferenceIdeal [hOutProjHyenaReferenceIdeal : Cert.OutProjHyenaReferenceIdeal.Facts] : Prop :=
  ∀ (m : (ℓ : Loc Cert.OutProjHyenaReferenceIdeal.nD Cert.OutProjHyenaReferenceIdeal.τ Cert.OutProjHyenaReferenceIdeal.sig) → Buf (Elt Ideal) ℓ) (g : Dev Cert.OutProjHyenaReferenceIdeal.nD → PrngReg), Pre_OutProjHyenaReferenceIdeal m →
    θ_run (Cert.OutProjHyenaReferenceIdeal.defs (F := Ideal)) (onTc (τ := Cert.OutProjHyenaReferenceIdeal.τ) (Cert.OutProjHyenaReferenceIdeal.main (F := Ideal))) ⟨m, fun _ => 0, g⟩ (fun r => (∀ c : Dev Cert.OutProjHyenaReferenceIdeal.nD,
      r.2.mem ((c.tc : Thread Cert.OutProjHyenaReferenceIdeal.nD Cert.OutProjHyenaReferenceIdeal.τ).loc Cert.OutProjHyenaReferenceIdeal.main_arg0) = m ((c.tc : Thread Cert.OutProjHyenaReferenceIdeal.nD Cert.OutProjHyenaReferenceIdeal.τ).loc Cert.OutProjHyenaReferenceIdeal.main_arg0)
      ∧ r.2.mem ((c.tc : Thread Cert.OutProjHyenaReferenceIdeal.nD Cert.OutProjHyenaReferenceIdeal.τ).loc Cert.OutProjHyenaReferenceIdeal.main_arg1) = m ((c.tc : Thread Cert.OutProjHyenaReferenceIdeal.nD Cert.OutProjHyenaReferenceIdeal.τ).loc Cert.OutProjHyenaReferenceIdeal.main_arg1)
      ∧ r.2.mem ((c.tc : Thread Cert.OutProjHyenaReferenceIdeal.nD Cert.OutProjHyenaReferenceIdeal.τ).loc Cert.OutProjHyenaReferenceIdeal.main_arg2) = m ((c.tc : Thread Cert.OutProjHyenaReferenceIdeal.nD Cert.OutProjHyenaReferenceIdeal.τ).loc Cert.OutProjHyenaReferenceIdeal.main_arg2)
      ∧ r.2.mem ((c.tc : Thread Cert.OutProjHyenaReferenceIdeal.nD Cert.OutProjHyenaReferenceIdeal.τ).loc Cert.OutProjHyenaReferenceIdeal.main_arg3) = m ((c.tc : Thread Cert.OutProjHyenaReferenceIdeal.nD Cert.OutProjHyenaReferenceIdeal.τ).loc Cert.OutProjHyenaReferenceIdeal.main_arg3)
      ∧ r.2.mem ((c.tc : Thread Cert.OutProjHyenaReferenceIdeal.nD Cert.OutProjHyenaReferenceIdeal.τ).loc Cert.OutProjHyenaReferenceIdeal.main_arg4) = m ((c.tc : Thread Cert.OutProjHyenaReferenceIdeal.nD Cert.OutProjHyenaReferenceIdeal.τ).loc Cert.OutProjHyenaReferenceIdeal.main_arg4))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3)
      ∧ r.2.mem ((c.tc : Thread Cert.GdnOut.nD Cert.GdnOut.τ).loc Cert.GdnOut.main_arg4) = m ((c.tc : Thread Cert.GdnOut.nD Cert.GdnOut.τ).loc Cert.GdnOut.main_arg4)
      ∧ r.2.mem ((c.tc : Thread Cert.GdnOut.nD Cert.GdnOut.τ).loc Cert.GdnOut.main_arg5) = m ((c.tc : Thread Cert.GdnOut.nD Cert.GdnOut.τ).loc Cert.GdnOut.main_arg5))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
      ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4)
      ∧ r.2.mem ((c.tc : Thread Cert.GdnOutIdeal.nD Cert.GdnOutIdeal.τ).loc Cert.GdnOutIdeal.main_arg5) = m ((c.tc : Thread Cert.GdnOutIdeal.nD Cert.GdnOutIdeal.τ).loc Cert.GdnOutIdeal.main_arg5))
      ∧ r.2.sem = fun _ => 0)

def quiescent_GdnOutReferenceIdeal [hGdnOutReferenceIdeal : Cert.GdnOutReferenceIdeal.Facts] : Prop :=
  ∀ (m : (ℓ : Loc Cert.GdnOutReferenceIdeal.nD Cert.GdnOutReferenceIdeal.τ Cert.GdnOutReferenceIdeal.sig) → Buf (Elt Ideal) ℓ) (g : Dev Cert.GdnOutReferenceIdeal.nD → PrngReg), Pre_GdnOutReferenceIdeal m →
    θ_run (Cert.GdnOutReferenceIdeal.defs (F := Ideal)) (onTc (τ := Cert.GdnOutReferenceIdeal.τ) (Cert.GdnOutReferenceIdeal.main (F := Ideal))) ⟨m, fun _ => 0, g⟩ (fun r => (∀ c : Dev Cert.GdnOutReferenceIdeal.nD,
      r.2.mem ((c.tc : Thread Cert.GdnOutReferenceIdeal.nD Cert.GdnOutReferenceIdeal.τ).loc Cert.GdnOutReferenceIdeal.main_arg0) = m ((c.tc : Thread Cert.GdnOutReferenceIdeal.nD Cert.GdnOutReferenceIdeal.τ).loc Cert.GdnOutReferenceIdeal.main_arg0)
      ∧ r.2.mem ((c.tc : Thread Cert.GdnOutReferenceIdeal.nD Cert.GdnOutReferenceIdeal.τ).loc Cert.GdnOutReferenceIdeal.main_arg1) = m ((c.tc : Thread Cert.GdnOutReferenceIdeal.nD Cert.GdnOutReferenceIdeal.τ).loc Cert.GdnOutReferenceIdeal.main_arg1)
      ∧ r.2.mem ((c.tc : Thread Cert.GdnOutReferenceIdeal.nD Cert.GdnOutReferenceIdeal.τ).loc Cert.GdnOutReferenceIdeal.main_arg2) = m ((c.tc : Thread Cert.GdnOutReferenceIdeal.nD Cert.GdnOutReferenceIdeal.τ).loc Cert.GdnOutReferenceIdeal.main_arg2)
      ∧ r.2.mem ((c.tc : Thread Cert.GdnOutReferenceIdeal.nD Cert.GdnOutReferenceIdeal.τ).loc Cert.GdnOutReferenceIdeal.main_arg3) = m ((c.tc : Thread Cert.GdnOutReferenceIdeal.nD Cert.GdnOutReferenceIdeal.τ).loc Cert.GdnOutReferenceIdeal.main_arg3)
      ∧ r.2.mem ((c.tc : Thread Cert.GdnOutReferenceIdeal.nD Cert.GdnOutReferenceIdeal.τ).loc Cert.GdnOutReferenceIdeal.main_arg4) = m ((c.tc : Thread Cert.GdnOutReferenceIdeal.nD Cert.GdnOutReferenceIdeal.τ).loc Cert.GdnOutReferenceIdeal.main_arg4)
      ∧ r.2.mem ((c.tc : Thread Cert.GdnOutReferenceIdeal.nD Cert.GdnOutReferenceIdeal.τ).loc Cert.GdnOutReferenceIdeal.main_arg5) = m ((c.tc : Thread Cert.GdnOutReferenceIdeal.nD Cert.GdnOutReferenceIdeal.τ).loc Cert.GdnOutReferenceIdeal.main_arg5))
      ∧ r.2.sem = fun _ => 0)

def quiescent_GdnScan [hGdnScan : Cert.GdnScan.Facts] : Prop :=
  ∀ (m : (ℓ : Loc Cert.GdnScan.nD Cert.GdnScan.τ Cert.GdnScan.sig) → Buf (Elt Bits) ℓ) (g : Dev Cert.GdnScan.nD → PrngReg), Pre_GdnScan m →
    θ_run (Cert.GdnScan.defs (F := Bits)) (onTc (τ := Cert.GdnScan.τ) (Cert.GdnScan.main (F := Bits))) ⟨m, fun _ => 0, g⟩ (fun r => (∀ c : Dev Cert.GdnScan.nD,
      r.2.mem ((c.tc : Thread Cert.GdnScan.nD Cert.GdnScan.τ).loc Cert.GdnScan.main_arg0) = m ((c.tc : Thread Cert.GdnScan.nD Cert.GdnScan.τ).loc Cert.GdnScan.main_arg0)
      ∧ r.2.mem ((c.tc : Thread Cert.GdnScan.nD Cert.GdnScan.τ).loc Cert.GdnScan.main_arg1) = m ((c.tc : Thread Cert.GdnScan.nD Cert.GdnScan.τ).loc Cert.GdnScan.main_arg1)
      ∧ r.2.mem ((c.tc : Thread Cert.GdnScan.nD Cert.GdnScan.τ).loc Cert.GdnScan.main_arg2) = m ((c.tc : Thread Cert.GdnScan.nD Cert.GdnScan.τ).loc Cert.GdnScan.main_arg2)
      ∧ r.2.mem ((c.tc : Thread Cert.GdnScan.nD Cert.GdnScan.τ).loc Cert.GdnScan.main_arg3) = m ((c.tc : Thread Cert.GdnScan.nD Cert.GdnScan.τ).loc Cert.GdnScan.main_arg3))
      ∧ r.2.sem = fun _ => 0)

def quiescent_GdnScanIdeal [hGdnScanIdeal : Cert.GdnScanIdeal.Facts] : Prop :=
  ∀ (m : (ℓ : Loc Cert.GdnScanIdeal.nD Cert.GdnScanIdeal.τ Cert.GdnScanIdeal.sig) → Buf (Elt Ideal) ℓ) (g : Dev Cert.GdnScanIdeal.nD → PrngReg), Pre_GdnScanIdeal m →
    θ_run (Cert.GdnScanIdeal.defs (F := Ideal)) (onTc (τ := Cert.GdnScanIdeal.τ) (Cert.GdnScanIdeal.main (F := Ideal))) ⟨m, fun _ => 0, g⟩ (fun r => (∀ c : Dev Cert.GdnScanIdeal.nD,
      r.2.mem ((c.tc : Thread Cert.GdnScanIdeal.nD Cert.GdnScanIdeal.τ).loc Cert.GdnScanIdeal.main_arg0) = m ((c.tc : Thread Cert.GdnScanIdeal.nD Cert.GdnScanIdeal.τ).loc Cert.GdnScanIdeal.main_arg0)
      ∧ r.2.mem ((c.tc : Thread Cert.GdnScanIdeal.nD Cert.GdnScanIdeal.τ).loc Cert.GdnScanIdeal.main_arg1) = m ((c.tc : Thread Cert.GdnScanIdeal.nD Cert.GdnScanIdeal.τ).loc Cert.GdnScanIdeal.main_arg1)
      ∧ r.2.mem ((c.tc : Thread Cert.GdnScanIdeal.nD Cert.GdnScanIdeal.τ).loc Cert.GdnScanIdeal.main_arg2) = m ((c.tc : Thread Cert.GdnScanIdeal.nD Cert.GdnScanIdeal.τ).loc Cert.GdnScanIdeal.main_arg2)
      ∧ r.2.mem ((c.tc : Thread Cert.GdnScanIdeal.nD Cert.GdnScanIdeal.τ).loc Cert.GdnScanIdeal.main_arg3) = m ((c.tc : Thread Cert.GdnScanIdeal.nD Cert.GdnScanIdeal.τ).loc Cert.GdnScanIdeal.main_arg3))
      ∧ r.2.sem = fun _ => 0)

def quiescent_GdnScanIdeal_pre_scan_finite [hGdnScanIdeal : Cert.GdnScanIdeal.Facts] [hPre_scan_finite : Cert.Pre_scan_finite.Facts] : Prop :=
  ∀ (m : (ℓ : Loc Cert.GdnScanIdeal.nD Cert.GdnScanIdeal.τ Cert.GdnScanIdeal.sig) → Buf (Elt Ideal) ℓ) (g : Dev Cert.GdnScanIdeal.nD → PrngReg), Pre_GdnScanIdeal_scan_finite m →
    θ_run (Cert.GdnScanIdeal.defs (F := Ideal)) (onTc (τ := Cert.GdnScanIdeal.τ) (Cert.GdnScanIdeal.main (F := Ideal))) ⟨m, fun _ => 0, g⟩ (fun r => (∀ c : Dev Cert.GdnScanIdeal.nD,
      r.2.mem ((c.tc : Thread Cert.GdnScanIdeal.nD Cert.GdnScanIdeal.τ).loc Cert.GdnScanIdeal.main_arg0) = m ((c.tc : Thread Cert.GdnScanIdeal.nD Cert.GdnScanIdeal.τ).loc Cert.GdnScanIdeal.main_arg0)
      ∧ r.2.mem ((c.tc : Thread Cert.GdnScanIdeal.nD Cert.GdnScanIdeal.τ).loc Cert.GdnScanIdeal.main_arg1) = m ((c.tc : Thread Cert.GdnScanIdeal.nD Cert.GdnScanIdeal.τ).loc Cert.GdnScanIdeal.main_arg1)
      ∧ r.2.mem ((c.tc : Thread Cert.GdnScanIdeal.nD Cert.GdnScanIdeal.τ).loc Cert.GdnScanIdeal.main_arg2) = m ((c.tc : Thread Cert.GdnScanIdeal.nD Cert.GdnScanIdeal.τ).loc Cert.GdnScanIdeal.main_arg2)
      ∧ r.2.mem ((c.tc : Thread Cert.GdnScanIdeal.nD Cert.GdnScanIdeal.τ).loc Cert.GdnScanIdeal.main_arg3) = m ((c.tc : Thread Cert.GdnScanIdeal.nD Cert.GdnScanIdeal.τ).loc Cert.GdnScanIdeal.main_arg3))
      ∧ r.2.sem = fun _ => 0)

def quiescent_GdnScanReferenceIdeal [hGdnScanReferenceIdeal : Cert.GdnScanReferenceIdeal.Facts] : Prop :=
  ∀ (m : (ℓ : Loc Cert.GdnScanReferenceIdeal.nD Cert.GdnScanReferenceIdeal.τ Cert.GdnScanReferenceIdeal.sig) → Buf (Elt Ideal) ℓ) (g : Dev Cert.GdnScanReferenceIdeal.nD → PrngReg), Pre_GdnScanReferenceIdeal m →
    θ_run (Cert.GdnScanReferenceIdeal.defs (F := Ideal)) (onTc (τ := Cert.GdnScanReferenceIdeal.τ) (Cert.GdnScanReferenceIdeal.main (F := Ideal))) ⟨m, fun _ => 0, g⟩ (fun r => (∀ c : Dev Cert.GdnScanReferenceIdeal.nD,
      r.2.mem ((c.tc : Thread Cert.GdnScanReferenceIdeal.nD Cert.GdnScanReferenceIdeal.τ).loc Cert.GdnScanReferenceIdeal.main_arg0) = m ((c.tc : Thread Cert.GdnScanReferenceIdeal.nD Cert.GdnScanReferenceIdeal.τ).loc Cert.GdnScanReferenceIdeal.main_arg0)
      ∧ r.2.mem ((c.tc : Thread Cert.GdnScanReferenceIdeal.nD Cert.GdnScanReferenceIdeal.τ).loc Cert.GdnScanReferenceIdeal.main_arg1) = m ((c.tc : Thread Cert.GdnScanReferenceIdeal.nD Cert.GdnScanReferenceIdeal.τ).loc Cert.GdnScanReferenceIdeal.main_arg1)
      ∧ r.2.mem ((c.tc : Thread Cert.GdnScanReferenceIdeal.nD Cert.GdnScanReferenceIdeal.τ).loc Cert.GdnScanReferenceIdeal.main_arg2) = m ((c.tc : Thread Cert.GdnScanReferenceIdeal.nD Cert.GdnScanReferenceIdeal.τ).loc Cert.GdnScanReferenceIdeal.main_arg2)
      ∧ r.2.mem ((c.tc : Thread Cert.GdnScanReferenceIdeal.nD Cert.GdnScanReferenceIdeal.τ).loc Cert.GdnScanReferenceIdeal.main_arg3) = m ((c.tc : Thread Cert.GdnScanReferenceIdeal.nD Cert.GdnScanReferenceIdeal.τ).loc Cert.GdnScanReferenceIdeal.main_arg3))
      ∧ r.2.sem = fun _ => 0)

def quiescent_GdnScanReferenceIdeal_pre_scan_finite [hGdnScanReferenceIdeal : Cert.GdnScanReferenceIdeal.Facts] [hPre_scan_finite : Cert.Pre_scan_finite.Facts] : Prop :=
  ∀ (m : (ℓ : Loc Cert.GdnScanReferenceIdeal.nD Cert.GdnScanReferenceIdeal.τ Cert.GdnScanReferenceIdeal.sig) → Buf (Elt Ideal) ℓ) (g : Dev Cert.GdnScanReferenceIdeal.nD → PrngReg), Pre_GdnScanReferenceIdeal_scan_finite m →
    θ_run (Cert.GdnScanReferenceIdeal.defs (F := Ideal)) (onTc (τ := Cert.GdnScanReferenceIdeal.τ) (Cert.GdnScanReferenceIdeal.main (F := Ideal))) ⟨m, fun _ => 0, g⟩ (fun r => (∀ c : Dev Cert.GdnScanReferenceIdeal.nD,
      r.2.mem ((c.tc : Thread Cert.GdnScanReferenceIdeal.nD Cert.GdnScanReferenceIdeal.τ).loc Cert.GdnScanReferenceIdeal.main_arg0) = m ((c.tc : Thread Cert.GdnScanReferenceIdeal.nD Cert.GdnScanReferenceIdeal.τ).loc Cert.GdnScanReferenceIdeal.main_arg0)
      ∧ r.2.mem ((c.tc : Thread Cert.GdnScanReferenceIdeal.nD Cert.GdnScanReferenceIdeal.τ).loc Cert.GdnScanReferenceIdeal.main_arg1) = m ((c.tc : Thread Cert.GdnScanReferenceIdeal.nD Cert.GdnScanReferenceIdeal.τ).loc Cert.GdnScanReferenceIdeal.main_arg1)
      ∧ r.2.mem ((c.tc : Thread Cert.GdnScanReferenceIdeal.nD Cert.GdnScanReferenceIdeal.τ).loc Cert.GdnScanReferenceIdeal.main_arg2) = m ((c.tc : Thread Cert.GdnScanReferenceIdeal.nD Cert.GdnScanReferenceIdeal.τ).loc Cert.GdnScanReferenceIdeal.main_arg2)
      ∧ r.2.mem ((c.tc : Thread Cert.GdnScanReferenceIdeal.nD Cert.GdnScanReferenceIdeal.τ).loc Cert.GdnScanReferenceIdeal.main_arg3) = m ((c.tc : Thread Cert.GdnScanReferenceIdeal.nD Cert.GdnScanReferenceIdeal.τ).loc Cert.GdnScanReferenceIdeal.main_arg3))
      ∧ r.2.sem = fun _ => 0)

def preserves_Attention_AttentionIdeal : Prop :=
  IdealRules.named_const.Statement Cert.AttentionIdeal.κ "mask" .f32 0xF149F2CA#32 ⊥

def algebraic_AttentionIdeal_AttentionReferenceIdeal_pre_attention_finite [hAttentionIdeal : Cert.AttentionIdeal.Facts] [hAttentionReferenceIdeal : Cert.AttentionReferenceIdeal.Facts] [hPre_attention_finite : Cert.Pre_attention_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_attention_finite m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)) →
    ∃ (v0 : (c : Dev Cert.AttentionIdeal.nD) → Buf (Elt Ideal) ((c.tc : Thread Cert.AttentionIdeal.nD Cert.AttentionIdeal.τ).loc Cert.AttentionIdeal.main_v1)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v1) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v66) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v17) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_InProjConformer_InProjConformerIdeal : Prop :=
  True

def algebraic_InProjConformerIdeal_InProjConformerReferenceIdeal [hInProjConformerIdeal : Cert.InProjConformerIdeal.Facts] [hInProjConformerReferenceIdeal : Cert.InProjConformerReferenceIdeal.Facts] : Prop :=
  ∀ (m : (ℓ : Loc Cert.InProjConformerIdeal.nD Cert.InProjConformerIdeal.τ Cert.InProjConformerIdeal.sig) → Buf (Elt Ideal) ℓ) (g : Dev Cert.InProjConformerIdeal.nD → PrngReg)
    (m' : (ℓ : Loc Cert.InProjConformerReferenceIdeal.nD Cert.InProjConformerReferenceIdeal.τ Cert.InProjConformerReferenceIdeal.sig) → Buf (Elt Ideal) ℓ) (g' : Dev Cert.InProjConformerReferenceIdeal.nD → PrngReg), Pre_InProjConformerIdeal m →
    (∀ c : Dev Cert.InProjConformerIdeal.nD,
      m' ((c.tc : Thread Cert.InProjConformerReferenceIdeal.nD Cert.InProjConformerReferenceIdeal.τ).loc Cert.InProjConformerReferenceIdeal.main_arg0) = m ((c.tc : Thread Cert.InProjConformerIdeal.nD Cert.InProjConformerIdeal.τ).loc Cert.InProjConformerIdeal.main_arg0)
      ∧ m' ((c.tc : Thread Cert.InProjConformerReferenceIdeal.nD Cert.InProjConformerReferenceIdeal.τ).loc Cert.InProjConformerReferenceIdeal.main_arg1) = m ((c.tc : Thread Cert.InProjConformerIdeal.nD Cert.InProjConformerIdeal.τ).loc Cert.InProjConformerIdeal.main_arg1)
      ∧ m' ((c.tc : Thread Cert.InProjConformerReferenceIdeal.nD Cert.InProjConformerReferenceIdeal.τ).loc Cert.InProjConformerReferenceIdeal.main_arg2) = m ((c.tc : Thread Cert.InProjConformerIdeal.nD Cert.InProjConformerIdeal.τ).loc Cert.InProjConformerIdeal.main_arg2)
      ∧ m' ((c.tc : Thread Cert.InProjConformerReferenceIdeal.nD Cert.InProjConformerReferenceIdeal.τ).loc Cert.InProjConformerReferenceIdeal.main_arg3) = m ((c.tc : Thread Cert.InProjConformerIdeal.nD Cert.InProjConformerIdeal.τ).loc Cert.InProjConformerIdeal.main_arg3)) →
    ∃ (v0 : (c : Dev Cert.InProjConformerIdeal.nD) → Buf (Elt Ideal) ((c.tc : Thread Cert.InProjConformerIdeal.nD Cert.InProjConformerIdeal.τ).loc Cert.InProjConformerIdeal.main_v3)),
      θ_run (Cert.InProjConformerIdeal.defs (F := Ideal)) (onTc (τ := Cert.InProjConformerIdeal.τ) (Cert.InProjConformerIdeal.main (F := Ideal))) ⟨m, fun _ => 0, g⟩ (fun r => ∀ c : Dev Cert.InProjConformerIdeal.nD,
          r.2.mem ((c.tc : Thread Cert.InProjConformerIdeal.nD Cert.InProjConformerIdeal.τ).loc Cert.InProjConformerIdeal.main_v3) = v0 c
          ∧ r.2.mem ((c.tc : Thread Cert.InProjConformerIdeal.nD Cert.InProjConformerIdeal.τ).loc Cert.InProjConformerIdeal.main_arg0) = m ((c.tc : Thread Cert.InProjConformerIdeal.nD Cert.InProjConformerIdeal.τ).loc Cert.InProjConformerIdeal.main_arg0)
          ∧ r.2.mem ((c.tc : Thread Cert.InProjConformerIdeal.nD Cert.InProjConformerIdeal.τ).loc Cert.InProjConformerIdeal.main_arg1) = m ((c.tc : Thread Cert.InProjConformerIdeal.nD Cert.InProjConformerIdeal.τ).loc Cert.InProjConformerIdeal.main_arg1)
          ∧ r.2.mem ((c.tc : Thread Cert.InProjConformerIdeal.nD Cert.InProjConformerIdeal.τ).loc Cert.InProjConformerIdeal.main_arg2) = m ((c.tc : Thread Cert.InProjConformerIdeal.nD Cert.InProjConformerIdeal.τ).loc Cert.InProjConformerIdeal.main_arg2)
          ∧ r.2.mem ((c.tc : Thread Cert.InProjConformerIdeal.nD Cert.InProjConformerIdeal.τ).loc Cert.InProjConformerIdeal.main_arg3) = m ((c.tc : Thread Cert.InProjConformerIdeal.nD Cert.InProjConformerIdeal.τ).loc Cert.InProjConformerIdeal.main_arg3))
      ∧ θ_run (Cert.InProjConformerReferenceIdeal.defs (F := Ideal)) (onTc (τ := Cert.InProjConformerReferenceIdeal.τ) (Cert.InProjConformerReferenceIdeal.main (F := Ideal))) ⟨m', fun _ => 0, g'⟩ (fun r => ∀ c : Dev Cert.InProjConformerReferenceIdeal.nD,
          r.2.mem ((c.tc : Thread Cert.InProjConformerReferenceIdeal.nD Cert.InProjConformerReferenceIdeal.τ).loc Cert.InProjConformerReferenceIdeal.main_v17) = v0 c
          ∧ r.2.mem ((c.tc : Thread Cert.InProjConformerReferenceIdeal.nD Cert.InProjConformerReferenceIdeal.τ).loc Cert.InProjConformerReferenceIdeal.main_arg0) = m' ((c.tc : Thread Cert.InProjConformerReferenceIdeal.nD Cert.InProjConformerReferenceIdeal.τ).loc Cert.InProjConformerReferenceIdeal.main_arg0)
          ∧ r.2.mem ((c.tc : Thread Cert.InProjConformerReferenceIdeal.nD Cert.InProjConformerReferenceIdeal.τ).loc Cert.InProjConformerReferenceIdeal.main_arg1) = m' ((c.tc : Thread Cert.InProjConformerReferenceIdeal.nD Cert.InProjConformerReferenceIdeal.τ).loc Cert.InProjConformerReferenceIdeal.main_arg1)
          ∧ r.2.mem ((c.tc : Thread Cert.InProjConformerReferenceIdeal.nD Cert.InProjConformerReferenceIdeal.τ).loc Cert.InProjConformerReferenceIdeal.main_arg2) = m' ((c.tc : Thread Cert.InProjConformerReferenceIdeal.nD Cert.InProjConformerReferenceIdeal.τ).loc Cert.InProjConformerReferenceIdeal.main_arg2)
          ∧ r.2.mem ((c.tc : Thread Cert.InProjConformerReferenceIdeal.nD Cert.InProjConformerReferenceIdeal.τ).loc Cert.InProjConformerReferenceIdeal.main_arg3) = m' ((c.tc : Thread Cert.InProjConformerReferenceIdeal.nD Cert.InProjConformerReferenceIdeal.τ).loc Cert.InProjConformerReferenceIdeal.main_arg3))

def preserves_InProjGdn_InProjGdnIdeal : Prop :=
  True

def algebraic_InProjGdnIdeal_InProjGdnReferenceIdeal [hInProjGdnIdeal : Cert.InProjGdnIdeal.Facts] [hInProjGdnReferenceIdeal : Cert.InProjGdnReferenceIdeal.Facts] : Prop :=
  ∀ (m : (ℓ : Loc Cert.InProjGdnIdeal.nD Cert.InProjGdnIdeal.τ Cert.InProjGdnIdeal.sig) → Buf (Elt Ideal) ℓ) (g : Dev Cert.InProjGdnIdeal.nD → PrngReg)
    (m' : (ℓ : Loc Cert.InProjGdnReferenceIdeal.nD Cert.InProjGdnReferenceIdeal.τ Cert.InProjGdnReferenceIdeal.sig) → Buf (Elt Ideal) ℓ) (g' : Dev Cert.InProjGdnReferenceIdeal.nD → PrngReg), Pre_InProjGdnIdeal m →
    (∀ c : Dev Cert.InProjGdnIdeal.nD,
      m' ((c.tc : Thread Cert.InProjGdnReferenceIdeal.nD Cert.InProjGdnReferenceIdeal.τ).loc Cert.InProjGdnReferenceIdeal.main_arg0) = m ((c.tc : Thread Cert.InProjGdnIdeal.nD Cert.InProjGdnIdeal.τ).loc Cert.InProjGdnIdeal.main_arg0)
      ∧ m' ((c.tc : Thread Cert.InProjGdnReferenceIdeal.nD Cert.InProjGdnReferenceIdeal.τ).loc Cert.InProjGdnReferenceIdeal.main_arg1) = m ((c.tc : Thread Cert.InProjGdnIdeal.nD Cert.InProjGdnIdeal.τ).loc Cert.InProjGdnIdeal.main_arg1)
      ∧ m' ((c.tc : Thread Cert.InProjGdnReferenceIdeal.nD Cert.InProjGdnReferenceIdeal.τ).loc Cert.InProjGdnReferenceIdeal.main_arg2) = m ((c.tc : Thread Cert.InProjGdnIdeal.nD Cert.InProjGdnIdeal.τ).loc Cert.InProjGdnIdeal.main_arg2)
      ∧ m' ((c.tc : Thread Cert.InProjGdnReferenceIdeal.nD Cert.InProjGdnReferenceIdeal.τ).loc Cert.InProjGdnReferenceIdeal.main_arg3) = m ((c.tc : Thread Cert.InProjGdnIdeal.nD Cert.InProjGdnIdeal.τ).loc Cert.InProjGdnIdeal.main_arg3)) →
    ∃ (v0 : (c : Dev Cert.InProjGdnIdeal.nD) → Buf (Elt Ideal) ((c.tc : Thread Cert.InProjGdnIdeal.nD Cert.InProjGdnIdeal.τ).loc Cert.InProjGdnIdeal.main_v3)),
      θ_run (Cert.InProjGdnIdeal.defs (F := Ideal)) (onTc (τ := Cert.InProjGdnIdeal.τ) (Cert.InProjGdnIdeal.main (F := Ideal))) ⟨m, fun _ => 0, g⟩ (fun r => ∀ c : Dev Cert.InProjGdnIdeal.nD,
          r.2.mem ((c.tc : Thread Cert.InProjGdnIdeal.nD Cert.InProjGdnIdeal.τ).loc Cert.InProjGdnIdeal.main_v3) = v0 c
          ∧ r.2.mem ((c.tc : Thread Cert.InProjGdnIdeal.nD Cert.InProjGdnIdeal.τ).loc Cert.InProjGdnIdeal.main_arg0) = m ((c.tc : Thread Cert.InProjGdnIdeal.nD Cert.InProjGdnIdeal.τ).loc Cert.InProjGdnIdeal.main_arg0)
          ∧ r.2.mem ((c.tc : Thread Cert.InProjGdnIdeal.nD Cert.InProjGdnIdeal.τ).loc Cert.InProjGdnIdeal.main_arg1) = m ((c.tc : Thread Cert.InProjGdnIdeal.nD Cert.InProjGdnIdeal.τ).loc Cert.InProjGdnIdeal.main_arg1)
          ∧ r.2.mem ((c.tc : Thread Cert.InProjGdnIdeal.nD Cert.InProjGdnIdeal.τ).loc Cert.InProjGdnIdeal.main_arg2) = m ((c.tc : Thread Cert.InProjGdnIdeal.nD Cert.InProjGdnIdeal.τ).loc Cert.InProjGdnIdeal.main_arg2)
          ∧ r.2.mem ((c.tc : Thread Cert.InProjGdnIdeal.nD Cert.InProjGdnIdeal.τ).loc Cert.InProjGdnIdeal.main_arg3) = m ((c.tc : Thread Cert.InProjGdnIdeal.nD Cert.InProjGdnIdeal.τ).loc Cert.InProjGdnIdeal.main_arg3))
      ∧ θ_run (Cert.InProjGdnReferenceIdeal.defs (F := Ideal)) (onTc (τ := Cert.InProjGdnReferenceIdeal.τ) (Cert.InProjGdnReferenceIdeal.main (F := Ideal))) ⟨m', fun _ => 0, g'⟩ (fun r => ∀ c : Dev Cert.InProjGdnReferenceIdeal.nD,
          r.2.mem ((c.tc : Thread Cert.InProjGdnReferenceIdeal.nD Cert.InProjGdnReferenceIdeal.τ).loc Cert.InProjGdnReferenceIdeal.main_v17) = v0 c
          ∧ r.2.mem ((c.tc : Thread Cert.InProjGdnReferenceIdeal.nD Cert.InProjGdnReferenceIdeal.τ).loc Cert.InProjGdnReferenceIdeal.main_arg0) = m' ((c.tc : Thread Cert.InProjGdnReferenceIdeal.nD Cert.InProjGdnReferenceIdeal.τ).loc Cert.InProjGdnReferenceIdeal.main_arg0)
          ∧ r.2.mem ((c.tc : Thread Cert.InProjGdnReferenceIdeal.nD Cert.InProjGdnReferenceIdeal.τ).loc Cert.InProjGdnReferenceIdeal.main_arg1) = m' ((c.tc : Thread Cert.InProjGdnReferenceIdeal.nD Cert.InProjGdnReferenceIdeal.τ).loc Cert.InProjGdnReferenceIdeal.main_arg1)
          ∧ r.2.mem ((c.tc : Thread Cert.InProjGdnReferenceIdeal.nD Cert.InProjGdnReferenceIdeal.τ).loc Cert.InProjGdnReferenceIdeal.main_arg2) = m' ((c.tc : Thread Cert.InProjGdnReferenceIdeal.nD Cert.InProjGdnReferenceIdeal.τ).loc Cert.InProjGdnReferenceIdeal.main_arg2)
          ∧ r.2.mem ((c.tc : Thread Cert.InProjGdnReferenceIdeal.nD Cert.InProjGdnReferenceIdeal.τ).loc Cert.InProjGdnReferenceIdeal.main_arg3) = m' ((c.tc : Thread Cert.InProjGdnReferenceIdeal.nD Cert.InProjGdnReferenceIdeal.τ).loc Cert.InProjGdnReferenceIdeal.main_arg3))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v18) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_OutProjHyena_OutProjHyenaIdeal : Prop :=
  True

def algebraic_OutProjHyenaIdeal_OutProjHyenaReferenceIdeal [hOutProjHyenaIdeal : Cert.OutProjHyenaIdeal.Facts] [hOutProjHyenaReferenceIdeal : Cert.OutProjHyenaReferenceIdeal.Facts] : Prop :=
  ∀ (m : (ℓ : Loc Cert.OutProjHyenaIdeal.nD Cert.OutProjHyenaIdeal.τ Cert.OutProjHyenaIdeal.sig) → Buf (Elt Ideal) ℓ) (g : Dev Cert.OutProjHyenaIdeal.nD → PrngReg)
    (m' : (ℓ : Loc Cert.OutProjHyenaReferenceIdeal.nD Cert.OutProjHyenaReferenceIdeal.τ Cert.OutProjHyenaReferenceIdeal.sig) → Buf (Elt Ideal) ℓ) (g' : Dev Cert.OutProjHyenaReferenceIdeal.nD → PrngReg), Pre_OutProjHyenaIdeal m →
    (∀ c : Dev Cert.OutProjHyenaIdeal.nD,
      m' ((c.tc : Thread Cert.OutProjHyenaReferenceIdeal.nD Cert.OutProjHyenaReferenceIdeal.τ).loc Cert.OutProjHyenaReferenceIdeal.main_arg0) = m ((c.tc : Thread Cert.OutProjHyenaIdeal.nD Cert.OutProjHyenaIdeal.τ).loc Cert.OutProjHyenaIdeal.main_arg0)
      ∧ m' ((c.tc : Thread Cert.OutProjHyenaReferenceIdeal.nD Cert.OutProjHyenaReferenceIdeal.τ).loc Cert.OutProjHyenaReferenceIdeal.main_arg1) = m ((c.tc : Thread Cert.OutProjHyenaIdeal.nD Cert.OutProjHyenaIdeal.τ).loc Cert.OutProjHyenaIdeal.main_arg1)
      ∧ m' ((c.tc : Thread Cert.OutProjHyenaReferenceIdeal.nD Cert.OutProjHyenaReferenceIdeal.τ).loc Cert.OutProjHyenaReferenceIdeal.main_arg2) = m ((c.tc : Thread Cert.OutProjHyenaIdeal.nD Cert.OutProjHyenaIdeal.τ).loc Cert.OutProjHyenaIdeal.main_arg2)
      ∧ m' ((c.tc : Thread Cert.OutProjHyenaReferenceIdeal.nD Cert.OutProjHyenaReferenceIdeal.τ).loc Cert.OutProjHyenaReferenceIdeal.main_arg3) = m ((c.tc : Thread Cert.OutProjHyenaIdeal.nD Cert.OutProjHyenaIdeal.τ).loc Cert.OutProjHyenaIdeal.main_arg3)
      ∧ m' ((c.tc : Thread Cert.OutProjHyenaReferenceIdeal.nD Cert.OutProjHyenaReferenceIdeal.τ).loc Cert.OutProjHyenaReferenceIdeal.main_arg4) = m ((c.tc : Thread Cert.OutProjHyenaIdeal.nD Cert.OutProjHyenaIdeal.τ).loc Cert.OutProjHyenaIdeal.main_arg4)) →
    ∃ (v0 : (c : Dev Cert.OutProjHyenaIdeal.nD) → Buf (Elt Ideal) ((c.tc : Thread Cert.OutProjHyenaIdeal.nD Cert.OutProjHyenaIdeal.τ).loc Cert.OutProjHyenaIdeal.main_v3)),
      θ_run (Cert.OutProjHyenaIdeal.defs (F := Ideal)) (onTc (τ := Cert.OutProjHyenaIdeal.τ) (Cert.OutProjHyenaIdeal.main (F := Ideal))) ⟨m, fun _ => 0, g⟩ (fun r => ∀ c : Dev Cert.OutProjHyenaIdeal.nD,
          r.2.mem ((c.tc : Thread Cert.OutProjHyenaIdeal.nD Cert.OutProjHyenaIdeal.τ).loc Cert.OutProjHyenaIdeal.main_v3) = v0 c
          ∧ r.2.mem ((c.tc : Thread Cert.OutProjHyenaIdeal.nD Cert.OutProjHyenaIdeal.τ).loc Cert.OutProjHyenaIdeal.main_arg0) = m ((c.tc : Thread Cert.OutProjHyenaIdeal.nD Cert.OutProjHyenaIdeal.τ).loc Cert.OutProjHyenaIdeal.main_arg0)
          ∧ r.2.mem ((c.tc : Thread Cert.OutProjHyenaIdeal.nD Cert.OutProjHyenaIdeal.τ).loc Cert.OutProjHyenaIdeal.main_arg1) = m ((c.tc : Thread Cert.OutProjHyenaIdeal.nD Cert.OutProjHyenaIdeal.τ).loc Cert.OutProjHyenaIdeal.main_arg1)
          ∧ r.2.mem ((c.tc : Thread Cert.OutProjHyenaIdeal.nD Cert.OutProjHyenaIdeal.τ).loc Cert.OutProjHyenaIdeal.main_arg2) = m ((c.tc : Thread Cert.OutProjHyenaIdeal.nD Cert.OutProjHyenaIdeal.τ).loc Cert.OutProjHyenaIdeal.main_arg2)
          ∧ r.2.mem ((c.tc : Thread Cert.OutProjHyenaIdeal.nD Cert.OutProjHyenaIdeal.τ).loc Cert.OutProjHyenaIdeal.main_arg3) = m ((c.tc : Thread Cert.OutProjHyenaIdeal.nD Cert.OutProjHyenaIdeal.τ).loc Cert.OutProjHyenaIdeal.main_arg3)
          ∧ r.2.mem ((c.tc : Thread Cert.OutProjHyenaIdeal.nD Cert.OutProjHyenaIdeal.τ).loc Cert.OutProjHyenaIdeal.main_arg4) = m ((c.tc : Thread Cert.OutProjHyenaIdeal.nD Cert.OutProjHyenaIdeal.τ).loc Cert.OutProjHyenaIdeal.main_arg4))
      ∧ θ_run (Cert.OutProjHyenaReferenceIdeal.defs (F := Ideal)) (onTc (τ := Cert.OutProjHyenaReferenceIdeal.τ) (Cert.OutProjHyenaReferenceIdeal.main (F := Ideal))) ⟨m', fun _ => 0, g'⟩ (fun r => ∀ c : Dev Cert.OutProjHyenaReferenceIdeal.nD,
          r.2.mem ((c.tc : Thread Cert.OutProjHyenaReferenceIdeal.nD Cert.OutProjHyenaReferenceIdeal.τ).loc Cert.OutProjHyenaReferenceIdeal.main_v19) = v0 c
          ∧ r.2.mem ((c.tc : Thread Cert.OutProjHyenaReferenceIdeal.nD Cert.OutProjHyenaReferenceIdeal.τ).loc Cert.OutProjHyenaReferenceIdeal.main_arg0) = m' ((c.tc : Thread Cert.OutProjHyenaReferenceIdeal.nD Cert.OutProjHyenaReferenceIdeal.τ).loc Cert.OutProjHyenaReferenceIdeal.main_arg0)
          ∧ r.2.mem ((c.tc : Thread Cert.OutProjHyenaReferenceIdeal.nD Cert.OutProjHyenaReferenceIdeal.τ).loc Cert.OutProjHyenaReferenceIdeal.main_arg1) = m' ((c.tc : Thread Cert.OutProjHyenaReferenceIdeal.nD Cert.OutProjHyenaReferenceIdeal.τ).loc Cert.OutProjHyenaReferenceIdeal.main_arg1)
          ∧ r.2.mem ((c.tc : Thread Cert.OutProjHyenaReferenceIdeal.nD Cert.OutProjHyenaReferenceIdeal.τ).loc Cert.OutProjHyenaReferenceIdeal.main_arg2) = m' ((c.tc : Thread Cert.OutProjHyenaReferenceIdeal.nD Cert.OutProjHyenaReferenceIdeal.τ).loc Cert.OutProjHyenaReferenceIdeal.main_arg2)
          ∧ r.2.mem ((c.tc : Thread Cert.OutProjHyenaReferenceIdeal.nD Cert.OutProjHyenaReferenceIdeal.τ).loc Cert.OutProjHyenaReferenceIdeal.main_arg3) = m' ((c.tc : Thread Cert.OutProjHyenaReferenceIdeal.nD Cert.OutProjHyenaReferenceIdeal.τ).loc Cert.OutProjHyenaReferenceIdeal.main_arg3)
          ∧ r.2.mem ((c.tc : Thread Cert.OutProjHyenaReferenceIdeal.nD Cert.OutProjHyenaReferenceIdeal.τ).loc Cert.OutProjHyenaReferenceIdeal.main_arg4) = m' ((c.tc : Thread Cert.OutProjHyenaReferenceIdeal.nD Cert.OutProjHyenaReferenceIdeal.τ).loc Cert.OutProjHyenaReferenceIdeal.main_arg4))

def preserves_GdnOut_GdnOutIdeal : Prop :=
  True

def algebraic_GdnOutIdeal_GdnOutReferenceIdeal [hGdnOutIdeal : Cert.GdnOutIdeal.Facts] [hGdnOutReferenceIdeal : Cert.GdnOutReferenceIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutReferenceIdeal.nD Cert.GdnOutReferenceIdeal.τ Cert.GdnOutReferenceIdeal.sig) → Buf (Elt Ideal) ℓ) (g' : Dev Cert.GdnOutReferenceIdeal.nD → PrngReg), Pre_GdnOutIdeal m →
    (∀ c : Dev Cert.GdnOutIdeal.nD,
      m' ((c.tc : Thread Cert.GdnOutReferenceIdeal.nD Cert.GdnOutReferenceIdeal.τ).loc Cert.GdnOutReferenceIdeal.main_arg0) = m ((c.tc : Thread Cert.GdnOutIdeal.nD Cert.GdnOutIdeal.τ).loc Cert.GdnOutIdeal.main_arg0)
      ∧ m' ((c.tc : Thread Cert.GdnOutReferenceIdeal.nD Cert.GdnOutReferenceIdeal.τ).loc Cert.GdnOutReferenceIdeal.main_arg1) = m ((c.tc : Thread Cert.GdnOutIdeal.nD Cert.GdnOutIdeal.τ).loc Cert.GdnOutIdeal.main_arg1)
      ∧ m' ((c.tc : Thread Cert.GdnOutReferenceIdeal.nD Cert.GdnOutReferenceIdeal.τ).loc Cert.GdnOutReferenceIdeal.main_arg2) = m ((c.tc : Thread Cert.GdnOutIdeal.nD Cert.GdnOutIdeal.τ).loc Cert.GdnOutIdeal.main_arg2)
      ∧ m' ((c.tc : Thread Cert.GdnOutReferenceIdeal.nD Cert.GdnOutReferenceIdeal.τ).loc Cert.GdnOutReferenceIdeal.main_arg3) = m ((c.tc : Thread Cert.GdnOutIdeal.nD Cert.GdnOutIdeal.τ).loc Cert.GdnOutIdeal.main_arg3)
      ∧ m' ((c.tc : Thread Cert.GdnOutReferenceIdeal.nD Cert.GdnOutReferenceIdeal.τ).loc Cert.GdnOutReferenceIdeal.main_arg4) = m ((c.tc : Thread Cert.GdnOutIdeal.nD Cert.GdnOutIdeal.τ).loc Cert.GdnOutIdeal.main_arg4)
      ∧ m' ((c.tc : Thread Cert.GdnOutReferenceIdeal.nD Cert.GdnOutReferenceIdeal.τ).loc Cert.GdnOutReferenceIdeal.main_arg5) = m ((c.tc : Thread Cert.GdnOutIdeal.nD Cert.GdnOutIdeal.τ).loc Cert.GdnOutIdeal.main_arg5)) →
    ∃ (v0 : (c : Dev Cert.GdnOutIdeal.nD) → Buf (Elt Ideal) ((c.tc : Thread Cert.GdnOutIdeal.nD Cert.GdnOutIdeal.τ).loc Cert.GdnOutIdeal.main_v3)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v3) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
          ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4)
          ∧ r.2.mem ((c.tc : Thread Cert.GdnOutIdeal.nD Cert.GdnOutIdeal.τ).loc Cert.GdnOutIdeal.main_arg5) = m ((c.tc : Thread Cert.GdnOutIdeal.nD Cert.GdnOutIdeal.τ).loc Cert.GdnOutIdeal.main_arg5))
      ∧ θ_run (Cert.GdnOutReferenceIdeal.defs (F := Ideal)) (onTc (τ := Cert.GdnOutReferenceIdeal.τ) (Cert.GdnOutReferenceIdeal.main (F := Ideal))) ⟨m', fun _ => 0, g'⟩ (fun r => ∀ c : Dev Cert.GdnOutReferenceIdeal.nD,
          r.2.mem ((c.tc : Thread Cert.GdnOutReferenceIdeal.nD Cert.GdnOutReferenceIdeal.τ).loc Cert.GdnOutReferenceIdeal.main_v41) = v0 c
          ∧ r.2.mem ((c.tc : Thread Cert.GdnOutReferenceIdeal.nD Cert.GdnOutReferenceIdeal.τ).loc Cert.GdnOutReferenceIdeal.main_arg0) = m' ((c.tc : Thread Cert.GdnOutReferenceIdeal.nD Cert.GdnOutReferenceIdeal.τ).loc Cert.GdnOutReferenceIdeal.main_arg0)
          ∧ r.2.mem ((c.tc : Thread Cert.GdnOutReferenceIdeal.nD Cert.GdnOutReferenceIdeal.τ).loc Cert.GdnOutReferenceIdeal.main_arg1) = m' ((c.tc : Thread Cert.GdnOutReferenceIdeal.nD Cert.GdnOutReferenceIdeal.τ).loc Cert.GdnOutReferenceIdeal.main_arg1)
          ∧ r.2.mem ((c.tc : Thread Cert.GdnOutReferenceIdeal.nD Cert.GdnOutReferenceIdeal.τ).loc Cert.GdnOutReferenceIdeal.main_arg2) = m' ((c.tc : Thread Cert.GdnOutReferenceIdeal.nD Cert.GdnOutReferenceIdeal.τ).loc Cert.GdnOutReferenceIdeal.main_arg2)
          ∧ r.2.mem ((c.tc : Thread Cert.GdnOutReferenceIdeal.nD Cert.GdnOutReferenceIdeal.τ).loc Cert.GdnOutReferenceIdeal.main_arg3) = m' ((c.tc : Thread Cert.GdnOutReferenceIdeal.nD Cert.GdnOutReferenceIdeal.τ).loc Cert.GdnOutReferenceIdeal.main_arg3)
          ∧ r.2.mem ((c.tc : Thread Cert.GdnOutReferenceIdeal.nD Cert.GdnOutReferenceIdeal.τ).loc Cert.GdnOutReferenceIdeal.main_arg4) = m' ((c.tc : Thread Cert.GdnOutReferenceIdeal.nD Cert.GdnOutReferenceIdeal.τ).loc Cert.GdnOutReferenceIdeal.main_arg4)
          ∧ r.2.mem ((c.tc : Thread Cert.GdnOutReferenceIdeal.nD Cert.GdnOutReferenceIdeal.τ).loc Cert.GdnOutReferenceIdeal.main_arg5) = m' ((c.tc : Thread Cert.GdnOutReferenceIdeal.nD Cert.GdnOutReferenceIdeal.τ).loc Cert.GdnOutReferenceIdeal.main_arg5))

def preserves_GdnScan_GdnScanIdeal : Prop :=
  IdealRules.named_const.Statement Cert.GdnScanIdeal.κ "mask" .f32 0xF149F2CA#32 ⊥

def algebraic_GdnScanIdeal_GdnScanReferenceIdeal_pre_scan_finite [hGdnScanIdeal : Cert.GdnScanIdeal.Facts] [hGdnScanReferenceIdeal : Cert.GdnScanReferenceIdeal.Facts] [hPre_scan_finite : Cert.Pre_scan_finite.Facts] : Prop :=
  ∀ (m : (ℓ : Loc Cert.GdnScanIdeal.nD Cert.GdnScanIdeal.τ Cert.GdnScanIdeal.sig) → Buf (Elt Ideal) ℓ) (g : Dev Cert.GdnScanIdeal.nD → PrngReg)
    (m' : (ℓ : Loc Cert.GdnScanReferenceIdeal.nD Cert.GdnScanReferenceIdeal.τ Cert.GdnScanReferenceIdeal.sig) → Buf (Elt Ideal) ℓ) (g' : Dev Cert.GdnScanReferenceIdeal.nD → PrngReg), Pre_GdnScanIdeal_scan_finite m →
    (∀ c : Dev Cert.GdnScanIdeal.nD,
      m' ((c.tc : Thread Cert.GdnScanReferenceIdeal.nD Cert.GdnScanReferenceIdeal.τ).loc Cert.GdnScanReferenceIdeal.main_arg0) = m ((c.tc : Thread Cert.GdnScanIdeal.nD Cert.GdnScanIdeal.τ).loc Cert.GdnScanIdeal.main_arg0)
      ∧ m' ((c.tc : Thread Cert.GdnScanReferenceIdeal.nD Cert.GdnScanReferenceIdeal.τ).loc Cert.GdnScanReferenceIdeal.main_arg1) = m ((c.tc : Thread Cert.GdnScanIdeal.nD Cert.GdnScanIdeal.τ).loc Cert.GdnScanIdeal.main_arg1)
      ∧ m' ((c.tc : Thread Cert.GdnScanReferenceIdeal.nD Cert.GdnScanReferenceIdeal.τ).loc Cert.GdnScanReferenceIdeal.main_arg2) = m ((c.tc : Thread Cert.GdnScanIdeal.nD Cert.GdnScanIdeal.τ).loc Cert.GdnScanIdeal.main_arg2)
      ∧ m' ((c.tc : Thread Cert.GdnScanReferenceIdeal.nD Cert.GdnScanReferenceIdeal.τ).loc Cert.GdnScanReferenceIdeal.main_arg3) = m ((c.tc : Thread Cert.GdnScanIdeal.nD Cert.GdnScanIdeal.τ).loc Cert.GdnScanIdeal.main_arg3)) →
    ∃ (v0 : (c : Dev Cert.GdnScanIdeal.nD) → Buf (Elt Ideal) ((c.tc : Thread Cert.GdnScanIdeal.nD Cert.GdnScanIdeal.τ).loc Cert.GdnScanIdeal.main_v2)),
      θ_run (Cert.GdnScanIdeal.defs (F := Ideal)) (onTc (τ := Cert.GdnScanIdeal.τ) (Cert.GdnScanIdeal.main (F := Ideal))) ⟨m, fun _ => 0, g⟩ (fun r => ∀ c : Dev Cert.GdnScanIdeal.nD,
          r.2.mem ((c.tc : Thread Cert.GdnScanIdeal.nD Cert.GdnScanIdeal.τ).loc Cert.GdnScanIdeal.main_v2) = v0 c
          ∧ r.2.mem ((c.tc : Thread Cert.GdnScanIdeal.nD Cert.GdnScanIdeal.τ).loc Cert.GdnScanIdeal.main_arg0) = m ((c.tc : Thread Cert.GdnScanIdeal.nD Cert.GdnScanIdeal.τ).loc Cert.GdnScanIdeal.main_arg0)
          ∧ r.2.mem ((c.tc : Thread Cert.GdnScanIdeal.nD Cert.GdnScanIdeal.τ).loc Cert.GdnScanIdeal.main_arg1) = m ((c.tc : Thread Cert.GdnScanIdeal.nD Cert.GdnScanIdeal.τ).loc Cert.GdnScanIdeal.main_arg1)
          ∧ r.2.mem ((c.tc : Thread Cert.GdnScanIdeal.nD Cert.GdnScanIdeal.τ).loc Cert.GdnScanIdeal.main_arg2) = m ((c.tc : Thread Cert.GdnScanIdeal.nD Cert.GdnScanIdeal.τ).loc Cert.GdnScanIdeal.main_arg2)
          ∧ r.2.mem ((c.tc : Thread Cert.GdnScanIdeal.nD Cert.GdnScanIdeal.τ).loc Cert.GdnScanIdeal.main_arg3) = m ((c.tc : Thread Cert.GdnScanIdeal.nD Cert.GdnScanIdeal.τ).loc Cert.GdnScanIdeal.main_arg3))
      ∧ θ_run (Cert.GdnScanReferenceIdeal.defs (F := Ideal)) (onTc (τ := Cert.GdnScanReferenceIdeal.τ) (Cert.GdnScanReferenceIdeal.main (F := Ideal))) ⟨m', fun _ => 0, g'⟩ (fun r => ∀ c : Dev Cert.GdnScanReferenceIdeal.nD,
          r.2.mem ((c.tc : Thread Cert.GdnScanReferenceIdeal.nD Cert.GdnScanReferenceIdeal.τ).loc Cert.GdnScanReferenceIdeal.main_v52) = v0 c
          ∧ r.2.mem ((c.tc : Thread Cert.GdnScanReferenceIdeal.nD Cert.GdnScanReferenceIdeal.τ).loc Cert.GdnScanReferenceIdeal.main_arg0) = m' ((c.tc : Thread Cert.GdnScanReferenceIdeal.nD Cert.GdnScanReferenceIdeal.τ).loc Cert.GdnScanReferenceIdeal.main_arg0)
          ∧ r.2.mem ((c.tc : Thread Cert.GdnScanReferenceIdeal.nD Cert.GdnScanReferenceIdeal.τ).loc Cert.GdnScanReferenceIdeal.main_arg1) = m' ((c.tc : Thread Cert.GdnScanReferenceIdeal.nD Cert.GdnScanReferenceIdeal.τ).loc Cert.GdnScanReferenceIdeal.main_arg1)
          ∧ r.2.mem ((c.tc : Thread Cert.GdnScanReferenceIdeal.nD Cert.GdnScanReferenceIdeal.τ).loc Cert.GdnScanReferenceIdeal.main_arg2) = m' ((c.tc : Thread Cert.GdnScanReferenceIdeal.nD Cert.GdnScanReferenceIdeal.τ).loc Cert.GdnScanReferenceIdeal.main_arg2)
          ∧ r.2.mem ((c.tc : Thread Cert.GdnScanReferenceIdeal.nD Cert.GdnScanReferenceIdeal.τ).loc Cert.GdnScanReferenceIdeal.main_arg3) = m' ((c.tc : Thread Cert.GdnScanReferenceIdeal.nD Cert.GdnScanReferenceIdeal.τ).loc Cert.GdnScanReferenceIdeal.main_arg3))

def Claim : Prop :=
  ∃ (hAttention : Cert.Attention.Facts) (hAttentionIdeal : Cert.AttentionIdeal.Facts) (hAttentionReferenceIdeal : Cert.AttentionReferenceIdeal.Facts) (hInProj : Cert.InProj.Facts) (hInProjIdeal : Cert.InProjIdeal.Facts) (hInProjReferenceIdeal : Cert.InProjReferenceIdeal.Facts) (hInProjConformer : Cert.InProjConformer.Facts) (hInProjConformerIdeal : Cert.InProjConformerIdeal.Facts) (hInProjConformerReferenceIdeal : Cert.InProjConformerReferenceIdeal.Facts) (hInProjGdn : Cert.InProjGdn.Facts) (hInProjGdnIdeal : Cert.InProjGdnIdeal.Facts) (hInProjGdnReferenceIdeal : Cert.InProjGdnReferenceIdeal.Facts) (hOutProj : Cert.OutProj.Facts) (hOutProjIdeal : Cert.OutProjIdeal.Facts) (hOutProjReferenceIdeal : Cert.OutProjReferenceIdeal.Facts) (hOutProjHyena : Cert.OutProjHyena.Facts) (hOutProjHyenaIdeal : Cert.OutProjHyenaIdeal.Facts) (hOutProjHyenaReferenceIdeal : Cert.OutProjHyenaReferenceIdeal.Facts) (hGdnOut : Cert.GdnOut.Facts) (hGdnOutIdeal : Cert.GdnOutIdeal.Facts) (hGdnOutReferenceIdeal : Cert.GdnOutReferenceIdeal.Facts) (hGdnScan : Cert.GdnScan.Facts) (hGdnScanIdeal : Cert.GdnScanIdeal.Facts) (hGdnScanReferenceIdeal : Cert.GdnScanReferenceIdeal.Facts) (hPre_attention_finite : Cert.Pre_attention_finite.Facts) (hPre_scan_finite : Cert.Pre_scan_finite.Facts),
    quiescent_Attention (hAttention := hAttention)
    ∧ quiescent_AttentionIdeal (hAttentionIdeal := hAttentionIdeal)
    ∧ quiescent_AttentionIdeal_pre_attention_finite (hAttentionIdeal := hAttentionIdeal) (hPre_attention_finite := hPre_attention_finite)
    ∧ quiescent_AttentionReferenceIdeal (hAttentionReferenceIdeal := hAttentionReferenceIdeal)
    ∧ quiescent_AttentionReferenceIdeal_pre_attention_finite (hAttentionReferenceIdeal := hAttentionReferenceIdeal) (hPre_attention_finite := hPre_attention_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_InProjConformer (hInProjConformer := hInProjConformer)
    ∧ quiescent_InProjConformerIdeal (hInProjConformerIdeal := hInProjConformerIdeal)
    ∧ quiescent_InProjConformerReferenceIdeal (hInProjConformerReferenceIdeal := hInProjConformerReferenceIdeal)
    ∧ quiescent_InProjGdn (hInProjGdn := hInProjGdn)
    ∧ quiescent_InProjGdnIdeal (hInProjGdnIdeal := hInProjGdnIdeal)
    ∧ quiescent_InProjGdnReferenceIdeal (hInProjGdnReferenceIdeal := hInProjGdnReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_OutProjHyena (hOutProjHyena := hOutProjHyena)
    ∧ quiescent_OutProjHyenaIdeal (hOutProjHyenaIdeal := hOutProjHyenaIdeal)
    ∧ quiescent_OutProjHyenaReferenceIdeal (hOutProjHyenaReferenceIdeal := hOutProjHyenaReferenceIdeal)
    ∧ quiescent_GdnOut (hGdnOut := hGdnOut)
    ∧ quiescent_GdnOutIdeal (hGdnOutIdeal := hGdnOutIdeal)
    ∧ quiescent_GdnOutReferenceIdeal (hGdnOutReferenceIdeal := hGdnOutReferenceIdeal)
    ∧ quiescent_GdnScan (hGdnScan := hGdnScan)
    ∧ quiescent_GdnScanIdeal (hGdnScanIdeal := hGdnScanIdeal)
    ∧ quiescent_GdnScanIdeal_pre_scan_finite (hGdnScanIdeal := hGdnScanIdeal) (hPre_scan_finite := hPre_scan_finite)
    ∧ quiescent_GdnScanReferenceIdeal (hGdnScanReferenceIdeal := hGdnScanReferenceIdeal)
    ∧ quiescent_GdnScanReferenceIdeal_pre_scan_finite (hGdnScanReferenceIdeal := hGdnScanReferenceIdeal) (hPre_scan_finite := hPre_scan_finite)
    ∧ preserves_Attention_AttentionIdeal
    ∧ algebraic_AttentionIdeal_AttentionReferenceIdeal_pre_attention_finite (hAttentionIdeal := hAttentionIdeal) (hAttentionReferenceIdeal := hAttentionReferenceIdeal) (hPre_attention_finite := hPre_attention_finite)
    ∧ preserves_InProj_InProjIdeal
    ∧ algebraic_InProjIdeal_InProjReferenceIdeal (hInProjIdeal := hInProjIdeal) (hInProjReferenceIdeal := hInProjReferenceIdeal)
    ∧ preserves_InProjConformer_InProjConformerIdeal
    ∧ algebraic_InProjConformerIdeal_InProjConformerReferenceIdeal (hInProjConformerIdeal := hInProjConformerIdeal) (hInProjConformerReferenceIdeal := hInProjConformerReferenceIdeal)
    ∧ preserves_InProjGdn_InProjGdnIdeal
    ∧ algebraic_InProjGdnIdeal_InProjGdnReferenceIdeal (hInProjGdnIdeal := hInProjGdnIdeal) (hInProjGdnReferenceIdeal := hInProjGdnReferenceIdeal)
    ∧ preserves_OutProj_OutProjIdeal
    ∧ algebraic_OutProjIdeal_OutProjReferenceIdeal (hOutProjIdeal := hOutProjIdeal) (hOutProjReferenceIdeal := hOutProjReferenceIdeal)
    ∧ preserves_OutProjHyena_OutProjHyenaIdeal
    ∧ algebraic_OutProjHyenaIdeal_OutProjHyenaReferenceIdeal (hOutProjHyenaIdeal := hOutProjHyenaIdeal) (hOutProjHyenaReferenceIdeal := hOutProjHyenaReferenceIdeal)
    ∧ preserves_GdnOut_GdnOutIdeal
    ∧ algebraic_GdnOutIdeal_GdnOutReferenceIdeal (hGdnOutIdeal := hGdnOutIdeal) (hGdnOutReferenceIdeal := hGdnOutReferenceIdeal)
    ∧ preserves_GdnScan_GdnScanIdeal
    ∧ algebraic_GdnScanIdeal_GdnScanReferenceIdeal_pre_scan_finite (hGdnScanIdeal := hGdnScanIdeal) (hGdnScanReferenceIdeal := hGdnScanReferenceIdeal) (hPre_scan_finite := hPre_scan_finite)
-- ==== Pre_attention_finite.lean ====
abbrev S4x64 : Shape := ⟨2, ![4, 64]⟩
abbrev S128 : Shape := ⟨1, ![128]⟩
abbrev S16x4224x4096 : Shape := ⟨3, ![16, 4224, 4096]⟩
abbrev S16x4224x8192 : Shape := ⟨3, ![16, 4224, 8192]⟩
abbrev S16x4224x2048 : Shape := ⟨3, ![16, 4224, 2048]⟩
abbrev S16x4112x2048 : Shape := ⟨3, ![16, 4112, 2048]⟩
abbrev S_ : Shape := ⟨0, ![]⟩

class Facts : Prop where
  slices_S16x4224x4096_S16x4224x2048_0_0_0 : S16x4224x4096.Slices ![0, 0, 0] S16x4224x2048
  bitsLt_bf16_f32 : FTy.bits .bf16 < FTy.bits .f32
  slices_S16x4224x4096_S16x4112x2048_0_112_2048 : S16x4224x4096.Slices ![0, 112, 2048] S16x4112x2048
  slices_S16x4224x8192_S16x4112x2048_0_112_4096 : S16x4224x8192.Slices ![0, 112, 4096] S16x4112x2048
  bcast_S_S4x64 : S_.BroadcastsInDim S4x64 (![] : Fin 0 → Fin S4x64.rank)
  reducesTo_S4x64_S_d0_1 : S4x64.ReducesTo [0, 1] S_
  h_S_ : 0 < S_.numel
  bcast_S_S16x4224x2048 : S_.BroadcastsInDim S16x4224x2048 (![] : Fin 0 → Fin S16x4224x2048.rank)
  reducesTo_S16x4224x2048_S_d0_1_2 : S16x4224x2048.ReducesTo [0, 1, 2] S_
  bcast_S_S16x4112x2048 : S_.BroadcastsInDim S16x4112x2048 (![] : Fin 0 → Fin S16x4112x2048.rank)
  reducesTo_S16x4112x2048_S_d0_1_2 : S16x4112x2048.ReducesTo [0, 1, 2] S_

variable [Facts]

def fn_part1 {F : FTy → Type} [FloatOps F] (main_v5 : FVec F S16x4112x2048 .f32) (main_v14 : IVec S_ 1) (main_v17 : IVec S16x4112x2048 1) (main_c_3 : IVec S_ 1) : IVec S_ 1 :=
  let main_v18 : IVec S_ 1 := (fun x v => Host.reduce IntOp.andi x v reducesTo_S16x4112x2048_S_d0_1_2 h_S_) main_v17 main_c_3
  let main_v19 : IVec S_ 1 := andi main_v14 main_v18
  let main_v20 : FVec F S16x4112x2048 .f32 := Host.absf main_v5
  let main_cst_4 : FVec F S_ .f32 := constant S_ .f32 0x7F800000#32
  let main_v21 : FVec F S16x4112x2048 .f32 := broadcastInDim S16x4112x2048 ![] bcast_S_S16x4112x2048 main_cst_4
  let main_v22 : IVec S16x4112x2048 1 := cmpf .olt main_v20 main_v21
  let main_c_5 : IVec S_ 1 := constantI S_ 1 1#1
  let main_v23 : IVec S_ 1 := (fun x v => Host.reduce IntOp.andi x v reducesTo_S16x4112x2048_S_d0_1_2 h_S_) main_v22 main_c_5
  let main_v24 : IVec S_ 1 := andi main_v19 main_v23
  main_v24

def fn {F : FTy → Type} [FloatOps F] (main_arg0 : FVec F S4x64 .f32) (main_arg1 : FVec F S128 .f32) (main_arg2 : FVec F S16x4224x4096 .bf16) (main_arg3 : FVec F S16x4224x8192 .bf16) : IVec S_ 1 :=
  let main_v0 : FVec F S16x4224x2048 .bf16 := (extractStridedSlice S16x4224x2048 ![0, 0, 0] · slices_S16x4224x4096_S16x4224x2048_0_0_0) main_arg2
  let main_v1 : FVec F S16x4224x2048 .f32 := (extf .f32 · bitsLt_bf16_f32) main_v0
  let main_v2 : FVec F S16x4112x2048 .bf16 := (extractStridedSlice S16x4112x2048 ![0, 112, 2048] · slices_S16x4224x4096_S16x4112x2048_0_112_2048) main_arg2
  let main_v3 : FVec F S16x4112x2048 .f32 := (extf .f32 · bitsLt_bf16_f32) main_v2
  let main_v4 : FVec F S16x4112x2048 .bf16 := (extractStridedSlice S16x4112x2048 ![0, 112, 4096] · slices_S16x4224x8192_S16x4112x2048_0_112_4096) main_arg3
  let main_v5 : FVec F S16x4112x2048 .f32 := (extf .f32 · bitsLt_bf16_f32) main_v4
  let main_v6 : FVec F S4x64 .f32 := Host.absf main_arg0
  let main_cst : FVec F S_ .f32 := constant S_ .f32 0x7F800000#32
  let main_v7 : FVec F S4x64 .f32 := broadcastInDim S4x64 ![] bcast_S_S4x64 main_cst
  let main_v8 : IVec S4x64 1 := cmpf .olt main_v6 main_v7
  let main_c : IVec S_ 1 := constantI S_ 1 1#1
  let main_v9 : IVec S_ 1 := (fun x v => Host.reduce IntOp.andi x v reducesTo_S4x64_S_d0_1 h_S_) main_v8 main_c
  let main_v10 : FVec F S16x4224x2048 .f32 := Host.absf main_v1
  let main_cst_0 : FVec F S_ .f32 := constant S_ .f32 0x7F800000#32
  let main_v11 : FVec F S16x4224x2048 .f32 := broadcastInDim S16x4224x2048 ![] bcast_S_S16x4224x2048 main_cst_0
  let main_v12 : IVec S16x4224x2048 1 := cmpf .olt main_v10 main_v11
  let main_c_1 : IVec S_ 1 := constantI S_ 1 1#1
  let main_v13 : IVec S_ 1 := (fun x v => Host.reduce IntOp.andi x v reducesTo_S16x4224x2048_S_d0_1_2 h_S_) main_v12 main_c_1
  let main_v14 : IVec S_ 1 := andi main_v9 main_v13
  let main_v15 : FVec F S16x4112x2048 .f32 := Host.absf main_v3
  let main_cst_2 : FVec F S_ .f32 := constant S_ .f32 0x7F800000#32
  let main_v16 : FVec F S16x4112x2048 .f32 := broadcastInDim S16x4112x2048 ![] bcast_S_S16x4112x2048 main_cst_2
  let main_v17 : IVec S16x4112x2048 1 := cmpf .olt main_v15 main_v16
  let main_c_3 : IVec S_ 1 := constantI S_ 1 1#1
  fn_part1 (F := F) main_v5 main_v14 main_v17 main_c_3
-- ==== Pre_scan_finite.lean ====
abbrev S16x4224x1024 : Shape := ⟨3, ![16, 4224, 1024]⟩
abbrev S16x4224x2048 : Shape := ⟨3, ![16, 4224, 2048]⟩
abbrev S16x4224x128 : Shape := ⟨3, ![16, 4224, 128]⟩
abbrev S_ : Shape := ⟨0, ![]⟩
abbrev S16x4224x64 : Shape := ⟨3, ![16, 4224, 64]⟩

class Facts : Prop where
  bitsLt_bf16_f32 : FTy.bits .bf16 < FTy.bits .f32
  bcast_S_S16x4224x1024 : S_.BroadcastsInDim S16x4224x1024 (![] : Fin 0 → Fin S16x4224x1024.rank)
  reducesTo_S16x4224x1024_S_d0_1_2 : S16x4224x1024.ReducesTo [0, 1, 2] S_
  h_S_ : 0 < S_.numel
  bcast_S_S16x4224x2048 : S_.BroadcastsInDim S16x4224x2048 (![] : Fin 0 → Fin S16x4224x2048.rank)
  reducesTo_S16x4224x2048_S_d0_1_2 : S16x4224x2048.ReducesTo [0, 1, 2] S_
  slices_S16x4224x128_S16x4224x64_0_0_0 : S16x4224x128.Slices ![0, 0, 0] S16x4224x64
  bcast_S_S16x4224x64 : S_.BroadcastsInDim S16x4224x64 (![] : Fin 0 → Fin S16x4224x64.rank)
  reducesTo_S16x4224x64_S_d0_1_2 : S16x4224x64.ReducesTo [0, 1, 2] S_

variable [Facts]

def fn_part1 {F : FTy → Type} [FloatOps F] (main_v16 : IVec S_ 1) (main_v17 : FVec F S16x4224x64 .f32) : IVec S_ 1 :=
  let main_v18 : FVec F S16x4224x64 .f32 := Host.absf main_v17
  let main_cst_4 : FVec F S_ .f32 := constant S_ .f32 0x7F800000#32
  let main_v19 : FVec F S16x4224x64 .f32 := broadcastInDim S16x4224x64 ![] bcast_S_S16x4224x64 main_cst_4
  let main_v20 : IVec S16x4224x64 1 := cmpf .olt main_v18 main_v19
  let main_c_5 : IVec S_ 1 := constantI S_ 1 1#1
  let main_v21 : IVec S_ 1 := (fun x v => Host.reduce IntOp.andi x v reducesTo_S16x4224x64_S_d0_1_2 h_S_) main_v20 main_c_5
  let main_v22 : IVec S_ 1 := andi main_v16 main_v21
  main_v22

def fn {F : FTy → Type} [FloatOps F] (main_arg0 : FVec F S16x4224x1024 .bf16) (main_arg1 : FVec F S16x4224x1024 .bf16) (main_arg2 : FVec F S16x4224x2048 .bf16) (main_arg3 : FVec F S16x4224x128 .f32) : IVec S_ 1 :=
  let main_v0 : FVec F S16x4224x1024 .f32 := (extf .f32 · bitsLt_bf16_f32) main_arg0
  let main_v1 : FVec F S16x4224x1024 .f32 := Host.absf main_v0
  let main_cst : FVec F S_ .f32 := constant S_ .f32 0x7F800000#32
  let main_v2 : FVec F S16x4224x1024 .f32 := broadcastInDim S16x4224x1024 ![] bcast_S_S16x4224x1024 main_cst
  let main_v3 : IVec S16x4224x1024 1 := cmpf .olt main_v1 main_v2
  let main_c : IVec S_ 1 := constantI S_ 1 1#1
  let main_v4 : IVec S_ 1 := (fun x v => Host.reduce IntOp.andi x v reducesTo_S16x4224x1024_S_d0_1_2 h_S_) main_v3 main_c
  let main_v5 : FVec F S16x4224x1024 .f32 := (extf .f32 · bitsLt_bf16_f32) main_arg1
  let main_v6 : FVec F S16x4224x1024 .f32 := Host.absf main_v5
  let main_cst_0 : FVec F S_ .f32 := constant S_ .f32 0x7F800000#32
  let main_v7 : FVec F S16x4224x1024 .f32 := broadcastInDim S16x4224x1024 ![] bcast_S_S16x4224x1024 main_cst_0
  let main_v8 : IVec S16x4224x1024 1 := cmpf .olt main_v6 main_v7
  let main_c_1 : IVec S_ 1 := constantI S_ 1 1#1
  let main_v9 : IVec S_ 1 := (fun x v => Host.reduce IntOp.andi x v reducesTo_S16x4224x1024_S_d0_1_2 h_S_) main_v8 main_c_1
  let main_v10 : IVec S_ 1 := andi main_v4 main_v9
  let main_v11 : FVec F S16x4224x2048 .f32 := (extf .f32 · bitsLt_bf16_f32) main_arg2
  let main_v12 : FVec F S16x4224x2048 .f32 := Host.absf main_v11
  let main_cst_2 : FVec F S_ .f32 := constant S_ .f32 0x7F800000#32
  let main_v13 : FVec F S16x4224x2048 .f32 := broadcastInDim S16x4224x2048 ![] bcast_S_S16x4224x2048 main_cst_2
  let main_v14 : IVec S16x4224x2048 1 := cmpf .olt main_v12 main_v13
  let main_c_3 : IVec S_ 1 := constantI S_ 1 1#1
  let main_v15 : IVec S_ 1 := (fun x v => Host.reduce IntOp.andi x v reducesTo_S16x4224x2048_S_d0_1_2 h_S_) main_v14 main_c_3
  let main_v16 : IVec S_ 1 := andi main_v10 main_v15
  let main_v17 : FVec F S16x4224x64 .f32 := (extractStridedSlice S16x4224x64 ![0, 0, 0] · slices_S16x4224x128_S16x4224x64_0_0_0) main_arg3
  fn_part1 (F := F) main_v16 main_v17
-- ==== Attention.lean ====
abbrev S4x64 : Shape := ⟨2, ![4, 64]⟩
abbrev S128 : Shape := ⟨1, ![128]⟩
abbrev S16x4224x4096 : Shape := ⟨3, ![16, 4224, 4096]⟩
abbrev S16x4224x8192 : Shape := ⟨3, ![16, 4224, 8192]⟩
abbrev S1x128 : Shape := ⟨2, ![1, 128]⟩
abbrev S16x4224x2048 : Shape := ⟨3, ![16, 4224, 2048]⟩
abbrev S1x384x128 : Shape := ⟨3, ![1, 384, 128]⟩
abbrev S1x4224x128 : Shape := ⟨3, ![1, 4224, 128]⟩
abbrev S384x128 : Shape := ⟨2, ![384, 128]⟩
abbrev S4224x128 : Shape := ⟨2, ![4224, 128]⟩
abbrev S1x4224 : Shape := ⟨2, ![1, 4224]⟩
abbrev S384x4224 : Shape := ⟨2, ![384, 4224]⟩
abbrev S384 : Shape := ⟨1, ![384]⟩
abbrev S384x1 : Shape := ⟨2, ![384, 1]⟩
abbrev S1x64 : Shape := ⟨2, ![1, 64]⟩
abbrev S1 : Shape := ⟨1, ![1]⟩
abbrev S1x1 : Shape := ⟨2, ![1, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S16x4224x4096, .bf16⟩
  | .hbm, ⟨3, _⟩ => ⟨S16x4224x8192, .bf16⟩
  | .hbm, ⟨4, _⟩ => ⟨S1x128, .f32⟩
  | .hbm, ⟨5, _⟩ => ⟨S16x4224x2048, .bf16⟩
  | .local _ .vmem, ⟨0, _⟩ => ⟨S4x64, .f32⟩
  | .local _ .vmem, ⟨1, _⟩ => ⟨S1x128, .f32⟩
  | .local _ .vmem, ⟨2, _⟩ => ⟨S1x384x128, .bf16⟩
  | .local _ .vmem, ⟨3, _⟩ => ⟨S1x384x128, .bf16⟩
  | .local _ .vmem, ⟨4, _⟩ => ⟨S1x4224x128, .bf16⟩
  | .local _ .vmem, ⟨5, _⟩ => ⟨S1x4224x128, .bf16⟩
  | .local _ .vmem, ⟨6, _⟩ => ⟨S1x4224x128, .bf16⟩
  | .local _ .vmem, ⟨7, _⟩ => ⟨S1x4224x128, .bf16⟩
  | .local _ .vmem, ⟨8, _⟩ => ⟨S1x384x128, .bf16⟩
  | .local _ .vmem, ⟨9, _⟩ => ⟨S1x384x128, .bf16⟩
  | .local _ .vmem, ⟨10, _⟩ => ⟨S1x384x128, .bf16⟩
  | .local _ .vmem, ⟨11, _⟩ => ⟨S1x384x128, .bf16⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 16, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  ![arg0.toNat, arg2.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4224x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x384x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttentionIdeal.lean ====
variable {F : FTy → Type} [FloatOps F] [Named F]
def κ : String → Option EReal := fun
  | "mask" => some ⊥
  | _ => none
-- ==== AttentionReferenceIdeal.lean ====
abbrev S4x64 : Shape := ⟨2, ![4, 64]⟩
abbrev S128 : Shape := ⟨1, ![128]⟩
abbrev S16x4224x4096 : Shape := ⟨3, ![16, 4224, 4096]⟩
abbrev S16x4224x8192 : Shape := ⟨3, ![16, 4224, 8192]⟩
abbrev S16x4224x2048 : Shape := ⟨3, ![16, 4224, 2048]⟩
abbrev S16x4224x16x2x64 : Shape := ⟨5, ![16, 4224, 16, 2, 64]⟩
abbrev S16x4112x2048 : Shape := ⟨3, ![16, 4112, 2048]⟩
abbrev S16x4112x16x2x64 : Shape := ⟨5, ![16, 4112, 16, 2, 64]⟩
abbrev S16x4112x16x128 : Shape := ⟨4, ![16, 4112, 16, 128]⟩
abbrev S1x64 : Shape := ⟨2, ![1, 64]⟩
abbrev S64 : Shape := ⟨1, ![64]⟩
abbrev S_ : Shape := ⟨0, ![]⟩
abbrev S16x16x2x4224x4112 : Shape := ⟨5, ![16, 16, 2, 4224, 4112]⟩
abbrev S16x16x2x4224 : Shape := ⟨4, ![16, 16, 2, 4224]⟩
abbrev S16x16x2x4224x1 : Shape := ⟨5, ![16, 16, 2, 4224, 1]⟩
abbrev S16x16x1x4224x4112 : Shape := ⟨5, ![16, 16, 1, 4224, 4112]⟩
abbrev S16x16x4224x4112 : Shape := ⟨4, ![16, 16, 4224, 4112]⟩
abbrev S16x16x128x4224 : Shape := ⟨4, ![16, 16, 128, 4224]⟩
abbrev S16x4224x16x128 : Shape := ⟨4, ![16, 4224, 16, 128]⟩
abbrev S16x4224x16 : Shape := ⟨3, ![16, 4224, 16]⟩
abbrev S16x4224x16x1 : Shape := ⟨4, ![16, 4224, 16, 1]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S16x4224x4096, .bf16⟩
  | .hbm, ⟨3, _⟩ => ⟨S16x4224x8192, .bf16⟩
  | .hbm, ⟨4, _⟩ => ⟨S16x4224x2048, .bf16⟩
  | .hbm, ⟨5, _⟩ => ⟨S16x4224x2048, .f32⟩
  | .hbm, ⟨6, _⟩ => ⟨S16x4224x16x2x64, .f32⟩
  | .hbm, ⟨7, _⟩ => ⟨S16x4112x2048, .bf16⟩
  | .hbm, ⟨8, _⟩ => ⟨S16x4112x2048, .f32⟩
  | .hbm, ⟨9, _⟩ => ⟨S16x4112x16x2x64, .f32⟩
  | .hbm, ⟨10, _⟩ => ⟨S16x4112x2048, .bf16⟩
  | .hbm, ⟨11, _⟩ => ⟨S16x4112x2048, .f32⟩
  | .hbm, ⟨12, _⟩ => ⟨S16x4112x16x128, .f32⟩
  | .hbm, ⟨13, _⟩ => ⟨S16x4224x2048, .bf16⟩
  | .hbm, ⟨14, _⟩ => ⟨S16x4224x2048, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16x16x2x4224x4112, .f32⟩
  | .hbm, ⟨35, _⟩ => ⟨S_, .f32⟩
  | .hbm, ⟨36, _⟩ => ⟨S16x16x2x4224, .f32⟩
  | .hbm, ⟨37, _⟩ => ⟨S_, .f32⟩
  | .hbm, ⟨38, _⟩ => ⟨S16x16x2x4224, .f32⟩
  | .hbm, ⟨39, _⟩ => ⟨S16x16x2x4224, .f32⟩
  | .hbm, ⟨40, _⟩ => ⟨S16x16x2x4224x1, .f32⟩
  | .hbm, ⟨41, _⟩ => ⟨S16x16x2x4224x4112, .f32⟩
  | .hbm, ⟨42, _⟩ => ⟨S16x16x2x4224x4112, .f32⟩
  | .hbm, ⟨43, _⟩ => ⟨S16x16x2x4224x4112, .f32⟩
  | .hbm, ⟨44, _⟩ => ⟨S_, .f32⟩
  | .hbm, ⟨45, _⟩ => ⟨S16x16x2x4224, .f32⟩
  | .hbm, ⟨46, _⟩ => ⟨S16x16x2x4224x1, .f32⟩
  | .hbm, ⟨47, _⟩ => ⟨S16x16x2x4224x4112, .f32⟩
  | .hbm, ⟨48, _⟩ => ⟨S16x16x2x4224x4112, .f32⟩
  | .hbm, ⟨49, _⟩ => ⟨S16x16x1x4224x4112, .f32⟩
  | .hbm, ⟨50, _⟩ => ⟨S16x16x4224x4112, .f32⟩
  | .hbm, ⟨51, _⟩ => ⟨S16x16x1x4224x4112, .f32⟩
  | .hbm, ⟨52, _⟩ => ⟨S16x16x4224x4112, .f32⟩
  | .hbm, ⟨53, _⟩ => ⟨S16x16x4224x4112, .f32⟩
  | .hbm, ⟨54, _⟩ => ⟨S16x16x4224x4112, .f32⟩
  | .hbm, ⟨55, _⟩ => ⟨S16x16x4224x4112, .f32⟩
  | .hbm, ⟨56, _⟩ => ⟨S16x16x128x4224, .f32⟩
  | .hbm, ⟨57, _⟩ => ⟨S16x4224x16x128, .f32⟩
  | .hbm, ⟨58, _⟩ => ⟨S16x4224x16x128, .f32⟩
  | .hbm, ⟨59, _⟩ => ⟨S_, .f32⟩
  | .hbm, ⟨60, _⟩ => ⟨S16x4224x16, .f32⟩
  | .hbm, ⟨61, _⟩ => ⟨S16x4224x16x1, .f32⟩
  | .hbm, ⟨62, _⟩ => ⟨S_, .f32⟩
  | .hbm, ⟨63, _⟩ => ⟨S16x4224x16x1, .f32⟩
  | .hbm, ⟨64, _⟩ => ⟨S16x4224x16x1, .f32⟩
  | .hbm, ⟨65, _⟩ => ⟨S_, .f32⟩
  | .hbm, ⟨66, _⟩ => ⟨S16x4224x16x1, .f32⟩
  | .hbm, ⟨67, _⟩ => ⟨S16x4224x16x1, .f32⟩
  | .hbm, ⟨68, _⟩ => ⟨S16x4224x16x1, .f32⟩
  | .hbm, ⟨69, _⟩ => ⟨S16x4224x16x128, .f32⟩
  | .hbm, ⟨70, _⟩ => ⟨S16x4224x16x128, .f32⟩
  | .hbm, ⟨71, _⟩ => ⟨S1x1x1x128, .f32⟩
  | .hbm, ⟨72, _⟩ => ⟨S16x4224x16x128, .f32⟩
  | .hbm, ⟨73, _⟩ => ⟨S16x4224x16x128, .f32⟩
  | .hbm, ⟨74, _⟩ => ⟨S_, .f32⟩
  | .hbm, ⟨75, _⟩ => ⟨S16x4224x16x128, .f32⟩
  | .hbm, ⟨76, _⟩ => ⟨S16x4224x16x128, .f32⟩
  | .hbm, ⟨77, _⟩ => ⟨S16x4224x2048, .f32⟩
  | .hbm, ⟨78, _⟩ => ⟨S16x4224x2048, .f32⟩
  | .hbm, ⟨79, _⟩ => ⟨S16x4224x2048, .f32⟩
  | .hbm, ⟨80, _⟩ => ⟨S_, .f32⟩
  | .hbm, ⟨81, _⟩ => ⟨S16x4224x2048, .f32⟩
  | .hbm, ⟨82, _⟩ => ⟨S16x4224x2048, .f32⟩
  | .hbm, ⟨83, _⟩ => ⟨S_, .f32⟩
  | .hbm, ⟨84, _⟩ => ⟨S16x4224x2048, .f32⟩
  | .hbm, ⟨85, _⟩ => ⟨S16x4224x2048, .f32⟩
  | .hbm, ⟨86, _⟩ => ⟨S16x4224x2048, .f32⟩
  | .hbm, ⟨87, _⟩ => ⟨S16x4224x2048, .f32⟩
  | .hbm, ⟨88, _⟩ => ⟨S16x4224x2048, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== InProj.lean ====
abbrev S16x4224x1024 : Shape := ⟨3, ![16, 4224, 1024]⟩
abbrev S1024 : Shape := ⟨1, ![1024]⟩
abbrev S1024x8192 : Shape := ⟨2, ![1024, 8192]⟩
abbrev S8192 : Shape := ⟨1, ![8192]⟩
abbrev S1x1024 : Shape := ⟨2, ![1, 1024]⟩
abbrev S1x8192 : Shape := ⟨2, ![1, 8192]⟩
abbrev S16x4224x8192 : Shape := ⟨3, ![16, 4224, 8192]⟩
abbrev S1x1056x1024 : Shape := ⟨3, ![1, 1056, 1024]⟩
abbrev S1024x2048 : Shape := ⟨2, ![1024, 2048]⟩
abbrev S1x2048 : Shape := ⟨2, ![1, 2048]⟩
abbrev S1x1056x2048 : Shape := ⟨3, ![1, 1056, 2048]⟩
abbrev S1056x1024 : Shape := ⟨2, ![1056, 1024]⟩
abbrev S1056 : Shape := ⟨1, ![1056]⟩
abbrev S1056x1 : Shape := ⟨2, ![1056, 1]⟩
abbrev S1056x2048 : Shape := ⟨2, ![1056, 2048]⟩

abbrev nBuf : Space → Nat
  | .hbm => 8
  | .vmem => 9
  | .smem => 0
  | _ => 0

abbrev bufTy : (tb : Table) → Fin (tcTables nBuf tb) → BufTy
  | .hbm, ⟨0, _⟩ => ⟨S16x4224x1024, .f32⟩
  | .hbm, ⟨1, _⟩ => ⟨S1024, .f32⟩
  | .hbm, ⟨2, _⟩ => ⟨S1024x8192, .f32⟩
  | .hbm, ⟨3, _⟩ => ⟨S8192, .f32⟩
  | .hbm, ⟨4, _⟩ => ⟨S1024x8192, .bf16⟩
  | .hbm, ⟨5, _⟩ => ⟨S1x1024, .f32⟩
  | .hbm, ⟨6, _⟩ => ⟨S1x8192, .f32⟩
  | .hbm, ⟨7, _⟩ => ⟨S16x4224x8192, .bf16⟩
  | .local _ .vmem, ⟨0, _⟩ => ⟨S1x1056x1024, .f32⟩
  | .local _ .vmem, ⟨1, _⟩ => ⟨S1x1056x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S1x2048, .f32⟩
  | .local _ .vmem, ⟨7, _⟩ => ⟨S1x1056x2048, .bf16⟩
  | .local _ .vmem, ⟨8, _⟩ => ⟨S1x1056x2048, .bf16⟩
  | _, _ => ⟨S16x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1056x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InProjIdeal.lean ====
abbrev S16x4224x1024 : Shape := ⟨3, ![16, 4224, 1024]⟩
abbrev S1024 : Shape := ⟨1, ![1024]⟩
abbrev S1024x8192 : Shape := ⟨2, ![1024, 8192]⟩
abbrev S8192 : Shape := ⟨1, ![8192]⟩
abbrev S1x1024 : Shape := ⟨2, ![1, 1024]⟩
abbrev S1x8192 : Shape := ⟨2, ![1, 8192]⟩
abbrev S16x4224x8192 : Shape := ⟨3, ![16, 4224, 8192]⟩
abbrev S1x1056x1024 : Shape := ⟨3, ![1, 1056, 1024]⟩
abbrev S1024x2048 : Shape := ⟨2, ![1024, 2048]⟩
abbrev S1x2048 : Shape := ⟨2, ![1, 2048]⟩
abbrev S1x1056x2048 : Shape := ⟨3, ![1, 1056, 2048]⟩
abbrev S1056x1024 : Shape := ⟨2, ![1056, 1024]⟩
abbrev S1056 : Shape := ⟨1, ![1056]⟩
abbrev S1056x1 : Shape := ⟨2, ![1056, 1]⟩
abbrev S1056x2048 : Shape := ⟨2, ![1056, 2048]⟩

abbrev nBuf : Space → Nat
  | .hbm => 8
  | .vmem => 9
  | .smem => 0
  | _ => 0

abbrev bufTy : (tb : Table) → Fin (tcTables nBuf tb) → BufTy
  | .hbm, ⟨0, _⟩ => ⟨S16x4224x1024, .f32⟩
  | .hbm, ⟨1, _⟩ => ⟨S1024, .f32⟩
  | .hbm, ⟨2, _⟩ => ⟨S1024x8192, .f32⟩
  | .hbm, ⟨3, _⟩ => ⟨S8192, .f32⟩
  | .hbm, ⟨4, _⟩ => ⟨S1024x8192, .bf16⟩
  | .hbm, ⟨5, _⟩ => ⟨S1x1024, .f32⟩
  | .hbm, ⟨6, _⟩ => ⟨S1x8192, .f32⟩
  | .hbm, ⟨7, _⟩ => ⟨S16x4224x8192, .bf16⟩
  | .local _ .vmem, ⟨0, _⟩ => ⟨S1x1056x1024, .f32⟩
  | .local _ .vmem, ⟨1, _⟩ => ⟨S1x1056x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S1x2048, .f32⟩
  | .local _ .vmem, ⟨7, _⟩ => ⟨S1x1056x2048, .bf16⟩
  | .local _ .vmem, ⟨8, _⟩ => ⟨S1x1056x2048, .bf16⟩
  | _, _ => ⟨S16x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1056x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InProjReferenceIdeal.lean ====
abbrev S16x4224x1024 : Shape := ⟨3, ![16, 4224, 1024]⟩
abbrev S1024 : Shape := ⟨1, ![1024]⟩
abbrev S1024x8192 : Shape := ⟨2, ![1024, 8192]⟩
abbrev S8192 : Shape := ⟨1, ![8192]⟩
abbrev S_ : Shape := ⟨0, ![]⟩
abbrev S16x4224 : Shape := ⟨2, ![16, 4224]⟩
abbrev S16x4224x1 : Shape := ⟨3, ![16, 4224, 1]⟩
abbrev S1x1x1024 : Shape := ⟨3, ![1, 1, 1024]⟩
abbrev S16x4224x8192 : Shape := ⟨3, ![16, 4224, 8192]⟩
abbrev S1x1x8192 : Shape := ⟨3, ![1, 1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S16x4224x1024, .f32⟩
  | .hbm, ⟨1, _⟩ => ⟨S1024, .f32⟩
  | .hbm, ⟨2, _⟩ => ⟨S1024x8192, .f32⟩
  | .hbm, ⟨3, _⟩ => ⟨S8192, .f32⟩
  | .hbm, ⟨4, _⟩ => ⟨S16x4224x1024, .f32⟩
  | .hbm, ⟨5, _⟩ => ⟨S_, .f32⟩
  | .hbm, ⟨6, _⟩ => ⟨S16x4224, .f32⟩
  | .hbm, ⟨7, _⟩ => ⟨S16x4224x1, .f32⟩
  | .hbm, ⟨8, _⟩ => ⟨S_, .f32⟩
  | .hbm, ⟨9, _⟩ => ⟨S16x4224x1, .f32⟩
  | .hbm, ⟨10, _⟩ => ⟨S16x4224x1, .f32⟩
  | .hbm, ⟨11, _⟩ => ⟨S_, .f32⟩
  | .hbm, ⟨12, _⟩ => ⟨S16x4224x1, .f32⟩
  | .hbm, ⟨13, _⟩ => ⟨S16x4224x1, .f32⟩
  | .hbm, ⟨14, _⟩ => ⟨S16x4224x1, .f32⟩
  | .hbm, ⟨15, _⟩ => ⟨S16x4224x1024, .f32⟩
  | .hbm, ⟨16, _⟩ => ⟨S16x4224x1024, .f32⟩
  | .hbm, ⟨17, _⟩ => ⟨S1x1x1024, .f32⟩
  | .hbm, ⟨18, _⟩ => ⟨S16x4224x1024, .f32⟩
  | .hbm, ⟨19, _⟩ => ⟨S16x4224x1024, .f32⟩
  | .hbm, ⟨20, _⟩ => ⟨S16x4224x8192, .f32⟩
  | .hbm, ⟨21, _⟩ => ⟨S1x1x8192, .f32⟩
  | .hbm, ⟨22, _⟩ => ⟨S16x4224x8192, .f32⟩
  | .hbm, ⟨23, _⟩ => ⟨S16x4224x8192, .f32⟩
  | .hbm, ⟨24, _⟩ => ⟨S16x4224x8192, .bf16⟩
  | _, _ => ⟨S16x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InProjConformer.lean ====
abbrev S16x4224x1024 : Shape := ⟨3, ![16, 4224, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S1x6144 : Shape := ⟨2, ![1, 6144]⟩
abbrev S16x4224x6144 : Shape := ⟨3, ![16, 4224, 6144]⟩
abbrev S1x1056x1024 : Shape := ⟨3, ![1, 1056, 1024]⟩
abbrev S1024x2048 : Shape := ⟨2, ![1024, 2048]⟩
abbrev S1x2048 : Shape := ⟨2, ![1, 2048]⟩
abbrev S1x1056x2048 : Shape := ⟨3, ![1, 1056, 2048]⟩
abbrev S1056x1024 : Shape := ⟨2, ![1056, 1024]⟩
abbrev S1056 : Shape := ⟨1, ![1056]⟩
abbrev S1056x1 : Shape := ⟨2, ![1056, 1]⟩
abbrev S1056x2048 : Shape := ⟨2, ![1056, 2048]⟩

abbrev nBuf : Space → Nat
  | .hbm => 8
  | .vmem => 9
  | .smem => 0
  | _ => 0

abbrev bufTy : (tb : Table) → Fin (tcTables nBuf tb) → BufTy
  | .hbm, ⟨0, _⟩ => ⟨S16x4224x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1024x6144, .bf16⟩
  | .hbm, ⟨5, _⟩ => ⟨S1x1024, .f32⟩
  | .hbm, ⟨6, _⟩ => ⟨S1x6144, .f32⟩
  | .hbm, ⟨7, _⟩ => ⟨S16x4224x6144, .bf16⟩
  | .local _ .vmem, ⟨0, _⟩ => ⟨S1x1056x1024, .f32⟩
  | .local _ .vmem, ⟨1, _⟩ => ⟨S1x1056x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S1x2048, .f32⟩
  | .local _ .vmem, ⟨7, _⟩ => ⟨S1x1056x2048, .bf16⟩
  | .local _ .vmem, ⟨8, _⟩ => ⟨S1x1056x2048, .bf16⟩
  | _, _ => ⟨S16x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![3, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1056x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InProjConformerIdeal.lean ====
abbrev S16x4224x1024 : Shape := ⟨3, ![16, 4224, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S1x6144 : Shape := ⟨2, ![1, 6144]⟩
abbrev S16x4224x6144 : Shape := ⟨3, ![16, 4224, 6144]⟩
abbrev S1x1056x1024 : Shape := ⟨3, ![1, 1056, 1024]⟩
abbrev S1024x2048 : Shape := ⟨2, ![1024, 2048]⟩
abbrev S1x2048 : Shape := ⟨2, ![1, 2048]⟩
abbrev S1x1056x2048 : Shape := ⟨3, ![1, 1056, 2048]⟩
abbrev S1056x1024 : Shape := ⟨2, ![1056, 1024]⟩
abbrev S1056 : Shape := ⟨1, ![1056]⟩
abbrev S1056x1 : Shape := ⟨2, ![1056, 1]⟩
abbrev S1056x2048 : Shape := ⟨2, ![1056, 2048]⟩

abbrev nBuf : Space → Nat
  | .hbm => 8
  | .vmem => 9
  | .smem => 0
  | _ => 0

abbrev bufTy : (tb : Table) → Fin (tcTables nBuf tb) → BufTy
  | .hbm, ⟨0, _⟩ => ⟨S16x4224x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1024x6144, .bf16⟩
  | .hbm, ⟨5, _⟩ => ⟨S1x1024, .f32⟩
  | .hbm, ⟨6, _⟩ => ⟨S1x6144, .f32⟩
  | .hbm, ⟨7, _⟩ => ⟨S16x4224x6144, .bf16⟩
  | .local _ .vmem, ⟨0, _⟩ => ⟨S1x1056x1024, .f32⟩
  | .local _ .vmem, ⟨1, _⟩ => ⟨S1x1056x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S1x2048, .f32⟩
  | .local _ .vmem, ⟨7, _⟩ => ⟨S1x1056x2048, .bf16⟩
  | .local _ .vmem, ⟨8, _⟩ => ⟨S1x1056x2048, .bf16⟩
  | _, _ => ⟨S16x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![3, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1056x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InProjConformerReferenceIdeal.lean ====
abbrev S16x4224x1024 : Shape := ⟨3, ![16, 4224, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S16x4224 : Shape := ⟨2, ![16, 4224]⟩
abbrev S16x4224x1 : Shape := ⟨3, ![16, 4224, 1]⟩
abbrev S1x1x1024 : Shape := ⟨3, ![1, 1, 1024]⟩
abbrev S16x4224x6144 : Shape := ⟨3, ![16, 4224, 6144]⟩
abbrev S1x1x6144 : Shape := ⟨3, ![1, 1, 6144]⟩

abbrev nBuf : Space → Nat
  | .hbm => 25
  | .vmem => 0
  | .smem => 0
  | _ => 0

abbrev bufTy : (tb : Table) → Fin (tcTables nBuf tb) → BufTy
  | .hbm, ⟨0, _⟩ => ⟨S16x4224x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S16x4224x1024, .f32⟩
  | .hbm, ⟨5, _⟩ => ⟨S_, .f32⟩
  | .hbm, ⟨6, _⟩ => ⟨S16x4224, .f32⟩
  | .hbm, ⟨7, _⟩ => ⟨S16x4224x1, .f32⟩
  | .hbm, ⟨8, _⟩ => ⟨S_, .f32⟩
  | .hbm, ⟨9, _⟩ => ⟨S16x4224x1, .f32⟩
  | .hbm, ⟨10, _⟩ => ⟨S16x4224x1, .f32⟩
  | .hbm, ⟨11, _⟩ => ⟨S_, .f32⟩
  | .hbm, ⟨12, _⟩ => ⟨S16x4224x1, .f32⟩
  | .hbm, ⟨13, _⟩ => ⟨S16x4224x1, .f32⟩
  | .hbm, ⟨14, _⟩ => ⟨S16x4224x1, .f32⟩
  | .hbm, ⟨15, _⟩ => ⟨S16x4224x1024, .f32⟩
  | .hbm, ⟨16, _⟩ => ⟨S16x4224x1024, .f32⟩
  | .hbm, ⟨17, _⟩ => ⟨S1x1x1024, .f32⟩
  | .hbm, ⟨18, _⟩ => ⟨S16x4224x1024, .f32⟩
  | .hbm, ⟨19, _⟩ => ⟨S16x4224x1024, .f32⟩
  | .hbm, ⟨20, _⟩ => ⟨S16x4224x6144, .f32⟩
  | .hbm, ⟨21, _⟩ => ⟨S1x1x6144, .f32⟩
  | .hbm, ⟨22, _⟩ => ⟨S16x4224x6144, .f32⟩
  | .hbm, ⟨23, _⟩ => ⟨S16x4224x6144, .f32⟩
  | .hbm, ⟨24, _⟩ => ⟨S16x4224x6144, .bf16⟩
  | _, _ => ⟨S16x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InProjGdn.lean ====
abbrev S16x4224x1024 : Shape := ⟨3, ![16, 4224, 1024]⟩
abbrev S1024 : Shape := ⟨1, ![1024]⟩
abbrev S1024x6272 : Shape := ⟨2, ![1024, 6272]⟩
abbrev S6272 : Shape := ⟨1, ![6272]⟩
abbrev S1x1024 : Shape := ⟨2, ![1, 1024]⟩
abbrev S1x6272 : Shape := ⟨2, ![1, 6272]⟩
abbrev S16x4224x6272 : Shape := ⟨3, ![16, 4224, 6272]⟩
abbrev S1x1056x1024 : Shape := ⟨3, ![1, 1056, 1024]⟩
abbrev S1024x896 : Shape := ⟨2, ![1024, 896]⟩
abbrev S1x896 : Shape := ⟨2, ![1, 896]⟩
abbrev S1x1056x896 : Shape := ⟨3, ![1, 1056, 896]⟩
abbrev S1056x1024 : Shape := ⟨2, ![1056, 1024]⟩
abbrev S1056 : Shape := ⟨1, ![1056]⟩
abbrev S1056x1 : Shape := ⟨2, ![1056, 1]⟩
abbrev S1056x896 : Shape := ⟨2, ![1056, 896]⟩

abbrev nBuf : Space → Nat
  | .hbm => 8
  | .vmem => 9
  | .smem => 0
  | _ => 0

abbrev bufTy : (tb : Table) → Fin (tcTables nBuf tb) → BufTy
  | .hbm, ⟨0, _⟩ => ⟨S16x4224x1024, .f32⟩
  | .hbm, ⟨1, _⟩ => ⟨S1024, .f32⟩
  | .hbm, ⟨2, _⟩ => ⟨S1024x6272, .f32⟩
  | .hbm, ⟨3, _⟩ => ⟨S6272, .f32⟩
  | .hbm, ⟨4, _⟩ => ⟨S1024x6272, .bf16⟩
  | .hbm, ⟨5, _⟩ => ⟨S1x1024, .f32⟩
  | .hbm, ⟨6, _⟩ => ⟨S1x6272, .f32⟩
  | .hbm, ⟨7, _⟩ => ⟨S16x4224x6272, .bf16⟩
  | .local _ .vmem, ⟨0, _⟩ => ⟨S1x1056x1024, .f32⟩
  | .local _ .vmem, ⟨1, _⟩ => ⟨S1x1056x1024, .f32⟩
  | .local _ .vmem, ⟨2, _⟩ => ⟨S1x1024, .f32⟩
  | .local _ .vmem, ⟨3, _⟩ => ⟨S1024x896, .bf16⟩
  | .local _ .vmem, ⟨4, _⟩ => ⟨S1024x896, .bf16⟩
  | .local _ .vmem, ⟨5, _⟩ => ⟨S1x896, .f32⟩
  | .local _ .vmem, ⟨6, _⟩ => ⟨S1x896, .f32⟩
  | .local _ .vmem, ⟨7, _⟩ => ⟨S1x1056x896, .bf16⟩
  | .local _ .vmem, ⟨8, _⟩ => ⟨S1x1056x896, .bf16⟩
  | _, _ => ⟨S16x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![7, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1056x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== InProjGdnReferenceIdeal.lean ====
abbrev S16x4224x1024 : Shape := ⟨3, ![16, 4224, 1024]⟩
abbrev S1024 : Shape := ⟨1, ![1024]⟩
abbrev S1024x6272 : Shape := ⟨2, ![1024, 6272]⟩
abbrev S6272 : Shape := ⟨1, ![6272]⟩
abbrev S_ : Shape := ⟨0, ![]⟩
abbrev S16x4224 : Shape := ⟨2, ![16, 4224]⟩
abbrev S16x4224x1 : Shape := ⟨3, ![16, 4224, 1]⟩
abbrev S1x1x1024 : Shape := ⟨3, ![1, 1, 1024]⟩
abbrev S16x4224x6272 : Shape := ⟨3, ![16, 4224, 6272]⟩
abbrev S1x1x6272 : Shape := ⟨3, ![1, 1, 6272]⟩

abbrev nBuf : Space → Nat
  | .hbm => 25
  | .vmem => 0
  | .smem => 0
  | _ => 0

abbrev bufTy : (tb : Table) → Fin (tcTables nBuf tb) → BufTy
  | .hbm, ⟨0, _⟩ => ⟨S16x4224x1024, .f32⟩
  | .hbm, ⟨1, _⟩ => ⟨S1024, .f32⟩
  | .hbm, ⟨2, _⟩ => ⟨S1024x6272, .f32⟩
  | .hbm, ⟨3, _⟩ => ⟨S6272, .f32⟩
  | .hbm, ⟨4, _⟩ => ⟨S16x4224x1024, .f32⟩
  | .hbm, ⟨5, _⟩ => ⟨S_, .f32⟩
  | .hbm, ⟨6, _⟩ => ⟨S16x4224, .f32⟩
  | .hbm, ⟨7, _⟩ => ⟨S16x4224x1, .f32⟩
  | .hbm, ⟨8, _⟩ => ⟨S_, .f32⟩
  | .hbm, ⟨9, _⟩ => ⟨S16x4224x1, .f32⟩
  | .hbm, ⟨10, _⟩ => ⟨S16x4224x1, .f32⟩
  | .hbm, ⟨11, _⟩ => ⟨S_, .f32⟩
  | .hbm, ⟨12, _⟩ => ⟨S16x4224x1, .f32⟩
  | .hbm, ⟨13, _⟩ => ⟨S16x4224x1, .f32⟩
  | .hbm, ⟨14, _⟩ => ⟨S16x4224x1, .f32⟩
  | .hbm, ⟨15, _⟩ => ⟨S16x4224x1024, .f32⟩
  | .hbm, ⟨16, _⟩ => ⟨S16x4224x1024, .f32⟩
  | .hbm, ⟨17, _⟩ => ⟨S1x1x1024, .f32⟩
  | .hbm, ⟨18, _⟩ => ⟨S16x4224x1024, .f32⟩
  | .hbm, ⟨19, _⟩ => ⟨S16x4224x1024, .f32⟩
  | .hbm, ⟨20, _⟩ => ⟨S16x4224x6272, .f32⟩
  | .hbm, ⟨21, _⟩ => ⟨S1x1x6272, .f32⟩
  | .hbm, ⟨22, _⟩ => ⟨S16x4224x6272, .f32⟩
  | .hbm, ⟨23, _⟩ => ⟨S16x4224x6272, .f32⟩
  | .hbm, ⟨24, _⟩ => ⟨S16x4224x6272, .bf16⟩
  | _, _ => ⟨S16x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutProj.lean ====
abbrev S16x4224x2048 : Shape := ⟨3, ![16, 4224, 2048]⟩
abbrev S2048x1024 : Shape := ⟨2, ![2048, 1024]⟩
abbrev S1024 : Shape := ⟨1, ![1024]⟩
abbrev S16x4224x1024 : Shape := ⟨3, ![16, 4224, 1024]⟩
abbrev S1x1024 : Shape := ⟨2, ![1, 1024]⟩
abbrev S1x528x2048 : Shape := ⟨3, ![1, 528, 2048]⟩
abbrev S1x528x1024 : Shape := ⟨3, ![1, 528, 1024]⟩
abbrev S528x2048 : Shape := ⟨2, ![528, 2048]⟩
abbrev S528x1024 : Shape := ⟨2, ![528, 1024]⟩
abbrev S528 : Shape := ⟨1, ![528]⟩
abbrev S528x1 : Shape := ⟨2, ![528, 1]⟩

abbrev nBuf : Space → Nat
  | .hbm => 9
  | .vmem => 9
  | .smem => 0
  | _ => 0

abbrev bufTy : (tb : Table) → Fin (tcTables nBuf tb) → BufTy
  | .hbm, ⟨0, _⟩ => ⟨S16x4224x2048, .bf16⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S16x4224x1024, .f32⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S16x4224x1024, .f32⟩
  | .local _ .vmem, ⟨0, _⟩ => ⟨S1x528x2048, .bf16⟩
  | .local _ .vmem, ⟨1, _⟩ => ⟨S1x528x2048, .bf16⟩
  | .local _ .vmem, ⟨2, _⟩ => ⟨S2048x1024, .bf16⟩
  | .local _ .vmem, ⟨3, _⟩ => ⟨S1x1024, .f32⟩
  | .local _ .vmem, ⟨4, _⟩ => ⟨S1x1024, .f32⟩
  | .local _ .vmem, ⟨5, _⟩ => ⟨S1x528x1024, .f32⟩
  | .local _ .vmem, ⟨6, _⟩ => ⟨S1x528x1024, .f32⟩
  | .local _ .vmem, ⟨7, _⟩ => ⟨S1x528x1024, .f32⟩
  | .local _ .vmem, ⟨8, _⟩ => ⟨S1x528x1024, .f32⟩
  | _, _ => ⟨S16x4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x528x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjIdeal.lean ====
abbrev S16x4224x2048 : Shape := ⟨3, ![16, 4224, 2048]⟩
  | .hbm, ⟨0, _⟩ => ⟨S16x4224x2048, .bf16⟩
  | _, _ => ⟨S16x4224x2048, .bf16⟩
-- ==== OutProjReferenceIdeal.lean ====
abbrev S16x4224x2048 : Shape := ⟨3, ![16, 4224, 2048]⟩
abbrev S2048x1024 : Shape := ⟨2, ![2048, 1024]⟩
abbrev S1024 : Shape := ⟨1, ![1024]⟩
abbrev S16x4224x1024 : Shape := ⟨3, ![16, 4224, 1024]⟩
abbrev S1x1x1024 : Shape := ⟨3, ![1, 1, 1024]⟩
abbrev S_ : Shape := ⟨0, ![]⟩
abbrev S16x4224 : Shape := ⟨2, ![16, 4224]⟩
abbrev S16x4224x1 : Shape := ⟨3, ![16, 4224, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x4224x2048, .bf16⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S16x4224x1024, .f32⟩
  | .hbm, ⟨5, _⟩ => ⟨S16x4224x2048, .f32⟩
  | .hbm, ⟨6, _⟩ => ⟨S16x4224x1024, .f32⟩
  | .hbm, ⟨7, _⟩ => ⟨S1x1x1024, .f32⟩
  | .hbm, ⟨8, _⟩ => ⟨S16x4224x1024, .f32⟩
  | .hbm, ⟨9, _⟩ => ⟨S16x4224x1024, .f32⟩
  | .hbm, ⟨10, _⟩ => ⟨S16x4224x1024, .f32⟩
  | .hbm, ⟨11, _⟩ => ⟨S_, .f32⟩
  | .hbm, ⟨12, _⟩ => ⟨S16x4224, .f32⟩
  | .hbm, ⟨13, _⟩ => ⟨S16x4224x1, .f32⟩
  | .hbm, ⟨14, _⟩ => ⟨S_, .f32⟩
  | .hbm, ⟨15, _⟩ => ⟨S16x4224x1, .f32⟩
  | .hbm, ⟨16, _⟩ => ⟨S16x4224x1, .f32⟩
  | .hbm, ⟨17, _⟩ => ⟨S_, .f32⟩
  | .hbm, ⟨18, _⟩ => ⟨S16x4224x1, .f32⟩
  | .hbm, ⟨19, _⟩ => ⟨S16x4224x1, .f32⟩
  | .hbm, ⟨20, _⟩ => ⟨S16x4224x1, .f32⟩
  | .hbm, ⟨21, _⟩ => ⟨S16x4224x1024, .f32⟩
  | .hbm, ⟨22, _⟩ => ⟨S16x4224x1024, .f32⟩
  | .hbm, ⟨23, _⟩ => ⟨S1x1x1024, .f32⟩
  | .hbm, ⟨24, _⟩ => ⟨S16x4224x1024, .f32⟩
  | .hbm, ⟨25, _⟩ => ⟨S16x4224x1024, .f32⟩
  | .hbm, ⟨26, _⟩ => ⟨S16x4224x1024, .f32⟩
  | _, _ => ⟨S16x4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== OutProjHyena.lean ====
abbrev S16x4608x2048 : Shape := ⟨3, ![16, 4608, 2048]⟩
abbrev S2048x1024 : Shape := ⟨2, ![2048, 1024]⟩
abbrev S1024 : Shape := ⟨1, ![1024]⟩
abbrev S16x4224x1024 : Shape := ⟨3, ![16, 4224, 1024]⟩
abbrev S1x1024 : Shape := ⟨2, ![1, 1024]⟩
abbrev S1x528x2048 : Shape := ⟨3, ![1, 528, 2048]⟩
abbrev S1x528x1024 : Shape := ⟨3, ![1, 528, 1024]⟩
abbrev S528x2048 : Shape := ⟨2, ![528, 2048]⟩
abbrev S528x1024 : Shape := ⟨2, ![528, 1024]⟩
abbrev S528 : Shape := ⟨1, ![528]⟩
abbrev S528x1 : Shape := ⟨2, ![528, 1]⟩

abbrev nBuf : Space → Nat
  | .hbm => 9
  | .vmem => 9
  | .smem => 0
  | _ => 0

abbrev bufTy : (tb : Table) → Fin (tcTables nBuf tb) → BufTy
  | .hbm, ⟨0, _⟩ => ⟨S16x4608x2048, .bf16⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S16x4224x1024, .f32⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S16x4224x1024, .f32⟩
  | .local _ .vmem, ⟨0, _⟩ => ⟨S1x528x2048, .bf16⟩
  | .local _ .vmem, ⟨1, _⟩ => ⟨S1x528x2048, .bf16⟩
  | .local _ .vmem, ⟨2, _⟩ => ⟨S2048x1024, .bf16⟩
  | .local _ .vmem, ⟨3, _⟩ => ⟨S1x1024, .f32⟩
  | .local _ .vmem, ⟨4, _⟩ => ⟨S1x1024, .f32⟩
  | .local _ .vmem, ⟨5, _⟩ => ⟨S1x528x1024, .f32⟩
  | .local _ .vmem, ⟨6, _⟩ => ⟨S1x528x1024, .f32⟩
  | .local _ .vmem, ⟨7, _⟩ => ⟨S1x528x1024, .f32⟩
  | .local _ .vmem, ⟨8, _⟩ => ⟨S1x528x1024, .f32⟩
  | _, _ => ⟨S16x4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x528x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjHyenaReferenceIdeal.lean ====
abbrev S16x4608x2048 : Shape := ⟨3, ![16, 4608, 2048]⟩
abbrev S2048x1024 : Shape := ⟨2, ![2048, 1024]⟩
abbrev S1024 : Shape := ⟨1, ![1024]⟩
abbrev S16x4224x1024 : Shape := ⟨3, ![16, 4224, 1024]⟩
abbrev S16x4224x2048 : Shape := ⟨3, ![16, 4224, 2048]⟩
abbrev S1x1x1024 : Shape := ⟨3, ![1, 1, 1024]⟩
abbrev S_ : Shape := ⟨0, ![]⟩
abbrev S16x4224 : Shape := ⟨2, ![16, 4224]⟩
abbrev S16x4224x1 : Shape := ⟨3, ![16, 4224, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x4608x2048, .bf16⟩
  | .hbm, ⟨1, _⟩ => ⟨S2048x1024, .f32⟩
  | .hbm, ⟨2, _⟩ => ⟨S1024, .f32⟩
  | .hbm, ⟨3, _⟩ => ⟨S1024, .f32⟩
  | .hbm, ⟨4, _⟩ => ⟨S16x4224x1024, .f32⟩
  | .hbm, ⟨5, _⟩ => ⟨S16x4224x2048, .bf16⟩
  | .hbm, ⟨6, _⟩ => ⟨S16x4224x2048, .f32⟩
  | .hbm, ⟨7, _⟩ => ⟨S16x4224x1024, .f32⟩
  | .hbm, ⟨8, _⟩ => ⟨S1x1x1024, .f32⟩
  | .hbm, ⟨9, _⟩ => ⟨S16x4224x1024, .f32⟩
  | .hbm, ⟨10, _⟩ => ⟨S16x4224x1024, .f32⟩
  | .hbm, ⟨11, _⟩ => ⟨S16x4224x1024, .f32⟩
  | .hbm, ⟨12, _⟩ => ⟨S_, .f32⟩
  | .hbm, ⟨13, _⟩ => ⟨S16x4224, .f32⟩
  | .hbm, ⟨14, _⟩ => ⟨S16x4224x1, .f32⟩
  | .hbm, ⟨15, _⟩ => ⟨S_, .f32⟩
  | .hbm, ⟨16, _⟩ => ⟨S16x4224x1, .f32⟩
  | .hbm, ⟨17, _⟩ => ⟨S16x4224x1, .f32⟩
  | .hbm, ⟨18, _⟩ => ⟨S_, .f32⟩
  | .hbm, ⟨19, _⟩ => ⟨S16x4224x1, .f32⟩
  | .hbm, ⟨20, _⟩ => ⟨S16x4224x1, .f32⟩
  | .hbm, ⟨21, _⟩ => ⟨S16x4224x1, .f32⟩
  | .hbm, ⟨22, _⟩ => ⟨S16x4224x1024, .f32⟩
  | .hbm, ⟨23, _⟩ => ⟨S16x4224x1024, .f32⟩
  | .hbm, ⟨24, _⟩ => ⟨S1x1x1024, .f32⟩
  | .hbm, ⟨25, _⟩ => ⟨S16x4224x1024, .f32⟩
  | .hbm, ⟨26, _⟩ => ⟨S16x4224x1024, .f32⟩
  | .hbm, ⟨27, _⟩ => ⟨S16x4224x1024, .f32⟩
  | _, _ => ⟨S16x4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== GdnOut.lean ====
abbrev S2x16x4224x2048 : Shape := ⟨4, ![2, 16, 4224, 2048]⟩
abbrev S16x4224x6272 : Shape := ⟨3, ![16, 4224, 6272]⟩
abbrev S128 : Shape := ⟨1, ![128]⟩
abbrev S2048x1024 : Shape := ⟨2, ![2048, 1024]⟩
abbrev S1024 : Shape := ⟨1, ![1024]⟩
abbrev S16x4224x1024 : Shape := ⟨3, ![16, 4224, 1024]⟩
abbrev S1x128 : Shape := ⟨2, ![1, 128]⟩
abbrev S1x1024 : Shape := ⟨2, ![1, 1024]⟩
abbrev S1x1x528x2048 : Shape := ⟨4, ![1, 1, 528, 2048]⟩
abbrev S1x528x2048 : Shape := ⟨3, ![1, 528, 2048]⟩
abbrev S1x528x1024 : Shape := ⟨3, ![1, 528, 1024]⟩
abbrev S1x1x528x128 : Shape := ⟨4, ![1, 1, 528, 128]⟩
abbrev S528x128 : Shape := ⟨2, ![528, 128]⟩
abbrev S528 : Shape := ⟨1, ![528]⟩
abbrev S528x1 : Shape := ⟨2, ![528, 1]⟩
abbrev S1x528x128 : Shape := ⟨3, ![1, 528, 128]⟩
abbrev S528x2048 : Shape := ⟨2, ![528, 2048]⟩
abbrev S528x1024 : Shape := ⟨2, ![528, 1024]⟩

abbrev nBuf : Space → Nat
  | .hbm => 10
  | .vmem => 13
  | .smem => 0
  | _ => 0

abbrev bufTy : (tb : Table) → Fin (tcTables nBuf tb) → BufTy
  | .hbm, ⟨0, _⟩ => ⟨S2x16x4224x2048, .bf16⟩
  | .hbm, ⟨1, _⟩ => ⟨S16x4224x6272, .bf16⟩
  | .hbm, ⟨2, _⟩ => ⟨S128, .f32⟩
  | .hbm, ⟨3, _⟩ => ⟨S2048x1024, .f32⟩
  | .hbm, ⟨4, _⟩ => ⟨S1024, .f32⟩
  | .hbm, ⟨5, _⟩ => ⟨S16x4224x1024, .f32⟩
  | .hbm, ⟨6, _⟩ => ⟨S2048x1024, .bf16⟩
  | .hbm, ⟨7, _⟩ => ⟨S1x128, .f32⟩
  | .hbm, ⟨8, _⟩ => ⟨S1x1024, .f32⟩
  | .hbm, ⟨9, _⟩ => ⟨S16x4224x1024, .f32⟩
  | .local _ .vmem, ⟨0, _⟩ => ⟨S1x1x528x2048, .bf16⟩
  | .local _ .vmem, ⟨1, _⟩ => ⟨S1x1x528x2048, .bf16⟩
  | .local _ .vmem, ⟨2, _⟩ => ⟨S1x1x528x2048, .bf16⟩
  | .local _ .vmem, ⟨3, _⟩ => ⟨S1x1x528x2048, .bf16⟩
  | .local _ .vmem, ⟨4, _⟩ => ⟨S1x528x2048, .bf16⟩
  | .local _ .vmem, ⟨5, _⟩ => ⟨S1x528x2048, .bf16⟩
  | .local _ .vmem, ⟨6, _⟩ => ⟨S1x128, .f32⟩
  | .local _ .vmem, ⟨7, _⟩ => ⟨S2048x1024, .bf16⟩
  | .local _ .vmem, ⟨8, _⟩ => ⟨S1x1024, .f32⟩
  | .local _ .vmem, ⟨9, _⟩ => ⟨S1x528x1024, .f32⟩
  | .local _ .vmem, ⟨10, _⟩ => ⟨S1x528x1024, .f32⟩
  | .local _ .vmem, ⟨11, _⟩ => ⟨S1x528x1024, .f32⟩
  | .local _ .vmem, ⟨12, _⟩ => ⟨S1x528x1024, .f32⟩
  | _, _ => ⟨S2x16x4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x528x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x528x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x528x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x528x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x528x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GdnOutReferenceIdeal.lean ====
abbrev S2x16x4224x2048 : Shape := ⟨4, ![2, 16, 4224, 2048]⟩
abbrev S16x4224x6272 : Shape := ⟨3, ![16, 4224, 6272]⟩
abbrev S128 : Shape := ⟨1, ![128]⟩
abbrev S2048x1024 : Shape := ⟨2, ![2048, 1024]⟩
abbrev S1024 : Shape := ⟨1, ![1024]⟩
abbrev S16x4224x1024 : Shape := ⟨3, ![16, 4224, 1024]⟩
abbrev S1x16x4224x2048 : Shape := ⟨4, ![1, 16, 4224, 2048]⟩
abbrev S16x4224x2048 : Shape := ⟨3, ![16, 4224, 2048]⟩
abbrev S16x4224x16x128 : Shape := ⟨4, ![16, 4224, 16, 128]⟩
abbrev S_ : Shape := ⟨0, ![]⟩
abbrev S16x4224x16 : Shape := ⟨3, ![16, 4224, 16]⟩
abbrev S16x4224x16x1 : Shape := ⟨4, ![16, 4224, 16, 1]⟩
abbrev S1x1x1x128 : Shape := ⟨4, ![1, 1, 1, 128]⟩
abbrev S16x4224 : Shape := ⟨2, ![16, 4224]⟩
abbrev S16x4224x1 : Shape := ⟨3, ![16, 4224, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x16x4224x2048, .bf16⟩
  | .hbm, ⟨1, _⟩ => ⟨S16x4224x6272, .bf16⟩
  | .hbm, ⟨2, _⟩ => ⟨S128, .f32⟩
  | .hbm, ⟨3, _⟩ => ⟨S2048x1024, .f32⟩
  | .hbm, ⟨4, _⟩ => ⟨S1024, .f32⟩
  | .hbm, ⟨5, _⟩ => ⟨S16x4224x1024, .f32⟩
  | .hbm, ⟨6, _⟩ => ⟨S1x16x4224x2048, .bf16⟩
  | .hbm, ⟨7, _⟩ => ⟨S16x4224x2048, .bf16⟩
  | .hbm, ⟨8, _⟩ => ⟨S16x4224x2048, .f32⟩
  | .hbm, ⟨9, _⟩ => ⟨S1x16x4224x2048, .bf16⟩
  | .hbm, ⟨10, _⟩ => ⟨S16x4224x2048, .bf16⟩
  | .hbm, ⟨11, _⟩ => ⟨S16x4224x2048, .f32⟩
  | .hbm, ⟨12, _⟩ => ⟨S16x4224x2048, .f32⟩
  | .hbm, ⟨13, _⟩ => ⟨S16x4224x16x128, .f32⟩
  | .hbm, ⟨14, _⟩ => ⟨S16x4224x2048, .bf16⟩
  | .hbm, ⟨15, _⟩ => ⟨S16x4224x2048, .f32⟩
  | .hbm, ⟨16, _⟩ => ⟨S16x4224x16x128, .f32⟩
  | .hbm, ⟨17, _⟩ => ⟨S16x4224x16x128, .f32⟩
  | .hbm, ⟨18, _⟩ => ⟨S_, .f32⟩
  | .hbm, ⟨19, _⟩ => ⟨S16x4224x16, .f32⟩
  | .hbm, ⟨20, _⟩ => ⟨S16x4224x16x1, .f32⟩
  | .hbm, ⟨21, _⟩ => ⟨S_, .f32⟩
  | .hbm, ⟨22, _⟩ => ⟨S16x4224x16x1, .f32⟩
  | .hbm, ⟨23, _⟩ => ⟨S16x4224x16x1, .f32⟩
  | .hbm, ⟨24, _⟩ => ⟨S_, .f32⟩
  | .hbm, ⟨25, _⟩ => ⟨S16x4224x16x1, .f32⟩
  | .hbm, ⟨26, _⟩ => ⟨S16x4224x16x1, .f32⟩
  | .hbm, ⟨27, _⟩ => ⟨S16x4224x16x1, .f32⟩
  | .hbm, ⟨28, _⟩ => ⟨S16x4224x16x128, .f32⟩
  | .hbm, ⟨29, _⟩ => ⟨S16x4224x16x128, .f32⟩
  | .hbm, ⟨30, _⟩ => ⟨S1x1x1x128, .f32⟩
  | .hbm, ⟨31, _⟩ => ⟨S16x4224x16x128, .f32⟩
  | .hbm, ⟨32, _⟩ => ⟨S16x4224x16x128, .f32⟩
  | .hbm, ⟨33, _⟩ => ⟨S16x4224x16x128, .f32⟩
  | .hbm, ⟨34, _⟩ => ⟨S16x4224x16x128, .f32⟩
  | .hbm, ⟨35, _⟩ => ⟨S_, .f32⟩
  | .hbm, ⟨36, _⟩ => ⟨S16x4224x16x128, .f32⟩
  | .hbm, ⟨37, _⟩ => ⟨S16x4224x16x128, .f32⟩
  | .hbm, ⟨38, _⟩ => ⟨S_, .f32⟩
  | .hbm, ⟨39, _⟩ => ⟨S16x4224x16x128, .f32⟩
  | .hbm, ⟨40, _⟩ => ⟨S16x4224x16x128, .f32⟩
  | .hbm, ⟨41, _⟩ => ⟨S16x4224x16x128, .f32⟩
  | .hbm, ⟨42, _⟩ => ⟨S16x4224x16x128, .f32⟩
  | .hbm, ⟨43, _⟩ => ⟨S16x4224x2048, .f32⟩
  | .hbm, ⟨44, _⟩ => ⟨S16x4224x1024, .f32⟩
  | .hbm, ⟨45, _⟩ => ⟨S16x4224x1024, .f32⟩
  | .hbm, ⟨46, _⟩ => ⟨S_, .f32⟩
  | .hbm, ⟨47, _⟩ => ⟨S16x4224, .f32⟩
  | .hbm, ⟨48, _⟩ => ⟨S16x4224x1, .f32⟩
  | .hbm, ⟨49, _⟩ => ⟨S_, .f32⟩
  | .hbm, ⟨50, _⟩ => ⟨S16x4224x1, .f32⟩
  | .hbm, ⟨51, _⟩ => ⟨S16x4224x1, .f32⟩
  | .hbm, ⟨52, _⟩ => ⟨S_, .f32⟩
  | .hbm, ⟨53, _⟩ => ⟨S16x4224x1, .f32⟩
  | .hbm, ⟨54, _⟩ => ⟨S16x4224x1, .f32⟩
  | .hbm, ⟨55, _⟩ => ⟨S16x4224x1, .f32⟩
  | .hbm, ⟨56, _⟩ => ⟨S16x4224x1024, .f32⟩
  | .hbm, ⟨57, _⟩ => ⟨S16x4224x1024, .f32⟩
  | .hbm, ⟨58, _⟩ => ⟨S1x1x1024, .f32⟩
  | .hbm, ⟨59, _⟩ => ⟨S16x4224x1024, .f32⟩
  | .hbm, ⟨60, _⟩ => ⟨S16x4224x1024, .f32⟩
  | .hbm, ⟨61, _⟩ => ⟨S16x4224x1024, .f32⟩
  | _, _ => ⟨S2x16x4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== GdnScan.lean ====
abbrev S16x4224x1024 : Shape := ⟨3, ![16, 4224, 1024]⟩
abbrev S16x4224x2048 : Shape := ⟨3, ![16, 4224, 2048]⟩
abbrev S16x4224x128 : Shape := ⟨3, ![16, 4224, 128]⟩
abbrev S16x1024x4224 : Shape := ⟨3, ![16, 1024, 4224]⟩
abbrev S16x128x4224 : Shape := ⟨3, ![16, 128, 4224]⟩
abbrev S2x16x4224x2048 : Shape := ⟨4, ![2, 16, 4224, 2048]⟩
abbrev S1x128x128 : Shape := ⟨3, ![1, 128, 128]⟩
abbrev S1x128x256 : Shape := ⟨3, ![1, 128, 256]⟩
abbrev S1x1x128x256 : Shape := ⟨4, ![1, 1, 128, 256]⟩
abbrev S2x128x128 : Shape := ⟨3, ![2, 128, 128]⟩
abbrev S128x128 : Shape := ⟨2, ![128, 128]⟩
abbrev S1x128 : Shape := ⟨2, ![1, 128]⟩
abbrev S128x1 : Shape := ⟨2, ![128, 1]⟩
abbrev S128 : Shape := ⟨1, ![128]⟩
abbrev S1 : Shape := ⟨1, ![1]⟩
abbrev S1x1x1 : Shape := ⟨3, ![1, 1, 1]⟩
abbrev S1x1 : Shape := ⟨2, ![1, 1]⟩
abbrev S128x256 : Shape := ⟨2, ![128, 256]⟩
abbrev S256x128 : Shape := ⟨2, ![256, 128]⟩
abbrev S1x1x128x128 : Shape := ⟨4, ![1, 1, 128, 128]⟩

abbrev nBuf : Space → Nat
  | .hbm => 7
  | .vmem => 15
  | .smem => 0
  | _ => 0

abbrev bufTy : (tb : Table) → Fin (tcTables nBuf tb) → BufTy
  | .hbm, ⟨0, _⟩ => ⟨S16x4224x1024, .bf16⟩
  | .hbm, ⟨1, _⟩ => ⟨S16x4224x1024, .bf16⟩
  | .hbm, ⟨2, _⟩ => ⟨S16x4224x2048, .bf16⟩
  | .hbm, ⟨3, _⟩ => ⟨S16x4224x128, .f32⟩
  | .hbm, ⟨4, _⟩ => ⟨S16x1024x4224, .bf16⟩
  | .hbm, ⟨5, _⟩ => ⟨S16x128x4224, .f32⟩
  | .hbm, ⟨6, _⟩ => ⟨S2x16x4224x2048, .bf16⟩
  | .local _ .vmem, ⟨0, _⟩ => ⟨S1x128x128, .bf16⟩
  | .local _ .vmem, ⟨1, _⟩ => ⟨S1x128x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x1x128x256, .bf16⟩
  | .local _ .vmem, ⟨13, _⟩ => ⟨S1x1x128x256, .bf16⟩
  | .local _ .vmem, ⟨14, _⟩ => ⟨S2x128x128, .f32⟩
  | _, _ => ⟨S16x4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨4, ![2, 16, 8, 33], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c32_i32 : BitVec 32 := 32#32
  let v1 : BitVec 32 := Scalar.subi c32_i32 v0
  let v2 : BitVec 32 := Scalar.muli arg0 v1
  let v3 : BitVec 32 := Scalar.addi arg3 v2
  let c0_i32 : BitVec 32 := 0#32
  ![arg1.toNat, v3.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c32_i32 : BitVec 32 := 32#32
  let v1 : BitVec 32 := Scalar.subi c32_i32 v0
  let v2 : BitVec 32 := Scalar.muli arg0 v1
  let v3 : BitVec 32 := Scalar.addi arg3 v2
  let c0_i32 : BitVec 32 := 0#32
  ![arg1.toNat, v3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c32_i32 : BitVec 32 := 32#32
  let v1 : BitVec 32 := Scalar.subi c32_i32 v0
  let v2 : BitVec 32 := Scalar.muli arg0 v1
  let v3 : BitVec 32 := Scalar.addi arg3 v2
  let c0_i32 : BitVec 32 := 0#32
  ![arg1.toNat, arg2.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c32_i32 : BitVec 32 := 32#32
  let v1 : BitVec 32 := Scalar.subi c32_i32 v0
  let v2 : BitVec 32 := Scalar.muli arg0 v1
  let v3 : BitVec 32 := Scalar.addi arg3 v2
  let c0_i32 : BitVec 32 := 0#32
  ![arg1.toNat, v3.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c32_i32 : BitVec 32 := 32#32
  let v1 : BitVec 32 := Scalar.subi c32_i32 v0
  let v2 : BitVec 32 := Scalar.muli arg0 v1
  let v3 : BitVec 32 := Scalar.addi arg3 v2
  let c0_i32 : BitVec 32 := 0#32
  let c0_i32_0 : BitVec 32 := 0#32
  ![arg1.toNat, v3.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c32_i32 : BitVec 32 := 32#32
  let v1 : BitVec 32 := Scalar.subi c32_i32 v0
  let v2 : BitVec 32 := Scalar.muli arg0 v1
  let v3 : BitVec 32 := Scalar.addi arg3 v2
  let c0_i32 : BitVec 32 := 0#32
  let c0_i32_0 : BitVec 32 := 0#32
  ![arg1.toNat, c0_i32.toNat, v3.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli c2_i32 arg3
  let c32_i32 : BitVec 32 := 32#32
  let v1 : BitVec 32 := Scalar.subi c32_i32 v0
  let v2 : BitVec 32 := Scalar.muli arg0 v1
  let v3 : BitVec 32 := Scalar.addi arg3 v2
  let c0_i32 : BitVec 32 := 0#32
  ![arg0.toNat, arg1.toNat, v3.toNat, arg2.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, true]

abbrev stage0_6 : Fin 2 → Memref sig .tc .vmem S1x1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true, true]
-- ==== GdnScanIdeal.lean ====
variable {F : FTy → Type} [FloatOps F] [Named F]
def κ : String → Option EReal := fun
  | "mask" => some ⊥
  | _ => none
-- ==== GdnScanReferenceIdeal.lean ====
abbrev S16x4224x1024 : Shape := ⟨3, ![16, 4224, 1024]⟩
abbrev S16x4224x2048 : Shape := ⟨3, ![16, 4224, 2048]⟩
abbrev S16x4224x128 : Shape := ⟨3, ![16, 4224, 128]⟩
abbrev S16x4224x8x128 : Shape := ⟨4, ![16, 4224, 8, 128]⟩
abbrev S16x4224x8x2x128 : Shape := ⟨5, ![16, 4224, 8, 2, 128]⟩
abbrev S16x4224x16x128 : Shape := ⟨4, ![16, 4224, 16, 128]⟩
abbrev S1x16x4224x16x128 : Shape := ⟨5, ![1, 16, 4224, 16, 128]⟩
abbrev S2x16x4224x16x128 : Shape := ⟨5, ![2, 16, 4224, 16, 128]⟩
abbrev S16x4224x16 : Shape := ⟨3, ![16, 4224, 16]⟩
abbrev S1x16x4224x16 : Shape := ⟨4, ![1, 16, 4224, 16]⟩
abbrev S2x16x4224x16 : Shape := ⟨4, ![2, 16, 4224, 16]⟩
abbrev S_ : Shape := ⟨0, ![]⟩
abbrev S2x16x16x128x128 : Shape := ⟨5, ![2, 16, 16, 128, 128]⟩
abbrev S4224x2x16x16x128 : Shape := ⟨5, ![4224, 2, 16, 16, 128]⟩
abbrev S4224x2x16x16 : Shape := ⟨4, ![4224, 2, 16, 16]⟩
abbrev S1x2x16x16x128 : Shape := ⟨5, ![1, 2, 16, 16, 128]⟩
abbrev S2x16x16x128 : Shape := ⟨4, ![2, 16, 16, 128]⟩
abbrev S1x2x16x16 : Shape := ⟨4, ![1, 2, 16, 16]⟩
abbrev S2x16x16 : Shape := ⟨3, ![2, 16, 16]⟩
abbrev S2x16x16x1x1 : Shape := ⟨5, ![2, 16, 16, 1, 1]⟩
abbrev S2x16x16x128x1 : Shape := ⟨5, ![2, 16, 16, 128, 1]⟩
abbrev S2x16x16x1 : Shape := ⟨4, ![2, 16, 16, 1]⟩
abbrev S2x16x16x1x128 : Shape := ⟨5, ![2, 16, 16, 1, 128]⟩
abbrev S2x16x4224x2048 : Shape := ⟨4, ![2, 16, 4224, 2048]⟩
abbrev S1x16x4224x2048 : Shape := ⟨4, ![1, 16, 4224, 2048]⟩

abbrev nBuf : Space → Nat
  | .hbm => 121
  | .vmem => 0
  | .smem => 0
  | _ => 0

abbrev bufTy : (tb : Table) → Fin (tcTables nBuf tb) → BufTy
  | .hbm, ⟨0, _⟩ => ⟨S16x4224x1024, .bf16⟩
  | .hbm, ⟨1, _⟩ => ⟨S16x4224x1024, .bf16⟩
  | .hbm, ⟨2, _⟩ => ⟨S16x4224x2048, .bf16⟩
  | .hbm, ⟨3, _⟩ => ⟨S16x4224x128, .f32⟩
  | .hbm, ⟨4, _⟩ => ⟨S16x4224x1024, .f32⟩
  | .hbm, ⟨5, _⟩ => ⟨S16x4224x8x128, .f32⟩
  | .hbm, ⟨6, _⟩ => ⟨S16x4224x8x2x128, .f32⟩
  | .hbm, ⟨7, _⟩ => ⟨S16x4224x16x128, .f32⟩
  | .hbm, ⟨8, _⟩ => ⟨S16x4224x16x128, .f32⟩
  | .hbm, ⟨9, _⟩ => ⟨S1x16x4224x16x128, .f32⟩
  | .hbm, ⟨10, _⟩ => ⟨S1x16x4224x16x128, .f32⟩
  | .hbm, ⟨11, _⟩ => ⟨S2x16x4224x16x128, .f32⟩
  | .hbm, ⟨12, _⟩ => ⟨S16x4224x1024, .f32⟩
  | .hbm, ⟨13, _⟩ => ⟨S16x4224x8x128, .f32⟩
  | .hbm, ⟨14, _⟩ => ⟨S16x4224x8x2x128, .f32⟩
  | .hbm, ⟨15, _⟩ => ⟨S16x4224x16x128, .f32⟩
  | .hbm, ⟨16, _⟩ => ⟨S16x4224x16x128, .f32⟩
  | .hbm, ⟨17, _⟩ => ⟨S1x16x4224x16x128, .f32⟩
  | .hbm, ⟨18, _⟩ => ⟨S1x16x4224x16x128, .f32⟩
  | .hbm, ⟨19, _⟩ => ⟨S2x16x4224x16x128, .f32⟩
  | .hbm, ⟨20, _⟩ => ⟨S16x4224x2048, .f32⟩
  | .hbm, ⟨21, _⟩ => ⟨S16x4224x16x128, .f32⟩
  | .hbm, ⟨22, _⟩ => ⟨S16x4224x16x128, .f32⟩
  | .hbm, ⟨23, _⟩ => ⟨S1x16x4224x16x128, .f32⟩
  | .hbm, ⟨24, _⟩ => ⟨S1x16x4224x16x128, .f32⟩
  | .hbm, ⟨25, _⟩ => ⟨S2x16x4224x16x128, .f32⟩
  | .hbm, ⟨26, _⟩ => ⟨S16x4224x16, .f32⟩
  | .hbm, ⟨27, _⟩ => ⟨S16x4224x16, .f32⟩
  | .hbm, ⟨28, _⟩ => ⟨S16x4224x16, .f32⟩
  | .hbm, ⟨29, _⟩ => ⟨S1x16x4224x16, .f32⟩
  | .hbm, ⟨30, _⟩ => ⟨S1x16x4224x16, .f32⟩
  | .hbm, ⟨31, _⟩ => ⟨S2x16x4224x16, .f32⟩
  | .hbm, ⟨32, _⟩ => ⟨S16x4224x16, .f32⟩
  | .hbm, ⟨33, _⟩ => ⟨S16x4224x16, .f32⟩
  | .hbm, ⟨34, _⟩ => ⟨S16x4224x16, .f32⟩
  | .hbm, ⟨35, _⟩ => ⟨S1x16x4224x16, .f32⟩
  | .hbm, ⟨36, _⟩ => ⟨S1x16x4224x16, .f32⟩
  | .hbm, ⟨37, _⟩ => ⟨S2x16x4224x16, .f32⟩
  | .hbm, ⟨38, _⟩ => ⟨S_, .f32⟩
  | .hbm, ⟨39, _⟩ => ⟨S2x16x16x128x128, .f32⟩
  | .hbm, ⟨40, _⟩ => ⟨S4224x2x16x16x128, .f32⟩
  | .hbm, ⟨41, _⟩ => ⟨S4224x2x16x16x128, .f32⟩
  | .hbm, ⟨42, _⟩ => ⟨S4224x2x16x16x128, .f32⟩
  | .hbm, ⟨43, _⟩ => ⟨S4224x2x16x16, .f32⟩
  | .hbm, ⟨44, _⟩ => ⟨S4224x2x16x16, .f32⟩
  | .hbm, ⟨45, _⟩ => ⟨S_, .f32⟩
  | .hbm, ⟨46, _⟩ => ⟨S4224x2x16x16x128, .f32⟩
  | .hbm, ⟨47, _⟩ => ⟨S_, .i32⟩
  | .hbm, ⟨48, _⟩ => ⟨S4224x2x16x16x128, .f32⟩
  | .hbm, ⟨49, _⟩ => ⟨S4224x2x16x16x128, .f32⟩
  | .hbm, ⟨50, _⟩ => ⟨S4224x2x16x16x128, .f32⟩
  | .hbm, ⟨51, _⟩ => ⟨S4224x2x16x16, .f32⟩
  | .hbm, ⟨52, _⟩ => ⟨S4224x2x16x16, .f32⟩
  | .hbm, ⟨53, _⟩ => ⟨S_, .i32⟩
  | .hbm, ⟨54, _⟩ => ⟨S2x16x16x128x128, .f32⟩
  | .hbm, ⟨55, _⟩ => ⟨S4224x2x16x16x128, .f32⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x2x16x16x128, .f32⟩
  | .hbm, ⟨63, _⟩ => ⟨S2x16x16x128, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x2x16x16x128, .f32⟩
  | .hbm, ⟨69, _⟩ => ⟨S2x16x16x128, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S1x2x16x16x128, .f32⟩
  | .hbm, ⟨75, _⟩ => ⟨S2x16x16x128, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1x2x16x16, .f32⟩
  | .hbm, ⟨80, _⟩ => ⟨S2x16x16, .f32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S1x2x16x16, .f32⟩
  | .hbm, ⟨85, _⟩ => ⟨S2x16x16, .f32⟩
  | .hbm, ⟨86, _⟩ => ⟨S2x16x16, .f32⟩
  | .hbm, ⟨87, _⟩ => ⟨S2x16x16x1x1, .f32⟩
  | .hbm, ⟨88, _⟩ => ⟨S2x16x16x128x128, .f32⟩
  | .hbm, ⟨89, _⟩ => ⟨S2x16x16x128x128, .f32⟩
  | .hbm, ⟨90, _⟩ => ⟨S2x16x16x128, .f32⟩
  | .hbm, ⟨91, _⟩ => ⟨S2x16x16x128x1, .f32⟩
  | .hbm, ⟨92, _⟩ => ⟨S2x16x16x128, .f32⟩
  | .hbm, ⟨93, _⟩ => ⟨S2x16x16x1, .f32⟩
  | .hbm, ⟨94, _⟩ => ⟨S2x16x16x128, .f32⟩
  | .hbm, ⟨95, _⟩ => ⟨S2x16x16x128, .f32⟩
  | .hbm, ⟨96, _⟩ => ⟨S2x16x16x1x128, .f32⟩
  | .hbm, ⟨97, _⟩ => ⟨S2x16x16x128x128, .f32⟩
  | .hbm, ⟨98, _⟩ => ⟨S2x16x16x128x128, .f32⟩
  | .hbm, ⟨99, _⟩ => ⟨S2x16x16x128x128, .f32⟩
  | .hbm, ⟨100, _⟩ => ⟨S2x16x16x128x128, .f32⟩
  | .hbm, ⟨101, _⟩ => ⟨S2x16x16x128, .f32⟩
  | .hbm, ⟨102, _⟩ => ⟨S1x2x16x16x128, .f32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S4224x2x16x16x128, .f32⟩
  | .hbm, ⟨108, _⟩ => ⟨S_, .i32⟩
  | .hbm, ⟨109, _⟩ => ⟨S_, .i32⟩
  | .hbm, ⟨110, _⟩ => ⟨S2x16x4224x16x128, .f32⟩
  | .hbm, ⟨111, _⟩ => ⟨S2x16x4224x2048, .f32⟩
  | .hbm, ⟨112, _⟩ => ⟨S1x16x4224x2048, .f32⟩
  | .hbm, ⟨113, _⟩ => ⟨S16x4224x2048, .f32⟩
  | .hbm, ⟨114, _⟩ => ⟨S1x16x4224x2048, .f32⟩
  | .hbm, ⟨115, _⟩ => ⟨S16x4224x2048, .f32⟩
  | .hbm, ⟨116, _⟩ => ⟨S16x4224x2048, .f32⟩
  | .hbm, ⟨117, _⟩ => ⟨S1x16x4224x2048, .f32⟩
  | .hbm, ⟨118, _⟩ => ⟨S1x16x4224x2048, .f32⟩
  | .hbm, ⟨119, _⟩ => ⟨S2x16x4224x2048, .f32⟩
  | .hbm, ⟨120, _⟩ => ⟨S2x16x4224x2048, .bf16⟩
  | _, _ => ⟨S16x4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_0 : Ref sig .tc := ⟨.hbm, 45, rfl⟩
abbrev main_v40 : Ref sig .tc := ⟨.hbm, 46, rfl⟩
abbrev main_c : Ref sig .tc := ⟨.hbm, 47, rfl⟩
abbrev main_v41_0 : Ref sig .tc := ⟨.hbm, 48, rfl⟩
abbrev main_v41_1 : Ref sig .tc := ⟨.hbm, 49, rfl⟩
abbrev main_v41_2 : Ref sig .tc := ⟨.hbm, 50, rfl⟩
abbrev main_v41_3 : Ref sig .tc := ⟨.hbm, 51, rfl⟩
abbrev main_v41_4 : Ref sig .tc := ⟨.hbm, 52, rfl⟩
abbrev main_v41_5 : Ref sig .tc := ⟨.hbm, 53, rfl⟩
abbrev main_v41_6 : Ref sig .tc := ⟨.hbm, 54, rfl⟩
abbrev main_v41_7 : Ref sig .tc := ⟨.hbm, 55, rfl⟩
abbrev main_while0c_c_8 : Ref sig .tc := ⟨.hbm, 56, rfl⟩
abbrev main_while0c_v53 : Ref sig .tc := ⟨.hbm, 57, rfl⟩
abbrev main_while0b_call5_c : Ref sig .tc := ⟨.hbm, 58, rfl⟩
abbrev main_while0b_call5_c_0 : Ref sig .tc := ⟨.hbm, 59, rfl⟩
abbrev main_while0b_call5_c_1 : Ref sig .tc := ⟨.hbm, 60, rfl⟩
abbrev main_while0b_call5_c_2 : Ref sig .tc := ⟨.hbm, 61, rfl⟩
abbrev main_while0b_call5_v0 : Ref sig .tc := ⟨.hbm, 62, rfl⟩
abbrev main_while0b_v53 : Ref sig .tc := ⟨.hbm, 63, rfl⟩
abbrev main_while0b_call6_c : Ref sig .tc := ⟨.hbm, 64, rfl⟩
abbrev main_while0b_call6_c_0 : Ref sig .tc := ⟨.hbm, 65, rfl⟩
abbrev main_while0b_call6_c_1 : Ref sig .tc := ⟨.hbm, 66, rfl⟩
abbrev main_while0b_call6_c_2 : Ref sig .tc := ⟨.hbm, 67, rfl⟩
abbrev main_while0b_call6_v0 : Ref sig .tc := ⟨.hbm, 68, rfl⟩
abbrev main_while0b_v54 : Ref sig .tc := ⟨.hbm, 69, rfl⟩
abbrev main_while0b_call7_c : Ref sig .tc := ⟨.hbm, 70, rfl⟩
abbrev main_while0b_call7_c_0 : Ref sig .tc := ⟨.hbm, 71, rfl⟩
abbrev main_while0b_call7_c_1 : Ref sig .tc := ⟨.hbm, 72, rfl⟩
abbrev main_while0b_call7_c_2 : Ref sig .tc := ⟨.hbm, 73, rfl⟩
abbrev main_while0b_call7_v0 : Ref sig .tc := ⟨.hbm, 74, rfl⟩
abbrev main_while0b_v55 : Ref sig .tc := ⟨.hbm, 75, rfl⟩
abbrev main_while0b_call8_c : Ref sig .tc := ⟨.hbm, 76, rfl⟩
abbrev main_while0b_call8_c_0 : Ref sig .tc := ⟨.hbm, 77, rfl⟩
abbrev main_while0b_call8_c_1 : Ref sig .tc := ⟨.hbm, 78, rfl⟩
abbrev main_while0b_call8_v0 : Ref sig .tc := ⟨.hbm, 79, rfl⟩
abbrev main_while0b_v56 : Ref sig .tc := ⟨.hbm, 80, rfl⟩
abbrev main_while0b_call9_c : Ref sig .tc := ⟨.hbm, 81, rfl⟩
abbrev main_while0b_call9_c_0 : Ref sig .tc := ⟨.hbm, 82, rfl⟩
abbrev main_while0b_call9_c_1 : Ref sig .tc := ⟨.hbm, 83, rfl⟩
abbrev main_while0b_call9_v0 : Ref sig .tc := ⟨.hbm, 84, rfl⟩
abbrev main_while0b_v57 : Ref sig .tc := ⟨.hbm, 85, rfl⟩
abbrev main_while0b_v58 : Ref sig .tc := ⟨.hbm, 86, rfl⟩
abbrev main_while0b_v59 : Ref sig .tc := ⟨.hbm, 87, rfl⟩
abbrev main_while0b_v60 : Ref sig .tc := ⟨.hbm, 88, rfl⟩
abbrev main_while0b_v61 : Ref sig .tc := ⟨.hbm, 89, rfl⟩
abbrev main_while0b_v62 : Ref sig .tc := ⟨.hbm, 90, rfl⟩
abbrev main_while0b_v63 : Ref sig .tc := ⟨.hbm, 91, rfl⟩
abbrev main_while0b_v64 : Ref sig .tc := ⟨.hbm, 92, rfl⟩
abbrev main_while0b_v65 : Ref sig .tc := ⟨.hbm, 93, rfl⟩
abbrev main_while0b_v66 : Ref sig .tc := ⟨.hbm, 94, rfl⟩
abbrev main_while0b_v67 : Ref sig .tc := ⟨.hbm, 95, rfl⟩
abbrev main_while0b_v68 : Ref sig .tc := ⟨.hbm, 96, rfl⟩
abbrev main_while0b_v69 : Ref sig .tc := ⟨.hbm, 97, rfl⟩
abbrev main_while0b_v70 : Ref sig .tc := ⟨.hbm, 98, rfl⟩
abbrev main_while0b_v71 : Ref sig .tc := ⟨.hbm, 99, rfl⟩
abbrev main_while0b_v72 : Ref sig .tc := ⟨.hbm, 100, rfl⟩
abbrev main_while0b_v73 : Ref sig .tc := ⟨.hbm, 101, rfl⟩
abbrev main_while0b_call10_v0 : Ref sig .tc := ⟨.hbm, 102, rfl⟩
abbrev main_while0b_call10_c : Ref sig .tc := ⟨.hbm, 103, rfl⟩
abbrev main_while0b_call10_c_0 : Ref sig .tc := ⟨.hbm, 104, rfl⟩
abbrev main_while0b_call10_c_1 : Ref sig .tc := ⟨.hbm, 105, rfl⟩
abbrev main_while0b_call10_c_2 : Ref sig .tc := ⟨.hbm, 106, rfl⟩
abbrev main_while0b_v74 : Ref sig .tc := ⟨.hbm, 107, rfl⟩
abbrev main_while0b_c_8 : Ref sig .tc := ⟨.hbm, 108, rfl⟩
abbrev main_while0b_v75 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩

abbrev nD : Nat := 1
abbrev τ : Topo := Topo.v7x

variable {F : FTy → Type} [FloatOps F]

abbrev main_while0_count : Scf.Loop 32 := ⟨0#32, 4224#32, 1#32⟩
-- ==== Proof.Softmax.lean ====
/- Differential attention of one query row as plain functions of extended reals: the kernel's form (the sums of the values
   divided afterwards, the padding rows masked by −∞) and the reference's form (normalized weights over the real rows only),
   and their equality where queries, keys, values and the weight `lam` are finite. -/
module

public import Idealize.ShloMosaic.PureOps.Ideal
public import Idealize.ShloMosaic.Lib.Pointwise

@[expose] public section

noncomputable section

namespace Cert.Softmax

open Idealize.ShloMosaic

/-- An extended real that is a real number. -/
def Fin' (x : EReal) : Prop := ∃ r : ℝ, x = (r : EReal)

theorem coe_sum {n : Nat} (f : Fin n → ℝ) : (∑ j, (f j : EReal)) = ((∑ j, f j : ℝ) : EReal) :=
  (map_sum (⟨⟨((↑) : ℝ → EReal), EReal.coe_zero⟩, EReal.coe_add⟩ : ℝ →+ EReal) f Finset.univ).symm

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.sub {x y : EReal} (hx : Fin' x) (hy : Fin' y) : Fin' (x - y) := by
  obtain ⟨a, rfl⟩ := hx; obtain ⟨b, rfl⟩ := hy; exact ⟨a - b, (EReal.coe_sub a b).symm⟩

theorem Fin'.exp {x : EReal} (hx : Fin' x) : Fin' (Ideal.exp x) := by
  obtain ⟨a, rfl⟩ := hx; exact ⟨Real.exp a, rfl⟩

theorem Fin'.sum {n : Nat} {f : Fin n → EReal} (h : ∀ j, Fin' (f j)) : Fin' (∑ j, f j) := by
  choose g hg using h
  exact ⟨∑ j, g j, by rw [← coe_sum]; exact Finset.sum_congr rfl fun j _ => hg j⟩

/-- The maximum of a row of scores, from −∞ on. -/
def rowTop {n : Nat} (t : Fin n → EReal) : EReal := Finset.univ.fold max ⊥ t

/-- The kernel's form of one map: exponentials over the row's maximum times the values, divided by their sum. -/
def attend {n : Nat} (t v : Fin n → EReal) : EReal :=
  Ideal.div (∑ j, Ideal.exp (t j - rowTop t) * v j) (∑ j, Ideal.exp (t j - rowTop t))

/-- The reference's normalized weight. -/
def prob {n : Nat} (s : Fin n → EReal) (j : Fin n) : EReal :=
  Ideal.div (Ideal.exp (s j - max ⊥ (rowTop s))) (∑ i, Ideal.exp (s i - max ⊥ (rowTop s)))

theorem rowTop_eq {n : Nat} (t : Fin n → EReal) (j0 : Fin n) (h : ∀ j, t j ≤ t j0) : rowTop t = t j0 :=
  le_antisymm ((Finset.fold_max_le _).mpr ⟨bot_le, fun j _ => h j⟩) ((Finset.le_fold_max _).mpr (Or.inr ⟨j0, Finset.mem_univ _, le_rfl⟩))

theorem div_real (x : ℝ) {y : ℝ} (hy : 0 < y) : Ideal.div (x : EReal) (y : EReal) = ((x / y : ℝ) : EReal) := by
  rw [Ideal.div_coe hy.ne', ← EReal.coe_mul, mul_one_div]

/-- A row of `a` masked and `b` real scores: the kernel's form is a real combination of the values there, with the
    reference's weights. -/
theorem attend_prob {a b : Nat} (hb : 0 < b) (t : Fin (a + b) → EReal) (s : Fin b → EReal)
    (hmask : ∀ i : Fin a, t (Fin.castAdd b i) = ⊥) (hreal : ∀ j : Fin b, t (Fin.natAdd a j) = s j) (hs : ∀ j, Fin' (s j)) :
    ∃ w : Fin b → ℝ, (∀ j, prob s j = (w j : EReal)) ∧
      ∀ (v : Fin (a + b) → EReal) (v' : Fin b → ℝ), (∀ j, v (Fin.natAdd a j) = (v' j : EReal)) →
        attend t v = ((∑ j, w j * v' j : ℝ) : EReal) := by
  choose σ hσ using hs
  haveI : Nonempty (Fin b) := ⟨⟨0, hb⟩⟩
  obtain ⟨j0, hj0⟩ := Finite.exists_max σ
  have htop : rowTop s = (σ j0 : EReal) := by
    rw [← hσ j0]
    exact rowTop_eq s j0 fun j => by rw [hσ j, hσ j0]; exact EReal.coe_le_coe_iff.mpr (hj0 j)
  have ttop : rowTop t = (σ j0 : EReal) := by
    rw [← hσ j0, ← hreal j0]
    refine rowTop_eq t _ fun j => ?_
    refine Fin.addCases (fun i => ?_) (fun i => ?_) j
    · rw [hmask]; exact bot_le
    · rw [hreal, hreal, hσ, hσ]; exact EReal.coe_le_coe_iff.mpr (hj0 i)
  have hmax : max ⊥ (rowTop s) = (σ j0 : EReal) := by rw [htop]; exact max_eq_right bot_le
  have eR : ∀ j, Ideal.exp (s j - (σ j0 : EReal)) = (Real.exp (σ j - σ j0) : EReal) := fun j => by
    rw [hσ, ← EReal.coe_sub]; rfl
  have eM : ∀ i : Fin a, Ideal.exp (t (Fin.castAdd b i) - (σ j0 : EReal)) = 0 := fun i => by
    rw [hmask, sub_eq_add_neg, EReal.bot_add]; rfl
  have hpos : 0 < ∑ j, Real.exp (σ j - σ j0) := Finset.sum_pos (fun j _ => Real.exp_pos _) Finset.univ_nonempty
  refine ⟨fun j => Real.exp (σ j - σ j0) / ∑ i, Real.exp (σ i - σ j0), fun j => ?_, fun v v' hv => ?_⟩
  · unfold prob
    rw [hmax, eR, Finset.sum_congr rfl fun i _ => eR i, coe_sum, div_real _ hpos]
  · unfold attend
    rw [ttop, Fin.sum_univ_add, Fin.sum_univ_add]
    have z1 : (∑ i : Fin a, Ideal.exp (t (Fin.castAdd b i) - (σ j0 : EReal)) * v (Fin.castAdd b i)) = 0 :=
      Finset.sum_eq_zero fun i _ => by rw [eM, zero_mul]
    have z2 : (∑ i : Fin a, Ideal.exp (t (Fin.castAdd b i) - (σ j0 : EReal))) = 0 := Finset.sum_eq_zero fun i _ => eM i
    have n1 : (∑ j : Fin b, Ideal.exp (t (Fin.natAdd a j) - (σ j0 : EReal)) * v (Fin.natAdd a j))
        = ((∑ j, Real.exp (σ j - σ j0) * v' j : ℝ) : EReal) := by
      rw [← coe_sum]
      exact Finset.sum_congr rfl fun j _ => by rw [hreal, eR, hv, ← EReal.coe_mul]
    have n2 : (∑ j : Fin b, Ideal.exp (t (Fin.natAdd a j) - (σ j0 : EReal))) = ((∑ j, Real.exp (σ j - σ j0) : ℝ) : EReal) := by
      rw [← coe_sum]
      exact Finset.sum_congr rfl fun j _ => by rw [hreal, eR]
    rw [z1, z2, n1, n2, zero_add, zero_add, div_real _ hpos, Finset.sum_div]
    congr 1
    exact Finset.sum_congr rfl fun j _ => by rw [div_mul_eq_mul_div]

/-- Two maps, the second weighted by `lam`: the kernel subtracts the weighted sums, the reference sums the subtracted
    weights. -/
theorem attend_sub {a b : Nat} (hb : 0 < b) (t0 t1 v : Fin (a + b) → EReal) (s0 s1 v' : Fin b → EReal) (lam : EReal)
    (hm0 : ∀ i : Fin a, t0 (Fin.castAdd b i) = ⊥) (hr0 : ∀ j : Fin b, t0 (Fin.natAdd a j) = s0 j) (hs0 : ∀ j, Fin' (s0 j))
    (hm1 : ∀ i : Fin a, t1 (Fin.castAdd b i) = ⊥) (hr1 : ∀ j : Fin b, t1 (Fin.natAdd a j) = s1 j) (hs1 : ∀ j, Fin' (s1 j))
    (hv : ∀ j, v (Fin.natAdd a j) = v' j) (hv' : ∀ j, Fin' (v' j)) (hl : Fin' lam) :
    attend t0 v - lam * attend t1 v = ∑ j, v' j * (prob s0 j - lam * prob s1 j) := by
  obtain ⟨w0, p0, e0⟩ := attend_prob hb t0 s0 hm0 hr0 hs0
  obtain ⟨w1, p1, e1⟩ := attend_prob hb t1 s1 hm1 hr1 hs1
  obtain ⟨l, rfl⟩ := hl
  choose u hu using hv'
  rw [e0 v u fun j => (hv j).trans (hu j), e1 v u fun j => (hv j).trans (hu j), ← EReal.coe_mul, ← EReal.coe_sub,
    Finset.sum_congr rfl fun j _ => show v' j * (prob s0 j - (l : EReal) * prob s1 j) = ((u j * (w0 j - l * w1 j) : ℝ) : EReal) by
      rw [hu, p0, p1, ← EReal.coe_mul, ← EReal.coe_sub, ← EReal.coe_mul], coe_sum]
  congr 1
  rw [Finset.mul_sum, ← Finset.sum_sub_distrib]
  exact Finset.sum_congr rfl fun j _ => by ring

/-- Lane `d` of a head's first half, and of its second. -/
def lo (d : Fin 64) : Fin 128 := ⟨d.val, by omega⟩
def hi (d : Fin 64) : Fin 128 := ⟨64 + d.val, by omega⟩
/-- Real row `j` among the padded rows. -/
def real (j : Fin 4112) : Fin 4224 := ⟨112 + j.val, by omega⟩

/-- A head's score of one query row against one key row: first map, second map. -/
def score0 (q k : Fin 128 → EReal) : EReal := ∑ d : Fin 64, q (lo d) * k (lo d)
def score1 (q k : Fin 128 → EReal) : EReal := ∑ d : Fin 64, q (hi d) * k (hi d)

/-- Padding rows masked by −∞. -/
def masked (s : Fin 4224 → EReal) (n : Fin 4224) : EReal :=
  Scalar.select (IntOp.cmpi .sge (BitVec.ofNat 32 n.val) 112#32) (s n) ⊥

theorem ge112 : ∀ x : Fin 4224, IntOp.cmpi .sge (BitVec.ofNat 32 x.val) 112#32 = if 112 ≤ x.val then 1#1 else 0#1 := by decide +kernel

theorem masked_eq (s : Fin 4224 → EReal) (n : Fin 4224) : masked s n = if 112 ≤ n.val then s n else ⊥ := by
  unfold masked
  rw [ge112]
  unfold Scalar.select
  split <;> rfl

/-- The kernel's head, before the norm. -/
def kernelHead (lam : EReal) (q : Fin 128 → EReal) (k v : Fin 4224 → Fin 128 → EReal) (d : Fin 128) : EReal :=
  attend (masked fun n => score0 q (k n)) (fun n => v n d) - lam * attend (masked fun n => score1 q (k n)) (fun n => v n d)

/-- The reference's head, before the norm. -/
def refHead (lam : EReal) (q : Fin 128 → EReal) (k v : Fin 4112 → Fin 128 → EReal) (d : Fin 128) : EReal :=
  ∑ j, v j d * (prob (fun n => score0 q (k n)) j - lam * prob (fun n => score1 q (k n)) j)

theorem head_eq {lam : EReal} {q : Fin 128 → EReal} {k v : Fin 4224 → Fin 128 → EReal} (hl : Fin' lam) (hq : ∀ d, Fin' (q d))
    (hk : ∀ j d, Fin' (k (real j) d)) (hv : ∀ j d, Fin' (v (real j) d)) (d : Fin 128) :
    kernelHead lam q k v d = refHead lam q (fun j => k (real j)) (fun j => v (real j)) d := by
  have m : ∀ (s : Fin 4224 → EReal) (i : Fin 112), masked s (Fin.castAdd (n := 112) 4112 i) = ⊥ := fun s i =>
    (masked_eq s _).trans <| if_neg (by have := i.isLt; show ¬112 ≤ i.val; omega)
  have r : ∀ (s : Fin 4224 → EReal) (j : Fin 4112), masked s (Fin.natAdd 112 j) = s (real j) := fun s j =>
    (masked_eq s _).trans <| if_pos (show 112 ≤ 112 + j.val by omega)
  exact attend_sub (a := 112) (b := 4112) (by decide) _ _ _ _ _ _ lam (m _) (r _)
    (fun j => Fin'.sum fun d => (hq _).mul (hk j _)) (m _) (r _) (fun j => Fin'.sum fun d => (hq _).mul (hk j _))
    (fun j => rfl) (fun j => hv j d) hl

/-- The weight of the second map from the four vectors. -/
def weight (l : Fin 4 → Fin 64 → EReal) : EReal :=
  Ideal.exp (∑ d, l 0 d * l 1 d) - Ideal.exp (∑ d, l 2 d * l 3 d) + Ideal.ofBits .f32 0x3EB60549#32

/-- The head's norm, its scale, and the gate. -/
def finish (o g : Fin 128 → EReal) (z : EReal) (d : Fin 128) : EReal :=
  o d * Ideal.rsqrt (Ideal.div (∑ i, o i * o i) (Ideal.ofBits .f32 0x43000000#32) + Ideal.ofBits .f32 0x3727C5AC#32) * g d
    * Ideal.ofBits .f32 0x3F24FD5C#32 * (z * Ideal.logistic z)

/-- Where head `h` has its lane `d`: among the queries, the keys, the values, the gate's input and the result. -/
def colQ (h : Fin 16) (d : Fin 128) : Fin 4096 := ⟨h.val * 128 + d.val, by omega⟩
def colK (h : Fin 16) (d : Fin 128) : Fin 4096 := ⟨2048 + (h.val * 128 + d.val), by omega⟩
def colV (h : Fin 16) (d : Fin 128) : Fin 8192 := ⟨4096 + (h.val * 128 + d.val), by omega⟩
def colZ (h : Fin 16) (d : Fin 128) : Fin 8192 := ⟨6144 + (h.val * 128 + d.val), by omega⟩
def colO (h : Fin 16) (d : Fin 128) : Fin 2048 := ⟨h.val * 128 + d.val, by omega⟩
def headOf (e : Fin 2048) : Fin 16 := ⟨e.val / 128, by omega⟩
def laneOf (e : Fin 2048) : Fin 128 := ⟨e.val % 128, by omega⟩

theorem headOf_colO (h : Fin 16) (d : Fin 128) : headOf (colO h d) = h :=
  Fin.ext (show (h.val * 128 + d.val) / 128 = h.val by omega)
theorem laneOf_colO (h : Fin 16) (d : Fin 128) : laneOf (colO h d) = d :=
  Fin.ext (show (h.val * 128 + d.val) % 128 = d.val by omega)
theorem colO_headOf (e : Fin 2048) : colO (headOf e) (laneOf e) = e :=
  Fin.ext (show e.val / 128 * 128 + e.val % 128 = e.val by omega)

/-- One entry of the attention of one batch as the kernel computes it, from its queries and keys `x` and its values and
    gate `u`. -/
def entry (l : Fin 4 → Fin 64 → EReal) (g : Fin 128 → EReal) (x : Fin 4224 → Fin 4096 → EReal) (u : Fin 4224 → Fin 8192 → EReal)
    (t : Fin 4224) (h : Fin 16) (d : Fin 128) : EReal :=
  finish (kernelHead (weight l) (fun e => x t (colQ h e)) (fun n e => x n (colK h e)) (fun n e => u n (colV h e))) g (u t (colZ h d)) d

theorem entry_congr {l l' : Fin 4 → Fin 64 → EReal} {g g' q q' : Fin 128 → EReal} {k k' v v' : Fin 4224 → Fin 128 → EReal} {z z' : EReal}
    {d : Fin 128} (hl : ∀ i e, l i e = l' i e) (hg : ∀ e, g e = g' e) (hq : ∀ e, q e = q' e) (hk : ∀ n e, k n e = k' n e)
    (hv : ∀ n e, v n e = v' n e) (hz : z = z') :
    finish (kernelHead (weight l) q k v) g z d = finish (kernelHead (weight l') q' k' v') g' z' d := by
  obtain rfl : l = l' := funext fun i => funext (hl i)
  obtain rfl : g = g' := funext hg
  obtain rfl : q = q' := funext hq
  obtain rfl : k = k' := funext fun i => funext (hk i)
  obtain rfl : v = v' := funext fun i => funext (hv i)
  rw [hz]

/-- The same entry as the reference computes it. -/
def refEntry (l : Fin 4 → Fin 64 → EReal) (g : Fin 128 → EReal) (x : Fin 4224 → Fin 4096 → EReal) (u : Fin 4224 → Fin 8192 → EReal)
    (t : Fin 4224) (h : Fin 16) (d : Fin 128) : EReal :=
  finish (refHead (weight l) (fun e => x t (colQ h e)) (fun j e => x (real j) (colK h e)) (fun j e => u (real j) (colV h e))) g (u t (colZ h d)) d

theorem negInf : Ideal.ofBits .f32 0xFF800000#32 = ⊥ := by simp [Ideal.ofBits, Ideal.ieee]
theorem posInf : Ideal.ofBits .f32 0x7F800000#32 = ⊤ := by simp [Ideal.ofBits, Ideal.ieee]

theorem weight_fin {l : Fin 4 → Fin 64 → EReal} (h : ∀ i d, Fin' (l i d)) : Fin' (weight l) := by
  refine ((Fin'.exp (Fin'.sum fun d => (h _ _).mul (h _ _))).sub (Fin'.exp (Fin'.sum fun d => (h _ _).mul (h _ _)))).add ?_
  simp only [Ideal.ofBits, Ideal.ieee]
  simp
  exact Fin'.mul ⟨_, rfl⟩ ⟨_, rfl⟩

/-- Kernel and reference agree where the four vectors, the queries, the real keys and the real values are finite. -/
theorem entry_eq {l : Fin 4 → Fin 64 → EReal} {g : Fin 128 → EReal} {x : Fin 4224 → Fin 4096 → EReal} {u : Fin 4224 → Fin 8192 → EReal}
    (hl : ∀ i d, Fin' (l i d)) (hq : ∀ t h d, Fin' (x t (colQ h d))) (hk : ∀ j h d, Fin' (x (real j) (colK h d)))
    (hv : ∀ j h d, Fin' (u (real j) (colV h d))) (t : Fin 4224) (h : Fin 16) (d : Fin 128) :
    entry l g x u t h d = refEntry l g x u t h d := by
  unfold entry refEntry
  rw [show kernelHead (weight l) (fun e => x t (colQ h e)) (fun n e => x n (colK h e)) (fun n e => u n (colV h e))
      = refHead (weight l) (fun e => x t (colQ h e)) (fun j e => x (real j) (colK h e)) (fun j e => u (real j) (colV h e)) from
    funext fun e => head_eq (weight_fin hl) (fun _ => hq _ _ _) (fun _ _ => hk _ _ _) (fun _ _ => hv _ _ _) e]

end Cert.Softmax

end
-- ==== Proof.AttnBlock.lean ====
/- The attention's kernel: what one block computes, index by index, and the result array. -/
module

public import proofs.«01_k».proof.Proof.Gen.AttentionIdeal.Value
public import proofs.«01_k».proof.Proof.Softmax
public import Idealize.ShloMosaic.Lib.Pointwise
public import Idealize.ShloMosaic.Lib.StableHlo.Run
public import Idealize.ShloMosaic.PureOps.IdealRules

@[expose] public section

set_option maxRecDepth 16384

noncomputable section

namespace Cert.AttentionIdeal.RefValue

open Cert.AttentionIdeal Cert.AttentionIdeal.Gen Cert.Softmax Idealize.ShloMosaic Idealize.ShloMosaic.TcCoe Idealize.ShloMosaic.Pointwise Idealize.SL.Sem
open Idealize.ShloMosaic.Pipeline (Dat)

/-- The named mask constant is −∞. -/
theorem mask_val : (Named.named (F := Ideal) Cert.AttentionIdeal.κ "mask" 0xF149F2CA#32 : Ideal .f32) = (⊥ : EReal) :=
  IdealRules.named_const.ideal_named_scalar _ _ _ _ rfl

theorem lt64 : ∀ x : Fin 128, IntOp.cmpi .slt (BitVec.ofNat 32 x.val) 64#32 = if x.val < 64 then 1#1 else 0#1 := by decide +kernel
theorem ge64 : ∀ x : Fin 128, IntOp.cmpi .sge (BitVec.ofNat 32 x.val) 64#32 = if 64 ≤ x.val then 1#1 else 0#1 := by decide +kernel

theorem sel_lo (a : EReal) (d : Fin 128) :
    Scalar.select (IntOp.cmpi .slt (BitVec.ofNat 32 d.val) 64#32) a 0 = if d.val < 64 then a else 0 := by
  rw [lt64]
  unfold Scalar.select
  split <;> rfl

theorem sel_hi (a : EReal) (d : Fin 128) :
    Scalar.select (IntOp.cmpi .sge (BitVec.ofNat 32 d.val) 64#32) a 0 = if 64 ≤ d.val then a else 0 := by
  rw [ge64]
  unfold Scalar.select
  split <;> rfl

/-- A sum over the lanes with the second half zeroed, and with the first half zeroed. -/
theorem sum_lo' (a : Fin 128 → EReal) : (∑ d : Fin 128, if d.val < 64 then a d else 0) = ∑ d : Fin 64, a (lo d) := by
  rw [show (∑ d : Fin 128, if d.val < 64 then a d else 0) = ∑ d : Fin (64 + 64), (fun d : Fin (64 + 64) => if d.val < 64 then a d else 0) d from rfl, Fin.sum_univ_add]
  rw [Finset.sum_congr rfl fun d _ => show (if (Fin.castAdd 64 d : Fin (64 + 64)).val < 64 then a (Fin.castAdd 64 d) else 0) = a (lo d) from if_pos d.isLt,
    Finset.sum_eq_zero (s := Finset.univ) fun d _ => show (if (Fin.natAdd 64 d : Fin (64 + 64)).val < 64 then a (Fin.natAdd 64 d) else 0) = 0 from if_neg (by show ¬64 + d.val < 64; omega)]
  exact add_zero _

theorem sum_lo (f g : Fin 128 → EReal) : (∑ d : Fin 128, if d.val < 64 then f d * g d else 0) = ∑ d : Fin 64, f (lo d) * g (lo d) :=
  sum_lo' fun d => f d * g d

theorem sum_hi (a b : Fin 128 → EReal) : (∑ d : Fin 128, (if 64 ≤ d.val then a d else 0) * b d) = ∑ d : Fin 64, a (hi d) * b (hi d) := by
  rw [show (∑ d : Fin 128, (if 64 ≤ d.val then a d else 0) * b d) = ∑ d : Fin (64 + 64), (fun d : Fin (64 + 64) => (if 64 ≤ d.val then a d else 0) * b d) d from rfl, Fin.sum_univ_add]
  rw [Finset.sum_eq_zero (s := Finset.univ) fun d _ => show (if 64 ≤ (Fin.castAdd 64 d : Fin (64 + 64)).val then a (Fin.castAdd 64 d) else 0) * b (Fin.castAdd 64 d) = 0 from by
      rw [if_neg (by have := d.isLt; show ¬64 ≤ d.val; omega), zero_mul],
    Finset.sum_congr rfl fun d _ => show (if 64 ≤ (Fin.natAdd 64 d : Fin (64 + 64)).val then a (Fin.natAdd 64 d) else 0) * b (Fin.natAdd 64 d) = a (hi d) * b (hi d) from by
      rw [if_pos (show 64 ≤ (Fin.natAdd 64 d : Fin (64 + 64)).val from Nat.le_add_right 64 d.val)]; rfl]
  exact zero_add _

/-- The first map of one block. -/
theorem pay6_apply (q : Vec Ideal S1x384x128 .bf16) (k v : Vec Ideal S1x4224x128 .bf16) (r : Fin 384) (n : Fin 128) :
    k0_pay6 (F := Ideal) q k v (ix2 r n)
      = attend (masked fun x => score0 (fun d => q (ix3 0 r d)) (fun d => k (ix3 0 x d))) (fun x => v (ix3 0 x n)) := by
  pointwise [k0_pay6, k0_pay2, k0_pay3, k0_pay4, k0_pay5]
  simp only [sel_lo, sum_lo]
  simp only [mask_val, negInf]
  rfl

theorem pay7_apply (q : Vec Ideal S1x384x128 .bf16) (r : Fin 384) (n : Fin 128) :
    k0_pay7 (F := Ideal) q (ix2 r n) = if 64 ≤ n.val then q (ix3 0 r n) else 0 := by
  pointwise [k0_pay7, k0_pay2]
  exact sel_hi _ _

theorem pay5_apply (x : Fin 4224) : k0_pay5 (ix2 0 x) = IntOp.cmpi .sge (BitVec.ofNat 32 x.val) 112#32 := by
  pointwise [k0_pay5]

theorem pay3_apply (k : Vec Ideal S1x4224x128 .bf16) (x : Fin 4224) (d : Fin 128) : k0_pay3 (F := Ideal) k (ix2 x d) = k (ix3 0 x d) := by
  pointwise [k0_pay3]

theorem pay4_apply (k : Vec Ideal S1x4224x128 .bf16) (x : Fin 4224) (d : Fin 128) : k0_pay4 (F := Ideal) k (ix2 x d) = k (ix3 0 x d) := by
  pointwise [k0_pay4]

/-- The second map, weighted and subtracted. -/
def minus (k v : Vec Ideal S4224x128 .bf16) (mk : IVec S1x4224 1) (o : Vec Ideal S384x128 .f32) (q : Vec Ideal S384x128 .bf16) (lv : Vec Ideal S4x64 .f32)
    (r : Fin 384) (x : Fin 128) : EReal :=
  o (ix2 r x) - weight (fun i d => lv (ix2 i d))
    * attend (fun n => Scalar.select (mk (ix2 0 n)) (∑ d : Fin 128, q (ix2 r d) * k (ix2 n d)) ⊥) (fun n => v (ix2 n x))

theorem pay8_apply (k v : Vec Ideal S4224x128 .bf16) (mk : IVec S1x4224 1) (o : Vec Ideal S384x128 .f32) (q : Vec Ideal S384x128 .bf16) (lv : Vec Ideal S4x64 .f32)
    (r : Fin 384) (n : Fin 128) :
    k0_pay8 (F := Ideal) k v mk o q lv (ix2 r n)
      = minus k v mk o q lv r n * Ideal.rsqrt (Ideal.div (∑ x, minus k v mk o q lv r x * minus k v mk o q lv r x)
          (Ideal.ofBits .f32 0x43000000#32) + Ideal.ofBits .f32 0x3727C5AC#32) := by
  pointwise [k0_pay8]
  simp only [mask_val, negInf]
  rfl

theorem minus_eq (q : Vec Ideal S1x384x128 .bf16) (k v : Vec Ideal S1x4224x128 .bf16) (lv : Vec Ideal S4x64 .f32) (r : Fin 384) (x : Fin 128) :
    minus (k0_pay3 (F := Ideal) k) (k0_pay4 (F := Ideal) v) k0_pay5 (k0_pay6 (F := Ideal) q k v) (k0_pay7 (F := Ideal) q) lv r x
      = kernelHead (weight fun i d => lv (ix2 i d)) (fun d => q (ix3 0 r d)) (fun n d => k (ix3 0 n d)) (fun n d => v (ix3 0 n d)) x := by
  unfold minus kernelHead
  rw [pay6_apply]
  simp only [pay7_apply, pay5_apply, pay3_apply, pay4_apply, sum_hi]
  rfl

theorem pay1_apply (o : Vec Ideal S384x128 .f32) (g : Vec Ideal S1x128 .f32) (zz : Vec Ideal S1x384x128 .bf16) (z : Fin 1) (r : Fin 384) (n : Fin 128) :
    k0_pay1 (F := Ideal) o g zz (ix3 z r n)
      = o (ix2 r n) * g (ix2 0 n) * Ideal.ofBits .f32 0x3F24FD5C#32 * (zz (ix3 0 r n) * Ideal.logistic (zz (ix3 0 r n))) := by
  pointwise [k0_pay1]

/-- One block's payload: the head of each of its rows, normed and gated. -/
theorem pay_apply (q : Vec Ideal S1x384x128 .bf16) (k v : Vec Ideal S1x4224x128 .bf16) (lv : Vec Ideal S4x64 .f32) (g : Vec Ideal S1x128 .f32)
    (zz : Vec Ideal S1x384x128 .bf16) (z : Fin 1) (r : Fin 384) (n : Fin 128) :
    k0_pay1 (F := Ideal) (k0_pay8 (F := Ideal) (k0_pay3 (F := Ideal) k) (k0_pay4 (F := Ideal) v) k0_pay5 (k0_pay6 (F := Ideal) q k v) (k0_pay7 (F := Ideal) q) lv) g zz (ix3 z r n)
      = finish (kernelHead (weight fun i d => lv (ix2 i d)) (fun d => q (ix3 0 r d)) (fun n d => k (ix3 0 n d)) (fun n d => v (ix3 0 n d)))
          (fun d => g (ix2 0 d)) (zz (ix3 0 r n)) n := by
  rw [pay1_apply, pay8_apply]
  simp only [minus_eq]
  rfl

end Cert.AttentionIdeal.RefValue

end
-- ==== Proof.AttnFinal.lean ====
/- The attention's kernel: its blocks in the whole arrays, and the result array. -/
module

public import proofs.«01_k».proof.Proof.AttnBlock

@[expose] public section

set_option maxRecDepth 16384

noncomputable section

namespace Cert.AttentionIdeal.RefValue

open Cert.AttentionIdeal Cert.AttentionIdeal.Gen Cert.Softmax Idealize.ShloMosaic Idealize.ShloMosaic.TcCoe Idealize.ShloMosaic.Pointwise Idealize.SL.Sem
open Idealize.ShloMosaic.Pipeline (Dat)

variable (m : (ℓ : Loc nD τ sig) → Buf (Elt Ideal) ℓ)

theorem V_g (c : Dev nD) : V m c main_v0 = shapeCast S1x128 (m ((c : Thread nD τ).loc main_arg1)) shapeCasts_S128_S1x128 := by
  unfold V hostOps0
  after_results
  rfl

theorem V_g_apply (c : Dev nD) (k : Fin 128) :
    (V m c main_v0 : S1x128.Idx → EReal) (ix2 0 k) = (m ((c : Thread nD τ).loc main_arg1) : S128.Idx → EReal) (ix1 k) := by
  rw [V_g]
  pointwise

/-- The result array: entry `(b, t, h*128+d)` is lane `d` of head `h` of row `t`. -/
def G (c : Dev nD) : Buf (Elt Ideal) ((c : Thread nD τ).loc main_v1) := fun i : S16x4224x2048.Idx =>
  entry (fun a d => (m ((c : Thread nD τ).loc main_arg0) : S4x64.Idx → EReal) (ix2 a d))
    (fun d => (m ((c : Thread nD τ).loc main_arg1) : S128.Idx → EReal) (ix1 d))
    (fun t e => (m ((c : Thread nD τ).loc main_arg2) : S16x4224x4096.Idx → EReal) (ix3 (i 0) t e))
    (fun t e => (m ((c : Thread nD τ).loc main_arg3) : S16x4224x8192.Idx → EReal) (ix3 (i 0) t e)) (i 1) (headOf (i 2)) (laneOf (i 2))

theorem hz3 : (![0, 0, 0] : Fin 3 → Nat) = fun _ => 0 := funext fun a => by fin_cases a <;> rfl
theorem hz2 : (![0, 0] : Fin 2 → Nat) = fun _ => 0 := funext fun a => by fin_cases a <;> rfl

/-- The windows' block positions at a grid point, in closed form. -/
theorem idx_all : ∀ t : Fin grid0.N,
    win0_0.index t 0 = 0 ∧ win0_0.index t 1 = 0
    ∧ win0_1.index t 0 = 0 ∧ win0_1.index t 1 = 0
    ∧ win0_2.index t 0 = t.val / 176 ∧ win0_2.index t 1 = t.val % 11 ∧ win0_2.index t 2 = t.val / 11 % 16
    ∧ win0_3.index t 0 = t.val / 176 ∧ win0_3.index t 1 = 0 ∧ win0_3.index t 2 = 16 + t.val / 11 % 16
    ∧ win0_4.index t 0 = t.val / 176 ∧ win0_4.index t 1 = 0 ∧ win0_4.index t 2 = 32 + t.val / 11 % 16
    ∧ win0_5.index t 0 = t.val / 176 ∧ win0_5.index t 1 = t.val % 11 ∧ win0_5.index t 2 = 48 + t.val / 11 % 16
    ∧ win0_6.index t 0 = t.val / 176 ∧ win0_6.index t 1 = t.val % 11 ∧ win0_6.index t 2 = t.val / 11 % 16 := by
  decide +kernel

section
variable (t : Fin grid0.N)
theorem tlt : t.val < 2816 := lt_of_lt_of_eq t.isLt N_0
/-- The batch of a grid point, and its head. -/
def bt : Fin 16 := ⟨t.val / 176, by have := tlt t; omega⟩
def hd : Fin 16 := ⟨t.val / 11 % 16, Nat.mod_lt _ (by decide)⟩
/-- Row `r` of the point's block, in the whole array. -/
def row (r : Fin 384) : Fin 4224 := ⟨t.val % 11 * 384 + r.val, by have := r.isLt; omega⟩
end

theorem emb6 (t : Fin cfg0.N) (z : Fin 1) (r : Fin 384) (n : Fin 128) :
    (win0_6.blk t).view.emb (ix3 z r n) = ix3 (bt t) (row t r) (colO (hd t) n) := by
  obtain ⟨-, -, -, -, -, -, -, -, -, -, -, -, -, -, -, -, h0, h1, h2⟩ := idx_all t
  funext a
  match a with
  | ⟨0, _⟩ => exact Fin.ext (show win0_6.index t 0 * 1 + 1 * z.val = t.val / 176 by rw [h0]; omega)
  | ⟨1, _⟩ => exact Fin.ext (show win0_6.index t 1 * 384 + 1 * r.val = t.val % 11 * 384 + r.val by rw [h1]; omega)
  | ⟨2, _⟩ => exact Fin.ext (show win0_6.index t 2 * 128 + 1 * n.val = t.val / 11 % 16 * 128 + n.val by rw [h2]; omega)

theorem blk0 (c : Dev nD) (t : Fin cfg0.N) (i : Fin 4) (d : Fin 64) :
    (iblk m c 0 t : S4x64.Idx → EReal) (ix2 i d) = (m ((c : Thread nD τ).loc main_arg0) : S4x64.Idx → EReal) (ix2 i d) := by
  show (V m c main_arg0 : S4x64.Idx → EReal) ((win0_0.blk t).view.emb (ix2 i d)) = _
  rw [V_main_arg0]
  obtain ⟨h0, h1, -⟩ := idx_all t
  congr 1
  funext a
  match a with
  | ⟨0, _⟩ => exact Fin.ext (show win0_0.index t 0 * 4 + 1 * i.val = i.val by rw [h0]; omega)
  | ⟨1, _⟩ => exact Fin.ext (show win0_0.index t 1 * 64 + 1 * d.val = d.val by rw [h1]; omega)

theorem blk1 (c : Dev nD) (t : Fin cfg0.N) (k : Fin 128) :
    (iblk m c 1 t : S1x128.Idx → EReal) (ix2 0 k) = (m ((c : Thread nD τ).loc main_arg1) : S128.Idx → EReal) (ix1 k) := by
  have e : (win0_1.blk t).view.emb (ix2 0 k) = ix2 0 k := by
    obtain ⟨-, -, h0, h1, -⟩ := idx_all t
    funext a
    match a with
    | ⟨0, _⟩ => exact Fin.ext (show win0_1.index t 0 * 1 + 1 * 0 = 0 by rw [h0])
    | ⟨1, _⟩ => exact Fin.ext (show win0_1.index t 1 * 128 + 1 * k.val = k.val by rw [h1]; omega)
  show (V m c main_v0 : S1x128.Idx → EReal) ((win0_1.blk t).view.emb (ix2 0 k)) = _
  rw [e]
  exact V_g_apply m c k

theorem blk2 (c : Dev nD) (t : Fin cfg0.N) (r : Fin 384) (d : Fin 128) :
    (iblk m c 2 t : S1x384x128.Idx → EReal) (ix3 0 r d)
      = (m ((c : Thread nD τ).loc main_arg2) : S16x4224x4096.Idx → EReal) (ix3 (bt t) (row t r) (colQ (hd t) d)) := by
  show (V m c main_arg2 : S16x4224x4096.Idx → EReal) ((win0_2.blk t).view.emb (ix3 0 r d)) = _
  rw [V_main_arg2]
  obtain ⟨-, -, -, -, h0, h1, h2, -⟩ := idx_all t
  congr 1
  funext a
  match a with
  | ⟨0, _⟩ => exact Fin.ext (show win0_2.index t 0 * 1 + 1 * 0 = t.val / 176 by rw [h0]; omega)
  | ⟨1, _⟩ => exact Fin.ext (show win0_2.index t 1 * 384 + 1 * r.val = t.val % 11 * 384 + r.val by rw [h1]; omega)
  | ⟨2, _⟩ => exact Fin.ext (show win0_2.index t 2 * 128 + 1 * d.val = t.val / 11 % 16 * 128 + d.val by rw [h2]; omega)

theorem blk3 (c : Dev nD) (t : Fin cfg0.N) (n : Fin 4224) (d : Fin 128) :
    (iblk m c 3 t : S1x4224x128.Idx → EReal) (ix3 0 n d)
      = (m ((c : Thread nD τ).loc main_arg2) : S16x4224x4096.Idx → EReal) (ix3 (bt t) n (colK (hd t) d)) := by
  show (V m c main_arg2 : S16x4224x4096.Idx → EReal) ((win0_3.blk t).view.emb (ix3 0 n d)) = _
  rw [V_main_arg2]
  obtain ⟨-, -, -, -, -, -, -, h0, h1, h2, -⟩ := idx_all t
  congr 1
  funext a
  match a with
  | ⟨0, _⟩ => exact Fin.ext (show win0_3.index t 0 * 1 + 1 * 0 = t.val / 176 by rw [h0]; omega)
  | ⟨1, _⟩ => exact Fin.ext (show win0_3.index t 1 * 4224 + 1 * n.val = n.val by rw [h1]; omega)
  | ⟨2, _⟩ => exact Fin.ext (show win0_3.index t 2 * 128 + 1 * d.val = 2048 + (t.val / 11 % 16 * 128 + d.val) by rw [h2]; omega)

theorem blk4 (c : Dev nD) (t : Fin cfg0.N) (n : Fin 4224) (d : Fin 128) :
    (iblk m c 4 t : S1x4224x128.Idx → EReal) (ix3 0 n d)
      = (m ((c : Thread nD τ).loc main_arg3) : S16x4224x8192.Idx → EReal) (ix3 (bt t) n (colV (hd t) d)) := by
  show (V m c main_arg3 : S16x4224x8192.Idx → EReal) ((win0_4.blk t).view.emb (ix3 0 n d)) = _
  rw [V_main_arg3]
  obtain ⟨-, -, -, -, -, -, -, -, -, -, h0, h1, h2, -⟩ := idx_all t
  congr 1
  funext a
  match a with
  | ⟨0, _⟩ => exact Fin.ext (show win0_4.index t 0 * 1 + 1 * 0 = t.val / 176 by rw [h0]; omega)
  | ⟨1, _⟩ => exact Fin.ext (show win0_4.index t 1 * 4224 + 1 * n.val = n.val by rw [h1]; omega)
  | ⟨2, _⟩ => exact Fin.ext (show win0_4.index t 2 * 128 + 1 * d.val = 4096 + (t.val / 11 % 16 * 128 + d.val) by rw [h2]; omega)

theorem blk5 (c : Dev nD) (t : Fin cfg0.N) (r : Fin 384) (d : Fin 128) :
    (iblk m c 5 t : S1x384x128.Idx → EReal) (ix3 0 r d)
      = (m ((c : Thread nD τ).loc main_arg3) : S16x4224x8192.Idx → EReal) (ix3 (bt t) (row t r) (colZ (hd t) d)) := by
  show (V m c main_arg3 : S16x4224x8192.Idx → EReal) ((win0_5.blk t).view.emb (ix3 0 r d)) = _
  rw [V_main_arg3]
  obtain ⟨-, -, -, -, -, -, -, -, -, -, -, -, -, h0, h1, h2, -⟩ := idx_all t
  congr 1
  funext a
  match a with
  | ⟨0, _⟩ => exact Fin.ext (show win0_5.index t 0 * 1 + 1 * 0 = t.val / 176 by rw [h0]; omega)
  | ⟨1, _⟩ => exact Fin.ext (show win0_5.index t 1 * 384 + 1 * r.val = t.val % 11 * 384 + r.val by rw [h1]; omega)
  | ⟨2, _⟩ => exact Fin.ext (show win0_5.index t 2 * 128 + 1 * d.val = 6144 + (t.val / 11 % 16 * 128 + d.val) by rw [h2]; omega)

theorem G_apply (c : Dev nD) (b : Fin 16) (t : Fin 4224) (h : Fin 16) (d : Fin 128) :
    G m c (ix3 b t (colO h d)) = entry (fun a d => (m ((c : Thread nD τ).loc main_arg0) : S4x64.Idx → EReal) (ix2 a d))
      (fun d => (m ((c : Thread nD τ).loc main_arg1) : S128.Idx → EReal) (ix1 d))
      (fun t e => (m ((c : Thread nD τ).loc main_arg2) : S16x4224x4096.Idx → EReal) (ix3 b t e))
      (fun t e => (m ((c : Thread nD τ).loc main_arg3) : S16x4224x8192.Idx → EReal) (ix3 b t e)) t h d := by
  show entry _ _ _ _ t (headOf (colO h d)) (laneOf (colO h d)) = _
  rw [headOf_colO, laneOf_colO]
  rfl

/-- What a grid point writes back is its block of the result. -/
theorem flushed_eq (c : Dev nD) (t : Fin cfg0.N) :
    (dats m 0 c).flushed 6 t = (win0_6.blk t).view.read (Elt Ideal) (G m c) := by
  rw [Value.flushed6]
  unfold out0_6
  rw [View.canon_unit_zero hz3, View.ld_unit_zero hz3, View.ld_unit_zero hz3, View.ld_unit_zero hz3, View.ld_unit_zero hz2, View.ld_unit_zero hz2, View.ld_unit_zero hz3]
  funext y
  obtain ⟨z, r, n, rfl⟩ : ∃ (z : Fin 1) (r : Fin 384) (n : Fin 128), y = ix3 z r n := ⟨y 0, y 1, y 2, by funext a; fin_cases a <;> rfl⟩
  show k0_pay1 (F := Ideal) (k0_pay8 (F := Ideal) (k0_pay3 (F := Ideal) (iblk m c 3 t)) (k0_pay4 (F := Ideal) (iblk m c 4 t)) k0_pay5 (k0_pay6 (F := Ideal) (iblk m c 2 t) (iblk m c 3 t) (iblk m c 4 t)) (k0_pay7 (F := Ideal) (iblk m c 2 t)) (iblk m c 0 t)) (iblk m c 1 t) (iblk m c 5 t) (ix3 z r n) = G m c ((win0_6.blk t).view.emb (ix3 z r n))
  rw [pay_apply, emb6, G_apply]
  exact entry_congr (blk0 m c t) (blk1 m c t) (blk2 m c t r) (blk3 m c t) (blk4 m c t) (blk5 m c t r n)

/-- The blocks cover the result array. -/
theorem cover (i : S16x4224x2048.Idx) :
    ∃ t : Fin cfg0.N, (cfg0.win 6).flush t = true ∧ i ∈ ((cfg0.win 6).blk t).view.set := by
  have h0 : (i 0 : Nat) < 16 := (i 0).isLt
  have h1 : (i 1 : Nat) < 4224 := (i 1).isLt
  have h2 : (i 2 : Nat) < 2048 := (i 2).isLt
  refine ⟨⟨(i 0).val * 176 + (i 2).val / 128 * 11 + (i 1).val / 384, by show _ < grid0.N; rw [N_0]; omega⟩, flush0_6 _, ?_⟩
  refine Finset.mem_map.mpr ⟨ix3 0 ⟨(i 1).val % 384, Nat.mod_lt _ (by decide)⟩ ⟨(i 2).val % 128, Nat.mod_lt _ (by decide)⟩, Finset.mem_univ _, ?_⟩
  refine (emb6 _ _ _ _).trans ?_
  funext a
  match a with
  | ⟨0, _⟩ => exact Fin.ext (show ((i 0).val * 176 + (i 2).val / 128 * 11 + (i 1).val / 384) / 176 = (i 0).val by omega)
  | ⟨1, _⟩ => exact Fin.ext (show ((i 0).val * 176 + (i 2).val / 128 * 11 + (i 1).val / 384) % 11 * 384 + (i 1).val % 384 = (i 1).val by omega)
  | ⟨2, _⟩ => exact Fin.ext (show ((i 0).val * 176 + (i 2).val / 128 * 11 + (i 1).val / 384) / 11 % 16 * 128 + (i 2).val % 128 = (i 2).val by omega)

theorem final (c : Dev nD) : (dats m 0 c).arrAt 6 cfg0.N = G m c :=
  (dats m 0 c).arrAt_eq_of_cover 6 (G m c) (fun t _ => flushed_eq m c t) cover

end Cert.AttentionIdeal.RefValue

end
-- ==== Proof.RowMax.lean ====
/- The row maximum of a rank-5 array, read at an index, at any extents. -/
module

public import Idealize.ShloMosaic.Lib.Pointwise

@[expose] public section

noncomputable section

namespace Cert.Softmax

open Idealize.ShloMosaic Idealize.ShloMosaic.Pointwise

/-- The maximum along the last axis of a rank-5 array. -/
theorem rowMax {n0 n1 n2 n3 n4 : Nat} {u : Shape} (v : (⟨5, ![n0, n1, n2, n3, n4]⟩ : Shape).Idx → EReal) (c : u.Idx → EReal)
    (h : (⟨5, ![n0, n1, n2, n3, n4]⟩ : Shape).ReducesTo [4] ⟨4, ![n0, n1, n2, n3]⟩) (hu : 0 < u.numel)
    (i0 : Fin n0) (i1 : Fin n1) (i2 : Fin n2) (i3 : Fin n3) :
    Host.reduce (FloatOps.maximumf (F := Ideal) (φ := .f32)) v c h hu (ix4 i0 i1 i2 i3)
      = Finset.univ.fold max (c (Shape.Idx.first hu)) fun k : Fin n4 => v (ix5 i0 i1 i2 i3 k) := by
  simp only [pointwise]

end Cert.Softmax

end
-- ==== Proof.AttnReference.lean ====
/- The attention's reference, stage by stage, index by index. -/
module

public import proofs.«01_k».proof.Proof.Gen.AttentionReferenceIdeal.Run
public import proofs.«01_k».proof.Proof.Softmax
public import proofs.«01_k».proof.Proof.RowMax
public import Idealize.ShloMosaic.Lib.Pointwise

@[expose] public section

set_option maxRecDepth 16384

noncomputable section

namespace Cert.AttentionReferenceIdeal.RefValue

open Cert.AttentionReferenceIdeal Cert.AttentionReferenceIdeal.Gen Cert.Softmax
open Idealize.ShloMosaic Idealize.ShloMosaic.TcCoe Idealize.SL.Sem Idealize.ShloMosaic.Pointwise

/-- The queries: batch, row, head, map, lane. -/
def queries (x : FVec Ideal S16x4224x4096 .bf16) : FVec Ideal S16x4224x16x2x64 .f32 :=
  shapeCast _ (extf (F := Ideal) .f32 (extractStridedSlice S16x4224x2048 ![0, 0, 0] x slices_S16x4224x4096_S16x4224x2048_0_0_0) bitsLt_bf16_f32) shapeCasts_S16x4224x2048_S16x4224x16x2x64

/-- The keys of the real rows. -/
def keys (x : FVec Ideal S16x4224x4096 .bf16) : FVec Ideal S16x4112x16x2x64 .f32 :=
  shapeCast _ (extf (F := Ideal) .f32 (extractStridedSlice S16x4112x2048 ![0, 112, 2048] x slices_S16x4224x4096_S16x4112x2048_0_112_2048) bitsLt_bf16_f32) shapeCasts_S16x4112x2048_S16x4112x16x2x64

/-- The values of the real rows. -/
def vals (x : FVec Ideal S16x4224x8192 .bf16) : FVec Ideal S16x4112x16x128 .f32 :=
  shapeCast _ (extf (F := Ideal) .f32 (extractStridedSlice S16x4112x2048 ![0, 112, 4096] x slices_S16x4224x8192_S16x4112x2048_0_112_4096) bitsLt_bf16_f32) shapeCasts_S16x4112x2048_S16x4112x16x128

/-- The gate's input. -/
def gateIn (x : FVec Ideal S16x4224x8192 .bf16) : FVec Ideal S16x4224x2048 .f32 :=
  extf (F := Ideal) .f32 (extractStridedSlice S16x4224x2048 ![0, 0, 6144] x slices_S16x4224x8192_S16x4224x2048_0_0_6144) bitsLt_bf16_f32

/-- The weight of the second map. -/
def weightV (x : FVec Ideal S4x64 .f32) : FVec Ideal S_ .f32 :=
  addf (subf (Host.exp (Host.reduceAdd (mulf (shapeCast S64 (extractStridedSlice S1x64 ![0, 0] x slices_S4x64_S1x64_0_0) shapeCasts_S1x64_S64) (shapeCast S64 (extractStridedSlice S1x64 ![1, 0] x slices_S4x64_S1x64_1_0) shapeCasts_S1x64_S64)) (constant S_ .f32 0x00000000#32) reducesTo_S64_S_d0 h_S_))
    (Host.exp (Host.reduceAdd (mulf (shapeCast S64 (extractStridedSlice S1x64 ![2, 0] x slices_S4x64_S1x64_2_0) shapeCasts_S1x64_S64) (shapeCast S64 (extractStridedSlice S1x64 ![3, 0] x slices_S4x64_S1x64_3_0) shapeCasts_S1x64_S64)) (constant S_ .f32 0x00000000#32) reducesTo_S64_S_d0 h_S_)))
    (constant S_ .f32 0x3EB60549#32)

/-- The scores: batch, head, map, query row, key row. -/
def scores (q : FVec Ideal S16x4224x16x2x64 .f32) (k : FVec Ideal S16x4112x16x2x64 .f32) : FVec Ideal S16x16x2x4224x4112 .f32 :=
  Host.dotGeneral dot_S16x4224x16x2x64_S16x4112x16x2x64_S16x16x2x4224x4112_4_4_1_1_023_023 none q k

/-- Each row's maximum, from −∞ on. -/
def tops (s : FVec Ideal S16x16x2x4224x4112 .f32) : FVec Ideal S16x16x2x4224 .f32 :=
  Host.reduce FloatOps.maximumf s (constant S_ .f32 0xFF800000#32) reducesTo_S16x16x2x4224x4112_S16x16x2x4224_d4 h_S_

/-- The scores less their row's maximum, exponentiated. -/
def expd (s : FVec Ideal S16x16x2x4224x4112 .f32) (top : FVec Ideal S16x16x2x4224 .f32) : FVec Ideal S16x16x2x4224x4112 .f32 :=
  Host.exp (subf s (broadcastInDim S16x16x2x4224x4112 ![0, 1, 2, 3, 4] bcast_S16x16x2x4224x1_S16x16x2x4224x4112_0_1_2_3_4 (broadcastInDim S16x16x2x4224x1 ![0, 1, 2, 3] bcast_S16x16x2x4224_S16x16x2x4224x1_0_1_2_3
    (maximumf (broadcastInDim S16x16x2x4224 ![] bcast_S_S16x16x2x4224 (constant S_ .f32 0xFF800000#32)) top))))

/-- The normalized weights. -/
def probs (e : FVec Ideal S16x16x2x4224x4112 .f32) : FVec Ideal S16x16x2x4224x4112 .f32 :=
  Host.divf e (broadcastInDim S16x16x2x4224x4112 ![0, 1, 2, 3, 4] bcast_S16x16x2x4224x1_S16x16x2x4224x4112_0_1_2_3_4 (broadcastInDim S16x16x2x4224x1 ![0, 1, 2, 3] bcast_S16x16x2x4224_S16x16x2x4224x1_0_1_2_3
    (Host.reduceAdd e (constant S_ .f32 0x00000000#32) reducesTo_S16x16x2x4224x4112_S16x16x2x4224_d4 h_S_)))

/-- First map's weights less `lam` times the second's. -/
def diff (lam : FVec Ideal S_ .f32) (p : FVec Ideal S16x16x2x4224x4112 .f32) : FVec Ideal S16x16x4224x4112 .f32 :=
  subf (shapeCast _ (extractStridedSlice S16x16x1x4224x4112 ![0, 0, 0, 0, 0] p slices_S16x16x2x4224x4112_S16x16x1x4224x4112_0_0_0_0_0) shapeCasts_S16x16x1x4224x4112_S16x16x4224x4112)
    (mulf (broadcastInDim S16x16x4224x4112 ![] bcast_S_S16x16x4224x4112 lam)
      (shapeCast _ (extractStridedSlice S16x16x1x4224x4112 ![0, 0, 1, 0, 0] p slices_S16x16x2x4224x4112_S16x16x1x4224x4112_0_0_1_0_0) shapeCasts_S16x16x1x4224x4112_S16x16x4224x4112))

/-- The weighted sum of the values: batch, row, head, lane. -/
def mix (v : FVec Ideal S16x4112x16x128 .f32) (p : FVec Ideal S16x16x4224x4112 .f32) : FVec Ideal S16x4224x16x128 .f32 :=
  transpose S16x4224x16x128 [0, 3, 1, 2] (Host.dotGeneral dot_S16x4112x16x128_S16x16x4224x4112_S16x16x128x4224_1_3_3_2_02_01 none v p) transposes_S16x16x128x4224_S16x4224x16x128_0_3_1_2

/-- The norm of each head's lanes, scaled. -/
def normed (o : FVec Ideal S16x4224x16x128 .f32) (g : FVec Ideal S128 .f32) : FVec Ideal S16x4224x16x128 .f32 :=
  mulf (mulf (mulf o (broadcastInDim S16x4224x16x128 ![0, 1, 2, 3] bcast_S16x4224x16x1_S16x4224x16x128_0_1_2_3
      (Host.rsqrt (addf (Host.divf (broadcastInDim S16x4224x16x1 ![0, 1, 2] bcast_S16x4224x16_S16x4224x16x1_0_1_2 (Host.reduceAdd (mulf o o) (constant S_ .f32 0x00000000#32) reducesTo_S16x4224x16x128_S16x4224x16_d3 h_S_)) (broadcastInDim S16x4224x16x1 ![] bcast_S_S16x4224x16x1 (constant S_ .f32 0x43000000#32)))
        (broadcastInDim S16x4224x16x1 ![] bcast_S_S16x4224x16x1 (constant S_ .f32 0x3727C5AC#32))))))
      (broadcastInDim S16x4224x16x128 ![0, 1, 2, 3] bcast_S1x1x1x128_S16x4224x16x128_0_1_2_3 (broadcastInDim S1x1x1x128 ![3] bcast_S128_S1x1x1x128_3 g)))
    (broadcastInDim S16x4224x16x128 ![] bcast_S_S16x4224x16x128 (constant S_ .f32 0x3F24FD5C#32))

/-- The gate applied. -/
def gated (o : FVec Ideal S16x4224x16x128 .f32) (z : FVec Ideal S16x4224x2048 .f32) : FVec Ideal S16x4224x2048 .bf16 :=
  truncf .bf16 (mulf (shapeCast _ o shapeCasts_S16x4224x16x128_S16x4224x2048)
    (mulf z (Host.divf (broadcastInDim S16x4224x2048 ![] bcast_S_S16x4224x2048 (constant S_ .f32 0x3F800000#32))
      (addf (broadcastInDim S16x4224x2048 ![] bcast_S_S16x4224x2048 (constant S_ .f32 0x3F800000#32)) (Host.exp (Host.negf z)))))) bitsLt_bf16_f32

/-- The reference's result as a function of its arguments. -/
def res (l : FVec Ideal S4x64 .f32) (g : FVec Ideal S128 .f32) (x : FVec Ideal S16x4224x4096 .bf16) (u : FVec Ideal S16x4224x8192 .bf16) :
    FVec Ideal S16x4224x2048 .bf16 :=
  gated (normed (mix (vals u) (diff (weightV l) (probs (expd (scores (queries x) (keys x)) (tops (scores (queries x) (keys x))))))) g) (gateIn u)

theorem res_eq (m : (ℓ : Loc nD τ sig) → Buf (Elt Ideal) ℓ) (c : Dev nD) :
    Value.res_main_v66 m c = res (m ((c.tc : Thread nD τ).loc main_arg0)) (m ((c.tc : Thread nD τ).loc main_arg1))
      (m ((c.tc : Thread nD τ).loc main_arg2)) (m ((c.tc : Thread nD τ).loc main_arg3)) := rfl

theorem queries_apply (x : FVec Ideal S16x4224x4096 .bf16) (b : Fin 16) (t : Fin 4224) (h : Fin 16) (j : Fin 2) (d : Fin 64) :
    queries x (ix5 b t h j d) = x (ix3 b t ⟨h.val * 128 + j.val * 64 + d.val, by omega⟩) := by
  pointwise [queries]

theorem keys_apply (x : FVec Ideal S16x4224x4096 .bf16) (b : Fin 16) (t : Fin 4112) (h : Fin 16) (j : Fin 2) (d : Fin 64) :
    keys x (ix5 b t h j d) = x (ix3 b (real t) ⟨2048 + (h.val * 128 + j.val * 64 + d.val), by omega⟩) := by
  pointwise [keys]
  rfl

theorem vals_apply (x : FVec Ideal S16x4224x8192 .bf16) (b : Fin 16) (t : Fin 4112) (h : Fin 16) (d : Fin 128) :
    vals x (ix4 b t h d) = x (ix3 b (real t) (colV h d)) := by
  pointwise [vals]
  rfl

theorem gateIn_apply (x : FVec Ideal S16x4224x8192 .bf16) (b : Fin 16) (t : Fin 4224) (h : Fin 16) (d : Fin 128) :
    gateIn x (ix3 b t (colO h d)) = x (ix3 b t (colZ h d)) := by
  pointwise [gateIn]
  rfl

theorem weight_apply (x : FVec Ideal S4x64 .f32) : weightV x ix0 = weight fun i d => x (ix2 i d) := by
  pointwise [weightV]
  rfl

theorem scores_apply (q : FVec Ideal S16x4224x16x2x64 .f32) (k : FVec Ideal S16x4112x16x2x64 .f32) (b : Fin 16) (h : Fin 16) (j : Fin 2) (t : Fin 4224) (n : Fin 4112) :
    scores q k (ix5 b h j t n) = ∑ d : Fin 64, q (ix5 b t h j d) * k (ix5 b n h j d) := by
  pointwise [scores]

theorem tops_apply (s : FVec Ideal S16x16x2x4224x4112 .f32) (b : Fin 16) (h : Fin 16) (j : Fin 2) (t : Fin 4224) :
    tops s (ix4 b h j t) = rowTop fun n => s (ix5 b h j t n) :=
  (rowMax s _ _ _ b h j t).trans (congrArg (fun z => Finset.univ.fold max z fun n => s (ix5 b h j t n)) negInf)

theorem expd_apply (s : FVec Ideal S16x16x2x4224x4112 .f32) (top : FVec Ideal S16x16x2x4224 .f32) (b : Fin 16) (h : Fin 16) (j : Fin 2) (t : Fin 4224) (n : Fin 4112) :
    expd s top (ix5 b h j t n) = Ideal.exp (s (ix5 b h j t n) - max ⊥ (top (ix4 b h j t))) := by
  pointwise [expd]
  rw [negInf]

theorem probs_apply (s : FVec Ideal S16x16x2x4224x4112 .f32) (b : Fin 16) (h : Fin 16) (j : Fin 2) (t : Fin 4224) (n : Fin 4112) :
    probs s (ix5 b h j t n) = Ideal.div (s (ix5 b h j t n)) (∑ x, s (ix5 b h j t x)) := by
  pointwise [probs]

theorem diff_apply (l : FVec Ideal S_ .f32) (s : FVec Ideal S16x16x2x4224x4112 .f32) (b : Fin 16) (h : Fin 16) (t : Fin 4224) (n : Fin 4112) :
    diff l s (ix4 b h t n) = s (ix5 b h 0 t n) - l ix0 * s (ix5 b h 1 t n) := by
  pointwise [diff]

theorem mix_apply (v : FVec Ideal S16x4112x16x128 .f32) (p : FVec Ideal S16x16x4224x4112 .f32) (b : Fin 16) (t : Fin 4224) (h : Fin 16) (d : Fin 128) :
    mix v p (ix4 b t h d) = ∑ x, v (ix4 b x h d) * p (ix4 b h t x) := by
  pointwise [mix]

theorem normed_apply (o : FVec Ideal S16x4224x16x128 .f32) (g : FVec Ideal S128 .f32) (b : Fin 16) (t : Fin 4224) (h : Fin 16) (d : Fin 128) :
    normed o g (ix4 b t h d) = o (ix4 b t h d)
      * Ideal.rsqrt (Ideal.div (∑ i, o (ix4 b t h i) * o (ix4 b t h i)) (Ideal.ofBits .f32 0x43000000#32) + Ideal.ofBits .f32 0x3727C5AC#32) * g (ix1 d)
      * Ideal.ofBits .f32 0x3F24FD5C#32 := by
  pointwise [normed]

theorem gated_apply (o : FVec Ideal S16x4224x16x128 .f32) (z : FVec Ideal S16x4224x2048 .f32) (b : Fin 16) (t : Fin 4224) (h : Fin 16) (d : Fin 128) :
    gated o z (ix3 b t (colO h d)) = o (ix4 b t h d) * (z (ix3 b t (colO h d)) * Ideal.logistic (z (ix3 b t (colO h d)))) := by
  have e : ∀ e : Fin 2048, gated o z (ix3 b t e) = o (ix4 b t (headOf e) (laneOf e)) * (z (ix3 b t e) * Ideal.logistic (z (ix3 b t e))) := fun e => by
    pointwise [gated]
    rfl
  rw [e, headOf_colO, laneOf_colO]

/-- The reference's result at an index. -/
theorem res_apply (l : FVec Ideal S4x64 .f32) (g : FVec Ideal S128 .f32) (x : FVec Ideal S16x4224x4096 .bf16) (u : FVec Ideal S16x4224x8192 .bf16)
    (b : Fin 16) (t : Fin 4224) (h : Fin 16) (d : Fin 128) :
    res l g x u (ix3 b t (colO h d)) = refEntry (fun a d => l (ix2 a d)) (fun d => g (ix1 d)) (fun t e => x (ix3 b t e)) (fun t e => u (ix3 b t e)) t h d := by
  have s0 : ∀ n, scores (queries x) (keys x) (ix5 b h 0 t n)
      = score0 (fun e => x (ix3 b t (colQ h e))) (fun e => x (ix3 b (real n) (colK h e))) := fun n => by
    rw [scores_apply]
    refine Finset.sum_congr rfl fun d _ => ?_
    rw [queries_apply, keys_apply]
    refine congrArg₂ (· * ·) (congrArg (fun e => x (ix3 b t e)) (Fin.ext ?_)) (congrArg (fun e => x (ix3 b (real n) e)) (Fin.ext ?_))
    · show h.val * 128 + 0 * 64 + d.val = h.val * 128 + d.val; omega
    · show 2048 + (h.val * 128 + 0 * 64 + d.val) = 2048 + (h.val * 128 + d.val); omega
  have s1 : ∀ n, scores (queries x) (keys x) (ix5 b h 1 t n)
      = score1 (fun e => x (ix3 b t (colQ h e))) (fun e => x (ix3 b (real n) (colK h e))) := fun n => by
    rw [scores_apply]
    refine Finset.sum_congr rfl fun d _ => ?_
    rw [queries_apply, keys_apply]
    refine congrArg₂ (· * ·) (congrArg (fun e => x (ix3 b t e)) (Fin.ext ?_)) (congrArg (fun e => x (ix3 b (real n) e)) (Fin.ext ?_))
    · show h.val * 128 + 1 * 64 + d.val = h.val * 128 + (64 + d.val); omega
    · show 2048 + (h.val * 128 + 1 * 64 + d.val) = 2048 + (h.val * 128 + (64 + d.val)); omega
  have p0 : ∀ n, probs (expd (scores (queries x) (keys x)) (tops (scores (queries x) (keys x)))) (ix5 b h 0 t n)
      = prob (fun n => score0 (fun e => x (ix3 b t (colQ h e))) (fun e => x (ix3 b (real n) (colK h e)))) n := fun n => by
    rw [probs_apply]
    simp only [expd_apply, tops_apply, s0]
    rfl
  have p1 : ∀ n, probs (expd (scores (queries x) (keys x)) (tops (scores (queries x) (keys x)))) (ix5 b h 1 t n)
      = prob (fun n => score1 (fun e => x (ix3 b t (colQ h e))) (fun e => x (ix3 b (real n) (colK h e)))) n := fun n => by
    rw [probs_apply]
    simp only [expd_apply, tops_apply, s1]
    rfl
  have o : ∀ e, mix (vals u) (diff (weightV l) (probs (expd (scores (queries x) (keys x)) (tops (scores (queries x) (keys x)))))) (ix4 b t h e)
      = refHead (weight fun a d => l (ix2 a d)) (fun e => x (ix3 b t (colQ h e))) (fun j e => x (ix3 b (real j) (colK h e))) (fun j e => u (ix3 b (real j) (colV h e))) e := fun e => by
    rw [mix_apply]
    refine Finset.sum_congr rfl fun n _ => ?_
    rw [vals_apply, diff_apply, p0, p1, weight_apply]
  unfold res
  rw [gated_apply, normed_apply, gateIn_apply]
  simp only [o]
  rfl

end Cert.AttentionReferenceIdeal.RefValue

end
-- ==== Proof.Attention.lean ====
/- The attention: what the precondition says, and the agreement of kernel and reference. -/
module

public import proofs.«01_k».proof.Defs
public import proofs.«01_k».proof.Proof.Gen.Attention.Frame
public import proofs.«01_k».proof.Proof.Gen.Pre_attention_finite
public import proofs.«01_k».proof.Proof.AttnFinal
public import proofs.«01_k».proof.Proof.AttnReference
public import Idealize.ShloMosaic.Lib.Quiescent
public import Idealize.ShloMosaic.Lib.ReduceAll

@[expose] public section

set_option maxRecDepth 16384

noncomputable section

open Idealize.ShloMosaic Idealize.ShloMosaic.TcCoe Idealize.SL.Sem Idealize.ShloMosaic.Pointwise

namespace Cert.Pre_attention_finite

open Cert.Softmax

attribute [local instance] Cert.Pre_attention_finite.Gen.facts

instance : Subsingleton S_.Idx := ⟨fun a b => funext fun i => i.elim0⟩

/-- An extended real whose absolute value compares below +∞ is a real number. -/
theorem fin_of_lt {s : Shape} (x : FVec Ideal s .f32) (b : S_.BroadcastsInDim s (![] : Fin 0 → Fin s.rank)) (i : s.Idx)
    (h : cmpf (F := Ideal) .olt (Host.absf x) (broadcastInDim s ![] b (constant S_ .f32 0x7F800000#32)) i = 1#1) : Fin' (x i) := by
  have h' : BitVec.ofBool (decide ((max (x i) (-(x i)) : EReal) < Ideal.ofBits .f32 0x7F800000#32)) = 1#1 := h
  rw [posInf] at h'
  have lt : (max (x i) (-(x i)) : EReal) < ⊤ := by
    by_contra hn
    rw [decide_eq_false hn] at h'
    exact absurd h' (by decide)
  obtain ⟨l1, l2⟩ := max_lt_iff.mp lt
  generalize x i = y at l1 l2
  induction y using EReal.rec with
  | bot => exact absurd EReal.neg_bot l2.ne
  | top => exact absurd rfl l1.ne
  | coe r => exact ⟨r, rfl⟩

/-- The whole array is real where the reduction of the comparisons is 1. -/
theorem all_fin {s : Shape} {axes : List (Fin s.rank)} (x : FVec Ideal s .f32) (b : S_.BroadcastsInDim s (![] : Fin 0 → Fin s.rank))
    (c : IVec S_ 1) (h : s.ReducesTo axes S_) (hu : 0 < S_.numel)
    (e : Host.reduce IntOp.andi (cmpf (F := Ideal) .olt (Host.absf x) (broadcastInDim s ![] b (constant S_ .f32 0x7F800000#32))) c h hu ix0 = 1#1)
    (i : s.Idx) : Fin' (x i) :=
  fin_of_lt x b i (Host.reduce_andi_all _ c h hu ix0 e i)

theorem and_one {a b : BitVec 1} (h : IntOp.andi a b = 1#1) : a = 1#1 ∧ b = 1#1 := by revert a b; decide

/-- The precondition: the four vectors, the queries, the real rows' keys and values are real numbers. -/
theorem facts_of (l : FVec Ideal S4x64 .f32) (g : FVec Ideal S128 .f32) (x : FVec Ideal S16x4224x4096 .bf16) (u : FVec Ideal S16x4224x8192 .bf16)
    (h : fn (F := Ideal) l g x u = fun _ => 1#1) :
    (∀ i d, Fin' (l (ix2 i d))) ∧ (∀ b t h d, Fin' (x (ix3 b t (colQ h d))))
      ∧ (∀ b j h d, Fin' (x (ix3 b (real j) (colK h d)))) ∧ (∀ b j h d, Fin' (u (ix3 b (real j) (colV h d)))) := by
  have e := congrFun h ix0
  obtain ⟨e, h4⟩ := and_one (show IntOp.andi _ _ = 1#1 from e)
  obtain ⟨e, h3⟩ := and_one (show IntOp.andi _ _ = 1#1 from e)
  obtain ⟨h1, h2⟩ := and_one (show IntOp.andi _ _ = 1#1 from e)
  refine ⟨fun i d => all_fin l _ _ _ _ h1 (ix2 i d), fun b t h d => ?_, fun b j h d => ?_, fun b j h d => ?_⟩
  · have f := all_fin _ _ _ _ _ h2 (ix3 b t (colO h d))
    have e : (extf (F := Ideal) .f32 (extractStridedSlice S16x4224x2048 ![0, 0, 0] x Facts.slices_S16x4224x4096_S16x4224x2048_0_0_0) Facts.bitsLt_bf16_f32) (ix3 b t (colO h d)) = x (ix3 b t (colQ h d)) := by
      pointwise
      rfl
    rw [← e]; exact f
  · have f := all_fin _ _ _ _ _ h3 (ix3 b j (colO h d))
    have e : (extf (F := Ideal) .f32 (extractStridedSlice S16x4112x2048 ![0, 112, 2048] x Facts.slices_S16x4224x4096_S16x4112x2048_0_112_2048) Facts.bitsLt_bf16_f32) (ix3 b j (colO h d)) = x (ix3 b (real j) (colK h d)) := by
      pointwise
      rfl
    rw [← e]; exact f
  · have f := all_fin _ _ _ _ _ h4 (ix3 b j (colO h d))
    have e : (extf (F := Ideal) .f32 (extractStridedSlice S16x4112x2048 ![0, 112, 4096] u Facts.slices_S16x4224x8192_S16x4112x2048_0_112_4096) Facts.bitsLt_bf16_f32) (ix3 b j (colO h d)) = u (ix3 b (real j) (colV h d)) := by
      pointwise
      rfl
    rw [← e]; exact f

end Cert.Pre_attention_finite

namespace Cert.Proof

open Cert.Softmax

theorem frame_Attention : quiescent_Attention (hAttention := Cert.Attention.Gen.facts) := fun m ρ _ => Cert.Attention.Gen.frame m ρ

theorem frame_AttentionIdeal : quiescent_AttentionIdeal (hAttentionIdeal := Cert.AttentionIdeal.Gen.facts) := fun m ρ _ => Cert.AttentionIdeal.Gen.frame m ρ

theorem frame_AttentionReference : quiescent_AttentionReferenceIdeal (hAttentionReferenceIdeal := Cert.AttentionReferenceIdeal.Gen.facts) := fun m ρ _ =>
  (θ_run Cert.AttentionReferenceIdeal.defs _ _).mono
    (fun r h => ⟨fun c => (h c).2, sem_eq_zero_of_no_sems (by decide) r.2⟩) (Cert.AttentionReferenceIdeal.Value.run (F := Ideal) m ρ)

theorem frame_AttentionIdeal_pre : quiescent_AttentionIdeal_pre_attention_finite (hAttentionIdeal := Cert.AttentionIdeal.Gen.facts)
    (hPre_attention_finite := Cert.Pre_attention_finite.Gen.facts) := fun m ρ _ => Cert.AttentionIdeal.Gen.frame m ρ

theorem frame_AttentionReference_pre : quiescent_AttentionReferenceIdeal_pre_attention_finite (hAttentionReferenceIdeal := Cert.AttentionReferenceIdeal.Gen.facts)
    (hPre_attention_finite := Cert.Pre_attention_finite.Gen.facts) := fun m ρ _ => frame_AttentionReference m ρ trivial

theorem preserves_Attention : preserves_Attention_AttentionIdeal :=
  IdealRules.named_const.statement Cert.AttentionIdeal.κ "mask" .f32 0xF149F2CA#32 ⊥ rfl

theorem algebraic_Attention : algebraic_AttentionIdeal_AttentionReferenceIdeal_pre_attention_finite
    (hAttentionIdeal := Cert.AttentionIdeal.Gen.facts) (hAttentionReferenceIdeal := Cert.AttentionReferenceIdeal.Gen.facts)
    (hPre_attention_finite := Cert.Pre_attention_finite.Gen.facts) := by
  intro m ρ m' ρ' hpre hagree
  refine ⟨fun c => Cert.AttentionIdeal.RefValue.G m c, (θ_run Cert.AttentionIdeal.defs _ _).mono
      (fun _ h c => ⟨(h c).1.trans (Cert.AttentionIdeal.RefValue.final m c), (h c).2⟩) (Cert.AttentionIdeal.Value.run_blocks (F := Ideal) m ρ),
    (θ_run Cert.AttentionReferenceIdeal.defs _ _).mono (fun _ h c => ⟨(h c).1.trans ?_, (h c).2⟩)
      (Cert.AttentionReferenceIdeal.Value.run (F := Ideal) m' ρ')⟩
  obtain ⟨e0, e1, e2, e3⟩ := hagree c
  obtain ⟨hl, hq, hk, hv⟩ := Cert.Pre_attention_finite.facts_of _ _ _ _ (hpre c)
  rw [Cert.AttentionReferenceIdeal.RefValue.res_eq, e0, e1, e2, e3]
  funext i
  obtain ⟨b, t, h, d, rfl⟩ : ∃ (b : Fin 16) (t : Fin 4224) (h : Fin 16) (d : Fin 128), i = ix3 b t (colO h d) :=
    ⟨i 0, i 1, headOf (i 2), laneOf (i 2), by
      funext a; match a with | ⟨0, _⟩ => rfl | ⟨1, _⟩ => rfl | ⟨2, _⟩ => exact (colO_headOf (i 2)).symm⟩
  refine (Cert.AttentionReferenceIdeal.RefValue.res_apply _ _ _ _ b t h d).trans ?_
  refine Eq.trans ?_ (Cert.AttentionIdeal.RefValue.G_apply m c b t h d).symm
  exact (entry_eq hl (hq b) (hk b) (hv b) t h d).symm

end Cert.Proof

end
-- ==== Proof.Dense.lean ====
/- The two dense layers as plain functions of one row: the root-mean-square norm, a row times a matrix, a bias. -/
module

public import Idealize.ShloMosaic.PureOps.Ideal
public import Idealize.ShloMosaic.Lib.Pointwise
public import Idealize.ShloMosaic.Lib.ValueLayout

@[expose] public section

noncomputable section

namespace Cert.Dense

open Idealize.ShloMosaic Idealize.ShloMosaic.Pointwise

/-- A vector laid out as one row, at an index. -/
theorem lead_apply {α : Type} {n : Nat} (v : (⟨1, ![n]⟩ : Shape).Idx → α) (h : (⟨1, ![n]⟩ : Shape).ShapeCasts ⟨2, ![1, n]⟩)
    (u : Fin 1) (j : Fin n) : shapeCast ⟨2, ![1, n]⟩ v h (ix2 u j) = v (ix1 j) := by
  rw [ix2_eq_valueIdx, ix1_eq_valueIdx]
  exact ValueIdx.shapeCast_a_1a_apply v h u j

/-- The root-mean-square norm of a row `x` of `K` numbers, scaled by `g`: `n` is the row's length as a number. -/
def rms {K : Nat} (n eps : EReal) (x g : Fin K → EReal) (k : Fin K) : EReal :=
  x k * Ideal.rsqrt (Ideal.div (∑ j, x j * x j) n + eps) * g k

/-- A row times one column of a matrix, plus the bias there. -/
def dot {K : Nat} (x w : Fin K → EReal) (b : EReal) : EReal := ∑ k, x k * w k + b

/-- The row length 1024 as the programs write it. -/
def len1024 : EReal := Ideal.ofBits .f32 0x44800000#32

/-- The layer's epsilon 1e-6 as the programs write it. -/
def eps6 : EReal := Ideal.ofBits .f32 0x358637BD#32

/-- The input projection at one row and one column. -/
def inProj (x g w : Fin 1024 → EReal) (b : EReal) : EReal := dot (rms len1024 eps6 x g) w b

theorem inProj_congr {x x' g g' w w' : Fin 1024 → EReal} {b b' : EReal} (hx : ∀ k, x k = x' k) (hg : ∀ k, g k = g' k)
    (hw : ∀ k, w k = w' k) (hb : b = b') : inProj x g w b = inProj x' g' w' b' := by
  rw [funext hx, funext hg, funext hw, hb]

/-- The output projection at one row and one column: the residual plus the norm of the projected row. -/
def outProj (a : Fin 2048 → EReal) (w : Fin 2048 → Fin 1024 → EReal) (b g h : Fin 1024 → EReal) (n : Fin 1024) : EReal :=
  h n + rms len1024 eps6 (fun j => dot a (fun k => w k j) (b j)) g n

theorem outProj_congr {a a' : Fin 2048 → EReal} {w w' : Fin 2048 → Fin 1024 → EReal} {b b' g g' h h' : Fin 1024 → EReal}
    (ha : ∀ k, a k = a' k) (hw : ∀ k n, w k n = w' k n) (hb : ∀ n, b n = b' n) (hg : ∀ n, g n = g' n) (hh : ∀ n, h n = h' n)
    (n : Fin 1024) : outProj a w b g h n = outProj a' w' b' g' h' n := by
  rw [funext ha, funext fun k => funext (hw k), funext hb, funext hg, funext hh]

end Cert.Dense

end
-- ==== Proof.InProjBlock.lean ====
/- The input projection's kernel: its result array, index by index. -/
module

public import proofs.«01_k».proof.Proof.Gen.InProjIdeal.Value
public import proofs.«01_k».proof.Proof.Dense
public import Idealize.ShloMosaic.Lib.Pointwise
public import Idealize.ShloMosaic.Lib.StableHlo.Run

@[expose] public section

set_option maxRecDepth 16384

noncomputable section

namespace Cert.InProjIdeal.RefValue

open Cert.InProjIdeal Cert.InProjIdeal.Gen Cert.Dense Idealize.ShloMosaic Idealize.ShloMosaic.TcCoe Idealize.ShloMosaic.Pointwise Idealize.SL.Sem
open Idealize.ShloMosaic.Pipeline (Dat)

/-- One block's payload at an index. -/
theorem pay_apply (x : Vec Ideal S1x1056x1024 .f32) (g : Vec Ideal S1x1024 .f32) (w : Vec Ideal S1024x2048 .bf16) (b : Vec Ideal S1x2048 .f32)
    (z : Fin 1) (r : Fin 1056) (n : Fin 2048) :
    k0_pay1 (F := Ideal) x g w b (ix3 z r n)
      = inProj (fun k => x (ix3 0 r k)) (fun k => g (ix2 0 k)) (fun k => w (ix2 k n)) (b (ix2 0 n)) := by
  pointwise [k0_pay1]
  rfl

variable (m : (ℓ : Loc nD τ sig) → Buf (Elt Ideal) ℓ)

theorem V_w (c : Dev nD) : V m c main_v0 = truncf (F := Ideal) .bf16 (m ((c : Thread nD τ).loc main_arg2)) bitsLt_bf16_f32 := by
  unfold V hostOps0
  after_results

theorem V_g (c : Dev nD) : V m c main_v1 = shapeCast S1x1024 (m ((c : Thread nD τ).loc main_arg1)) shapeCasts_S1024_S1x1024 := by
  unfold V hostOps0
  after_results
  rfl

theorem V_b (c : Dev nD) : V m c main_v2 = shapeCast S1x8192 (m ((c : Thread nD τ).loc main_arg3)) shapeCasts_S8192_S1x8192 := by
  unfold V hostOps0
  after_results
  rfl

theorem V_g_apply (c : Dev nD) (k : Fin 1024) :
    (V m c main_v1 : S1x1024.Idx → EReal) (ix2 0 k) = (m ((c : Thread nD τ).loc main_arg1) : S1024.Idx → EReal) (ix1 k) := by
  rw [V_g]
  pointwise

theorem V_b_apply (c : Dev nD) (n : Fin 8192) :
    (V m c main_v2 : S1x8192.Idx → EReal) (ix2 0 n) = (m ((c : Thread nD τ).loc main_arg3) : S8192.Idx → EReal) (ix1 n) := by
  rw [V_b]
  exact Cert.Dense.lead_apply _ _ _ _

/-- The result array: the projection of row `(i 0, i 1)` to column `i 2`. -/
def G (c : Dev nD) : Buf (Elt Ideal) ((c : Thread nD τ).loc main_v3) := fun i : S16x4224x8192.Idx =>
  inProj (fun k => (m ((c : Thread nD τ).loc main_arg0) : S16x4224x1024.Idx → EReal) (ix3 (i 0) (i 1) k))
    (fun k => (m ((c : Thread nD τ).loc main_arg1) : S1024.Idx → EReal) (ix1 k))
    (fun k => (m ((c : Thread nD τ).loc main_arg2) : S1024x8192.Idx → EReal) (ix2 k (i 2)))
    ((m ((c : Thread nD τ).loc main_arg3) : S8192.Idx → EReal) (ix1 (i 2)))

theorem hz3 : (![0, 0, 0] : Fin 3 → Nat) = fun _ => 0 := funext fun a => by fin_cases a <;> rfl
theorem hz2 : (![0, 0] : Fin 2 → Nat) = fun _ => 0 := funext fun a => by fin_cases a <;> rfl

/-- The windows' block positions at a grid point, in closed form. -/
theorem idx_all : ∀ t : Fin grid0.N,
    win0_0.index t 0 = t.val / 4 % 16 ∧ win0_0.index t 1 = t.val % 4 ∧ win0_0.index t 2 = 0
    ∧ win0_1.index t 0 = 0 ∧ win0_1.index t 1 = 0
    ∧ win0_2.index t 0 = 0 ∧ win0_2.index t 1 = t.val / 64
    ∧ win0_3.index t 0 = 0 ∧ win0_3.index t 1 = t.val / 64
    ∧ win0_4.index t 0 = t.val / 4 % 16 ∧ win0_4.index t 1 = t.val % 4 ∧ win0_4.index t 2 = t.val / 64 := by
  decide +kernel

section
variable (t : Fin grid0.N)
theorem tlt : t.val < 256 := lt_of_lt_of_eq t.isLt N_0
/-- The batch of a grid point. -/
def bt : Fin 16 := ⟨t.val / 4 % 16, Nat.mod_lt _ (by decide)⟩
/-- Row `r` of the point's block, in the whole array. -/
def row (r : Fin 1056) : Fin 4224 := ⟨t.val % 4 * 1056 + r.val, by have := r.isLt; omega⟩
/-- Column `n` of the point's block, in the whole array. -/
def col (n : Fin 2048) : Fin 8192 := ⟨t.val / 64 * 2048 + n.val, by have := n.isLt; have := tlt t; omega⟩
end

theorem emb4 (t : Fin cfg0.N) (z : Fin 1) (r : Fin 1056) (n : Fin 2048) :
    (win0_4.blk t).view.emb (ix3 z r n) = ix3 (bt t) (row t r) (col t n) := by
  obtain ⟨-, -, -, -, -, -, -, -, -, h0, h1, h2⟩ := idx_all t
  funext a
  match a with
  | ⟨0, _⟩ => exact Fin.ext (show win0_4.index t 0 * 1 + 1 * z.val = t.val / 4 % 16 by rw [h0]; omega)
  | ⟨1, _⟩ => exact Fin.ext (show win0_4.index t 1 * 1056 + 1 * r.val = t.val % 4 * 1056 + r.val by rw [h1]; omega)
  | ⟨2, _⟩ => exact Fin.ext (show win0_4.index t 2 * 2048 + 1 * n.val = t.val / 64 * 2048 + n.val by rw [h2]; omega)

theorem blk0 (c : Dev nD) (t : Fin cfg0.N) (r : Fin 1056) (k : Fin 1024) :
    (iblk m c 0 t : S1x1056x1024.Idx → EReal) (ix3 0 r k)
      = (m ((c : Thread nD τ).loc main_arg0) : S16x4224x1024.Idx → EReal) (ix3 (bt t) (row t r) k) := by
  show (V m c main_arg0 : S16x4224x1024.Idx → EReal) ((win0_0.blk t).view.emb (ix3 0 r k)) = _
  rw [V_main_arg0]
  obtain ⟨h0, h1, h2, -⟩ := idx_all t
  congr 1
  funext a
  match a with
  | ⟨0, _⟩ => exact Fin.ext (show win0_0.index t 0 * 1 + 1 * 0 = t.val / 4 % 16 by rw [h0]; omega)
  | ⟨1, _⟩ => exact Fin.ext (show win0_0.index t 1 * 1056 + 1 * r.val = t.val % 4 * 1056 + r.val by rw [h1]; omega)
  | ⟨2, _⟩ => exact Fin.ext (show win0_0.index t 2 * 1024 + 1 * k.val = k.val by rw [h2]; omega)

theorem blk1 (c : Dev nD) (t : Fin cfg0.N) (k : Fin 1024) :
    (iblk m c 1 t : S1x1024.Idx → EReal) (ix2 0 k) = (m ((c : Thread nD τ).loc main_arg1) : S1024.Idx → EReal) (ix1 k) := by
  have e : (win0_1.blk t).view.emb (ix2 0 k) = ix2 0 k := by
    obtain ⟨-, -, -, h0, h1, -⟩ := idx_all t
    funext a
    match a with
    | ⟨0, _⟩ => exact Fin.ext (show win0_1.index t 0 * 1 + 1 * 0 = 0 by rw [h0])
    | ⟨1, _⟩ => exact Fin.ext (show win0_1.index t 1 * 1024 + 1 * k.val = k.val by rw [h1]; omega)
  show (V m c main_v1 : S1x1024.Idx → EReal) ((win0_1.blk t).view.emb (ix2 0 k)) = _
  rw [e]
  exact V_g_apply m c k

theorem blk2 (c : Dev nD) (t : Fin cfg0.N) (k : Fin 1024) (n : Fin 2048) :
    (iblk m c 2 t : S1024x2048.Idx → EReal) (ix2 k n)
      = (m ((c : Thread nD τ).loc main_arg2) : S1024x8192.Idx → EReal) (ix2 k (col t n)) := by
  have e : (win0_2.blk t).view.emb (ix2 k n) = ix2 k (col t n) := by
    obtain ⟨-, -, -, -, -, h0, h1, -⟩ := idx_all t
    funext a
    match a with
    | ⟨0, _⟩ => exact Fin.ext (show win0_2.index t 0 * 1024 + 1 * k.val = k.val by rw [h0]; omega)
    | ⟨1, _⟩ => exact Fin.ext (show win0_2.index t 1 * 2048 + 1 * n.val = t.val / 64 * 2048 + n.val by rw [h1]; omega)
  show (V m c main_v0 : S1024x8192.Idx → EReal) ((win0_2.blk t).view.emb (ix2 k n)) = _
  rw [e, V_w]
  rfl

theorem blk3 (c : Dev nD) (t : Fin cfg0.N) (n : Fin 2048) :
    (iblk m c 3 t : S1x2048.Idx → EReal) (ix2 0 n)
      = (m ((c : Thread nD τ).loc main_arg3) : S8192.Idx → EReal) (ix1 (col t n)) := by
  have e : (win0_3.blk t).view.emb (ix2 0 n) = ix2 0 (col t n) := by
    obtain ⟨-, -, -, -, -, -, -, h0, h1, -⟩ := idx_all t
    funext a
    match a with
    | ⟨0, _⟩ => exact Fin.ext (show win0_3.index t 0 * 1 + 1 * 0 = 0 by rw [h0])
    | ⟨1, _⟩ => exact Fin.ext (show win0_3.index t 1 * 2048 + 1 * n.val = t.val / 64 * 2048 + n.val by rw [h1]; omega)
  show (V m c main_v2 : S1x8192.Idx → EReal) ((win0_3.blk t).view.emb (ix2 0 n)) = _
  rw [e]
  exact V_b_apply m c (col t n)

/-- What a grid point writes back is its block of the result. -/
theorem flushed_eq (c : Dev nD) (t : Fin cfg0.N) :
    (dats m 0 c).flushed 4 t = (win0_4.blk t).view.read (Elt Ideal) (G m c) := by
  rw [Value.flushed4]
  unfold out0_4
  rw [View.canon_unit_zero hz3, View.ld_unit_zero hz3, View.ld_unit_zero hz2, View.ld_unit_zero hz2, View.ld_unit_zero hz2]
  funext y
  obtain ⟨z, r, n, rfl⟩ : ∃ (z : Fin 1) (r : Fin 1056) (n : Fin 2048), y = ix3 z r n := ⟨y 0, y 1, y 2, by funext a; fin_cases a <;> rfl⟩
  show k0_pay1 (F := Ideal) (iblk m c 0 t) (iblk m c 1 t) (iblk m c 2 t) (iblk m c 3 t) (ix3 z r n) = G m c ((win0_4.blk t).view.emb (ix3 z r n))
  rw [pay_apply, emb4]
  exact inProj_congr (blk0 m c t r) (blk1 m c t) (fun k => blk2 m c t k n) (blk3 m c t n)

/-- The blocks cover the result array. -/
theorem cover (i : S16x4224x8192.Idx) :
    ∃ t : Fin cfg0.N, (cfg0.win 4).flush t = true ∧ i ∈ ((cfg0.win 4).blk t).view.set := by
  have h0 : (i 0 : Nat) < 16 := (i 0).isLt
  have h1 : (i 1 : Nat) < 4224 := (i 1).isLt
  have h2 : (i 2 : Nat) < 8192 := (i 2).isLt
  refine ⟨⟨(i 2).val / 2048 * 64 + (i 0).val * 4 + (i 1).val / 1056, by show _ < grid0.N; rw [N_0]; omega⟩, flush0_4 _, ?_⟩
  refine Finset.mem_map.mpr ⟨ix3 0 ⟨(i 1).val % 1056, Nat.mod_lt _ (by decide)⟩ ⟨(i 2).val % 2048, Nat.mod_lt _ (by decide)⟩, Finset.mem_univ _, ?_⟩
  refine (emb4 _ _ _ _).trans ?_
  funext a
  match a with
  | ⟨0, _⟩ => exact Fin.ext (show ((i 2).val / 2048 * 64 + (i 0).val * 4 + (i 1).val / 1056) / 4 % 16 = (i 0).val by omega)
  | ⟨1, _⟩ => exact Fin.ext (show ((i 2).val / 2048 * 64 + (i 0).val * 4 + (i 1).val / 1056) % 4 * 1056 + (i 1).val % 1056 = (i 1).val by omega)
  | ⟨2, _⟩ => exact Fin.ext (show ((i 2).val / 2048 * 64 + (i 0).val * 4 + (i 1).val / 1056) / 64 * 2048 + (i 2).val % 2048 = (i 2).val by omega)

theorem final (c : Dev nD) : (dats m 0 c).arrAt 4 cfg0.N = G m c :=
  (dats m 0 c).arrAt_eq_of_cover 4 (G m c) (fun t _ => flushed_eq m c t) cover

end Cert.InProjIdeal.RefValue

end
-- ==== Proof.InProj.lean ====
/- The input projection: the reference's result index by index, and the agreement of kernel and reference. -/
module

public import proofs.«01_k».proof.Defs
public import proofs.«01_k».proof.Proof.Gen.InProj.Frame
public import proofs.«01_k».proof.Proof.InProjBlock
public import proofs.«01_k».proof.Proof.Gen.InProjReferenceIdeal.Run
public import Idealize.ShloMosaic.Lib.Quiescent

@[expose] public section

set_option maxRecDepth 16384

noncomputable section

open Idealize.ShloMosaic Idealize.ShloMosaic.TcCoe Idealize.SL.Sem Idealize.ShloMosaic.Pointwise

namespace Cert.InProjReferenceIdeal.RefValue

open Cert.InProjReferenceIdeal Cert.InProjReferenceIdeal.Gen Cert.Dense

/-- The reference's result as a function of its arguments. -/
def res (x : FVec Ideal S16x4224x1024 .f32) (g : FVec Ideal S1024 .f32) (w : FVec Ideal S1024x8192 .f32) (b : FVec Ideal S8192 .f32) :
    FVec Ideal S16x4224x8192 .bf16 :=
  truncf .bf16 (addf (Host.dotGeneral dot_S16x4224x1024_S1024x8192_S16x4224x8192_2_0_01_1_n_n none (mulf (mulf x (broadcastInDim S16x4224x1024 ![0, 1, 2] bcast_S16x4224x1_S16x4224x1024_0_1_2 (Host.rsqrt (addf (Host.divf (broadcastInDim S16x4224x1 ![0, 1] bcast_S16x4224_S16x4224x1_0_1 (Host.reduceAdd (mulf x x) (constant S_ .f32 0x00000000#32) reducesTo_S16x4224x1024_S16x4224_d2 h_S_)) (broadcastInDim S16x4224x1 ![] bcast_S_S16x4224x1 (constant S_ .f32 0x44800000#32))) (broadcastInDim S16x4224x1 ![] bcast_S_S16x4224x1 (constant S_ .f32 0x358637BD#32)))))) (broadcastInDim S16x4224x1024 ![0, 1, 2] bcast_S1x1x1024_S16x4224x1024_0_1_2 (broadcastInDim S1x1x1024 ![2] bcast_S1024_S1x1x1024_2 g))) w) (broadcastInDim S16x4224x8192 ![0, 1, 2] bcast_S1x1x8192_S16x4224x8192_0_1_2 (broadcastInDim S1x1x8192 ![2] bcast_S8192_S1x1x8192_2 b))) bitsLt_bf16_f32

/-- It is the projection of its row, at each index. -/
theorem res_apply (x : FVec Ideal S16x4224x1024 .f32) (g : FVec Ideal S1024 .f32) (w : FVec Ideal S1024x8192 .f32) (b : FVec Ideal S8192 .f32)
    (i0 : Fin 16) (i1 : Fin 4224) (i2 : Fin 8192) :
    res x g w b (ix3 i0 i1 i2)
      = inProj (fun k => x (ix3 i0 i1 k)) (fun k => g (ix1 k)) (fun k => w (ix2 k i2)) (b (ix1 i2)) := by
  pointwise [res]
  rfl

end Cert.InProjReferenceIdeal.RefValue

namespace Cert.Proof

open Cert.Dense

theorem frame_InProj : quiescent_InProj (hInProj := Cert.InProj.Gen.facts) := fun m ρ _ => Cert.InProj.Gen.frame m ρ

theorem frame_InProjIdeal : quiescent_InProjIdeal (hInProjIdeal := Cert.InProjIdeal.Gen.facts) := fun m ρ _ => Cert.InProjIdeal.Gen.frame m ρ

theorem frame_InProjReference : quiescent_InProjReferenceIdeal (hInProjReferenceIdeal := Cert.InProjReferenceIdeal.Gen.facts) := fun m ρ _ =>
  (θ_run Cert.InProjReferenceIdeal.defs _ _).mono
    (fun r h => ⟨fun c => (h c).2, sem_eq_zero_of_no_sems (by decide) r.2⟩) (Cert.InProjReferenceIdeal.Value.run (F := Ideal) m ρ)

theorem algebraic_InProj : algebraic_InProjIdeal_InProjReferenceIdeal
    (hInProjIdeal := Cert.InProjIdeal.Gen.facts) (hInProjReferenceIdeal := Cert.InProjReferenceIdeal.Gen.facts) := by
  intro m ρ m' ρ' _ hagree
  refine ⟨fun c => Cert.InProjIdeal.RefValue.G m c, (θ_run Cert.InProjIdeal.defs _ _).mono
      (fun _ h c => ⟨(h c).1.trans (Cert.InProjIdeal.RefValue.final m c), (h c).2⟩) (Cert.InProjIdeal.Value.run_blocks (F := Ideal) m ρ),
    (θ_run Cert.InProjReferenceIdeal.defs _ _).mono (fun _ h c => ⟨(h c).1.trans ?_, (h c).2⟩)
      (Cert.InProjReferenceIdeal.Value.run (F := Ideal) m' ρ')⟩
  obtain ⟨e0, e1, e2, e3⟩ := hagree c
  refine (show _ = Cert.InProjReferenceIdeal.RefValue.res _ _ _ _ from rfl).trans ?_
  rw [e0, e1, e2, e3]
  funext i
  obtain ⟨i0, i1, i2, rfl⟩ : ∃ (i0 : Fin 16) (i1 : Fin 4224) (i2 : Fin 8192), i = ix3 i0 i1 i2 :=
    ⟨i 0, i 1, i 2, by funext a; match a with | ⟨0, _⟩ => rfl | ⟨1, _⟩ => rfl | ⟨2, _⟩ => rfl⟩
  exact Cert.InProjReferenceIdeal.RefValue.res_apply _ _ _ _ i0 i1 i2

end Cert.Proof

end
-- ==== Proof.InProjConformerBlock.lean ====
/- The conformer layer's input projection's kernel: its result array, index by index. -/
module

public import proofs.«01_k».proof.Proof.Gen.InProjConformerIdeal.Value
public import proofs.«01_k».proof.Proof.Dense
public import Idealize.ShloMosaic.Lib.Pointwise
public import Idealize.ShloMosaic.Lib.StableHlo.Run

@[expose] public section

set_option maxRecDepth 16384

noncomputable section

namespace Cert.InProjConformerIdeal.RefValue

open Cert.InProjConformerIdeal Cert.InProjConformerIdeal.Gen Cert.Dense Idealize.ShloMosaic Idealize.ShloMosaic.TcCoe Idealize.ShloMosaic.Pointwise Idealize.SL.Sem
open Idealize.ShloMosaic.Pipeline (Dat)

/-- One block's payload at an index. -/
theorem pay_apply (x : Vec Ideal S1x1056x1024 .f32) (g : Vec Ideal S1x1024 .f32) (w : Vec Ideal S1024x2048 .bf16) (b : Vec Ideal S1x2048 .f32)
    (z : Fin 1) (r : Fin 1056) (n : Fin 2048) :
    k0_pay1 (F := Ideal) x g w b (ix3 z r n)
      = inProj (fun k => x (ix3 0 r k)) (fun k => g (ix2 0 k)) (fun k => w (ix2 k n)) (b (ix2 0 n)) := by
  pointwise [k0_pay1]
  rfl

variable (m : (ℓ : Loc nD τ sig) → Buf (Elt Ideal) ℓ)

theorem V_w (c : Dev nD) : V m c main_v0 = truncf (F := Ideal) .bf16 (m ((c : Thread nD τ).loc main_arg2)) bitsLt_bf16_f32 := by
  unfold V hostOps0
  after_results

theorem V_g (c : Dev nD) : V m c main_v1 = shapeCast S1x1024 (m ((c : Thread nD τ).loc main_arg1)) shapeCasts_S1024_S1x1024 := by
  unfold V hostOps0
  after_results
  rfl

theorem V_b (c : Dev nD) : V m c main_v2 = shapeCast S1x6144 (m ((c : Thread nD τ).loc main_arg3)) shapeCasts_S6144_S1x6144 := by
  unfold V hostOps0
  after_results
  rfl

theorem V_g_apply (c : Dev nD) (k : Fin 1024) :
    (V m c main_v1 : S1x1024.Idx → EReal) (ix2 0 k) = (m ((c : Thread nD τ).loc main_arg1) : S1024.Idx → EReal) (ix1 k) := by
  rw [V_g]
  pointwise

theorem V_b_apply (c : Dev nD) (n : Fin 6144) :
    (V m c main_v2 : S1x6144.Idx → EReal) (ix2 0 n) = (m ((c : Thread nD τ).loc main_arg3) : S6144.Idx → EReal) (ix1 n) := by
  rw [V_b]
  exact Cert.Dense.lead_apply _ _ _ _

/-- The result array: the projection of row `(i 0, i 1)` to column `i 2`. -/
def G (c : Dev nD) : Buf (Elt Ideal) ((c : Thread nD τ).loc main_v3) := fun i : S16x4224x6144.Idx =>
  inProj (fun k => (m ((c : Thread nD τ).loc main_arg0) : S16x4224x1024.Idx → EReal) (ix3 (i 0) (i 1) k))
    (fun k => (m ((c : Thread nD τ).loc main_arg1) : S1024.Idx → EReal) (ix1 k))
    (fun k => (m ((c : Thread nD τ).loc main_arg2) : S1024x6144.Idx → EReal) (ix2 k (i 2)))
    ((m ((c : Thread nD τ).loc main_arg3) : S6144.Idx → EReal) (ix1 (i 2)))

theorem hz3 : (![0, 0, 0] : Fin 3 → Nat) = fun _ => 0 := funext fun a => by fin_cases a <;> rfl
theorem hz2 : (![0, 0] : Fin 2 → Nat) = fun _ => 0 := funext fun a => by fin_cases a <;> rfl

/-- The windows' block positions at a grid point, in closed form. -/
theorem idx_all : ∀ t : Fin grid0.N,
    win0_0.index t 0 = t.val / 4 % 16 ∧ win0_0.index t 1 = t.val % 4 ∧ win0_0.index t 2 = 0
    ∧ win0_1.index t 0 = 0 ∧ win0_1.index t 1 = 0
    ∧ win0_2.index t 0 = 0 ∧ win0_2.index t 1 = t.val / 64
    ∧ win0_3.index t 0 = 0 ∧ win0_3.index t 1 = t.val / 64
    ∧ win0_4.index t 0 = t.val / 4 % 16 ∧ win0_4.index t 1 = t.val % 4 ∧ win0_4.index t 2 = t.val / 64 := by
  decide +kernel

section
variable (t : Fin grid0.N)
theorem tlt : t.val < 192 := lt_of_lt_of_eq t.isLt N_0
/-- The batch of a grid point. -/
def bt : Fin 16 := ⟨t.val / 4 % 16, Nat.mod_lt _ (by decide)⟩
/-- Row `r` of the point's block, in the whole array. -/
def row (r : Fin 1056) : Fin 4224 := ⟨t.val % 4 * 1056 + r.val, by have := r.isLt; omega⟩
/-- Column `n` of the point's block, in the whole array. -/
def col (n : Fin 2048) : Fin 6144 := ⟨t.val / 64 * 2048 + n.val, by have := n.isLt; have := tlt t; omega⟩
end

theorem emb4 (t : Fin cfg0.N) (z : Fin 1) (r : Fin 1056) (n : Fin 2048) :
    (win0_4.blk t).view.emb (ix3 z r n) = ix3 (bt t) (row t r) (col t n) := by
  obtain ⟨-, -, -, -, -, -, -, -, -, h0, h1, h2⟩ := idx_all t
  funext a
  match a with
  | ⟨0, _⟩ => exact Fin.ext (show win0_4.index t 0 * 1 + 1 * z.val = t.val / 4 % 16 by rw [h0]; omega)
  | ⟨1, _⟩ => exact Fin.ext (show win0_4.index t 1 * 1056 + 1 * r.val = t.val % 4 * 1056 + r.val by rw [h1]; omega)
  | ⟨2, _⟩ => exact Fin.ext (show win0_4.index t 2 * 2048 + 1 * n.val = t.val / 64 * 2048 + n.val by rw [h2]; omega)

theorem blk0 (c : Dev nD) (t : Fin cfg0.N) (r : Fin 1056) (k : Fin 1024) :
    (iblk m c 0 t : S1x1056x1024.Idx → EReal) (ix3 0 r k)
      = (m ((c : Thread nD τ).loc main_arg0) : S16x4224x1024.Idx → EReal) (ix3 (bt t) (row t r) k) := by
  show (V m c main_arg0 : S16x4224x1024.Idx → EReal) ((win0_0.blk t).view.emb (ix3 0 r k)) = _
  rw [V_main_arg0]
  obtain ⟨h0, h1, h2, -⟩ := idx_all t
  congr 1
  funext a
  match a with
  | ⟨0, _⟩ => exact Fin.ext (show win0_0.index t 0 * 1 + 1 * 0 = t.val / 4 % 16 by rw [h0]; omega)
  | ⟨1, _⟩ => exact Fin.ext (show win0_0.index t 1 * 1056 + 1 * r.val = t.val % 4 * 1056 + r.val by rw [h1]; omega)
  | ⟨2, _⟩ => exact Fin.ext (show win0_0.index t 2 * 1024 + 1 * k.val = k.val by rw [h2]; omega)

theorem blk1 (c : Dev nD) (t : Fin cfg0.N) (k : Fin 1024) :
    (iblk m c 1 t : S1x1024.Idx → EReal) (ix2 0 k) = (m ((c : Thread nD τ).loc main_arg1) : S1024.Idx → EReal) (ix1 k) := by
  have e : (win0_1.blk t).view.emb (ix2 0 k) = ix2 0 k := by
    obtain ⟨-, -, -, h0, h1, -⟩ := idx_all t
    funext a
    match a with
    | ⟨0, _⟩ => exact Fin.ext (show win0_1.index t 0 * 1 + 1 * 0 = 0 by rw [h0])
    | ⟨1, _⟩ => exact Fin.ext (show win0_1.index t 1 * 1024 + 1 * k.val = k.val by rw [h1]; omega)
  show (V m c main_v1 : S1x1024.Idx → EReal) ((win0_1.blk t).view.emb (ix2 0 k)) = _
  rw [e]
  exact V_g_apply m c k

theorem blk2 (c : Dev nD) (t : Fin cfg0.N) (k : Fin 1024) (n : Fin 2048) :
    (iblk m c 2 t : S1024x2048.Idx → EReal) (ix2 k n)
      = (m ((c : Thread nD τ).loc main_arg2) : S1024x6144.Idx → EReal) (ix2 k (col t n)) := by
  have e : (win0_2.blk t).view.emb (ix2 k n) = ix2 k (col t n) := by
    obtain ⟨-, -, -, -, -, h0, h1, -⟩ := idx_all t
    funext a
    match a with
    | ⟨0, _⟩ => exact Fin.ext (show win0_2.index t 0 * 1024 + 1 * k.val = k.val by rw [h0]; omega)
    | ⟨1, _⟩ => exact Fin.ext (show win0_2.index t 1 * 2048 + 1 * n.val = t.val / 64 * 2048 + n.val by rw [h1]; omega)
  show (V m c main_v0 : S1024x6144.Idx → EReal) ((win0_2.blk t).view.emb (ix2 k n)) = _
  rw [e, V_w]
  rfl

theorem blk3 (c : Dev nD) (t : Fin cfg0.N) (n : Fin 2048) :
    (iblk m c 3 t : S1x2048.Idx → EReal) (ix2 0 n)
      = (m ((c : Thread nD τ).loc main_arg3) : S6144.Idx → EReal) (ix1 (col t n)) := by
  have e : (win0_3.blk t).view.emb (ix2 0 n) = ix2 0 (col t n) := by
    obtain ⟨-, -, -, -, -, -, -, h0, h1, -⟩ := idx_all t
    funext a
    match a with
    | ⟨0, _⟩ => exact Fin.ext (show win0_3.index t 0 * 1 + 1 * 0 = 0 by rw [h0])
    | ⟨1, _⟩ => exact Fin.ext (show win0_3.index t 1 * 2048 + 1 * n.val = t.val / 64 * 2048 + n.val by rw [h1]; omega)
  show (V m c main_v2 : S1x6144.Idx → EReal) ((win0_3.blk t).view.emb (ix2 0 n)) = _
  rw [e]
  exact V_b_apply m c (col t n)

/-- What a grid point writes back is its block of the result. -/
theorem flushed_eq (c : Dev nD) (t : Fin cfg0.N) :
    (dats m 0 c).flushed 4 t = (win0_4.blk t).view.read (Elt Ideal) (G m c) := by
  rw [Value.flushed4]
  unfold out0_4
  rw [View.canon_unit_zero hz3, View.ld_unit_zero hz3, View.ld_unit_zero hz2, View.ld_unit_zero hz2, View.ld_unit_zero hz2]
  funext y
  obtain ⟨z, r, n, rfl⟩ : ∃ (z : Fin 1) (r : Fin 1056) (n : Fin 2048), y = ix3 z r n := ⟨y 0, y 1, y 2, by funext a; fin_cases a <;> rfl⟩
  show k0_pay1 (F := Ideal) (iblk m c 0 t) (iblk m c 1 t) (iblk m c 2 t) (iblk m c 3 t) (ix3 z r n) = G m c ((win0_4.blk t).view.emb (ix3 z r n))
  rw [pay_apply, emb4]
  exact inProj_congr (blk0 m c t r) (blk1 m c t) (fun k => blk2 m c t k n) (blk3 m c t n)

/-- The blocks cover the result array. -/
theorem cover (i : S16x4224x6144.Idx) :
    ∃ t : Fin cfg0.N, (cfg0.win 4).flush t = true ∧ i ∈ ((cfg0.win 4).blk t).view.set := by
  have h0 : (i 0 : Nat) < 16 := (i 0).isLt
  have h1 : (i 1 : Nat) < 4224 := (i 1).isLt
  have h2 : (i 2 : Nat) < 6144 := (i 2).isLt
  refine ⟨⟨(i 2).val / 2048 * 64 + (i 0).val * 4 + (i 1).val / 1056, by show _ < grid0.N; rw [N_0]; omega⟩, flush0_4 _, ?_⟩
  refine Finset.mem_map.mpr ⟨ix3 0 ⟨(i 1).val % 1056, Nat.mod_lt _ (by decide)⟩ ⟨(i 2).val % 2048, Nat.mod_lt _ (by decide)⟩, Finset.mem_univ _, ?_⟩
  refine (emb4 _ _ _ _).trans ?_
  funext a
  match a with
  | ⟨0, _⟩ => exact Fin.ext (show ((i 2).val / 2048 * 64 + (i 0).val * 4 + (i 1).val / 1056) / 4 % 16 = (i 0).val by omega)
  | ⟨1, _⟩ => exact Fin.ext (show ((i 2).val / 2048 * 64 + (i 0).val * 4 + (i 1).val / 1056) % 4 * 1056 + (i 1).val % 1056 = (i 1).val by omega)
  | ⟨2, _⟩ => exact Fin.ext (show ((i 2).val / 2048 * 64 + (i 0).val * 4 + (i 1).val / 1056) / 64 * 2048 + (i 2).val % 2048 = (i 2).val by omega)

theorem final (c : Dev nD) : (dats m 0 c).arrAt 4 cfg0.N = G m c :=
  (dats m 0 c).arrAt_eq_of_cover 4 (G m c) (fun t _ => flushed_eq m c t) cover

end Cert.InProjConformerIdeal.RefValue

end
-- ==== Proof.InProjConformer.lean ====
/- The conformer layer's input projection: the reference's result index by index, and the agreement of kernel and reference. -/
module

public import proofs.«01_k».proof.Defs
public import proofs.«01_k».proof.Proof.Gen.InProjConformer.Frame
public import proofs.«01_k».proof.Proof.InProjConformerBlock
public import proofs.«01_k».proof.Proof.Gen.InProjConformerReferenceIdeal.Run
public import Idealize.ShloMosaic.Lib.Quiescent

@[expose] public section

set_option maxRecDepth 16384

noncomputable section

open Idealize.ShloMosaic Idealize.ShloMosaic.TcCoe Idealize.SL.Sem Idealize.ShloMosaic.Pointwise

namespace Cert.InProjConformerReferenceIdeal.RefValue

open Cert.InProjConformerReferenceIdeal Cert.InProjConformerReferenceIdeal.Gen Cert.Dense

/-- The reference's result as a function of its arguments. -/
def res (x : FVec Ideal S16x4224x1024 .f32) (g : FVec Ideal S1024 .f32) (w : FVec Ideal S1024x6144 .f32) (b : FVec Ideal S6144 .f32) :
    FVec Ideal S16x4224x6144 .bf16 :=
  truncf .bf16 (addf (Host.dotGeneral dot_S16x4224x1024_S1024x6144_S16x4224x6144_2_0_01_1_n_n none (mulf (mulf x (broadcastInDim S16x4224x1024 ![0, 1, 2] bcast_S16x4224x1_S16x4224x1024_0_1_2 (Host.rsqrt (addf (Host.divf (broadcastInDim S16x4224x1 ![0, 1] bcast_S16x4224_S16x4224x1_0_1 (Host.reduceAdd (mulf x x) (constant S_ .f32 0x00000000#32) reducesTo_S16x4224x1024_S16x4224_d2 h_S_)) (broadcastInDim S16x4224x1 ![] bcast_S_S16x4224x1 (constant S_ .f32 0x44800000#32))) (broadcastInDim S16x4224x1 ![] bcast_S_S16x4224x1 (constant S_ .f32 0x358637BD#32)))))) (broadcastInDim S16x4224x1024 ![0, 1, 2] bcast_S1x1x1024_S16x4224x1024_0_1_2 (broadcastInDim S1x1x1024 ![2] bcast_S1024_S1x1x1024_2 g))) w) (broadcastInDim S16x4224x6144 ![0, 1, 2] bcast_S1x1x6144_S16x4224x6144_0_1_2 (broadcastInDim S1x1x6144 ![2] bcast_S6144_S1x1x6144_2 b))) bitsLt_bf16_f32

/-- It is the projection of its row, at each index. -/
theorem res_apply (x : FVec Ideal S16x4224x1024 .f32) (g : FVec Ideal S1024 .f32) (w : FVec Ideal S1024x6144 .f32) (b : FVec Ideal S6144 .f32)
    (i0 : Fin 16) (i1 : Fin 4224) (i2 : Fin 6144) :
    res x g w b (ix3 i0 i1 i2)
      = inProj (fun k => x (ix3 i0 i1 k)) (fun k => g (ix1 k)) (fun k => w (ix2 k i2)) (b (ix1 i2)) := by
  pointwise [res]
  rfl

end Cert.InProjConformerReferenceIdeal.RefValue

namespace Cert.Proof

open Cert.Dense

theorem frame_InProjConformer : quiescent_InProjConformer (hInProjConformer := Cert.InProjConformer.Gen.facts) := fun m ρ _ => Cert.InProjConformer.Gen.frame m ρ

theorem frame_InProjConformerIdeal : quiescent_InProjConformerIdeal (hInProjConformerIdeal := Cert.InProjConformerIdeal.Gen.facts) := fun m ρ _ => Cert.InProjConformerIdeal.Gen.frame m ρ

theorem frame_InProjConformerReference : quiescent_InProjConformerReferenceIdeal (hInProjConformerReferenceIdeal := Cert.InProjConformerReferenceIdeal.Gen.facts) := fun m ρ _ =>
  (θ_run Cert.InProjConformerReferenceIdeal.defs _ _).mono
    (fun r h => ⟨fun c => (h c).2, sem_eq_zero_of_no_sems (by decide) r.2⟩) (Cert.InProjConformerReferenceIdeal.Value.run (F := Ideal) m ρ)

theorem algebraic_InProjConformer : algebraic_InProjConformerIdeal_InProjConformerReferenceIdeal
    (hInProjConformerIdeal := Cert.InProjConformerIdeal.Gen.facts) (hInProjConformerReferenceIdeal := Cert.InProjConformerReferenceIdeal.Gen.facts) := by
  intro m ρ m' ρ' _ hagree
  refine ⟨fun c => Cert.InProjConformerIdeal.RefValue.G m c, (θ_run Cert.InProjConformerIdeal.defs _ _).mono
      (fun _ h c => ⟨(h c).1.trans (Cert.InProjConformerIdeal.RefValue.final m c), (h c).2⟩) (Cert.InProjConformerIdeal.Value.run_blocks (F := Ideal) m ρ),
    (θ_run Cert.InProjConformerReferenceIdeal.defs _ _).mono (fun _ h c => ⟨(h c).1.trans ?_, (h c).2⟩)
      (Cert.InProjConformerReferenceIdeal.Value.run (F := Ideal) m' ρ')⟩
  obtain ⟨e0, e1, e2, e3⟩ := hagree c
  refine (show _ = Cert.InProjConformerReferenceIdeal.RefValue.res _ _ _ _ from rfl).trans ?_
  rw [e0, e1, e2, e3]
  funext i
  obtain ⟨i0, i1, i2, rfl⟩ : ∃ (i0 : Fin 16) (i1 : Fin 4224) (i2 : Fin 6144), i = ix3 i0 i1 i2 :=
    ⟨i 0, i 1, i 2, by funext a; match a with | ⟨0, _⟩ => rfl | ⟨1, _⟩ => rfl | ⟨2, _⟩ => rfl⟩
  exact Cert.InProjConformerReferenceIdeal.RefValue.res_apply _ _ _ _ i0 i1 i2

end Cert.Proof

end
-- ==== Proof.InProjGdnBlock.lean ====
/- The DeltaNet layer's input projection's kernel: its result array, index by index. -/
module

public import proofs.«01_k».proof.Proof.Gen.InProjGdnIdeal.Value
public import proofs.«01_k».proof.Proof.Dense
public import Idealize.ShloMosaic.Lib.Pointwise
public import Idealize.ShloMosaic.Lib.StableHlo.Run

@[expose] public section

set_option maxRecDepth 16384

noncomputable section

namespace Cert.InProjGdnIdeal.RefValue

open Cert.InProjGdnIdeal Cert.InProjGdnIdeal.Gen Cert.Dense Idealize.ShloMosaic Idealize.ShloMosaic.TcCoe Idealize.ShloMosaic.Pointwise Idealize.SL.Sem
open Idealize.ShloMosaic.Pipeline (Dat)

/-- One block's payload at an index. -/
theorem pay_apply (x : Vec Ideal S1x1056x1024 .f32) (g : Vec Ideal S1x1024 .f32) (w : Vec Ideal S1024x896 .bf16) (b : Vec Ideal S1x896 .f32)
    (z : Fin 1) (r : Fin 1056) (n : Fin 896) :
    k0_pay1 (F := Ideal) x g w b (ix3 z r n)
      = inProj (fun k => x (ix3 0 r k)) (fun k => g (ix2 0 k)) (fun k => w (ix2 k n)) (b (ix2 0 n)) := by
  pointwise [k0_pay1]
  rfl

variable (m : (ℓ : Loc nD τ sig) → Buf (Elt Ideal) ℓ)

theorem V_w (c : Dev nD) : V m c main_v0 = truncf (F := Ideal) .bf16 (m ((c : Thread nD τ).loc main_arg2)) bitsLt_bf16_f32 := by
  unfold V hostOps0
  after_results

theorem V_g (c : Dev nD) : V m c main_v1 = shapeCast S1x1024 (m ((c : Thread nD τ).loc main_arg1)) shapeCasts_S1024_S1x1024 := by
  unfold V hostOps0
  after_results
  rfl

theorem V_b (c : Dev nD) : V m c main_v2 = shapeCast S1x6272 (m ((c : Thread nD τ).loc main_arg3)) shapeCasts_S6272_S1x6272 := by
  unfold V hostOps0
  after_results
  rfl

theorem V_g_apply (c : Dev nD) (k : Fin 1024) :
    (V m c main_v1 : S1x1024.Idx → EReal) (ix2 0 k) = (m ((c : Thread nD τ).loc main_arg1) : S1024.Idx → EReal) (ix1 k) := by
  rw [V_g]
  pointwise

theorem V_b_apply (c : Dev nD) (n : Fin 6272) :
    (V m c main_v2 : S1x6272.Idx → EReal) (ix2 0 n) = (m ((c : Thread nD τ).loc main_arg3) : S6272.Idx → EReal) (ix1 n) := by
  rw [V_b]
  exact Cert.Dense.lead_apply _ _ _ _

/-- The result array: the projection of row `(i 0, i 1)` to column `i 2`. -/
def G (c : Dev nD) : Buf (Elt Ideal) ((c : Thread nD τ).loc main_v3) := fun i : S16x4224x6272.Idx =>
  inProj (fun k => (m ((c : Thread nD τ).loc main_arg0) : S16x4224x1024.Idx → EReal) (ix3 (i 0) (i 1) k))
    (fun k => (m ((c : Thread nD τ).loc main_arg1) : S1024.Idx → EReal) (ix1 k))
    (fun k => (m ((c : Thread nD τ).loc main_arg2) : S1024x6272.Idx → EReal) (ix2 k (i 2)))
    ((m ((c : Thread nD τ).loc main_arg3) : S6272.Idx → EReal) (ix1 (i 2)))

theorem hz3 : (![0, 0, 0] : Fin 3 → Nat) = fun _ => 0 := funext fun a => by fin_cases a <;> rfl
theorem hz2 : (![0, 0] : Fin 2 → Nat) = fun _ => 0 := funext fun a => by fin_cases a <;> rfl

/-- The windows' block positions at a grid point, in closed form. -/
theorem idx_all : ∀ t : Fin grid0.N,
    win0_0.index t 0 = t.val / 4 % 16 ∧ win0_0.index t 1 = t.val % 4 ∧ win0_0.index t 2 = 0
    ∧ win0_1.index t 0 = 0 ∧ win0_1.index t 1 = 0
    ∧ win0_2.index t 0 = 0 ∧ win0_2.index t 1 = t.val / 64
    ∧ win0_3.index t 0 = 0 ∧ win0_3.index t 1 = t.val / 64
    ∧ win0_4.index t 0 = t.val / 4 % 16 ∧ win0_4.index t 1 = t.val % 4 ∧ win0_4.index t 2 = t.val / 64 := by
  decide +kernel

section
variable (t : Fin grid0.N)
theorem tlt : t.val < 448 := lt_of_lt_of_eq t.isLt N_0
/-- The batch of a grid point. -/
def bt : Fin 16 := ⟨t.val / 4 % 16, Nat.mod_lt _ (by decide)⟩
/-- Row `r` of the point's block, in the whole array. -/
def row (r : Fin 1056) : Fin 4224 := ⟨t.val % 4 * 1056 + r.val, by have := r.isLt; omega⟩
/-- Column `n` of the point's block, in the whole array. -/
def col (n : Fin 896) : Fin 6272 := ⟨t.val / 64 * 896 + n.val, by have := n.isLt; have := tlt t; omega⟩
end

theorem emb4 (t : Fin cfg0.N) (z : Fin 1) (r : Fin 1056) (n : Fin 896) :
    (win0_4.blk t).view.emb (ix3 z r n) = ix3 (bt t) (row t r) (col t n) := by
  obtain ⟨-, -, -, -, -, -, -, -, -, h0, h1, h2⟩ := idx_all t
  funext a
  match a with
  | ⟨0, _⟩ => exact Fin.ext (show win0_4.index t 0 * 1 + 1 * z.val = t.val / 4 % 16 by rw [h0]; omega)
  | ⟨1, _⟩ => exact Fin.ext (show win0_4.index t 1 * 1056 + 1 * r.val = t.val % 4 * 1056 + r.val by rw [h1]; omega)
  | ⟨2, _⟩ => exact Fin.ext (show win0_4.index t 2 * 896 + 1 * n.val = t.val / 64 * 896 + n.val by rw [h2]; omega)

theorem blk0 (c : Dev nD) (t : Fin cfg0.N) (r : Fin 1056) (k : Fin 1024) :
    (iblk m c 0 t : S1x1056x1024.Idx → EReal) (ix3 0 r k)
      = (m ((c : Thread nD τ).loc main_arg0) : S16x4224x1024.Idx → EReal) (ix3 (bt t) (row t r) k) := by
  show (V m c main_arg0 : S16x4224x1024.Idx → EReal) ((win0_0.blk t).view.emb (ix3 0 r k)) = _
  rw [V_main_arg0]
  obtain ⟨h0, h1, h2, -⟩ := idx_all t
  congr 1
  funext a
  match a with
  | ⟨0, _⟩ => exact Fin.ext (show win0_0.index t 0 * 1 + 1 * 0 = t.val / 4 % 16 by rw [h0]; omega)
  | ⟨1, _⟩ => exact Fin.ext (show win0_0.index t 1 * 1056 + 1 * r.val = t.val % 4 * 1056 + r.val by rw [h1]; omega)
  | ⟨2, _⟩ => exact Fin.ext (show win0_0.index t 2 * 1024 + 1 * k.val = k.val by rw [h2]; omega)

theorem blk1 (c : Dev nD) (t : Fin cfg0.N) (k : Fin 1024) :
    (iblk m c 1 t : S1x1024.Idx → EReal) (ix2 0 k) = (m ((c : Thread nD τ).loc main_arg1) : S1024.Idx → EReal) (ix1 k) := by
  have e : (win0_1.blk t).view.emb (ix2 0 k) = ix2 0 k := by
    obtain ⟨-, -, -, h0, h1, -⟩ := idx_all t
    funext a
    match a with
    | ⟨0, _⟩ => exact Fin.ext (show win0_1.index t 0 * 1 + 1 * 0 = 0 by rw [h0])
    | ⟨1, _⟩ => exact Fin.ext (show win0_1.index t 1 * 1024 + 1 * k.val = k.val by rw [h1]; omega)
  show (V m c main_v1 : S1x1024.Idx → EReal) ((win0_1.blk t).view.emb (ix2 0 k)) = _
  rw [e]
  exact V_g_apply m c k

theorem blk2 (c : Dev nD) (t : Fin cfg0.N) (k : Fin 1024) (n : Fin 896) :
    (iblk m c 2 t : S1024x896.Idx → EReal) (ix2 k n)
      = (m ((c : Thread nD τ).loc main_arg2) : S1024x6272.Idx → EReal) (ix2 k (col t n)) := by
  have e : (win0_2.blk t).view.emb (ix2 k n) = ix2 k (col t n) := by
    obtain ⟨-, -, -, -, -, h0, h1, -⟩ := idx_all t
    funext a
    match a with
    | ⟨0, _⟩ => exact Fin.ext (show win0_2.index t 0 * 1024 + 1 * k.val = k.val by rw [h0]; omega)
    | ⟨1, _⟩ => exact Fin.ext (show win0_2.index t 1 * 896 + 1 * n.val = t.val / 64 * 896 + n.val by rw [h1]; omega)
  show (V m c main_v0 : S1024x6272.Idx → EReal) ((win0_2.blk t).view.emb (ix2 k n)) = _
  rw [e, V_w]
  rfl

theorem blk3 (c : Dev nD) (t : Fin cfg0.N) (n : Fin 896) :
    (iblk m c 3 t : S1x896.Idx → EReal) (ix2 0 n)
      = (m ((c : Thread nD τ).loc main_arg3) : S6272.Idx → EReal) (ix1 (col t n)) := by
  have e : (win0_3.blk t).view.emb (ix2 0 n) = ix2 0 (col t n) := by
    obtain ⟨-, -, -, -, -, -, -, h0, h1, -⟩ := idx_all t
    funext a
    match a with
    | ⟨0, _⟩ => exact Fin.ext (show win0_3.index t 0 * 1 + 1 * 0 = 0 by rw [h0])
    | ⟨1, _⟩ => exact Fin.ext (show win0_3.index t 1 * 896 + 1 * n.val = t.val / 64 * 896 + n.val by rw [h1]; omega)
  show (V m c main_v2 : S1x6272.Idx → EReal) ((win0_3.blk t).view.emb (ix2 0 n)) = _
  rw [e]
  exact V_b_apply m c (col t n)

/-- What a grid point writes back is its block of the result. -/
theorem flushed_eq (c : Dev nD) (t : Fin cfg0.N) :
    (dats m 0 c).flushed 4 t = (win0_4.blk t).view.read (Elt Ideal) (G m c) := by
  rw [Value.flushed4]
  unfold out0_4
  rw [View.canon_unit_zero hz3, View.ld_unit_zero hz3, View.ld_unit_zero hz2, View.ld_unit_zero hz2, View.ld_unit_zero hz2]
  funext y
  obtain ⟨z, r, n, rfl⟩ : ∃ (z : Fin 1) (r : Fin 1056) (n : Fin 896), y = ix3 z r n := ⟨y 0, y 1, y 2, by funext a; fin_cases a <;> rfl⟩
  show k0_pay1 (F := Ideal) (iblk m c 0 t) (iblk m c 1 t) (iblk m c 2 t) (iblk m c 3 t) (ix3 z r n) = G m c ((win0_4.blk t).view.emb (ix3 z r n))
  rw [pay_apply, emb4]
  exact inProj_congr (blk0 m c t r) (blk1 m c t) (fun k => blk2 m c t k n) (blk3 m c t n)

/-- The blocks cover the result array. -/
theorem cover (i : S16x4224x6272.Idx) :
    ∃ t : Fin cfg0.N, (cfg0.win 4).flush t = true ∧ i ∈ ((cfg0.win 4).blk t).view.set := by
  have h0 : (i 0 : Nat) < 16 := (i 0).isLt
  have h1 : (i 1 : Nat) < 4224 := (i 1).isLt
  have h2 : (i 2 : Nat) < 6272 := (i 2).isLt
  refine ⟨⟨(i 2).val / 896 * 64 + (i 0).val * 4 + (i 1).val / 1056, by show _ < grid0.N; rw [N_0]; omega⟩, flush0_4 _, ?_⟩
  refine Finset.mem_map.mpr ⟨ix3 0 ⟨(i 1).val % 1056, Nat.mod_lt _ (by decide)⟩ ⟨(i 2).val % 896, Nat.mod_lt _ (by decide)⟩, Finset.mem_univ _, ?_⟩
  refine (emb4 _ _ _ _).trans ?_
  funext a
  match a with
  | ⟨0, _⟩ => exact Fin.ext (show ((i 2).val / 896 * 64 + (i 0).val * 4 + (i 1).val / 1056) / 4 % 16 = (i 0).val by omega)
  | ⟨1, _⟩ => exact Fin.ext (show ((i 2).val / 896 * 64 + (i 0).val * 4 + (i 1).val / 1056) % 4 * 1056 + (i 1).val % 1056 = (i 1).val by omega)
  | ⟨2, _⟩ => exact Fin.ext (show ((i 2).val / 896 * 64 + (i 0).val * 4 + (i 1).val / 1056) / 64 * 896 + (i 2).val % 896 = (i 2).val by omega)

theorem final (c : Dev nD) : (dats m 0 c).arrAt 4 cfg0.N = G m c :=
  (dats m 0 c).arrAt_eq_of_cover 4 (G m c) (fun t _ => flushed_eq m c t) cover

end Cert.InProjGdnIdeal.RefValue

end
-- ==== Proof.InProjGdn.lean ====
/- The DeltaNet layer's input projection: the reference's result index by index, and the agreement of kernel and reference. -/
module

public import proofs.«01_k».proof.Defs
public import proofs.«01_k».proof.Proof.Gen.InProjGdn.Frame
public import proofs.«01_k».proof.Proof.InProjGdnBlock
public import proofs.«01_k».proof.Proof.Gen.InProjGdnReferenceIdeal.Run
public import Idealize.ShloMosaic.Lib.Quiescent

@[expose] public section

set_option maxRecDepth 16384

noncomputable section

open Idealize.ShloMosaic Idealize.ShloMosaic.TcCoe Idealize.SL.Sem Idealize.ShloMosaic.Pointwise

namespace Cert.InProjGdnReferenceIdeal.RefValue

open Cert.InProjGdnReferenceIdeal Cert.InProjGdnReferenceIdeal.Gen Cert.Dense

/-- The reference's result as a function of its arguments. -/
def res (x : FVec Ideal S16x4224x1024 .f32) (g : FVec Ideal S1024 .f32) (w : FVec Ideal S1024x6272 .f32) (b : FVec Ideal S6272 .f32) :
    FVec Ideal S16x4224x6272 .bf16 :=
  truncf .bf16 (addf (Host.dotGeneral dot_S16x4224x1024_S1024x6272_S16x4224x6272_2_0_01_1_n_n none (mulf (mulf x (broadcastInDim S16x4224x1024 ![0, 1, 2] bcast_S16x4224x1_S16x4224x1024_0_1_2 (Host.rsqrt (addf (Host.divf (broadcastInDim S16x4224x1 ![0, 1] bcast_S16x4224_S16x4224x1_0_1 (Host.reduceAdd (mulf x x) (constant S_ .f32 0x00000000#32) reducesTo_S16x4224x1024_S16x4224_d2 h_S_)) (broadcastInDim S16x4224x1 ![] bcast_S_S16x4224x1 (constant S_ .f32 0x44800000#32))) (broadcastInDim S16x4224x1 ![] bcast_S_S16x4224x1 (constant S_ .f32 0x358637BD#32)))))) (broadcastInDim S16x4224x1024 ![0, 1, 2] bcast_S1x1x1024_S16x4224x1024_0_1_2 (broadcastInDim S1x1x1024 ![2] bcast_S1024_S1x1x1024_2 g))) w) (broadcastInDim S16x4224x6272 ![0, 1, 2] bcast_S1x1x6272_S16x4224x6272_0_1_2 (broadcastInDim S1x1x6272 ![2] bcast_S6272_S1x1x6272_2 b))) bitsLt_bf16_f32

/-- It is the projection of its row, at each index. -/
theorem res_apply (x : FVec Ideal S16x4224x1024 .f32) (g : FVec Ideal S1024 .f32) (w : FVec Ideal S1024x6272 .f32) (b : FVec Ideal S6272 .f32)
    (i0 : Fin 16) (i1 : Fin 4224) (i2 : Fin 6272) :
    res x g w b (ix3 i0 i1 i2)
      = inProj (fun k => x (ix3 i0 i1 k)) (fun k => g (ix1 k)) (fun k => w (ix2 k i2)) (b (ix1 i2)) := by
  pointwise [res]
  rfl

end Cert.InProjGdnReferenceIdeal.RefValue

namespace Cert.Proof

open Cert.Dense

theorem frame_InProjGdn : quiescent_InProjGdn (hInProjGdn := Cert.InProjGdn.Gen.facts) := fun m ρ _ => Cert.InProjGdn.Gen.frame m ρ

theorem frame_InProjGdnIdeal : quiescent_InProjGdnIdeal (hInProjGdnIdeal := Cert.InProjGdnIdeal.Gen.facts) := fun m ρ _ => Cert.InProjGdnIdeal.Gen.frame m ρ

theorem frame_InProjGdnReference : quiescent_InProjGdnReferenceIdeal (hInProjGdnReferenceIdeal := Cert.InProjGdnReferenceIdeal.Gen.facts) := fun m ρ _ =>
  (θ_run Cert.InProjGdnReferenceIdeal.defs _ _).mono
    (fun r h => ⟨fun c => (h c).2, sem_eq_zero_of_no_sems (by decide) r.2⟩) (Cert.InProjGdnReferenceIdeal.Value.run (F := Ideal) m ρ)

theorem algebraic_InProjGdn : algebraic_InProjGdnIdeal_InProjGdnReferenceIdeal
    (hInProjGdnIdeal := Cert.InProjGdnIdeal.Gen.facts) (hInProjGdnReferenceIdeal := Cert.InProjGdnReferenceIdeal.Gen.facts) := by
  intro m ρ m' ρ' _ hagree
  refine ⟨fun c => Cert.InProjGdnIdeal.RefValue.G m c, (θ_run Cert.InProjGdnIdeal.defs _ _).mono
      (fun _ h c => ⟨(h c).1.trans (Cert.InProjGdnIdeal.RefValue.final m c), (h c).2⟩) (Cert.InProjGdnIdeal.Value.run_blocks (F := Ideal) m ρ),
    (θ_run Cert.InProjGdnReferenceIdeal.defs _ _).mono (fun _ h c => ⟨(h c).1.trans ?_, (h c).2⟩)
      (Cert.InProjGdnReferenceIdeal.Value.run (F := Ideal) m' ρ')⟩
  obtain ⟨e0, e1, e2, e3⟩ := hagree c
  refine (show _ = Cert.InProjGdnReferenceIdeal.RefValue.res _ _ _ _ from rfl).trans ?_
  rw [e0, e1, e2, e3]
  funext i
  obtain ⟨i0, i1, i2, rfl⟩ : ∃ (i0 : Fin 16) (i1 : Fin 4224) (i2 : Fin 6272), i = ix3 i0 i1 i2 :=
    ⟨i 0, i 1, i 2, by funext a; match a with | ⟨0, _⟩ => rfl | ⟨1, _⟩ => rfl | ⟨2, _⟩ => rfl⟩
  exact Cert.InProjGdnReferenceIdeal.RefValue.res_apply _ _ _ _ i0 i1 i2

end Cert.Proof

end
-- ==== Proof.OutProjBlock.lean ====
/- The output projection's kernel: its result array, index by index. -/
module

public import proofs.«01_k».proof.Proof.Gen.OutProjIdeal.Value
public import proofs.«01_k».proof.Proof.Dense
public import Idealize.ShloMosaic.Lib.Pointwise
public import Idealize.ShloMosaic.Lib.StableHlo.Run

@[expose] public section

set_option maxRecDepth 16384

noncomputable section

namespace Cert.OutProjIdeal.RefValue

open Cert.OutProjIdeal Cert.OutProjIdeal.Gen Cert.Dense Idealize.ShloMosaic Idealize.ShloMosaic.TcCoe Idealize.ShloMosaic.Pointwise Idealize.SL.Sem
open Idealize.ShloMosaic.Pipeline (Dat)

/-- One block's payload at an index. -/
theorem pay_apply (a : Vec Ideal S1x528x2048 .bf16) (w : Vec Ideal S2048x1024 .bf16) (b : Vec Ideal S1x1024 .f32) (h : Vec Ideal S1x528x1024 .f32)
    (g : Vec Ideal S1x1024 .f32) (z : Fin 1) (r : Fin 528) (n : Fin 1024) :
    k0_pay1 (F := Ideal) a w b h g (ix3 z r n)
      = outProj (fun k => a (ix3 0 r k)) (fun k j => w (ix2 k j)) (fun j => b (ix2 0 j)) (fun j => g (ix2 0 j)) (fun j => h (ix3 0 r j)) n := by
  pointwise [k0_pay1]
  rfl

variable (m : (ℓ : Loc nD τ sig) → Buf (Elt Ideal) ℓ)

theorem V_w (c : Dev nD) : V m c main_v0 = truncf (F := Ideal) .bf16 (m ((c : Thread nD τ).loc main_arg1)) bitsLt_bf16_f32 := by
  unfold V hostOps0
  after_results

theorem V_b (c : Dev nD) : V m c main_v1 = shapeCast S1x1024 (m ((c : Thread nD τ).loc main_arg2)) shapeCasts_S1024_S1x1024 := by
  unfold V hostOps0
  after_results
  rfl

theorem V_g (c : Dev nD) : V m c main_v2 = shapeCast S1x1024 (m ((c : Thread nD τ).loc main_arg3)) shapeCasts_S1024_S1x1024 := by
  unfold V hostOps0
  after_results
  rfl

/-- The result array: the projection of row `(i 0, i 1)` at column `i 2`. -/
def G (c : Dev nD) : Buf (Elt Ideal) ((c : Thread nD τ).loc main_v3) := fun i : S16x4224x1024.Idx =>
  outProj (fun k => (m ((c : Thread nD τ).loc main_arg0) : S16x4224x2048.Idx → EReal) (ix3 (i 0) (i 1) k))
    (fun k j => (m ((c : Thread nD τ).loc main_arg1) : S2048x1024.Idx → EReal) (ix2 k j))
    (fun j => (m ((c : Thread nD τ).loc main_arg2) : S1024.Idx → EReal) (ix1 j))
    (fun j => (m ((c : Thread nD τ).loc main_arg3) : S1024.Idx → EReal) (ix1 j))
    (fun j => (m ((c : Thread nD τ).loc main_arg4) : S16x4224x1024.Idx → EReal) (ix3 (i 0) (i 1) j)) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The windows' block positions at a grid point, in closed form. -/
theorem idx_all : ∀ t : Fin grid0.N,
    win0_0.index t 0 = t.val / 8 ∧ win0_0.index t 1 = t.val % 8 ∧ win0_0.index t 2 = 0
    ∧ win0_1.index t 0 = 0 ∧ win0_1.index t 1 = 0
    ∧ win0_2.index t 0 = 0 ∧ win0_2.index t 1 = 0
    ∧ win0_3.index t 0 = 0 ∧ win0_3.index t 1 = 0
    ∧ win0_4.index t 0 = t.val / 8 ∧ win0_4.index t 1 = t.val % 8 ∧ win0_4.index t 2 = 0
    ∧ win0_5.index t 0 = t.val / 8 ∧ win0_5.index t 1 = t.val % 8 ∧ win0_5.index t 2 = 0 := by
  decide +kernel

section
variable (t : Fin grid0.N)
theorem tlt : t.val < 128 := lt_of_lt_of_eq t.isLt N_0
/-- The batch of a grid point. -/
def bt : Fin 16 := ⟨t.val / 8, by have := tlt t; omega⟩
/-- Row `r` of the point's block, in the whole array. -/
def row (r : Fin 528) : Fin 4224 := ⟨t.val % 8 * 528 + r.val, by have := r.isLt; omega⟩
end

theorem emb5 (t : Fin cfg0.N) (z : Fin 1) (r : Fin 528) (n : Fin 1024) :
    (win0_5.blk t).view.emb (ix3 z r n) = ix3 (bt t) (row t r) n := by
  obtain ⟨-, -, -, -, -, -, -, -, -, -, -, -, h0, h1, h2⟩ := idx_all t
  funext a
  match a with
  | ⟨0, _⟩ => exact Fin.ext (show win0_5.index t 0 * 1 + 1 * z.val = t.val / 8 by rw [h0]; omega)
  | ⟨1, _⟩ => exact Fin.ext (show win0_5.index t 1 * 528 + 1 * r.val = t.val % 8 * 528 + r.val by rw [h1]; omega)
  | ⟨2, _⟩ => exact Fin.ext (show win0_5.index t 2 * 1024 + 1 * n.val = n.val by rw [h2]; omega)

theorem blk0 (c : Dev nD) (t : Fin cfg0.N) (r : Fin 528) (k : Fin 2048) :
    (iblk m c 0 t : S1x528x2048.Idx → EReal) (ix3 0 r k)
      = (m ((c : Thread nD τ).loc main_arg0) : S16x4224x2048.Idx → EReal) (ix3 (bt t) (row t r) k) := by
  show (V m c main_arg0 : S16x4224x2048.Idx → EReal) ((win0_0.blk t).view.emb (ix3 0 r k)) = _
  rw [V_main_arg0]
  obtain ⟨h0, h1, h2, -⟩ := idx_all t
  congr 1
  funext a
  match a with
  | ⟨0, _⟩ => exact Fin.ext (show win0_0.index t 0 * 1 + 1 * 0 = t.val / 8 by rw [h0]; omega)
  | ⟨1, _⟩ => exact Fin.ext (show win0_0.index t 1 * 528 + 1 * r.val = t.val % 8 * 528 + r.val by rw [h1]; omega)
  | ⟨2, _⟩ => exact Fin.ext (show win0_0.index t 2 * 2048 + 1 * k.val = k.val by rw [h2]; omega)

theorem blk1 (c : Dev nD) (t : Fin cfg0.N) (k : Fin 2048) (n : Fin 1024) :
    (iblk m c 1 t : S2048x1024.Idx → EReal) (ix2 k n) = (m ((c : Thread nD τ).loc main_arg1) : S2048x1024.Idx → EReal) (ix2 k n) := by
  have e : (win0_1.blk t).view.emb (ix2 k n) = ix2 k n := by
    obtain ⟨-, -, -, h0, h1, -⟩ := idx_all t
    funext a
    match a with
    | ⟨0, _⟩ => exact Fin.ext (show win0_1.index t 0 * 2048 + 1 * k.val = k.val by rw [h0]; omega)
    | ⟨1, _⟩ => exact Fin.ext (show win0_1.index t 1 * 1024 + 1 * n.val = n.val by rw [h1]; omega)
  show (V m c main_v0 : S2048x1024.Idx → EReal) ((win0_1.blk t).view.emb (ix2 k n)) = _
  rw [e, V_w]
  rfl

theorem blk2 (c : Dev nD) (t : Fin cfg0.N) (n : Fin 1024) :
    (iblk m c 2 t : S1x1024.Idx → EReal) (ix2 0 n) = (m ((c : Thread nD τ).loc main_arg2) : S1024.Idx → EReal) (ix1 n) := by
  have e : (win0_2.blk t).view.emb (ix2 0 n) = ix2 0 n := by
    obtain ⟨-, -, -, -, -, h0, h1, -⟩ := idx_all t
    funext a
    match a with
    | ⟨0, _⟩ => exact Fin.ext (show win0_2.index t 0 * 1 + 1 * 0 = 0 by rw [h0])
    | ⟨1, _⟩ => exact Fin.ext (show win0_2.index t 1 * 1024 + 1 * n.val = n.val by rw [h1]; omega)
  show (V m c main_v1 : S1x1024.Idx → EReal) ((win0_2.blk t).view.emb (ix2 0 n)) = _
  rw [e, V_b]
  exact lead_apply _ _ _ _

theorem blk3 (c : Dev nD) (t : Fin cfg0.N) (n : Fin 1024) :
    (iblk m c 3 t : S1x1024.Idx → EReal) (ix2 0 n) = (m ((c : Thread nD τ).loc main_arg3) : S1024.Idx → EReal) (ix1 n) := by
  have e : (win0_3.blk t).view.emb (ix2 0 n) = ix2 0 n := by
    obtain ⟨-, -, -, -, -, -, -, h0, h1, -⟩ := idx_all t
    funext a
    match a with
    | ⟨0, _⟩ => exact Fin.ext (show win0_3.index t 0 * 1 + 1 * 0 = 0 by rw [h0])
    | ⟨1, _⟩ => exact Fin.ext (show win0_3.index t 1 * 1024 + 1 * n.val = n.val by rw [h1]; omega)
  show (V m c main_v2 : S1x1024.Idx → EReal) ((win0_3.blk t).view.emb (ix2 0 n)) = _
  rw [e, V_g]
  exact lead_apply _ _ _ _

theorem blk4 (c : Dev nD) (t : Fin cfg0.N) (r : Fin 528) (n : Fin 1024) :
    (iblk m c 4 t : S1x528x1024.Idx → EReal) (ix3 0 r n)
      = (m ((c : Thread nD τ).loc main_arg4) : S16x4224x1024.Idx → EReal) (ix3 (bt t) (row t r) n) := by
  show (V m c main_arg4 : S16x4224x1024.Idx → EReal) ((win0_4.blk t).view.emb (ix3 0 r n)) = _
  rw [V_main_arg4]
  obtain ⟨-, -, -, -, -, -, -, -, -, h0, h1, h2, -⟩ := idx_all t
  congr 1
  funext a
  match a with
  | ⟨0, _⟩ => exact Fin.ext (show win0_4.index t 0 * 1 + 1 * 0 = t.val / 8 by rw [h0]; omega)
  | ⟨1, _⟩ => exact Fin.ext (show win0_4.index t 1 * 528 + 1 * r.val = t.val % 8 * 528 + r.val by rw [h1]; omega)
  | ⟨2, _⟩ => exact Fin.ext (show win0_4.index t 2 * 1024 + 1 * n.val = n.val by rw [h2]; omega)

/-- What a grid point writes back is its block of the result. -/
theorem flushed_eq (c : Dev nD) (t : Fin cfg0.N) :
    (dats m 0 c).flushed 5 t = (win0_5.blk t).view.read (Elt Ideal) (G m c) := by
  rw [Value.flushed5]
  unfold out0_5
  rw [View.canon_unit_zero hz3, View.ld_unit_zero hz3, View.ld_unit_zero hz2, View.ld_unit_zero hz2, View.ld_unit_zero hz3, View.ld_unit_zero hz2]
  funext y
  obtain ⟨z, r, n, rfl⟩ : ∃ (z : Fin 1) (r : Fin 528) (n : Fin 1024), y = ix3 z r n := ⟨y 0, y 1, y 2, by funext a; fin_cases a <;> rfl⟩
  show k0_pay1 (F := Ideal) (iblk m c 0 t) (iblk m c 1 t) (iblk m c 2 t) (iblk m c 4 t) (iblk m c 3 t) (ix3 z r n) = G m c ((win0_5.blk t).view.emb (ix3 z r n))
  rw [pay_apply, emb5]
  exact outProj_congr (blk0 m c t r) (blk1 m c t) (blk2 m c t) (blk3 m c t) (blk4 m c t r) n

/-- The blocks cover the result array. -/
theorem cover (i : S16x4224x1024.Idx) :
    ∃ t : Fin cfg0.N, (cfg0.win 5).flush t = true ∧ i ∈ ((cfg0.win 5).blk t).view.set := by
  have h0 : (i 0 : Nat) < 16 := (i 0).isLt
  have h1 : (i 1 : Nat) < 4224 := (i 1).isLt
  refine ⟨⟨(i 0).val * 8 + (i 1).val / 528, by show _ < grid0.N; rw [N_0]; omega⟩, flush0_5 _, ?_⟩
  refine Finset.mem_map.mpr ⟨ix3 0 ⟨(i 1).val % 528, Nat.mod_lt _ (by decide)⟩ (i 2), Finset.mem_univ _, ?_⟩
  refine (emb5 _ _ _ _).trans ?_
  funext a
  match a with
  | ⟨0, _⟩ => exact Fin.ext (show ((i 0).val * 8 + (i 1).val / 528) / 8 = (i 0).val by omega)
  | ⟨1, _⟩ => exact Fin.ext (show ((i 0).val * 8 + (i 1).val / 528) % 8 * 528 + (i 1).val % 528 = (i 1).val by omega)
  | ⟨2, _⟩ => rfl

theorem final (c : Dev nD) : (dats m 0 c).arrAt 5 cfg0.N = G m c :=
  (dats m 0 c).arrAt_eq_of_cover 5 (G m c) (fun t _ => flushed_eq m c t) cover

end Cert.OutProjIdeal.RefValue

end
-- ==== Proof.OutProj.lean ====
/- The output projection: the reference's result index by index, and the agreement of kernel and reference. -/
module

public import proofs.«01_k».proof.Defs
public import proofs.«01_k».proof.Proof.Gen.OutProj.Frame
public import proofs.«01_k».proof.Proof.OutProjBlock
public import proofs.«01_k».proof.Proof.Gen.OutProjReferenceIdeal.Run
public import Idealize.ShloMosaic.Lib.Quiescent

@[expose] public section

set_option maxRecDepth 16384

noncomputable section

open Idealize.ShloMosaic Idealize.ShloMosaic.TcCoe Idealize.SL.Sem Idealize.ShloMosaic.Pointwise

namespace Cert.OutProjReferenceIdeal.RefValue

open Cert.OutProjReferenceIdeal Cert.OutProjReferenceIdeal.Gen Cert.Dense

/-- The projected rows. -/
def proj (a : FVec Ideal S16x4224x2048 .bf16) (w : FVec Ideal S2048x1024 .f32) (b : FVec Ideal S1024 .f32) : FVec Ideal S16x4224x1024 .f32 :=
  addf (Host.dotGeneral dot_S16x4224x2048_S2048x1024_S16x4224x1024_2_0_01_1_n_n none (extf .f32 a bitsLt_bf16_f32) w) (broadcastInDim S16x4224x1024 ![0, 1, 2] bcast_S1x1x1024_S16x4224x1024_0_1_2 (broadcastInDim S1x1x1024 ![2] bcast_S1024_S1x1x1024_2 b))

/-- The reference's result as a function of its arguments. -/
def res (a : FVec Ideal S16x4224x2048 .bf16) (w : FVec Ideal S2048x1024 .f32) (b g : FVec Ideal S1024 .f32) (h : FVec Ideal S16x4224x1024 .f32) :
    FVec Ideal S16x4224x1024 .f32 :=
  addf h (mulf (mulf (proj a w b) (broadcastInDim S16x4224x1024 ![0, 1, 2] bcast_S16x4224x1_S16x4224x1024_0_1_2 (Host.rsqrt (addf (Host.divf (broadcastInDim S16x4224x1 ![0, 1] bcast_S16x4224_S16x4224x1_0_1 (Host.reduceAdd (mulf (proj a w b) (proj a w b)) (constant S_ .f32 0x00000000#32) reducesTo_S16x4224x1024_S16x4224_d2 h_S_)) (broadcastInDim S16x4224x1 ![] bcast_S_S16x4224x1 (constant S_ .f32 0x44800000#32))) (broadcastInDim S16x4224x1 ![] bcast_S_S16x4224x1 (constant S_ .f32 0x358637BD#32)))))) (broadcastInDim S16x4224x1024 ![0, 1, 2] bcast_S1x1x1024_S16x4224x1024_0_1_2 (broadcastInDim S1x1x1024 ![2] bcast_S1024_S1x1x1024_2 g)))

/-- A projected row, at each index. -/
theorem proj_apply (a : FVec Ideal S16x4224x2048 .bf16) (w : FVec Ideal S2048x1024 .f32) (b : FVec Ideal S1024 .f32)
    (i0 : Fin 16) (i1 : Fin 4224) (i2 : Fin 1024) :
    proj a w b (ix3 i0 i1 i2) = dot (fun k => a (ix3 i0 i1 k)) (fun k => w (ix2 k i2)) (b (ix1 i2)) := by
  pointwise [proj]
  rfl

/-- The result is the projection of its row, at each index. -/
theorem res_apply (a : FVec Ideal S16x4224x2048 .bf16) (w : FVec Ideal S2048x1024 .f32) (b g : FVec Ideal S1024 .f32)
    (h : FVec Ideal S16x4224x1024 .f32) (i0 : Fin 16) (i1 : Fin 4224) (i2 : Fin 1024) :
    res a w b g h (ix3 i0 i1 i2)
      = outProj (fun k => a (ix3 i0 i1 k)) (fun k j => w (ix2 k j)) (fun j => b (ix1 j)) (fun j => g (ix1 j)) (fun j => h (ix3 i0 i1 j)) i2 := by
  pointwise [res]
  simp only [proj_apply]
  rfl

end Cert.OutProjReferenceIdeal.RefValue

namespace Cert.Proof

open Cert.Dense

theorem frame_OutProj : quiescent_OutProj (hOutProj := Cert.OutProj.Gen.facts) := fun m ρ _ => Cert.OutProj.Gen.frame m ρ

theorem frame_OutProjIdeal : quiescent_OutProjIdeal (hOutProjIdeal := Cert.OutProjIdeal.Gen.facts) := fun m ρ _ => Cert.OutProjIdeal.Gen.frame m ρ

theorem frame_OutProjReference : quiescent_OutProjReferenceIdeal (hOutProjReferenceIdeal := Cert.OutProjReferenceIdeal.Gen.facts) := fun m ρ _ =>
  (θ_run Cert.OutProjReferenceIdeal.defs _ _).mono
    (fun r h => ⟨fun c => (h c).2, sem_eq_zero_of_no_sems (by decide) r.2⟩) (Cert.OutProjReferenceIdeal.Value.run (F := Ideal) m ρ)

theorem algebraic_OutProj : algebraic_OutProjIdeal_OutProjReferenceIdeal
    (hOutProjIdeal := Cert.OutProjIdeal.Gen.facts) (hOutProjReferenceIdeal := Cert.OutProjReferenceIdeal.Gen.facts) := by
  intro m ρ m' ρ' _ hagree
  refine ⟨fun c => Cert.OutProjIdeal.RefValue.G m c, (θ_run Cert.OutProjIdeal.defs _ _).mono
      (fun _ h c => ⟨(h c).1.trans (Cert.OutProjIdeal.RefValue.final m c), (h c).2⟩) (Cert.OutProjIdeal.Value.run_blocks (F := Ideal) m ρ),
    (θ_run Cert.OutProjReferenceIdeal.defs _ _).mono (fun _ h c => ⟨(h c).1.trans ?_, (h c).2⟩)
      (Cert.OutProjReferenceIdeal.Value.run (F := Ideal) m' ρ')⟩
  obtain ⟨e0, e1, e2, e3, e4⟩ := hagree c
  refine (show _ = Cert.OutProjReferenceIdeal.RefValue.res _ _ _ _ _ from rfl).trans ?_
  rw [e0, e1, e2, e3, e4]
  funext i
  obtain ⟨i0, i1, i2, rfl⟩ : ∃ (i0 : Fin 16) (i1 : Fin 4224) (i2 : Fin 1024), i = ix3 i0 i1 i2 :=
    ⟨i 0, i 1, i 2, by funext a; match a with | ⟨0, _⟩ => rfl | ⟨1, _⟩ => rfl | ⟨2, _⟩ => rfl⟩
  exact Cert.OutProjReferenceIdeal.RefValue.res_apply _ _ _ _ _ i0 i1 i2

end Cert.Proof

end
-- ==== Proof.OutProjHyenaBlock.lean ====
/- The hyena layer's output projection, whose input has rows past the last block: its result array, index by index. -/
module

public import proofs.«01_k».proof.Proof.Gen.OutProjHyenaIdeal.Value
public import proofs.«01_k».proof.Proof.Dense
public import Idealize.ShloMosaic.Lib.Pointwise
public import Idealize.ShloMosaic.Lib.StableHlo.Run
public import Idealize.ShloMosaic.Lib.Pipeline.ValueKit.Acc

@[expose] public section

set_option maxRecDepth 16384

noncomputable section

namespace Cert.OutProjHyenaIdeal.RefValue

open Cert.OutProjHyenaIdeal Cert.OutProjHyenaIdeal.Gen Cert.Dense Idealize.ShloMosaic Idealize.ShloMosaic.TcCoe Idealize.ShloMosaic.Pointwise Idealize.SL.Sem
open Idealize.ShloMosaic.Pipeline (Dat)

/-- One block's payload at an index. -/
theorem pay_apply (a : Vec Ideal S1x528x2048 .bf16) (w : Vec Ideal S2048x1024 .bf16) (b : Vec Ideal S1x1024 .f32) (h : Vec Ideal S1x528x1024 .f32)
    (g : Vec Ideal S1x1024 .f32) (z : Fin 1) (r : Fin 528) (n : Fin 1024) :
    k0_pay1 (F := Ideal) a w b h g (ix3 z r n)
      = outProj (fun k => a (ix3 0 r k)) (fun k j => w (ix2 k j)) (fun j => b (ix2 0 j)) (fun j => g (ix2 0 j)) (fun j => h (ix3 0 r j)) n := by
  pointwise [k0_pay1]
  rfl

variable (m : (ℓ : Loc nD τ sig) → Buf (Elt Ideal) ℓ)

theorem V_w (c : Dev nD) : V m c main_v0 = truncf (F := Ideal) .bf16 (m ((c : Thread nD τ).loc main_arg1)) bitsLt_bf16_f32 := by
  unfold V hostOps0
  after_results

theorem V_b (c : Dev nD) : V m c main_v1 = shapeCast S1x1024 (m ((c : Thread nD τ).loc main_arg2)) shapeCasts_S1024_S1x1024 := by
  unfold V hostOps0
  after_results
  rfl

theorem V_g (c : Dev nD) : V m c main_v2 = shapeCast S1x1024 (m ((c : Thread nD τ).loc main_arg3)) shapeCasts_S1024_S1x1024 := by
  unfold V hostOps0
  after_results
  rfl

/-- A row of the result, among the input's 4608 rows. -/
def wide (t : Fin 4224) : Fin 4608 := ⟨t.val, by have := t.isLt; omega⟩

/-- The result array: the projection of row `(i 0, i 1)` at column `i 2`. -/
def G (c : Dev nD) : Buf (Elt Ideal) ((c : Thread nD τ).loc main_v3) := fun i : S16x4224x1024.Idx =>
  outProj (fun k => (m ((c : Thread nD τ).loc main_arg0) : S16x4608x2048.Idx → EReal) (ix3 (i 0) (wide (i 1)) k))
    (fun k j => (m ((c : Thread nD τ).loc main_arg1) : S2048x1024.Idx → EReal) (ix2 k j))
    (fun j => (m ((c : Thread nD τ).loc main_arg2) : S1024.Idx → EReal) (ix1 j))
    (fun j => (m ((c : Thread nD τ).loc main_arg3) : S1024.Idx → EReal) (ix1 j))
    (fun j => (m ((c : Thread nD τ).loc main_arg4) : S16x4224x1024.Idx → EReal) (ix3 (i 0) (i 1) j)) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The windows' block positions at a grid point, in closed form. -/
theorem idx_all : ∀ t : Fin grid0.N,
    win0_0.index t 0 = t.val / 8 ∧ win0_0.index t 1 = t.val % 8 ∧ win0_0.index t 2 = 0
    ∧ win0_1.index t 0 = 0 ∧ win0_1.index t 1 = 0
    ∧ win0_2.index t 0 = 0 ∧ win0_2.index t 1 = 0
    ∧ win0_3.index t 0 = 0 ∧ win0_3.index t 1 = 0
    ∧ win0_4.index t 0 = t.val / 8 ∧ win0_4.index t 1 = t.val % 8 ∧ win0_4.index t 2 = 0
    ∧ win0_5.index t 0 = t.val / 8 ∧ win0_5.index t 1 = t.val % 8 ∧ win0_5.index t 2 = 0 := by
  decide +kernel

section
variable (t : Fin grid0.N)
theorem tlt : t.val < 128 := lt_of_lt_of_eq t.isLt N_0
/-- The batch of a grid point. -/
def bt : Fin 16 := ⟨t.val / 8, by have := tlt t; omega⟩
/-- Row `r` of the point's block, in the whole array. -/
def row (r : Fin 528) : Fin 4224 := ⟨t.val % 8 * 528 + r.val, by have := r.isLt; omega⟩
end

theorem emb5 (t : Fin cfg0.N) (z : Fin 1) (r : Fin 528) (n : Fin 1024) :
    (win0_5.blk t).view.emb (ix3 z r n) = ix3 (bt t) (row t r) n := by
  obtain ⟨-, -, -, -, -, -, -, -, -, -, -, -, h0, h1, h2⟩ := idx_all t
  funext a
  match a with
  | ⟨0, _⟩ => exact Fin.ext (show win0_5.index t 0 * 1 + 1 * z.val = t.val / 8 by rw [h0]; omega)
  | ⟨1, _⟩ => exact Fin.ext (show win0_5.index t 1 * 528 + 1 * r.val = t.val % 8 * 528 + r.val by rw [h1]; omega)
  | ⟨2, _⟩ => exact Fin.ext (show win0_5.index t 2 * 1024 + 1 * n.val = n.val by rw [h2]; omega)

/-- Window 0's buffer holds the block of its array: none of its blocks is cut. -/
theorem blk0 (c : Dev nD) (t : Fin cfg0.N) (r : Fin 528) (k : Fin 2048) :
    (X0_0 m c t : S1x528x2048.Idx → EReal) (ix3 0 r k)
      = (m ((c : Thread nD τ).loc main_arg0) : S16x4608x2048.Idx → EReal) (ix3 (bt t) (wide (row t r)) k) := by
  unfold X0_0 Pipeline.Window.fill
  rw [dif_pos (moved0_0 t _)]
  show (V m c main_arg0 : S16x4608x2048.Idx → EReal) ((win0_0.blk t).view.emb _) = _
  rw [V_main_arg0]
  obtain ⟨h0, h1, h2, -⟩ := idx_all t
  congr 1
  funext a
  match a with
  | ⟨0, _⟩ => exact Fin.ext (show win0_0.index t 0 * 1 + 1 * 0 = t.val / 8 by rw [h0]; omega)
  | ⟨1, _⟩ => exact Fin.ext (show win0_0.index t 1 * 528 + 1 * r.val = t.val % 8 * 528 + r.val by rw [h1]; omega)
  | ⟨2, _⟩ => exact Fin.ext (show win0_0.index t 2 * 2048 + 1 * k.val = k.val by rw [h2]; omega)

theorem blk1 (c : Dev nD) (t : Fin cfg0.N) (k : Fin 2048) (n : Fin 1024) :
    (iblk m c 1 t : S2048x1024.Idx → EReal) (ix2 k n) = (m ((c : Thread nD τ).loc main_arg1) : S2048x1024.Idx → EReal) (ix2 k n) := by
  have e : (win0_1.blk t).view.emb (ix2 k n) = ix2 k n := by
    obtain ⟨-, -, -, h0, h1, -⟩ := idx_all t
    funext a
    match a with
    | ⟨0, _⟩ => exact Fin.ext (show win0_1.index t 0 * 2048 + 1 * k.val = k.val by rw [h0]; omega)
    | ⟨1, _⟩ => exact Fin.ext (show win0_1.index t 1 * 1024 + 1 * n.val = n.val by rw [h1]; omega)
  show (V m c main_v0 : S2048x1024.Idx → EReal) ((win0_1.blk t).view.emb (ix2 k n)) = _
  rw [e, V_w]
  rfl

theorem blk2 (c : Dev nD) (t : Fin cfg0.N) (n : Fin 1024) :
    (iblk m c 2 t : S1x1024.Idx → EReal) (ix2 0 n) = (m ((c : Thread nD τ).loc main_arg2) : S1024.Idx → EReal) (ix1 n) := by
  have e : (win0_2.blk t).view.emb (ix2 0 n) = ix2 0 n := by
    obtain ⟨-, -, -, -, -, h0, h1, -⟩ := idx_all t
    funext a
    match a with
    | ⟨0, _⟩ => exact Fin.ext (show win0_2.index t 0 * 1 + 1 * 0 = 0 by rw [h0])
    | ⟨1, _⟩ => exact Fin.ext (show win0_2.index t 1 * 1024 + 1 * n.val = n.val by rw [h1]; omega)
  show (V m c main_v1 : S1x1024.Idx → EReal) ((win0_2.blk t).view.emb (ix2 0 n)) = _
  rw [e, V_b]
  exact lead_apply _ _ _ _

theorem blk3 (c : Dev nD) (t : Fin cfg0.N) (n : Fin 1024) :
    (iblk m c 3 t : S1x1024.Idx → EReal) (ix2 0 n) = (m ((c : Thread nD τ).loc main_arg3) : S1024.Idx → EReal) (ix1 n) := by
  have e : (win0_3.blk t).view.emb (ix2 0 n) = ix2 0 n := by
    obtain ⟨-, -, -, -, -, -, -, h0, h1, -⟩ := idx_all t
    funext a
    match a with
    | ⟨0, _⟩ => exact Fin.ext (show win0_3.index t 0 * 1 + 1 * 0 = 0 by rw [h0])
    | ⟨1, _⟩ => exact Fin.ext (show win0_3.index t 1 * 1024 + 1 * n.val = n.val by rw [h1]; omega)
  show (V m c main_v2 : S1x1024.Idx → EReal) ((win0_3.blk t).view.emb (ix2 0 n)) = _
  rw [e, V_g]
  exact lead_apply _ _ _ _

theorem blk4 (c : Dev nD) (t : Fin cfg0.N) (r : Fin 528) (n : Fin 1024) :
    (iblk m c 4 t : S1x528x1024.Idx → EReal) (ix3 0 r n)
      = (m ((c : Thread nD τ).loc main_arg4) : S16x4224x1024.Idx → EReal) (ix3 (bt t) (row t r) n) := by
  show (V m c main_arg4 : S16x4224x1024.Idx → EReal) ((win0_4.blk t).view.emb (ix3 0 r n)) = _
  rw [V_main_arg4]
  obtain ⟨-, -, -, -, -, -, -, -, -, h0, h1, h2, -⟩ := idx_all t
  congr 1
  funext a
  match a with
  | ⟨0, _⟩ => exact Fin.ext (show win0_4.index t 0 * 1 + 1 * 0 = t.val / 8 by rw [h0]; omega)
  | ⟨1, _⟩ => exact Fin.ext (show win0_4.index t 1 * 528 + 1 * r.val = t.val % 8 * 528 + r.val by rw [h1]; omega)
  | ⟨2, _⟩ => exact Fin.ext (show win0_4.index t 2 * 1024 + 1 * n.val = n.val by rw [h2]; omega)

/-- What a grid point writes back is its block of the result. -/
theorem flushed_eq (c : Dev nD) (t : Fin cfg0.N) :
    (dats m 0 c).flushed 5 t = (win0_5.blk t).view.read (Elt Ideal) (G m c) := by
  rw [Value.flushed5_A]
  frame_out
  funext y
  obtain ⟨z, r, n, rfl⟩ : ∃ (z : Fin 1) (r : Fin 528) (n : Fin 1024), y = ix3 z r n := ⟨y 0, y 1, y 2, by funext a; fin_cases a <;> rfl⟩
  show k0_pay1 (F := Ideal) (X0_0 m c t) (iblk m c 1 t) (iblk m c 2 t) (iblk m c 4 t) (iblk m c 3 t) (ix3 z r n) = G m c ((win0_5.blk t).view.emb (ix3 z r n))
  rw [pay_apply, emb5]
  exact outProj_congr (blk0 m c t r) (blk1 m c t) (blk2 m c t) (blk3 m c t) (blk4 m c t r) n

/-- The blocks cover the result array. -/
theorem cover (i : S16x4224x1024.Idx) :
    ∃ t : Fin cfg0.N, (cfg0.win 5).flush t = true ∧ i ∈ ((cfg0.win 5).blk t).view.set := by
  have h0 : (i 0 : Nat) < 16 := (i 0).isLt
  have h1 : (i 1 : Nat) < 4224 := (i 1).isLt
  refine ⟨⟨(i 0).val * 8 + (i 1).val / 528, by show _ < grid0.N; rw [N_0]; omega⟩, flush0_5 _, ?_⟩
  refine Finset.mem_map.mpr ⟨ix3 0 ⟨(i 1).val % 528, Nat.mod_lt _ (by decide)⟩ (i 2), Finset.mem_univ _, ?_⟩
  refine (emb5 _ _ _ _).trans ?_
  funext a
  match a with
  | ⟨0, _⟩ => exact Fin.ext (show ((i 0).val * 8 + (i 1).val / 528) / 8 = (i 0).val by omega)
  | ⟨1, _⟩ => exact Fin.ext (show ((i 0).val * 8 + (i 1).val / 528) % 8 * 528 + (i 1).val % 528 = (i 1).val by omega)
  | ⟨2, _⟩ => rfl

theorem final (c : Dev nD) : (dats m 0 c).arrAt 5 cfg0.N = G m c :=
  (dats m 0 c).arrAt_eq_of_cover 5 (G m c) (fun t _ => flushed_eq m c t) cover

end Cert.OutProjHyenaIdeal.RefValue

end
-- ==== Proof.OutProjHyena.lean ====
/- The hyena layer's output projection: the reference's result index by index, and the agreement of kernel and reference. -/
module

public import proofs.«01_k».proof.Defs
public import proofs.«01_k».proof.Proof.Gen.OutProjHyena.Frame
public import proofs.«01_k».proof.Proof.OutProjHyenaBlock
public import proofs.«01_k».proof.Proof.Gen.OutProjHyenaReferenceIdeal.Run
public import Idealize.ShloMosaic.Lib.Quiescent

@[expose] public section

set_option maxRecDepth 16384

noncomputable section

open Idealize.ShloMosaic Idealize.ShloMosaic.TcCoe Idealize.SL.Sem Idealize.ShloMosaic.Pointwise

namespace Cert.OutProjHyenaReferenceIdeal.RefValue

open Cert.OutProjHyenaReferenceIdeal Cert.OutProjHyenaReferenceIdeal.Gen Cert.Dense

/-- The projected rows. -/
def proj (a : FVec Ideal S16x4608x2048 .bf16) (w : FVec Ideal S2048x1024 .f32) (b : FVec Ideal S1024 .f32) : FVec Ideal S16x4224x1024 .f32 :=
  addf (Host.dotGeneral dot_S16x4224x2048_S2048x1024_S16x4224x1024_2_0_01_1_n_n none (extf .f32 (extractStridedSlice S16x4224x2048 ![0, 0, 0] a slices_S16x4608x2048_S16x4224x2048_0_0_0) bitsLt_bf16_f32) w) (broadcastInDim S16x4224x1024 ![0, 1, 2] bcast_S1x1x1024_S16x4224x1024_0_1_2 (broadcastInDim S1x1x1024 ![2] bcast_S1024_S1x1x1024_2 b))

/-- The reference's result as a function of its arguments. -/
def res (a : FVec Ideal S16x4608x2048 .bf16) (w : FVec Ideal S2048x1024 .f32) (b g : FVec Ideal S1024 .f32) (h : FVec Ideal S16x4224x1024 .f32) :
    FVec Ideal S16x4224x1024 .f32 :=
  addf h (mulf (mulf (proj a w b) (broadcastInDim S16x4224x1024 ![0, 1, 2] bcast_S16x4224x1_S16x4224x1024_0_1_2 (Host.rsqrt (addf (Host.divf (broadcastInDim S16x4224x1 ![0, 1] bcast_S16x4224_S16x4224x1_0_1 (Host.reduceAdd (mulf (proj a w b) (proj a w b)) (constant S_ .f32 0x00000000#32) reducesTo_S16x4224x1024_S16x4224_d2 h_S_)) (broadcastInDim S16x4224x1 ![] bcast_S_S16x4224x1 (constant S_ .f32 0x44800000#32))) (broadcastInDim S16x4224x1 ![] bcast_S_S16x4224x1 (constant S_ .f32 0x358637BD#32)))))) (broadcastInDim S16x4224x1024 ![0, 1, 2] bcast_S1x1x1024_S16x4224x1024_0_1_2 (broadcastInDim S1x1x1024 ![2] bcast_S1024_S1x1x1024_2 g)))

/-- A projected row, at each index. -/
theorem proj_apply (a : FVec Ideal S16x4608x2048 .bf16) (w : FVec Ideal S2048x1024 .f32) (b : FVec Ideal S1024 .f32)
    (i0 : Fin 16) (i1 : Fin 4224) (i2 : Fin 1024) :
    proj a w b (ix3 i0 i1 i2) = dot (fun k => a (ix3 i0 (Cert.OutProjHyenaIdeal.RefValue.wide i1) k)) (fun k => w (ix2 k i2)) (b (ix1 i2)) := by
  pointwise [proj]
  rfl

/-- The result is the projection of its row, at each index. -/
theorem res_apply (a : FVec Ideal S16x4608x2048 .bf16) (w : FVec Ideal S2048x1024 .f32) (b g : FVec Ideal S1024 .f32)
    (h : FVec Ideal S16x4224x1024 .f32) (i0 : Fin 16) (i1 : Fin 4224) (i2 : Fin 1024) :
    res a w b g h (ix3 i0 i1 i2)
      = outProj (fun k => a (ix3 i0 (Cert.OutProjHyenaIdeal.RefValue.wide i1) k)) (fun k j => w (ix2 k j)) (fun j => b (ix1 j)) (fun j => g (ix1 j)) (fun j => h (ix3 i0 i1 j)) i2 := by
  pointwise [res]
  simp only [proj_apply]
  rfl

end Cert.OutProjHyenaReferenceIdeal.RefValue

namespace Cert.Proof

open Cert.Dense

theorem frame_OutProjHyena : quiescent_OutProjHyena (hOutProjHyena := Cert.OutProjHyena.Gen.facts) := fun m ρ _ => Cert.OutProjHyena.Gen.frame m ρ

theorem frame_OutProjHyenaIdeal : quiescent_OutProjHyenaIdeal (hOutProjHyenaIdeal := Cert.OutProjHyenaIdeal.Gen.facts) := fun m ρ _ => Cert.OutProjHyenaIdeal.Gen.frame m ρ

theorem frame_OutProjHyenaReference : quiescent_OutProjHyenaReferenceIdeal (hOutProjHyenaReferenceIdeal := Cert.OutProjHyenaReferenceIdeal.Gen.facts) := fun m ρ _ =>
  (θ_run Cert.OutProjHyenaReferenceIdeal.defs _ _).mono
    (fun r h => ⟨fun c => (h c).2, sem_eq_zero_of_no_sems (by decide) r.2⟩) (Cert.OutProjHyenaReferenceIdeal.Value.run (F := Ideal) m ρ)

theorem algebraic_OutProjHyena : algebraic_OutProjHyenaIdeal_OutProjHyenaReferenceIdeal
    (hOutProjHyenaIdeal := Cert.OutProjHyenaIdeal.Gen.facts) (hOutProjHyenaReferenceIdeal := Cert.OutProjHyenaReferenceIdeal.Gen.facts) := by
  intro m ρ m' ρ' _ hagree
  refine ⟨fun c => Cert.OutProjHyenaIdeal.RefValue.G m c, (θ_run Cert.OutProjHyenaIdeal.defs _ _).mono
      (fun _ h c => ⟨(h c).1.trans (Cert.OutProjHyenaIdeal.RefValue.final m c), (h c).2⟩) (Cert.OutProjHyenaIdeal.Value.run_blocks (F := Ideal) m ρ),
    (θ_run Cert.OutProjHyenaReferenceIdeal.defs _ _).mono (fun _ h c => ⟨(h c).1.trans ?_, (h c).2⟩)
      (Cert.OutProjHyenaReferenceIdeal.Value.run (F := Ideal) m' ρ')⟩
  obtain ⟨e0, e1, e2, e3, e4⟩ := hagree c
  refine (show _ = Cert.OutProjHyenaReferenceIdeal.RefValue.res _ _ _ _ _ from rfl).trans ?_
  rw [e0, e1, e2, e3, e4]
  funext i
  obtain ⟨i0, i1, i2, rfl⟩ : ∃ (i0 : Fin 16) (i1 : Fin 4224) (i2 : Fin 1024), i = ix3 i0 i1 i2 :=
    ⟨i 0, i 1, i 2, by funext a; match a with | ⟨0, _⟩ => rfl | ⟨1, _⟩ => rfl | ⟨2, _⟩ => rfl⟩
  exact Cert.OutProjHyenaReferenceIdeal.RefValue.res_apply _ _ _ _ _ i0 i1 i2

end Cert.Proof

end
-- ==== Proof.Gated.lean ====
/- The DeltaNet layer's output as a plain function of one row: each head's norm, the gate, the projection, the norm of the sum. -/
module

public import proofs.«01_k».proof.Proof.Dense

@[expose] public section

noncomputable section

namespace Cert.Dense

open Idealize.ShloMosaic

/-- The head of a column among 2048: sixteen heads of 128 columns each. -/
def head (k : Fin 2048) : Fin 16 := ⟨k.val / 128, by have := k.isLt; omega⟩

/-- The column's position in its head. -/
def lane (k : Fin 2048) : Fin 128 := ⟨k.val % 128, Nat.mod_lt _ (by decide)⟩

/-- Column `d` of head `n`. -/
def col (n : Fin 16) (d : Fin 128) : Fin 2048 := ⟨n.val * 128 + d.val, by have := n.isLt; have := d.isLt; omega⟩

/-- The head width 128 as the programs write it. -/
def len128 : EReal := Ideal.ofBits .f32 0x43000000#32

/-- One head's output: its norm, times the gate `z` passed through `z * logistic z`. -/
def gated (o z g : Fin 128 → EReal) (d : Fin 128) : EReal := rms len128 eps6 o g d * (z d * Ideal.logistic (z d))

/-- All heads of a row: head by head the gated norm. -/
def mixed (o z : Fin 2048 → EReal) (g : Fin 128 → EReal) (k : Fin 2048) : EReal :=
  gated (fun d => o (col (head k) d)) (fun d => z (col (head k) d)) g (lane k)

/-- The layer's output at one row and one column: the residual plus the norm of the projected row. -/
def gdnOut (o z : Fin 2048 → EReal) (g : Fin 128 → EReal) (w : Fin 2048 → Fin 1024 → EReal) (gain h : Fin 1024 → EReal) (n : Fin 1024) : EReal :=
  h n + rms len1024 eps6 (fun j => ∑ k, mixed o z g k * w k j) gain n

theorem gdnOut_congr {o o' z z' : Fin 2048 → EReal} {g g' : Fin 128 → EReal} {w w' : Fin 2048 → Fin 1024 → EReal} {gain gain' h h' : Fin 1024 → EReal}
    (ho : ∀ k, o k = o' k) (hz : ∀ k, z k = z' k) (hg : ∀ d, g d = g' d) (hw : ∀ k n, w k n = w' k n) (hgain : ∀ n, gain n = gain' n)
    (hh : ∀ n, h n = h' n) (n : Fin 1024) : gdnOut o z g w gain h n = gdnOut o' z' g' w' gain' h' n := by
  rw [funext ho, funext hz, funext hg, funext fun k => funext (hw k), funext hgain, funext hh]

end Cert.Dense

end
-- ==== Proof.GdnOutBlock.lean ====
/- The DeltaNet layer's output: its result array, index by index. -/
module

public import proofs.«01_k».proof.Proof.Gen.GdnOutIdeal.Value
public import proofs.«01_k».proof.Proof.Gated
public import Idealize.ShloMosaic.Lib.Pointwise
public import Idealize.ShloMosaic.Lib.StableHlo.Run
public import Idealize.ShloMosaic.Lib.Pipeline.ValueKit.Acc
public import Idealize.ShloMosaic.Lib.Pipeline.ValueKit.Tiles

@[expose] public section

set_option maxRecDepth 16384

noncomputable section

namespace Cert.GdnOutIdeal.RefValue

open Cert.GdnOutIdeal Cert.GdnOutIdeal.Gen Cert.Dense Idealize.ShloMosaic Idealize.ShloMosaic.TcCoe Idealize.ShloMosaic.Pointwise Idealize.SL.Sem
open Idealize.ShloMosaic.Pipeline (Dat)

/-- One head's payload at an index. -/
theorem head_apply (a b : Vec Ideal S1x1x528x128 .bf16) (g : Vec Ideal S1x128 .f32) (z : Vec Ideal S1x528x128 .bf16) (r : Fin 528) (d : Fin 128) :
    k0_pay2 (F := Ideal) a b g z (ix2 r d)
      = gated (fun d => a (ix4 0 0 r d) + b (ix4 0 0 r d)) (fun d => z (ix3 0 r d)) (fun d => g (ix2 0 d)) d := by
  pointwise [k0_pay2]
  rfl

theorem inbO (n : Fin 16) : ∀ a, (![0, 0, 0, 128 * n.val] : Fin 4 → Nat) a + S1x1x528x128.size a ≤ S1x1x528x2048.size a := by
  revert n
  decide

theorem inbZ (n : Fin 16) : ∀ a, (![0, 0, 128 * n.val] : Fin 3 → Nat) a + S1x528x128.size a ≤ S1x528x2048.size a := by
  revert n
  decide

/-- Head `n`'s columns of a scan output's block. -/
def part (x : Vec Ideal S1x1x528x2048 .bf16) (n : Fin 16) : Vec Ideal S1x1x528x128 .bf16 :=
  View.ld x (Rect.unit (s := S1x1x528x2048) ![0, 0, 0, 128 * n.val] S1x1x528x128.size (inbO n))

/-- Head `n`'s columns of the gate's block. -/
def gate (x : Vec Ideal S1x528x2048 .bf16) (n : Fin 16) : Vec Ideal S1x528x128 .bf16 :=
  View.ld x (Rect.unit (s := S1x528x2048) ![0, 0, 128 * n.val] S1x528x128.size (inbZ n))

theorem part_apply (x : Vec Ideal S1x1x528x2048 .bf16) (n : Fin 16) (r : Fin 528) (d : Fin 128) :
    part x n (ix4 0 0 r d) = x (ix4 0 0 r (col n d)) :=
  View.ld_unit_apply_of x _ _ (inbO n) _ _ fun a => by
    match a with
    | ⟨0, _⟩ => rfl
    | ⟨1, _⟩ => rfl
    | ⟨2, _⟩ => exact (Nat.zero_add _).symm
    | ⟨3, _⟩ => show n.val * 128 + d.val = 128 * n.val + d.val; omega

theorem gate_apply (x : Vec Ideal S1x528x2048 .bf16) (n : Fin 16) (r : Fin 528) (d : Fin 128) :
    gate x n (ix3 0 r d) = x (ix3 0 r (col n d)) :=
  View.ld_unit_apply_of x _ _ (inbZ n) _ _ fun a => by
    match a with
    | ⟨0, _⟩ => rfl
    | ⟨1, _⟩ => exact (Nat.zero_add _).symm
    | ⟨2, _⟩ => show n.val * 128 + d.val = 128 * n.val + d.val; omega

/-- The sixteen heads' payloads side by side. -/
def heads (O P : Vec Ideal S1x1x528x2048 .bf16) (Z : Vec Ideal S1x528x2048 .bf16) (g : Vec Ideal S1x128 .f32) : FVec Ideal S528x2048 .bf16 :=
  concatenate S528x2048 1 (List.ofFn fun n : Fin 16 => (⟨S528x128, k0_pay2 (F := Ideal) (part O n) (part P n) g (gate Z n)⟩ : (s : Shape) × (s.Idx → EReal)))
    concatenates_S528x128_S528x128_S528x128_S528x128_S528x128_S528x128_S528x128_S528x128_S528x128_S528x128_S528x128_S528x128_S528x128_S528x128_S528x128_S528x128_S528x2048_d1

theorem heads_apply (O P : Vec Ideal S1x1x528x2048 .bf16) (Z : Vec Ideal S1x528x2048 .bf16) (g : Vec Ideal S1x128 .f32) (r : Fin 528) (k : Fin 2048) :
    heads O P Z g (ix2 r k)
      = mixed (fun k => O (ix4 0 0 r k) + P (ix4 0 0 r k)) (fun k => Z (ix3 0 r k)) (fun d => g (ix2 0 d)) k := by
  refine (concatenate_ofFn_apply (t := S528x2048) (s₁ := S528x128) 1 (fun n : Fin 16 => k0_pay2 (F := Ideal) (part O n) (part P n) g (gate Z n)) _ rfl 128 rfl
    (ix2 r k) (head k) rfl (ix2 r (lane k)) rfl fun b hb => ?_).trans ?_
  · match b with
    | ⟨0, _⟩ => rfl
    | ⟨1, _⟩ => exact absurd rfl hb
  · rw [head_apply]
    simp only [part_apply, gate_apply]
    rfl

/-- The projected rows. -/
def proj (O P : Vec Ideal S1x1x528x2048 .bf16) (Z : Vec Ideal S1x528x2048 .bf16) (g : Vec Ideal S1x128 .f32) (w : Vec Ideal S2048x1024 .bf16) :
    FVec Ideal S528x1024 .f32 :=
  matmul dot_S528x2048_S2048x1024_S528x1024_1_0_0_1_n_n none (heads O P Z g)
    (φ₂ := .bf16) (shapeCast S2048x1024 w shapeCasts_S2048x1024_S2048x1024) (constant S528x1024 .f32 0x00000000#32)

theorem proj_apply (O P : Vec Ideal S1x1x528x2048 .bf16) (Z : Vec Ideal S1x528x2048 .bf16) (g : Vec Ideal S1x128 .f32) (w : Vec Ideal S2048x1024 .bf16)
    (r : Fin 528) (n : Fin 1024) :
    proj O P Z g w (ix2 r n)
      = ∑ k, mixed (fun k => O (ix4 0 0 r k) + P (ix4 0 0 r k)) (fun k => Z (ix3 0 r k)) (fun d => g (ix2 0 d)) k * w (ix2 k n) := by
  pointwise [proj]
  simp only [heads_apply]

/-- The mean of the squares of each row. -/
def meanSq (y : FVec Ideal S528x1024 .f32) : FVec Ideal S528x1 .f32 :=
  divf (shapeCast S528x1 (multiReduction .add [1] S528 (mulf y y) 0x00000000#32 reduces_S528x1024_S528 (.inl rfl) rfl) shapeCasts_S528_S528x1)
    (broadcast S528x1 (Scalar.ofBits (F := Ideal) .f32 0x44800000#32))

/-- One block's payload at an index. -/
theorem pay_apply (y : FVec Ideal S528x1024 .f32) (h : Vec Ideal S1x528x1024 .f32) (g : Vec Ideal S1x1024 .f32) (z : Fin 1) (r : Fin 528) (n : Fin 1024) :
    k0_pay1 (F := Ideal) y (meanSq y) h g (ix3 z r n)
      = h (ix3 0 r n) + rms len1024 eps6 (fun j => y (ix2 r j)) (fun j => g (ix2 0 j)) n := by
  pointwise [k0_pay1, meanSq]
  rfl

variable (m : (ℓ : Loc nD τ sig) → Buf (Elt Ideal) ℓ)

theorem V_w (c : Dev nD) : V m c main_v0 = truncf (F := Ideal) .bf16 (m ((c : Thread nD τ).loc main_arg3)) bitsLt_bf16_f32 := by
  unfold V hostOps0
  after_results

theorem V_o (c : Dev nD) : V m c main_v1 = shapeCast S1x128 (m ((c : Thread nD τ).loc main_arg2)) shapeCasts_S128_S1x128 := by
  unfold V hostOps0
  after_results
  rfl

theorem V_g (c : Dev nD) : V m c main_v2 = shapeCast S1x1024 (m ((c : Thread nD τ).loc main_arg4)) shapeCasts_S1024_S1x1024 := by
  unfold V hostOps0
  after_results
  rfl

/-- A gate column, among the input projection's 6272 columns. -/
def gcol (k : Fin 2048) : Fin 6272 := ⟨4096 + k.val, by have := k.isLt; omega⟩

/-- The two scan outputs. -/
def scans (c : Dev nD) : S2x16x4224x2048.Idx → EReal := m ((c : Thread nD τ).loc main_arg0)

/-- The result array: the layer's output at row `(i 0, i 1)` and column `i 2`. -/
def G (c : Dev nD) : Buf (Elt Ideal) ((c : Thread nD τ).loc main_v3) := fun i : S16x4224x1024.Idx =>
  gdnOut (fun k => scans m c (ix4 0 (i 0) (i 1) k) + scans m c (ix4 1 (i 0) (i 1) k))
    (fun k => (m ((c : Thread nD τ).loc main_arg1) : S16x4224x6272.Idx → EReal) (ix3 (i 0) (i 1) (gcol k)))
    (fun d => (m ((c : Thread nD τ).loc main_arg2) : S128.Idx → EReal) (ix1 d))
    (fun k j => (m ((c : Thread nD τ).loc main_arg3) : S2048x1024.Idx → EReal) (ix2 k j))
    (fun j => (m ((c : Thread nD τ).loc main_arg4) : S1024.Idx → EReal) (ix1 j))
    (fun j => (m ((c : Thread nD τ).loc main_arg5) : S16x4224x1024.Idx → EReal) (ix3 (i 0) (i 1) j)) (i 2)

/-- The windows' block positions at a grid point, in closed form. -/
theorem idx_all : ∀ t : Fin grid0.N,
    (win0_0.index t 0 = 0 ∧ win0_0.index t 1 = t.val / 8 ∧ win0_0.index t 2 = t.val % 8 ∧ win0_0.index t 3 = 0)
    ∧ (win0_1.index t 0 = 1 ∧ win0_1.index t 1 = t.val / 8 ∧ win0_1.index t 2 = t.val % 8 ∧ win0_1.index t 3 = 0)
    ∧ (win0_2.index t 0 = t.val / 8 ∧ win0_2.index t 1 = t.val % 8 ∧ win0_2.index t 2 = 2)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val / 8 ∧ win0_6.index t 1 = t.val % 8 ∧ win0_6.index t 2 = 0)
    ∧ (win0_7.index t 0 = t.val / 8 ∧ win0_7.index t 1 = t.val % 8 ∧ win0_7.index t 2 = 0) := by
  decide +kernel

section
variable (t : Fin grid0.N)
theorem tlt : t.val < 128 := lt_of_lt_of_eq t.isLt N_0
/-- The batch of a grid point. -/
def bt : Fin 16 := ⟨t.val / 8, by have := tlt t; omega⟩
/-- Row `r` of the point's block, in the whole array. -/
def row (r : Fin 528) : Fin 4224 := ⟨t.val % 8 * 528 + r.val, by have := r.isLt; omega⟩
end

theorem emb7 (t : Fin cfg0.N) (z : Fin 1) (r : Fin 528) (n : Fin 1024) :
    (win0_7.blk t).view.emb (ix3 z r n) = ix3 (bt t) (row t r) n := by
  obtain ⟨-, -, -, -, -, -, -, h0, h1, h2⟩ := idx_all t
  funext a
  match a with
  | ⟨0, _⟩ => exact Fin.ext (show win0_7.index t 0 * 1 + 1 * z.val = t.val / 8 by rw [h0]; omega)
  | ⟨1, _⟩ => exact Fin.ext (show win0_7.index t 1 * 528 + 1 * r.val = t.val % 8 * 528 + r.val by rw [h1]; omega)
  | ⟨2, _⟩ => exact Fin.ext (show win0_7.index t 2 * 1024 + 1 * n.val = n.val by rw [h2]; omega)

/-- Windows 0 and 1: a row of the two directions' scan outputs. -/
theorem blk0 (c : Dev nD) (t : Fin cfg0.N) (r : Fin 528) (k : Fin 2048) :
    (iblk m c 0 t : S1x1x528x2048.Idx → EReal) (ix4 0 0 r k)
      = (m ((c : Thread nD τ).loc main_arg0) : S2x16x4224x2048.Idx → EReal) (ix4 0 (bt t) (row t r) k) := by
  show (V m c main_arg0 : S2x16x4224x2048.Idx → EReal) ((win0_0.blk t).view.emb (ix4 0 0 r k)) = _
  rw [V_main_arg0]
  obtain ⟨⟨h0, h1, h2, h3⟩, -⟩ := idx_all t
  congr 1
  funext a
  match a with
  | ⟨0, _⟩ => exact Fin.ext (show win0_0.index t 0 * 1 + 1 * 0 = 0 by rw [h0])
  | ⟨1, _⟩ => exact Fin.ext (show win0_0.index t 1 * 1 + 1 * 0 = t.val / 8 by rw [h1]; omega)
  | ⟨2, _⟩ => exact Fin.ext (show win0_0.index t 2 * 528 + 1 * r.val = t.val % 8 * 528 + r.val by rw [h2]; omega)
  | ⟨3, _⟩ => exact Fin.ext (show win0_0.index t 3 * 2048 + 1 * k.val = k.val by rw [h3]; omega)

theorem blk1 (c : Dev nD) (t : Fin cfg0.N) (r : Fin 528) (k : Fin 2048) :
    (iblk m c 1 t : S1x1x528x2048.Idx → EReal) (ix4 0 0 r k)
      = (m ((c : Thread nD τ).loc main_arg0) : S2x16x4224x2048.Idx → EReal) (ix4 1 (bt t) (row t r) k) := by
  show (V m c main_arg0 : S2x16x4224x2048.Idx → EReal) ((win0_1.blk t).view.emb (ix4 0 0 r k)) = _
  rw [V_main_arg0]
  obtain ⟨-, ⟨h0, h1, h2, h3⟩, -⟩ := idx_all t
  congr 1
  funext a
  match a with
  | ⟨0, _⟩ => exact Fin.ext (show win0_1.index t 0 * 1 + 1 * 0 = 1 by rw [h0])
  | ⟨1, _⟩ => exact Fin.ext (show win0_1.index t 1 * 1 + 1 * 0 = t.val / 8 by rw [h1]; omega)
  | ⟨2, _⟩ => exact Fin.ext (show win0_1.index t 2 * 528 + 1 * r.val = t.val % 8 * 528 + r.val by rw [h2]; omega)
  | ⟨3, _⟩ => exact Fin.ext (show win0_1.index t 3 * 2048 + 1 * k.val = k.val by rw [h3]; omega)

/-- Window 2's buffer holds the gate's columns: none of its blocks is cut. -/
theorem blk2 (c : Dev nD) (t : Fin cfg0.N) (r : Fin 528) (k : Fin 2048) :
    (X0_2 m c t : S1x528x2048.Idx → EReal) (ix3 0 r k)
      = (m ((c : Thread nD τ).loc main_arg1) : S16x4224x6272.Idx → EReal) (ix3 (bt t) (row t r) (gcol k)) := by
  unfold X0_2 Pipeline.Window.fill
  rw [dif_pos (moved0_2 t _)]
  show (V m c main_arg1 : S16x4224x6272.Idx → EReal) ((win0_2.blk t).view.emb _) = _
  rw [V_main_arg1]
  obtain ⟨-, -, ⟨h0, h1, h2⟩, -⟩ := idx_all t
  congr 1
  funext a
  match a with
  | ⟨0, _⟩ => exact Fin.ext (show win0_2.index t 0 * 1 + 1 * 0 = t.val / 8 by rw [h0]; omega)
  | ⟨1, _⟩ => exact Fin.ext (show win0_2.index t 1 * 528 + 1 * r.val = t.val % 8 * 528 + r.val by rw [h1]; omega)
  | ⟨2, _⟩ => exact Fin.ext (show win0_2.index t 2 * 2048 + 1 * k.val = 4096 + k.val by rw [h2]; omega)

theorem blk3 (c : Dev nD) (t : Fin cfg0.N) (d : Fin 128) :
    (iblk m c 3 t : S1x128.Idx → EReal) (ix2 0 d) = (m ((c : Thread nD τ).loc main_arg2) : S128.Idx → EReal) (ix1 d) := by
  have e : (win0_3.blk t).view.emb (ix2 0 d) = ix2 0 d := by
    obtain ⟨-, -, -, ⟨h0, h1⟩, -⟩ := idx_all t
    funext a
    match a with
    | ⟨0, _⟩ => exact Fin.ext (show win0_3.index t 0 * 1 + 1 * 0 = 0 by rw [h0])
    | ⟨1, _⟩ => exact Fin.ext (show win0_3.index t 1 * 128 + 1 * d.val = d.val by rw [h1]; omega)
  show (V m c main_v1 : S1x128.Idx → EReal) ((win0_3.blk t).view.emb (ix2 0 d)) = _
  rw [e, V_o]
  exact lead_apply _ _ _ _

theorem blk4 (c : Dev nD) (t : Fin cfg0.N) (k : Fin 2048) (n : Fin 1024) :
    (iblk m c 4 t : S2048x1024.Idx → EReal) (ix2 k n) = (m ((c : Thread nD τ).loc main_arg3) : S2048x1024.Idx → EReal) (ix2 k n) := by
  have e : (win0_4.blk t).view.emb (ix2 k n) = ix2 k n := by
    obtain ⟨-, -, -, -, ⟨h0, h1⟩, -⟩ := idx_all t
    funext a
    match a with
    | ⟨0, _⟩ => exact Fin.ext (show win0_4.index t 0 * 2048 + 1 * k.val = k.val by rw [h0]; omega)
    | ⟨1, _⟩ => exact Fin.ext (show win0_4.index t 1 * 1024 + 1 * n.val = n.val by rw [h1]; omega)
  show (V m c main_v0 : S2048x1024.Idx → EReal) ((win0_4.blk t).view.emb (ix2 k n)) = _
  rw [e, V_w]
  rfl

theorem blk5 (c : Dev nD) (t : Fin cfg0.N) (n : Fin 1024) :
    (iblk m c 5 t : S1x1024.Idx → EReal) (ix2 0 n) = (m ((c : Thread nD τ).loc main_arg4) : S1024.Idx → EReal) (ix1 n) := by
  have e : (win0_5.blk t).view.emb (ix2 0 n) = ix2 0 n := by
    obtain ⟨-, -, -, -, -, ⟨h0, h1⟩, -⟩ := idx_all t
    funext a
    match a with
    | ⟨0, _⟩ => exact Fin.ext (show win0_5.index t 0 * 1 + 1 * 0 = 0 by rw [h0])
    | ⟨1, _⟩ => exact Fin.ext (show win0_5.index t 1 * 1024 + 1 * n.val = n.val by rw [h1]; omega)
  show (V m c main_v2 : S1x1024.Idx → EReal) ((win0_5.blk t).view.emb (ix2 0 n)) = _
  rw [e, V_g]
  exact lead_apply _ _ _ _

theorem blk6 (c : Dev nD) (t : Fin cfg0.N) (r : Fin 528) (n : Fin 1024) :
    (iblk m c 6 t : S1x528x1024.Idx → EReal) (ix3 0 r n)
      = (m ((c : Thread nD τ).loc main_arg5) : S16x4224x1024.Idx → EReal) (ix3 (bt t) (row t r) n) := by
  show (V m c main_arg5 : S16x4224x1024.Idx → EReal) ((win0_6.blk t).view.emb (ix3 0 r n)) = _
  rw [V_main_arg5]
  obtain ⟨-, -, -, -, -, -, ⟨h0, h1, h2⟩, -⟩ := idx_all t
  congr 1
  funext a
  match a with
  | ⟨0, _⟩ => exact Fin.ext (show win0_6.index t 0 * 1 + 1 * 0 = t.val / 8 by rw [h0]; omega)
  | ⟨1, _⟩ => exact Fin.ext (show win0_6.index t 1 * 528 + 1 * r.val = t.val % 8 * 528 + r.val by rw [h1]; omega)
  | ⟨2, _⟩ => exact Fin.ext (show win0_6.index t 2 * 1024 + 1 * n.val = n.val by rw [h2]; omega)

set_option maxHeartbeats 4000000 in
/-- What a grid point writes back is its block of the result. -/
theorem flushed_eq (c : Dev nD) (t : Fin cfg0.N) :
    (dats m 0 c).flushed 7 t = (win0_7.blk t).view.read (Elt Ideal) (G m c) := by
  rw [Value.flushed7_A]
  frame_out
  funext y
  obtain ⟨z, r, n, rfl⟩ : ∃ (z : Fin 1) (r : Fin 528) (n : Fin 1024), y = ix3 z r n := ⟨y 0, y 1, y 2, by funext a; fin_cases a <;> rfl⟩
  show k0_pay1 (F := Ideal) (proj (iblk m c 0 t) (iblk m c 1 t) (X0_2 m c t) (iblk m c 3 t) (iblk m c 4 t))
    (meanSq (proj (iblk m c 0 t) (iblk m c 1 t) (X0_2 m c t) (iblk m c 3 t) (iblk m c 4 t))) (iblk m c 6 t) (iblk m c 5 t) (ix3 z r n)
      = G m c ((win0_7.blk t).view.emb (ix3 z r n))
  rw [pay_apply, emb7]
  simp only [proj_apply]
  exact gdnOut_congr (fun k => congrArg₂ (fun a b : EReal => a + b) (blk0 m c t r k) (blk1 m c t r k)) (blk2 m c t r) (blk3 m c t) (blk4 m c t) (blk5 m c t) (blk6 m c t r) n

/-- The blocks cover the result array. -/
theorem cover (i : S16x4224x1024.Idx) :
    ∃ t : Fin cfg0.N, (cfg0.win 7).flush t = true ∧ i ∈ ((cfg0.win 7).blk t).view.set := by
  have h0 : (i 0 : Nat) < 16 := (i 0).isLt
  have h1 : (i 1 : Nat) < 4224 := (i 1).isLt
  refine ⟨⟨(i 0).val * 8 + (i 1).val / 528, by show _ < grid0.N; rw [N_0]; omega⟩, flush0_7 _, ?_⟩
  refine Finset.mem_map.mpr ⟨ix3 0 ⟨(i 1).val % 528, Nat.mod_lt _ (by decide)⟩ (i 2), Finset.mem_univ _, ?_⟩
  refine (emb7 _ _ _ _).trans ?_
  funext a
  match a with
  | ⟨0, _⟩ => exact Fin.ext (show ((i 0).val * 8 + (i 1).val / 528) / 8 = (i 0).val by omega)
  | ⟨1, _⟩ => exact Fin.ext (show ((i 0).val * 8 + (i 1).val / 528) % 8 * 528 + (i 1).val % 528 = (i 1).val by omega)
  | ⟨2, _⟩ => rfl

theorem final (c : Dev nD) : (dats m 0 c).arrAt 7 cfg0.N = G m c :=
  (dats m 0 c).arrAt_eq_of_cover 7 (G m c) (fun t _ => flushed_eq m c t) cover

end Cert.GdnOutIdeal.RefValue

end
-- ==== Proof.GdnOut.lean ====
/- The DeltaNet layer's output: the reference's result index by index, and the agreement of kernel and reference. -/
module

public import proofs.«01_k».proof.Defs
public import proofs.«01_k».proof.Proof.Gen.GdnOut.Frame
public import proofs.«01_k».proof.Proof.GdnOutBlock
public import proofs.«01_k».proof.Proof.Gen.GdnOutReferenceIdeal.Run
public import Idealize.ShloMosaic.Lib.Quiescent

@[expose] public section

set_option maxRecDepth 16384

noncomputable section

open Idealize.ShloMosaic Idealize.ShloMosaic.TcCoe Idealize.SL.Sem Idealize.ShloMosaic.Pointwise

namespace Cert.GdnOutReferenceIdeal.RefValue

open Cert.GdnOutReferenceIdeal Cert.GdnOutReferenceIdeal.Gen Cert.Dense

/-- The sum of the two directions' scan outputs, head by head. -/
def both (o : FVec Ideal S2x16x4224x2048 .bf16) : FVec Ideal S16x4224x16x128 .f32 :=
  shapeCast _ (addf (extf .f32 (shapeCast _ (extractStridedSlice S1x16x4224x2048 ![0, 0, 0, 0] o slices_S2x16x4224x2048_S1x16x4224x2048_0_0_0_0) shapeCasts_S1x16x4224x2048_S16x4224x2048) bitsLt_bf16_f32) (extf .f32 (shapeCast _ (extractStridedSlice S1x16x4224x2048 ![1, 0, 0, 0] o slices_S2x16x4224x2048_S1x16x4224x2048_1_0_0_0) shapeCasts_S1x16x4224x2048_S16x4224x2048) bitsLt_bf16_f32)) shapeCasts_S16x4224x2048_S16x4224x16x128

/-- The gate's input, head by head. -/
def gate (u : FVec Ideal S16x4224x6272 .bf16) : FVec Ideal S16x4224x16x128 .f32 :=
  shapeCast _ (extf .f32 (extractStridedSlice S16x4224x2048 ![0, 0, 4096] u slices_S16x4224x6272_S16x4224x2048_0_0_4096) bitsLt_bf16_f32) shapeCasts_S16x4224x2048_S16x4224x16x128

/-- The gated heads, side by side. -/
def mixedRows (o z : FVec Ideal S16x4224x16x128 .f32) (g : FVec Ideal S128 .f32) : FVec Ideal S16x4224x2048 .f32 :=
  shapeCast _ (mulf (mulf (mulf o (broadcastInDim S16x4224x16x128 ![0, 1, 2, 3] bcast_S16x4224x16x1_S16x4224x16x128_0_1_2_3 (Host.rsqrt (addf (Host.divf (broadcastInDim S16x4224x16x1 ![0, 1, 2] bcast_S16x4224x16_S16x4224x16x1_0_1_2 (Host.reduceAdd (mulf o o) (constant S_ .f32 0x00000000#32) reducesTo_S16x4224x16x128_S16x4224x16_d3 h_S_)) (broadcastInDim S16x4224x16x1 ![] bcast_S_S16x4224x16x1 (constant S_ .f32 0x43000000#32))) (broadcastInDim S16x4224x16x1 ![] bcast_S_S16x4224x16x1 (constant S_ .f32 0x358637BD#32)))))) (broadcastInDim S16x4224x16x128 ![0, 1, 2, 3] bcast_S1x1x1x128_S16x4224x16x128_0_1_2_3 (broadcastInDim S1x1x1x128 ![3] bcast_S128_S1x1x1x128_3 g))) (mulf z (Host.divf (broadcastInDim S16x4224x16x128 ![] bcast_S_S16x4224x16x128 (constant S_ .f32 0x3F800000#32)) (addf (broadcastInDim S16x4224x16x128 ![] bcast_S_S16x4224x16x128 (constant S_ .f32 0x3F800000#32)) (Host.exp (Host.negf z)))))) shapeCasts_S16x4224x16x128_S16x4224x2048

/-- The projected rows' norm on top of the residual. -/
def res (x : FVec Ideal S16x4224x2048 .f32) (w : FVec Ideal S2048x1024 .f32) (g : FVec Ideal S1024 .f32) (h : FVec Ideal S16x4224x1024 .f32) :
    FVec Ideal S16x4224x1024 .f32 :=
  addf h (mulf (mulf (Host.dotGeneral dot_S16x4224x2048_S2048x1024_S16x4224x1024_2_0_01_1_n_n none x w) (broadcastInDim S16x4224x1024 ![0, 1, 2] bcast_S16x4224x1_S16x4224x1024_0_1_2 (Host.rsqrt (addf (Host.divf (broadcastInDim S16x4224x1 ![0, 1] bcast_S16x4224_S16x4224x1_0_1 (Host.reduceAdd (mulf (Host.dotGeneral dot_S16x4224x2048_S2048x1024_S16x4224x1024_2_0_01_1_n_n none x w) (Host.dotGeneral dot_S16x4224x2048_S2048x1024_S16x4224x1024_2_0_01_1_n_n none x w)) (constant S_ .f32 0x00000000#32) reducesTo_S16x4224x1024_S16x4224_d2 h_S_)) (broadcastInDim S16x4224x1 ![] bcast_S_S16x4224x1 (constant S_ .f32 0x44800000#32))) (broadcastInDim S16x4224x1 ![] bcast_S_S16x4224x1 (constant S_ .f32 0x358637BD#32)))))) (broadcastInDim S16x4224x1024 ![0, 1, 2] bcast_S1x1x1024_S16x4224x1024_0_1_2 (broadcastInDim S1x1x1024 ![2] bcast_S1024_S1x1x1024_2 g)))

theorem both_apply (o : FVec Ideal S2x16x4224x2048 .bf16) (i0 : Fin 16) (i1 : Fin 4224) (n : Fin 16) (d : Fin 128) :
    both o (ix4 i0 i1 n d) = o (ix4 0 i0 i1 (col n d)) + o (ix4 1 i0 i1 (col n d)) := by
  pointwise [both]
  rfl

theorem gate_apply (u : FVec Ideal S16x4224x6272 .bf16) (i0 : Fin 16) (i1 : Fin 4224) (n : Fin 16) (d : Fin 128) :
    gate u (ix4 i0 i1 n d) = u (ix3 i0 i1 (Cert.GdnOutIdeal.RefValue.gcol (col n d))) := by
  pointwise [gate]
  rfl

theorem mixedRows_apply (o z : FVec Ideal S16x4224x16x128 .f32) (g : FVec Ideal S128 .f32) (i0 : Fin 16) (i1 : Fin 4224) (k : Fin 2048) :
    mixedRows o z g (ix3 i0 i1 k)
      = gated (fun d => o (ix4 i0 i1 (head k) d)) (fun d => z (ix4 i0 i1 (head k) d)) (fun d => g (ix1 d)) (lane k) := by
  pointwise [mixedRows]
  rfl

theorem res_apply (x : FVec Ideal S16x4224x2048 .f32) (w : FVec Ideal S2048x1024 .f32) (g : FVec Ideal S1024 .f32)
    (h : FVec Ideal S16x4224x1024 .f32) (i0 : Fin 16) (i1 : Fin 4224) (i2 : Fin 1024) :
    res x w g h (ix3 i0 i1 i2)
      = h (ix3 i0 i1 i2) + rms len1024 eps6 (fun j => ∑ k, x (ix3 i0 i1 k) * w (ix2 k j)) (fun j => g (ix1 j)) i2 := by
  pointwise [res]
  rfl

end Cert.GdnOutReferenceIdeal.RefValue

namespace Cert.Proof

open Cert.Dense

theorem frame_GdnOut : quiescent_GdnOut (hGdnOut := Cert.GdnOut.Gen.facts) := fun m ρ _ => Cert.GdnOut.Gen.frame m ρ

theorem frame_GdnOutIdeal : quiescent_GdnOutIdeal (hGdnOutIdeal := Cert.GdnOutIdeal.Gen.facts) := fun m ρ _ => Cert.GdnOutIdeal.Gen.frame m ρ

theorem frame_GdnOutReference : quiescent_GdnOutReferenceIdeal (hGdnOutReferenceIdeal := Cert.GdnOutReferenceIdeal.Gen.facts) := fun m ρ _ =>
  (θ_run Cert.GdnOutReferenceIdeal.defs _ _).mono
    (fun r h => ⟨fun c => (h c).2, sem_eq_zero_of_no_sems (by decide) r.2⟩) (Cert.GdnOutReferenceIdeal.Value.run (F := Ideal) m ρ)

open Cert.GdnOutReferenceIdeal.RefValue in
theorem algebraic_GdnOut : algebraic_GdnOutIdeal_GdnOutReferenceIdeal
    (hGdnOutIdeal := Cert.GdnOutIdeal.Gen.facts) (hGdnOutReferenceIdeal := Cert.GdnOutReferenceIdeal.Gen.facts) := by
  intro m ρ m' ρ' _ hagree
  refine ⟨fun c => Cert.GdnOutIdeal.RefValue.G m c, (θ_run Cert.GdnOutIdeal.defs _ _).mono
      (fun _ h c => ⟨(h c).1.trans (Cert.GdnOutIdeal.RefValue.final m c), (h c).2⟩) (Cert.GdnOutIdeal.Value.run_blocks (F := Ideal) m ρ),
    (θ_run Cert.GdnOutReferenceIdeal.defs _ _).mono (fun _ h c => ⟨(h c).1.trans ?_, (h c).2⟩)
      (Cert.GdnOutReferenceIdeal.Value.run (F := Ideal) m' ρ')⟩
  obtain ⟨e0, e1, e2, e3, e4, e5⟩ := hagree c
  refine (show _ = res (mixedRows (both _) (gate _) _) _ _ _ from rfl).trans ?_
  rw [e0, e1, e2, e3, e4, e5]
  funext i
  obtain ⟨i0, i1, i2, rfl⟩ : ∃ (i0 : Fin 16) (i1 : Fin 4224) (i2 : Fin 1024), i = ix3 i0 i1 i2 :=
    ⟨i 0, i 1, i 2, by funext a; match a with | ⟨0, _⟩ => rfl | ⟨1, _⟩ => rfl | ⟨2, _⟩ => rfl⟩
  refine (res_apply _ _ _ _ i0 i1 i2).trans ?_
  simp only [mixedRows_apply, both_apply, gate_apply]
  rfl

end Cert.Proof

end
-- ==== Proof.Delta.lean ====
/- The gated delta rule over the real numbers: one token at a time, and a chunk of 128 tokens at once. -/
module

public import Mathlib.Data.Matrix.Mul
public import Mathlib.Analysis.SpecialFunctions.Exp
public import Mathlib.Tactic.NoncommRing
public import Mathlib.Tactic.Linarith
public import Idealize.ShloMosaic.Lib.Pointwise

@[expose] public section

noncomputable section

namespace Cert.Delta

abbrev Mat := Matrix (Fin 128) (Fin 128) ℝ

/-- A token's place in its chunk's order: forward for direction 0, backward for direction 1. -/
def rank (d : Fin 2) (i : Fin 128) : ℕ := if d = 0 then i.val else 127 - i.val

/-- The token at a place of the order. -/
def tok (d : Fin 2) (n : Fin 128) : Fin 128 := if d = 0 then n else ⟨127 - n.val, by omega⟩

theorem rank_tok (d : Fin 2) (n : Fin 128) : rank d (tok d n) = n.val := by
  unfold rank tok
  split_ifs <;> simp only [] <;> omega

theorem rank_lt (d : Fin 2) (i : Fin 128) : rank d i < 128 := by
  unfold rank
  split_ifs <;> omega

theorem rank_eq_iff (d : Fin 2) (i : Fin 128) (n : Fin 128) : rank d i = n.val ↔ i = tok d n := by
  unfold rank tok
  split_ifs <;> rw [Fin.ext_iff] <;> simp only [] <;> omega

/-! ## The inverse of a unit triangular matrix by blocks -/

/-- The entries inside the diagonal blocks of size `b`. -/
def near (b : ℕ) (A : Mat) : Mat := fun i j => if i.val ^^^ j.val < b then A i j else 0

/-- The entries inside the diagonal blocks of size `2 b` and outside those of size `b`. -/
def band (b : ℕ) (A : Mat) : Mat := fun i j => if b ≤ i.val ^^^ j.val ∧ i.val ^^^ j.val < 2 * b then A i j else 0

/-- The inverse of the diagonal blocks of size 8, as a product of three factors. -/
def inv8 (A : Mat) : Mat :=
  ((1 - near 8 A) + (1 - near 8 A) * (near 8 A * near 8 A))
    + ((1 - near 8 A) + (1 - near 8 A) * (near 8 A * near 8 A)) * ((near 8 A * near 8 A) * (near 8 A * near 8 A))

/-- From the inverse of the blocks of size `b` to that of the blocks of size `2 b`. -/
def grow (b : ℕ) (A X : Mat) : Mat := X - X * band b A * X

/-- The whole inverse. -/
def unitInverse (A : Mat) : Mat := grow 64 A (grow 32 A (grow 16 A (grow 8 A (inv8 A))))

/-- Zero outside the diagonal blocks of size `b`. -/
def Diag (b : ℕ) (X : Mat) : Prop := ∀ i j : Fin 128, i.val / b ≠ j.val / b → X i j = 0

theorem Diag.mul {b : ℕ} {X Y : Mat} (hX : Diag b X) (hY : Diag b Y) : Diag b (X * Y) := fun i j h => by
  rw [Matrix.mul_apply]
  refine Finset.sum_eq_zero fun k _ => ?_
  by_cases e : i.val / b = k.val / b
  · rw [hY k j (by rw [← e]; exact h), mul_zero]
  · rw [hX i k e, zero_mul]

theorem Diag.add {b : ℕ} {X Y : Mat} (hX : Diag b X) (hY : Diag b Y) : Diag b (X + Y) := fun i j h => by
  rw [Matrix.add_apply, hX i j h, hY i j h, add_zero]

theorem Diag.sub {b : ℕ} {X Y : Mat} (hX : Diag b X) (hY : Diag b Y) : Diag b (X - Y) := fun i j h => by
  rw [Matrix.sub_apply, hX i j h, hY i j h, sub_zero]

theorem Diag.one (b : ℕ) : Diag b 1 := fun i j h => Matrix.one_apply_ne fun e => h (by rw [e])

/-- Inside the blocks of size 8, at least `k` places below the diagonal of the order. -/
def Deep (d : Fin 2) (k : ℕ) (X : Mat) : Prop :=
  ∀ i j : Fin 128, ¬(i.val / 8 = j.val / 8 ∧ rank d j + k ≤ rank d i) → X i j = 0

theorem Deep.mul {d : Fin 2} {a b : ℕ} {X Y : Mat} (hX : Deep d a X) (hY : Deep d b Y) : Deep d (a + b) (X * Y) := fun i j h => by
  rw [Matrix.mul_apply]
  refine Finset.sum_eq_zero fun k _ => ?_
  by_cases e : i.val / 8 = k.val / 8 ∧ rank d k + a ≤ rank d i
  · rw [hY k j fun f => h ⟨e.1.trans f.1, by omega⟩, mul_zero]
  · rw [hX i k e, zero_mul]

theorem Deep.zero {d : Fin 2} {X : Mat} (h : Deep d 8 X) : X = 0 := by
  ext i j
  refine h i j ?_
  unfold rank
  split_ifs <;> omega

theorem xor8 : ∀ i j : Fin 128, (i.val ^^^ j.val < 8 ↔ i.val / 8 = j.val / 8) := by decide +kernel
theorem xor16 : ∀ i j : Fin 128, (i.val ^^^ j.val < 16 ↔ i.val / 16 = j.val / 16) := by decide +kernel
theorem xor32 : ∀ i j : Fin 128, (i.val ^^^ j.val < 32 ↔ i.val / 32 = j.val / 32) := by decide +kernel
theorem xor64 : ∀ i j : Fin 128, (i.val ^^^ j.val < 64 ↔ i.val / 64 = j.val / 64) := by decide +kernel
theorem xor128 : ∀ i j : Fin 128, i.val ^^^ j.val < 128 := by decide +kernel

/-- A matrix with entries only from later tokens to earlier ones. -/
def Below (d : Fin 2) (A : Mat) : Prop := ∀ i j : Fin 128, ¬rank d j < rank d i → A i j = 0

theorem near_diag (b : ℕ) (hb : ∀ i j : Fin 128, (i.val ^^^ j.val < b ↔ i.val / b = j.val / b)) (A : Mat) : Diag b (near b A) :=
  fun i j h => if_neg fun e => h ((hb i j).1 e)

theorem inv8_spec (d : Fin 2) (A : Mat) (hA : Below d A) : (1 + near 8 A) * inv8 A = 1 ∧ Diag 8 (inv8 A) := by
  have hN : Diag 8 (near 8 A) := near_diag 8 xor8 A
  have h1 : Deep d 1 (near 8 A) := fun i j h => by
    unfold near
    split_ifs with e
    · exact hA i j fun f => h ⟨(xor8 i j).1 e, f⟩
    · rfl
  have h2 : Deep d 2 (near 8 A * near 8 A) := h1.mul h1
  have h4 : Deep d 4 ((near 8 A * near 8 A) * (near 8 A * near 8 A)) := h2.mul h2
  have h8 : Deep d 8 (((near 8 A * near 8 A) * (near 8 A * near 8 A)) * ((near 8 A * near 8 A) * (near 8 A * near 8 A))) := h4.mul h4
  have d2 := hN.mul hN
  have x1 := ((Diag.one 8).sub hN).add (((Diag.one 8).sub hN).mul d2)
  refine ⟨?_, x1.add (x1.mul (d2.mul d2))⟩
  have z := h8.zero
  unfold inv8
  generalize near 8 A = N at *
  have e : (1 + N) * (((1 - N) + (1 - N) * (N * N)) + ((1 - N) + (1 - N) * (N * N)) * ((N * N) * (N * N)))
      = 1 - ((N * N) * (N * N)) * ((N * N) * (N * N)) := by noncomm_ring
  rw [e, z, sub_zero]

theorem band_mid (d : Fin 2) (b : ℕ) (h4 : b = 8 ∨ b = 16 ∨ b = 32 ∨ b = 64)
    (hb : ∀ i j : Fin 128, (i.val ^^^ j.val < b ↔ i.val / b = j.val / b))
    (hb2 : ∀ i j : Fin 128, (i.val ^^^ j.val < 2 * b ↔ i.val / (2 * b) = j.val / (2 * b)))
    (A X : Mat) (hA : Below d A) (hX : Diag b X) : band b A * X * band b A = 0 := by
  ext i l
  rw [Matrix.mul_apply, Matrix.zero_apply]
  refine Finset.sum_eq_zero fun k _ => ?_
  by_cases z : band b A k l = 0
  · rw [z, mul_zero]
  · rw [Matrix.mul_apply, Finset.sum_mul]
    refine Finset.sum_eq_zero fun j _ => ?_
    by_cases y : band b A i j = 0
    · rw [y, zero_mul, zero_mul]
    · have hkl : (b ≤ k.val ^^^ l.val ∧ k.val ^^^ l.val < 2 * b) ∧ A k l ≠ 0 := by
        unfold band at z
        split_ifs at z with e
        · exact ⟨e, z⟩
        · exact absurd rfl z
      have hij : (b ≤ i.val ^^^ j.val ∧ i.val ^^^ j.val < 2 * b) ∧ A i j ≠ 0 := by
        unfold band at y
        split_ifs at y with e
        · exact ⟨e, y⟩
        · exact absurd rfl y
      have r1 : rank d l < rank d k := by by_contra h; exact hkl.2 (hA k l h)
      have r2 : rank d j < rank d i := by by_contra h; exact hij.2 (hA i j h)
      have n1 : k.val / b ≠ l.val / b := fun h => absurd ((hb k l).2 h) (not_lt.2 hkl.1.1)
      have n2 : i.val / b ≠ j.val / b := fun h => absurd ((hb i j).2 h) (not_lt.2 hij.1.1)
      have s1 := (hb2 k l).1 hkl.1.2
      have s2 := (hb2 i j).1 hij.1.2
      by_cases e : j.val / b = k.val / b
      · exfalso
        unfold rank at r1 r2
        rcases h4 with rfl | rfl | rfl | rfl <;> split_ifs at r1 r2 <;> omega
      · rw [hX j k e, mul_zero, zero_mul]

theorem grow_spec (d : Fin 2) (b : ℕ) (h4 : b = 8 ∨ b = 16 ∨ b = 32 ∨ b = 64)
    (hb : ∀ i j : Fin 128, (i.val ^^^ j.val < b ↔ i.val / b = j.val / b))
    (hb2 : ∀ i j : Fin 128, (i.val ^^^ j.val < 2 * b ↔ i.val / (2 * b) = j.val / (2 * b)))
    (A X : Mat) (hA : Below d A) (h : (1 + near b A) * X = 1 ∧ Diag b X) :
    (1 + near (2 * b) A) * grow b A X = 1 ∧ Diag (2 * b) (grow b A X) := by
  obtain ⟨hX, dX⟩ := h
  have hs : near (2 * b) A = near b A + band b A := by
    ext i j
    rw [Matrix.add_apply]
    unfold near band
    split_ifs <;> first | omega | simp
  have z := band_mid d b h4 hb hb2 A X hA dX
  constructor
  · rw [hs]
    unfold grow
    generalize near b A = N at *
    generalize band b A = B at *
    have e : (1 + (N + B)) * (X - X * B * X)
        = ((1 + N) * X) - ((1 + N) * X) * B * X + B * X - (B * X * B) * X := by noncomm_ring
    rw [e, hX, z]
    noncomm_ring
  · have dX2 : Diag (2 * b) X := fun i j h => dX i j fun e => h (by
      rcases h4 with rfl | rfl | rfl | rfl <;> omega)
    have dB : Diag (2 * b) (band b A) := fun i j h => if_neg fun e => h ((hb2 i j).1 e.2)
    exact dX2.sub ((dX2.mul dB).mul dX2)

/-- The blocked construction gives a right inverse of `1 + A`. -/
theorem unitInverse_spec (d : Fin 2) (A : Mat) (hA : Below d A) : (1 + A) * unitInverse A = 1 := by
  have h8 := grow_spec d 8 (by simp) xor8 xor16 A _ hA (inv8_spec d A hA)
  have h16 := grow_spec d 16 (by simp) xor16 xor32 A _ hA h8
  have h32 := grow_spec d 32 (by simp) xor32 xor64 A _ hA h16
  have h64 := grow_spec d 64 (by simp) xor64
    (fun i j => iff_of_true (xor128 i j) (by omega)) A _ hA h32
  have e : near (2 * 64) A = A := by
    ext i j
    exact if_pos (xor128 i j)
  rw [e] at h64
  exact h64.1

/-! ## One chunk -/

/-- The state after one token. -/
def step (k v : Fin 128 → ℝ) (g b : ℝ) (S : Mat) : Mat := fun i j =>
  S i j * Real.exp g + k i * ((v j - ∑ a, k a * (S a j * Real.exp g)) * b)

/-- The state before the `n`-th token. -/
def state (k v : ℕ → Fin 128 → ℝ) (g b : ℕ → ℝ) (S : Mat) : ℕ → Mat
  | 0 => S
  | n + 1 => step (k n) (v n) (g n) (b n) (state k v g b S n)

theorem state_add (k v : ℕ → Fin 128 → ℝ) (g b : ℕ → ℝ) (S : Mat) (a n : ℕ) :
    state k v g b S (a + n) = state (fun i => k (a + i)) (fun i => v (a + i)) (fun i => g (a + i)) (fun i => b (a + i)) (state k v g b S a) n := by
  induction n with
  | zero => rfl
  | succ n ih => show step _ _ _ _ (state k v g b S (a + n)) = step _ _ _ _ _; rw [ih]; rfl

/-- The sum of the logarithmic decays of the tokens up to one, itself included. -/
def gsum (d : Fin 2) (g : Fin 128 → ℝ) (i : Fin 128) : ℝ := ∑ s, if rank d s ≤ rank d i then g s else 0

/-- How much a token hears of an earlier one. -/
def decayed (d : Fin 2) (k : Fin 128 → Fin 128 → ℝ) (g b : Fin 128 → ℝ) : Mat := fun i j =>
  b i * (∑ a, k i a * k j a) * (if rank d j < rank d i then Real.exp (gsum d g i - gsum d g j) else 0)

/-- The values the chunk writes into the state. -/
def writes (d : Fin 2) (k v : Fin 128 → Fin 128 → ℝ) (g b : Fin 128 → ℝ) (S : Mat) : Mat := fun i j =>
  (∑ s, unitInverse (decayed d k g b) i s * (v s j * b s))
    - ∑ a, (∑ s, unitInverse (decayed d k g b) i s * (k s a * (b s * Real.exp (gsum d g s)))) * S a j

/-- A token's output. -/
def reads (d : Fin 2) (q k v : Fin 128 → Fin 128 → ℝ) (g b : Fin 128 → ℝ) (S : Mat) : Mat := fun i j =>
  ∑ a, q i a * Real.exp (gsum d g i) * S a j
    + ∑ s, ((∑ a, q i a * k s a) * (if rank d s ≤ rank d i then Real.exp (gsum d g i - gsum d g s) else 0)) * writes d k v g b S s j

/-- The state after the chunk. -/
def after (d : Fin 2) (k v : Fin 128 → Fin 128 → ℝ) (g b : Fin 128 → ℝ) (S : Mat) : Mat := fun i j =>
  S i j * Real.exp (∑ s, g s) + ∑ s, (k s i * Real.exp ((∑ s, g s) - gsum d g s)) * writes d k v g b S s j

theorem decayed_below (d : Fin 2) (k : Fin 128 → Fin 128 → ℝ) (g b : Fin 128 → ℝ) : Below d (decayed d k g b) := fun i j h => by
  unfold decayed
  rw [if_neg h, mul_zero]

/-- The values, scaled. -/
def newValues (v : Fin 128 → Fin 128 → ℝ) (b : Fin 128 → ℝ) : Mat := fun s j => v s j * b s

/-- The keys, scaled and decayed. -/
def newKeys (d : Fin 2) (k : Fin 128 → Fin 128 → ℝ) (g b : Fin 128 → ℝ) : Mat := fun s a => k s a * (b s * Real.exp (gsum d g s))

/-- The system the written values solve. -/
theorem writes_spec (d : Fin 2) (k v : Fin 128 → Fin 128 → ℝ) (g b : Fin 128 → ℝ) (S : Mat) (i j : Fin 128) :
    writes d k v g b S i j + ∑ s, decayed d k g b i s * writes d k v g b S s j
      = v i j * b i - ∑ a, k i a * (b i * Real.exp (gsum d g i)) * S a j := by
  have h := unitInverse_spec d (decayed d k g b) (decayed_below d k g b)
  generalize hA : decayed d k g b = A at *
  have hw : writes d k v g b S = unitInverse A * (newValues v b - newKeys d k g b * S) := by
    rw [mul_sub, ← mul_assoc]
    ext i j
    rw [Matrix.sub_apply, Matrix.mul_apply, Matrix.mul_apply]
    unfold writes
    rw [hA]
    rfl
  have e : (1 + A) * writes d k v g b S = newValues v b - newKeys d k g b * S := by
    rw [hw, ← mul_assoc, h, one_mul]
  have e' := congrFun (congrFun e i) j
  rw [add_mul, one_mul, Matrix.add_apply, Matrix.mul_apply, Matrix.sub_apply, Matrix.mul_apply] at e'
  exact e'

/-- The sum of the decays of the first `n` tokens. -/
def gpre (d : Fin 2) (g : Fin 128 → ℝ) (n : ℕ) : ℝ := ∑ s, if rank d s < n then g s else 0

theorem gsum_eq (d : Fin 2) (g : Fin 128 → ℝ) (i : Fin 128) : gsum d g i = gpre d g (rank d i + 1) := by
  unfold gsum gpre
  simp only [Nat.lt_succ_iff]

/-- A sum over the first `n + 1` tokens: the first `n` and the next one. -/
theorem sum_rank_succ (d : Fin 2) (f : Fin 128 → ℝ) (n : Fin 128) :
    (∑ s, if rank d s < n.val + 1 then f s else 0) = (∑ s, if rank d s < n.val then f s else 0) + f (tok d n) := by
  have e : f (tok d n) = ∑ s, if s = tok d n then f s else 0 := by
    rw [Finset.sum_ite_eq' Finset.univ (tok d n) f, if_pos (Finset.mem_univ _)]
  rw [e, ← Finset.sum_add_distrib]
  refine Finset.sum_congr rfl fun s _ => ?_
  have h := rank_eq_iff d s n
  by_cases h1 : s = tok d n
  · have h2 := h.2 h1
    rw [if_pos h1, if_pos (by omega), if_neg (by omega), zero_add]
  · have h2 : rank d s ≠ n.val := fun e => h1 (h.1 e)
    rw [if_neg h1, add_zero]
    by_cases h3 : rank d s < n.val
    · rw [if_pos h3, if_pos (by omega)]
    · rw [if_neg h3, if_neg (by omega)]

/-- The state before the `n`-th token of a chunk, in closed form. -/
def closed (d : Fin 2) (k v : Fin 128 → Fin 128 → ℝ) (g b : Fin 128 → ℝ) (S : Mat) (n : ℕ) : Mat := fun i j =>
  Real.exp (gpre d g n) * S i j
    + ∑ s, if rank d s < n then k s i * Real.exp (gpre d g n - gsum d g s) * writes d k v g b S s j else 0

theorem closed_succ (d : Fin 2) (k v : Fin 128 → Fin 128 → ℝ) (g b : Fin 128 → ℝ) (S : Mat) (n : Fin 128) :
    closed d k v g b S (n.val + 1) = step (k (tok d n)) (v (tok d n)) (g (tok d n)) (b (tok d n)) (closed d k v g b S n.val) := by
  have hg : gpre d g (n.val + 1) = gpre d g n.val + g (tok d n) := sum_rank_succ d g n
  have ht : gsum d g (tok d n) = gpre d g (n.val + 1) := by rw [gsum_eq, rank_tok]
  have hS : ∀ i j, closed d k v g b S n.val i j * Real.exp (g (tok d n))
      = Real.exp (gpre d g (n.val + 1)) * S i j
        + ∑ s, if rank d s < n.val then k s i * Real.exp (gpre d g (n.val + 1) - gsum d g s) * writes d k v g b S s j else 0 := fun i j => by
    unfold closed
    rw [add_mul, Finset.sum_mul, hg, Real.exp_add]
    congr 1
    · ring
    · refine Finset.sum_congr rfl fun s _ => ?_
      split_ifs
      · rw [show gpre d g n.val + g (tok d n) - gsum d g s = (gpre d g n.val - gsum d g s) + g (tok d n) by ring, Real.exp_add]
        ring
      · rw [zero_mul]
  have hw : ∀ j, (v (tok d n) j - ∑ a, k (tok d n) a * (closed d k v g b S n.val a j * Real.exp (g (tok d n)))) * b (tok d n)
      = writes d k v g b S (tok d n) j := fun j => by
    have e := writes_spec d k v g b S (tok d n) j
    have e1 : ∑ a, k (tok d n) a * (closed d k v g b S n.val a j * Real.exp (g (tok d n)))
        = (∑ a, k (tok d n) a * S a j) * Real.exp (gpre d g (n.val + 1))
          + ∑ s, (∑ a, k (tok d n) a * k s a) * (if rank d s < n.val then Real.exp (gpre d g (n.val + 1) - gsum d g s) else 0) * writes d k v g b S s j := by
      simp only [hS, mul_add, Finset.sum_add_distrib, Finset.sum_mul, Finset.mul_sum]
      congr 1
      · refine Finset.sum_congr rfl fun a _ => by ring
      · rw [Finset.sum_comm]
        refine Finset.sum_congr rfl fun s _ => Finset.sum_congr rfl fun a _ => ?_
        split_ifs <;> ring
    have e2 : ∑ s, decayed d k g b (tok d n) s * writes d k v g b S s j
        = b (tok d n) * ∑ s, (∑ a, k (tok d n) a * k s a) * (if rank d s < n.val then Real.exp (gpre d g (n.val + 1) - gsum d g s) else 0) * writes d k v g b S s j := by
      rw [Finset.mul_sum]
      refine Finset.sum_congr rfl fun s _ => ?_
      unfold decayed
      rw [rank_tok, ht]
      ring
    have e3 : ∑ a, k (tok d n) a * (b (tok d n) * Real.exp (gsum d g (tok d n))) * S a j
        = b (tok d n) * ((∑ a, k (tok d n) a * S a j) * Real.exp (gpre d g (n.val + 1))) := by
      rw [Finset.sum_mul, Finset.mul_sum]
      refine Finset.sum_congr rfl fun a _ => ?_
      rw [ht]
      ring
    rw [e2, e3] at e
    rw [e1]
    linear_combination (-1 : ℝ) * e
  funext i j
  unfold step
  rw [hw, hS]
  show Real.exp (gpre d g (n.val + 1)) * S i j + _ = _
  rw [sum_rank_succ d (fun s => k s i * Real.exp (gpre d g (n.val + 1) - gsum d g s) * writes d k v g b S s j) n, ht, sub_self, Real.exp_zero]
  ring

/-- The tokens of a chunk, in order, from a longer sequence. -/
theorem state_closed (d : Fin 2) (k v : Fin 128 → Fin 128 → ℝ) (g b : Fin 128 → ℝ) (S : Mat) (k' v' : ℕ → Fin 128 → ℝ) (g' b' : ℕ → ℝ)
    (hk : ∀ n : Fin 128, k' n.val = k (tok d n)) (hv : ∀ n : Fin 128, v' n.val = v (tok d n))
    (hg : ∀ n : Fin 128, g' n.val = g (tok d n)) (hb : ∀ n : Fin 128, b' n.val = b (tok d n)) (n : ℕ) (hn : n ≤ 128) :
    state k' v' g' b' S n = closed d k v g b S n := by
  induction n with
  | zero =>
    funext i j
    show S i j = Real.exp (gpre d g 0) * S i j + _
    simp [gpre]
  | succ n ih =>
    show step _ _ _ _ (state k' v' g' b' S n) = _
    rw [ih (by omega), closed_succ d k v g b S ⟨n, by omega⟩, ← hk, ← hv, ← hg, ← hb]

theorem after_eq (d : Fin 2) (k v : Fin 128 → Fin 128 → ℝ) (g b : Fin 128 → ℝ) (S : Mat) :
    after d k v g b S = closed d k v g b S 128 := by
  funext i j
  have hG : gpre d g 128 = ∑ s, g s := Finset.sum_congr rfl fun s _ => if_pos (rank_lt d s)
  unfold after closed
  rw [hG]
  congr 1
  · ring
  · refine Finset.sum_congr rfl fun s _ => ?_
    rw [if_pos (rank_lt d s)]

theorem reads_eq (d : Fin 2) (q k v : Fin 128 → Fin 128 → ℝ) (g b : Fin 128 → ℝ) (S : Mat) (n : Fin 128) (j : Fin 128) :
    reads d q k v g b S (tok d n) j = ∑ a, q (tok d n) a * closed d k v g b S (n.val + 1) a j := by
  have ht : gsum d g (tok d n) = gpre d g (n.val + 1) := by rw [gsum_eq, rank_tok]
  unfold reads closed
  rw [ht, rank_tok]
  simp only [mul_add, Finset.sum_add_distrib, Finset.mul_sum, Finset.sum_mul]
  congr 1
  · refine Finset.sum_congr rfl fun a _ => by ring
  · rw [Finset.sum_comm]
    refine Finset.sum_congr rfl fun a _ => Finset.sum_congr rfl fun s _ => ?_
    by_cases h : rank d s ≤ n.val
    · rw [if_pos h, if_pos (Nat.lt_succ_of_le h)]
      ring
    · rw [if_neg h, if_neg (by omega)]
      ring

end Cert.Delta

end
-- ==== Proof.ScanSpec.lean ====
/- The DeltaNet scan of the whole sequence over the real numbers: what both programs compute. -/
module

public import proofs.«01_k».proof.Proof.Delta
public import proofs.«01_k».proof.Proof.Softmax

@[expose] public section

noncomputable section

open Idealize.ShloMosaic

namespace Cert.Scan

open Cert.Softmax (Fin' coe_sum)

/-- The token that a direction meets at a time. -/
def pos (d : Fin 2) (t : Fin 4224) : Fin 4224 := if d = 0 then t else t.rev

/-- The columns of a head among 2048. -/
def colV (h : Fin 16) (j : Fin 128) : Fin 2048 := ⟨h.val * 128 + j.val, by omega⟩

theorem colV_div (h : Fin 16) (j : Fin 128) (p : (colV h j).val / 128 < 16) : (⟨(colV h j).val / 128, p⟩ : Fin 16) = h :=
  Fin.ext (show (h.val * 128 + j.val) / 128 = h.val by omega)

theorem colV_mod (h : Fin 16) (j : Fin 128) (p : (colV h j).val % 128 < 128) : (⟨(colV h j).val % 128, p⟩ : Fin 128) = j :=
  Fin.ext (show (h.val * 128 + j.val) % 128 = j.val by omega)

/-- The columns of the query head that a value head reads. -/
def colK (h : Fin 16) (j : Fin 128) : Fin 1024 := ⟨h.val / 2 * 128 + j.val, by omega⟩

/-- The column of a head's logarithmic decay. -/
def colG (d : Fin 2) (h : Fin 16) : Fin 128 := ⟨d.val * 16 + h.val, by omega⟩

/-- The column of a head's step size. -/
def colB (d : Fin 2) (h : Fin 16) : Fin 128 := ⟨32 + (d.val * 16 + h.val), by omega⟩

/-- A number of a token as a token. -/
def time (n : ℕ) : Fin 4224 := ⟨n % 4224, Nat.mod_lt _ (by omega)⟩

theorem time_of_lt {n : ℕ} (h : n < 4224) : time n = ⟨n, h⟩ := Fin.ext (Nat.mod_eq_of_lt h)

/-- A query or a key of the sequence in a direction's order. -/
def vecK (x : Fin 16 → Fin 4224 → Fin 1024 → EReal) (d : Fin 2) (b h : Fin 16) (n : ℕ) (a : Fin 128) : ℝ :=
  (x b (pos d (time n)) (colK h a)).toReal

/-- A value of the sequence in a direction's order. -/
def vecV (x : Fin 16 → Fin 4224 → Fin 2048 → EReal) (d : Fin 2) (b h : Fin 16) (n : ℕ) (a : Fin 128) : ℝ :=
  (x b (pos d (time n)) (colV h a)).toReal

/-- The logarithmic decay in a direction's order. -/
def numG (x : Fin 16 → Fin 4224 → Fin 128 → EReal) (d : Fin 2) (b h : Fin 16) (n : ℕ) : ℝ :=
  (x b (pos d (time n)) (colG d h)).toReal

/-- The step size in a direction's order. -/
def numB (x : Fin 16 → Fin 4224 → Fin 128 → EReal) (d : Fin 2) (b h : Fin 16) (n : ℕ) : ℝ :=
  (x b (pos d (time n)) (colB d h)).toReal

/-- A head's state before a time. -/
def st (k : Fin 16 → Fin 4224 → Fin 1024 → EReal) (v : Fin 16 → Fin 4224 → Fin 2048 → EReal) (g : Fin 16 → Fin 4224 → Fin 128 → EReal)
    (d : Fin 2) (b h : Fin 16) (n : ℕ) : Delta.Mat :=
  Delta.state (vecK k d b h) (vecV v d b h) (numG g d b h) (numB g d b h) 0 n

/-- A head's output at a time. -/
def outAt (q k : Fin 16 → Fin 4224 → Fin 1024 → EReal) (v : Fin 16 → Fin 4224 → Fin 2048 → EReal) (g : Fin 16 → Fin 4224 → Fin 128 → EReal)
    (d : Fin 2) (b h : Fin 16) (n : ℕ) (j : Fin 128) : ℝ :=
  ∑ a, vecK q d b h n a * st k v g d b h (n + 1) a j

/-- A finite number is the number it stands for. -/
theorem coe_toReal {x : EReal} (h : Fin' x) : x = ((x.toReal : ℝ) : EReal) := by
  obtain ⟨r, rfl⟩ := h
  rfl

end Cert.Scan

end
-- ==== Proof.GdnScanWords.lean ====
/- The words the DeltaNet scan's kernel compares. -/
module

public import proofs.«01_k».proof.Proof.Delta
public import Idealize.ShloMosaic.Lib.Pointwise

@[expose] public section

set_option maxRecDepth 16384

namespace Cert.Scan

open Idealize.ShloMosaic Cert.Delta

/-- The exclusive or of two positions as words. -/
def xorW (i j : Fin 128) : BitVec 32 := IntOp.xori (BitVec.ofNat 32 i.val) (BitVec.ofNat 32 j.val)

/-- It is the word of a position. -/
theorem xorW_eq (i j : Fin 128) : ∃ n : Fin 128, n.val = i.val ^^^ j.val ∧ xorW i j = BitVec.ofNat 32 n.val :=
  ⟨⟨i.val ^^^ j.val, Nat.xor_lt_two_pow (n := 7) i.isLt j.isLt⟩, rfl, by
    apply BitVec.eq_of_toNat_eq
    have h := Nat.xor_lt_two_pow (n := 7) i.isLt j.isLt
    have hi := i.isLt
    have hj := j.isLt
    show (BitVec.ofNat 32 i.val ^^^ BitVec.ofNat 32 j.val).toNat = _
    rw [BitVec.toNat_xor, BitVec.toNat_ofNat, BitVec.toNat_ofNat, BitVec.toNat_ofNat, Nat.mod_eq_of_lt (by omega), Nat.mod_eq_of_lt (by omega)]
    exact (Nat.mod_eq_of_lt (by omega)).symm⟩

theorem xor_lt (i j : Fin 128) : IntOp.cmpi .slt (xorW i j) 8#32 = if i.val ^^^ j.val < 8 then 1#1 else 0#1 := by
  obtain ⟨n, hn, h⟩ := xorW_eq i j
  rw [h, ← hn]
  revert n
  suffices h : ∀ n : Fin 128, IntOp.cmpi .slt (BitVec.ofNat 32 n.val) 8#32 = if n.val < 8 then 1#1 else 0#1 from fun n _ _ => h n
  decide +kernel

theorem xor_eq (i j : Fin 128) : IntOp.cmpi .eq (xorW i j) 0#32 = if i = j then 1#1 else 0#1 := by
  obtain ⟨n, hn, h⟩ := xorW_eq i j
  have hij : i = j ↔ n.val = 0 := by
    rw [hn, Fin.ext_iff]
    exact ⟨fun e => by rw [e, Nat.xor_self], fun e => by
      have := congrArg (· ^^^ j.val) e
      simpa only [Nat.xor_assoc, Nat.xor_self, Nat.xor_zero, Nat.zero_xor] using this⟩
  rw [h, if_congr hij rfl rfl]
  revert n
  suffices h : ∀ n : Fin 128, IntOp.cmpi .eq (BitVec.ofNat 32 n.val) 0#32 = if n.val = 0 then 1#1 else 0#1 from fun n _ _ _ => h n
  decide +kernel

theorem xor_band (e : Fin 4) (i j : Fin 128) : IntOp.andi (IntOp.cmpi .sge (xorW i j) (BitVec.ofNat 32 (8 * 2 ^ e.val))) (IntOp.cmpi .slt (xorW i j) (BitVec.ofNat 32 (16 * 2 ^ e.val)))
    = if 8 * 2 ^ e.val ≤ i.val ^^^ j.val ∧ i.val ^^^ j.val < 2 * (8 * 2 ^ e.val) then 1#1 else 0#1 := by
  obtain ⟨n, hn, h⟩ := xorW_eq i j
  rw [h, ← hn]
  revert e n
  suffices h : ∀ (e : Fin 4) (n : Fin 128), IntOp.andi (IntOp.cmpi .sge (BitVec.ofNat 32 n.val) (BitVec.ofNat 32 (8 * 2 ^ e.val))) (IntOp.cmpi .slt (BitVec.ofNat 32 n.val) (BitVec.ofNat 32 (16 * 2 ^ e.val)))
    = if 8 * 2 ^ e.val ≤ n.val ∧ n.val < 2 * (8 * 2 ^ e.val) then 1#1 else 0#1 from fun e n _ _ => h e n
  decide +kernel

/-- How far a token is ahead of another in a direction's order, as a word. -/
def aheadW (d : Fin 2) (r s : Fin 128) : BitVec 32 :=
  IntOp.muli (IntOp.subi (BitVec.ofNat 32 r.val) (BitVec.ofNat 32 s.val)) (Scalar.subi 1#32 (Scalar.muli 2#32 (BitVec.ofNat 32 d.val)))

theorem aheadW_eq (d : Fin 2) (r s : Fin 128) : aheadW d r s = BitVec.ofNat 32 (rank d r) - BitVec.ofNat 32 (rank d s) := by
  have hr := r.isLt
  have hs := s.isLt
  unfold aheadW
  obtain rfl | rfl : d = 0 ∨ d = 1 := by omega
  · rw [show Scalar.subi 1#32 (Scalar.muli 2#32 (BitVec.ofNat 32 (0 : Fin 2).val)) = 1#32 by decide]
    exact BitVec.mul_one _
  · rw [show Scalar.subi 1#32 (Scalar.muli 2#32 (BitVec.ofNat 32 (1 : Fin 2).val)) = -1#32 by decide]
    refine (BitVec.mul_neg _ _).trans ?_
    rw [BitVec.mul_one]
    apply BitVec.eq_of_toNat_eq
    rw [show rank 1 r = 127 - r.val from rfl, show rank 1 s = 127 - s.val from rfl]
    unfold IntOp.subi
    simp only [BitVec.toNat_neg, BitVec.toNat_sub, BitVec.toNat_ofNat]
    omega

/-- The order of two tokens: one word says it all. -/
theorem aheadW_cases (d : Fin 2) (r s : Fin 128) : ∃ n : Fin 128, (rank d s ≤ rank d r ∧ rank d r = rank d s + n.val ∧ aheadW d r s = BitVec.ofNat 32 n.val)
    ∨ (rank d r < rank d s ∧ 0 < n.val ∧ aheadW d r s = -BitVec.ofNat 32 n.val) := by
  have hr := rank_lt d r
  have hs := rank_lt d s
  rw [aheadW_eq]
  generalize rank d r = x at hr ⊢
  generalize rank d s = y at hs ⊢
  by_cases h : y ≤ x
  · refine ⟨⟨x - y, by omega⟩, Or.inl ⟨h, by show x = y + (x - y); omega, ?_⟩⟩
    apply BitVec.eq_of_toNat_eq
    simp only [BitVec.toNat_sub, BitVec.toNat_ofNat]
    omega
  · refine ⟨⟨y - x, by omega⟩, Or.inr ⟨by omega, by show 0 < y - x; omega, ?_⟩⟩
    apply BitVec.eq_of_toNat_eq
    simp only [BitVec.toNat_sub, BitVec.toNat_neg, BitVec.toNat_ofNat]
    omega

theorem sign_pos : ∀ n : Fin 128, IntOp.cmpi .sge (BitVec.ofNat 32 n.val) 0#32 = 1#1 ∧ IntOp.cmpi .sgt (BitVec.ofNat 32 n.val) 0#32 = (if 0 < n.val then 1#1 else 0#1)
    ∧ IntOp.cmpi .sle (BitVec.ofNat 32 n.val) 0#32 = (if n.val = 0 then 1#1 else 0#1) := by decide +kernel
theorem sign_neg : ∀ n : Fin 128, 0 < n.val → IntOp.cmpi .sge (-BitVec.ofNat 32 n.val) 0#32 = 0#1 ∧ IntOp.cmpi .sgt (-BitVec.ofNat 32 n.val) 0#32 = 0#1
    ∧ IntOp.cmpi .sle (-BitVec.ofNat 32 n.val) 0#32 = 1#1 := by decide +kernel

theorem ahead_ge (d : Fin 2) (r s : Fin 128) : IntOp.cmpi .sge (aheadW d r s) 0#32 = if rank d s ≤ rank d r then 1#1 else 0#1 := by
  obtain ⟨n, ⟨h, _, e⟩ | ⟨h, hn, e⟩⟩ := aheadW_cases d r s
  · rw [e, (sign_pos n).1, if_pos h]
  · rw [e, (sign_neg n hn).1, if_neg (by omega)]

theorem ahead_gt (d : Fin 2) (r s : Fin 128) : IntOp.cmpi .sgt (aheadW d r s) 0#32 = if rank d s < rank d r then 1#1 else 0#1 := by
  obtain ⟨n, ⟨h, hn, e⟩ | ⟨h, hn, e⟩⟩ := aheadW_cases d r s
  · rw [e, (sign_pos n).2.1, if_congr (show 0 < n.val ↔ rank d s < rank d r by omega) rfl rfl]
  · rw [e, (sign_neg n hn).2.1, if_neg (by omega)]

theorem ahead_le (d : Fin 2) (r s : Fin 128) : IntOp.cmpi .sle (aheadW d r s) 0#32 = if rank d r ≤ rank d s then 1#1 else 0#1 := by
  obtain ⟨n, ⟨h, hn, e⟩ | ⟨h, hn, e⟩⟩ := aheadW_cases d r s
  · rw [e, (sign_pos n).2.2, if_congr (show n.val = 0 ↔ rank d r ≤ rank d s by omega) rfl rfl]
  · rw [e, (sign_neg n hn).2.2, if_pos (by omega)]

/-- The word of a lane of the decays. -/
def laneW (d : Fin 2) (kh : Fin 8) (j : Fin 2) : BitVec 32 := Scalar.addi (Scalar.addi (Scalar.muli (BitVec.ofNat 32 d.val) 16#32) (Scalar.muli 2#32 (BitVec.ofNat 32 kh.val))) (BitVec.ofNat 32 j.val)

theorem laneW_eq : ∀ (d : Fin 2) (kh : Fin 8) (j : Fin 2), laneW d kh j = BitVec.ofNat 32 (d.val * 16 + (2 * kh.val + j.val)) := by decide +kernel
theorem laneW_add : ∀ (d : Fin 2) (kh : Fin 8) (j : Fin 2), Scalar.addi 32#32 (laneW d kh j) = BitVec.ofNat 32 (32 + (d.val * 16 + (2 * kh.val + j.val))) := by decide +kernel

/-- A position's word is another's only if they are the same. -/
theorem lane_eq (l : Fin 128) (n : ℕ) (hn : n < 128) : IntOp.cmpi .eq (BitVec.ofNat 32 l.val) (BitVec.ofNat 32 n) = if l = ⟨n, hn⟩ then 1#1 else 0#1 := by
  have hl := l.isLt
  by_cases h : l = ⟨n, hn⟩
  · rw [if_pos h, h]
    unfold IntOp.cmpi
    simp only [beq_self_eq_true, BitVec.ofBool_true]
    rfl
  · rw [if_neg h]
    have : ¬ BitVec.ofNat 32 l.val = BitVec.ofNat 32 n := fun e => h (Fin.ext (by
      have := congrArg BitVec.toNat e
      simp only [BitVec.toNat_ofNat] at this
      show l.val = n
      omega))
    unfold IntOp.cmpi
    simp only [beq_eq_false_iff_ne.mpr this]
    rfl

end Cert.Scan

end
-- ==== Proof.GdnScanChunk.lean ====
/- The DeltaNet scan's kernel: one chunk of 128 tokens over the real numbers. -/
module

public import proofs.«01_k».proof.Proof.Gen.GdnScanIdeal.Value
public import proofs.«01_k».proof.Proof.ScanSpec
public import proofs.«01_k».proof.Proof.GdnScanWords
public import Idealize.ShloMosaic.Lib.Pointwise
public import Idealize.ShloMosaic.Lib.Pipeline.Value

@[expose] public section

set_option maxRecDepth 16384

noncomputable section

namespace Cert.GdnScanIdeal.RefValue

open Cert.GdnScanIdeal Cert.GdnScanIdeal.Gen Cert.Scan Cert.Softmax Idealize.ShloMosaic Idealize.ShloMosaic.TcCoe Idealize.ShloMosaic.Pointwise Idealize.SL.Sem
open Cert.Delta (Mat rank gsum near band inv8 grow)

/-- A block that holds a real matrix. -/
def Is (v : S128x128.Idx → EReal) (M : Mat) : Prop := ∀ i j : Fin 128, v (ix2 i j) = ((M i j : ℝ) : EReal)

/-- A column that holds a real vector. -/
def IsCol (v : S128x1.Idx → EReal) (f : Fin 128 → ℝ) : Prop := ∀ i : Fin 128, v (ix2 i 0) = ((f i : ℝ) : EReal)

/-- A row that holds a real vector. -/
def IsRow (v : S1x128.Idx → EReal) (f : Fin 128 → ℝ) : Prop := ∀ i : Fin 128, v (ix2 0 i) = ((f i : ℝ) : EReal)

theorem mm_is {φ₁ φ₂ : FTy} {a : FVec Ideal S128x128 φ₁} {b : FVec Ideal S128x128 φ₂} {A B : Mat} (ha : Is a A) (hb : Is b B) :
    Is (matmul dot_S128x128_S128x128_S128x128_1_0_0_1_n_n none a b (constant S128x128 .f32 0x00000000#32)) (A * B) := fun i j => by
  rw [Matrix.mul_apply]
  pointwise
  simp only [ha i _, hb _ j, ← EReal.coe_mul, coe_sum]

theorem trunc_is {a : FVec Ideal S128x128 .f32} {A : Mat} (ha : Is a A) : Is (truncf .bf16 a bitsLt_bf16_f32) A := fun i j => by
  pointwise
  exact ha i j

theorem add_is {a b : FVec Ideal S128x128 .f32} {A B : Mat} (ha : Is a A) (hb : Is b B) : Is (addf a b) (A + B) := fun i j => by
  pointwise
  rw [ha, hb, ← EReal.coe_add]
  rfl

theorem sub_is {a b : FVec Ideal S128x128 .f32} {A B : Mat} (ha : Is a A) (hb : Is b B) : Is (subf a b) (A - B) := fun i j => by
  pointwise
  rw [ha, hb, ← EReal.coe_sub]
  rfl

/-- A choice between a number and nothing. -/
theorem pick {w : BitVec 1} {p : Prop} [Decidable p] (h : w = if p then 1#1 else 0#1) {v : EReal} {x : ℝ} (hv : v = (x : EReal)) :
    Scalar.select w v 0 = (((if p then x else 0 : ℝ)) : EReal) := by
  rw [h, hv]
  by_cases hp : p
  · rw [if_pos hp, if_pos hp]
    rfl
  · rw [if_neg hp, if_neg hp]
    rfl

theorem near_is {a : FVec Ideal S128x128 .f32} {A : Mat} (ha : Is a A) :
    Is (select (cmpi .slt k0_pay25 (broadcast S128x128 8#32)) a (broadcast S128x128 (Scalar.ofBits (F := Ideal) .f32 0x00000000#32))) (near 8 A) := fun i j => by
  pointwise [k0_pay25]
  exact pick (xor_lt i j) (ha i j)

theorem one_is :
    Is (select (cmpi .eq k0_pay25 (broadcast S128x128 0#32)) (broadcast S128x128 (Scalar.ofBits (F := Ideal) .f32 0x3F800000#32)) (broadcast S128x128 (Scalar.ofBits (F := Ideal) .f32 0x00000000#32))) 1 := fun i j => by
  pointwise [k0_pay25]
  exact pick (x := 1) (xor_eq i j) EReal.coe_one.symm

theorem band_is (e : Fin 4) {a : FVec Ideal S128x128 .f32} {A : Mat} (ha : Is a A) :
    Is (select (andi (cmpi .sge k0_pay25 (broadcast S128x128 (BitVec.ofNat 32 (8 * 2 ^ e.val)))) (cmpi .slt k0_pay25 (broadcast S128x128 (BitVec.ofNat 32 (16 * 2 ^ e.val))))) a (broadcast S128x128 (Scalar.ofBits (F := Ideal) .f32 0x00000000#32))) (band (8 * 2 ^ e.val) A) := fun i j => by
  pointwise [k0_pay25]
  exact pick (xor_band e i j) (ha i j)

/-- The inverse of the blocks of 8. -/
theorem inv8_is {v12 : FVec Ideal S128x128 .f32} {v24 : IVec S128x128 1} {v50 v59 : FVec Ideal S128x1 .f32} {v67 : FVec Ideal S1x128 .f32} {A : Mat}
    (ha : Is (k0_pay23 v12 v24 v50 v59 v67) A) : Is (k0_pay26 v12 v24 v50 v59 v67) (inv8 A) := by
  have hn := near_is ha
  have hr := sub_is one_is hn
  have h2 := mm_is (trunc_is hn) (trunc_is hn)
  have h3 := add_is hr (mm_is (trunc_is hr) (trunc_is h2))
  exact add_is h3 (mm_is (trunc_is h3) (trunc_is (mm_is (trunc_is h2) (trunc_is h2))))

/-- The inverse grown from blocks of a size to blocks of twice the size. -/
theorem grow_is (e : Fin 4) {a x : FVec Ideal S128x128 .f32} {A X : Mat} (ha : Is a A) (hx : Is x X) :
    Is (subf x (matmul dot_S128x128_S128x128_S128x128_1_0_0_1_n_n none (truncf .bf16 (matmul dot_S128x128_S128x128_S128x128_1_0_0_1_n_n none (truncf .bf16 x bitsLt_bf16_f32) (truncf .bf16 (select (andi (cmpi .sge k0_pay25 (broadcast S128x128 (BitVec.ofNat 32 (8 * 2 ^ e.val)))) (cmpi .slt k0_pay25 (broadcast S128x128 (BitVec.ofNat 32 (16 * 2 ^ e.val))))) a (broadcast S128x128 (Scalar.ofBits (F := Ideal) .f32 0x00000000#32))) bitsLt_bf16_f32) (constant S128x128 .f32 0x00000000#32)) bitsLt_bf16_f32)
      (truncf .bf16 x bitsLt_bf16_f32) (constant S128x128 .f32 0x00000000#32))) (grow (8 * 2 ^ e.val) A X) :=
  sub_is hx (mm_is (trunc_is (mm_is (trunc_is hx) (trunc_is (band_is e ha)))) (trunc_is hx))

theorem grow32_is {a x : FVec Ideal S128x128 .f32} {A X : Mat} (ha : Is a A) (hx : Is x X) :
    Is (k0_pay29 a k0_pay25 x k0_pay27 k0_pay28) (grow 32 A (grow 16 A (grow 8 A X))) :=
  grow_is 2 ha (grow_is 1 ha (grow_is 0 ha hx))

/-- The column of a lane, picked by its word. -/
def colPick (w : BitVec 32) (m : FVec Ideal S128x128 .f32) : FVec Ideal S128x1 .f32 :=
  shapeCast S128x1 (multiReduction .add [1] S128 (select (broadcastTo S128x128 (shapeCast S1x128 (cmpi .eq (iota .tc S1x128 32 [1] iota_S1x128_d1_w32) (broadcast S1x128 w)) shapeCasts_S1x128_S1x128) broadcasts_S1x128_S128x128) m (broadcast S128x128 (Scalar.ofBits (F := Ideal) .f32 0x00000000#32))) 0x00000000#32 reduces_S128x128_S128 (.inl rfl) rfl) shapeCasts_S128_S128x1

/-- The row of a lane, picked by its word. -/
def rowPick (w : BitVec 32) (m : FVec Ideal S128x128 .f32) : FVec Ideal S1x128 .f32 :=
  shapeCast S1x128 (multiReduction .add [0] S128 (select (broadcastTo S128x128 (shapeCast S128x1 (cmpi .eq (iota .tc S128x1 32 [0] iota_S128x1_d0_w32) (broadcast S128x1 w)) shapeCasts_S128x1_S128x1) broadcasts_S128x1_S128x128) m (broadcast S128x128 (Scalar.ofBits (F := Ideal) .f32 0x00000000#32))) 0x00000000#32 reduces_S128x128_S128_2 (.inl rfl) rfl) shapeCasts_S128_S1x128

/-- The sum of a lane, picked by its word. -/
def sumPick (w : BitVec 32) (m : FVec Ideal S128x128 .f32) : FVec Ideal S1x1x1 .f32 :=
  shapeCast S1x1x1 (multiReduction .add [1, 2] S1 (shapeCast S1x128x128 (select (broadcastTo S128x128 (shapeCast S1x128 (cmpi .eq (iota .tc S1x128 32 [1] iota_S1x128_d1_w32) (broadcast S1x128 w)) shapeCasts_S1x128_S1x128) broadcasts_S1x128_S128x128) m (broadcast S128x128 (Scalar.ofBits (F := Ideal) .f32 0x00000000#32))) shapeCasts_S128x128_S1x128x128) 0x00000000#32 reduces_S1x128x128_S1 (.inl rfl) rfl) shapeCasts_S1_S1x1x1

/-- One lane of many. -/
theorem one_lane (n : Fin 128) (f : Fin 128 → EReal) : ∑ l : Fin 128, Scalar.select (IntOp.cmpi .eq (BitVec.ofNat 32 l.val) (BitVec.ofNat 32 n.val)) (f l) 0 = f n := by
  rw [Finset.sum_eq_single n]
  · rw [lane_eq n n.val n.isLt, if_pos rfl]
    rfl
  · intro l _ h
    rw [lane_eq l n.val n.isLt, if_neg h]
    rfl
  · exact fun h => absurd (Finset.mem_univ n) h

theorem colPick_apply (n : Fin 128) (m : FVec Ideal S128x128 .f32) (r : Fin 128) : colPick (BitVec.ofNat 32 n.val) m (ix2 r 0) = m (ix2 r n) := by
  pointwise [colPick]
  exact one_lane n fun l => m (ix2 r l)

theorem rowPick_apply (n : Fin 128) (m : FVec Ideal S128x128 .f32) (r : Fin 128) : rowPick (BitVec.ofNat 32 n.val) m (ix2 0 r) = m (ix2 n r) := by
  pointwise [rowPick]
  exact one_lane n fun l => m (ix2 l r)

theorem sumPick_apply (n : Fin 128) (m : FVec Ideal S128x128 .f32) : sumPick (BitVec.ofNat 32 n.val) m (ix3 0 0 0) = ∑ r : Fin 128, m (ix2 r n) := by
  pointwise [sumPick]
  exact Finset.sum_congr rfl fun r _ => one_lane n fun l => m (ix2 r l)

/-- A kernel step's direction. -/
def dirOf (i : grid0.Coords) : Fin 2 := ⟨(i 0).val, (i 0).isLt⟩

theorem pay11_apply (i : grid0.Coords) (r s : Fin 128) : k0_pay11 i (ix2 r s) = if rank (dirOf i) s ≤ rank (dirOf i) r then 1#1 else 0#1 := by
  pointwise [k0_pay11, k0_pay10]
  exact ahead_ge (dirOf i) r s

theorem pay12_apply (i : grid0.Coords) (r s : Fin 128) : k0_pay12 i (ix2 r s) = if rank (dirOf i) s < rank (dirOf i) r then 1#1 else 0#1 := by
  pointwise [k0_pay12, k0_pay10]
  exact ahead_gt (dirOf i) r s

theorem pay13_apply (i : grid0.Coords) (r s : Fin 128) : k0_pay13 i (ix2 r s) = if rank (dirOf i) r ≤ rank (dirOf i) s then 1#1 else 0#1 := by
  pointwise [k0_pay13, k0_pay10]
  exact ahead_le (dirOf i) r s

/-- A flag as a number. -/
theorem flag {w : BitVec 1} {p : Prop} [Decidable p] (h : w = if p then 1#1 else 0#1) :
    (FloatOps.sitofp FTy.f32 (BitVec.setWidth 32 w) : Ideal .f32) = (((if p then 1 else 0 : ℝ)) : EReal) := by
  rw [h]
  by_cases hp : p
  · rw [if_pos hp, if_pos hp]
    show ((((BitVec.setWidth 32 1#1).toInt : ℤ) : ℝ) : EReal) = _
    rw [show (BitVec.setWidth 32 1#1).toInt = 1 by decide, Int.cast_one]
  · rw [if_neg hp, if_neg hp]
    show ((((BitVec.setWidth 32 0#1).toInt : ℤ) : ℝ) : EReal) = _
    rw [show (BitVec.setWidth 32 0#1).toInt = 0 by decide, Int.cast_zero]

/-- A decay, or nothing of what is masked. -/
theorem hidden {w : BitVec 1} {p : Prop} [Decidable p] (h : w = if p then 1#1 else 0#1) (x y : ℝ) :
    Ideal.exp (Scalar.select w ((x : EReal) - (y : EReal)) (Named.named (F := Ideal) κ "mask" (φ := .f32) 0xF149F2CA#32)) = (((if p then Real.exp (x - y) else 0 : ℝ)) : EReal) := by
  rw [h]
  by_cases hp : p
  · rw [if_pos hp, if_pos hp]
    rfl
  · rw [if_neg hp, if_neg hp]
    rfl

/-- The decays summed down the lanes of a block. -/
theorem pay15_apply (i : grid0.Coords) (b : Vec Ideal S1x128x128 .f32) (n : Fin 128) (g : Fin 128 → ℝ) (hb : ∀ s, b (ix3 0 s n) = ((g s : ℝ) : EReal)) (r : Fin 128) :
    k0_pay15 i b (ix2 r n) = ((gsum (dirOf i) g r : ℝ) : EReal) := by
  pointwise [k0_pay15, k0_pay14]
  refine (Finset.sum_congr rfl fun s _ => ?_).trans (coe_sum fun s => if rank (dirOf i) s ≤ rank (dirOf i) r then g s else 0)
  rw [flag (pay11_apply i r s), hb, ← EReal.coe_mul, ite_mul, one_mul, zero_mul]

/-- The same, of the transposed block. -/
theorem pay16_apply (i : grid0.Coords) (b : Vec Ideal S1x128x128 .f32) (n : Fin 128) (g : Fin 128 → ℝ) (hb : ∀ s, b (ix3 0 n s) = ((g s : ℝ) : EReal)) (r : Fin 128) :
    k0_pay16 (k0_pay13 i) b (ix2 n r) = ((gsum (dirOf i) g r : ℝ) : EReal) := by
  pointwise [k0_pay16]
  refine (Finset.sum_congr rfl fun s _ => ?_).trans (coe_sum fun s => if rank (dirOf i) s ≤ rank (dirOf i) r then g s else 0)
  rw [flag (pay13_apply i s r), hb, ← EReal.coe_mul, mul_ite, mul_one, mul_zero]

theorem kk_apply {b : Vec Ideal S1x128x128 .bf16} {k : Fin 128 → Fin 128 → ℝ} (hk : ∀ r a, b (ix3 0 r a) = ((k r a : ℝ) : EReal)) : Is (k0_pay8 b) (fun r s => ∑ a, k r a * k s a) := fun r s => by
  pointwise [k0_pay8, k0_pay4]
  simp only [hk, ← EReal.coe_mul, coe_sum]

theorem qk_apply {b b' : Vec Ideal S1x128x128 .bf16} {q k : Fin 128 → Fin 128 → ℝ} (hq : ∀ r a, b (ix3 0 r a) = ((q r a : ℝ) : EReal)) (hk : ∀ r a, b' (ix3 0 r a) = ((k r a : ℝ) : EReal)) :
    Is (k0_pay9 b b') (fun r s => ∑ a, q r a * k s a) := fun r s => by
  pointwise [k0_pay9, k0_pay3, k0_pay4]
  simp only [hq, hk, ← EReal.coe_mul, coe_sum]

theorem decayed_apply (i : grid0.Coords) {kk : FVec Ideal S128x128 .f32} {gc be : FVec Ideal S128x1 .f32} {gr : FVec Ideal S1x128 .f32} {k : Fin 128 → Fin 128 → ℝ} {g b : Fin 128 → ℝ}
    (hkk : Is kk (fun r s => ∑ a, k r a * k s a)) (hgc : IsCol gc (gsum (dirOf i) g)) (hbe : IsCol be b) (hgr : IsRow gr (gsum (dirOf i) g)) :
    Is (k0_pay23 kk (k0_pay12 i) gc be gr) (Delta.decayed (dirOf i) k g b) := fun r s => by
  pointwise [k0_pay23, k0_pay22]
  rw [hgc, hgr, hbe, hkk, hidden (pay12_apply i r s), ← EReal.coe_mul, ← EReal.coe_mul]
  rfl

/-- How much a token reads of the chunk's writes. -/
theorem heard_apply (i : grid0.Coords) {qk : FVec Ideal S128x128 .f32} {gc : FVec Ideal S128x1 .f32} {gr : FVec Ideal S1x128 .f32} {M : Mat} {g : Fin 128 → ℝ}
    (hqk : Is qk M) (hgc : IsCol gc (gsum (dirOf i) g)) (hgr : IsRow gr (gsum (dirOf i) g)) :
    Is (k0_pay24 qk (k0_pay11 i) gc gr) (fun r s => M r s * (if rank (dirOf i) s ≤ rank (dirOf i) r then Real.exp (gsum (dirOf i) g r - gsum (dirOf i) g s) else 0)) := fun r s => by
  pointwise [k0_pay24, k0_pay22]
  rw [hgc, hgr, hqk, hidden (pay11_apply i r s), ← EReal.coe_mul]

theorem exp_coe (x : ℝ) : Ideal.exp (x : EReal) = ((Real.exp x : ℝ) : EReal) := rfl

section Chunk

variable {d : Fin 2} {q k v : Fin 128 → Fin 128 → ℝ} {g b : Fin 128 → ℝ} {S U : Mat}
  {kt kf qf : FVec Ideal S128x128 .f32} {gc be : FVec Ideal S128x1 .f32} {gr : FVec Ideal S1x128 .f32} {gt : FVec Ideal S1x1 .f32} {att : FVec Ideal S128x128 .f32}
  {x : FVec Ideal S128x128 .f32} {y z : FVec Ideal S128x128 .bf16} {vb : Vec Ideal S1x128x128 .bf16} {sb : Vec Ideal S1x128x128 .f32}

theorem writes_apply (hk : Is kf k) (hgc : IsCol gc (gsum d g)) (hbe : IsCol be b)
    (hU : Is (subf x (matmul dot_S128x128_S128x128_S128x128_1_0_0_1_n_n none z y (constant S128x128 .f32 0x00000000#32))) (Delta.unitInverse (Delta.decayed d k g b)))
    (hv : ∀ r j, vb (ix3 0 r j) = ((v r j : ℝ) : EReal)) (hs : ∀ r j, sb (ix3 0 r j) = ((S r j : ℝ) : EReal)) :
    Is (k0_pay36 kf qf gc be x y z vb sb) (Delta.writes d k v g b S) := fun r j => by
  have hU' : ∀ r s, x (ix2 r s) - ∑ a : Fin 128, z (ix2 r a) * y (ix2 a s) = ((Delta.unitInverse (Delta.decayed d k g b) r s : ℝ) : EReal) := fun r s => by
    refine Eq.trans ?_ (hU r s)
    pointwise
  have hk' : ∀ r a, kf (ix2 r a) = ((k r a : ℝ) : EReal) := hk
  have hc' : ∀ r, gc (ix2 r 0) = ((gsum d g r : ℝ) : EReal) := hgc
  have hb' : ∀ r, be (ix2 r 0) = ((b r : ℝ) : EReal) := hbe
  pointwise [k0_pay36, k0_pay35, k0_pay34, k0_pay33, k0_pay32]
  simp only [hU', hk', hc', hb', hv, hs, exp_coe, ← EReal.coe_mul, coe_sum, ← EReal.coe_sub]
  rfl

theorem reads_apply (hq : Is qf q) (hgc : IsCol gc (gsum d g))
    (hatt : Is att (fun r s => (∑ a, q r a * k s a) * (if rank d s ≤ rank d r then Real.exp (gsum d g r - gsum d g s) else 0)))
    (hw : Is (k0_pay36 kf qf gc be x y z vb sb) (Delta.writes d k v g b S)) (hs : ∀ r j, sb (ix3 0 r j) = ((S r j : ℝ) : EReal)) :
    Is (k0_pay37 kf qf gc be att x y z vb sb) (Delta.reads d q k v g b S) := fun r j => by
  have hq' : ∀ r a, qf (ix2 r a) = ((q r a : ℝ) : EReal) := hq
  have hc' : ∀ r, gc (ix2 r 0) = ((gsum d g r : ℝ) : EReal) := hgc
  have ha' : ∀ r s, att (ix2 r s) = (((∑ a, q r a * k s a) * (if rank d s ≤ rank d r then Real.exp (gsum d g r - gsum d g s) else 0) : ℝ) : EReal) := hatt
  have hw' : ∀ r j, k0_pay36 kf qf gc be x y z vb sb (ix2 r j) = ((Delta.writes d k v g b S r j : ℝ) : EReal) := hw
  pointwise [k0_pay37, k0_pay35, k0_pay34, k0_pay32]
  simp only [hq', hc', ha', hw', hs, exp_coe, ← EReal.coe_mul, coe_sum, ← EReal.coe_add]
  rfl

theorem after_apply (hkt : ∀ a r, kt (ix2 a r) = ((k r a : ℝ) : EReal)) (hgr : IsRow gr (gsum d g)) (hgt : gt (ix2 0 0) = ((∑ s, g s : ℝ) : EReal))
    (hw : Is (k0_pay36 kf qf gc be x y z vb sb) (Delta.writes d k v g b S)) (hs : ∀ r j, sb (ix3 0 r j) = ((S r j : ℝ) : EReal)) (r j : Fin 128) :
    k0_pay38 kt kf qf gc be gr gt x y z vb sb (ix3 0 r j) = ((Delta.after d k v g b S r j : ℝ) : EReal) := by
  have hr' : ∀ s, gr (ix2 0 s) = ((gsum d g s : ℝ) : EReal) := hgr
  have hw' : ∀ r j, k0_pay36 kf qf gc be x y z vb sb (ix2 r j) = ((Delta.writes d k v g b S r j : ℝ) : EReal) := hw
  pointwise [k0_pay38, k0_pay34]
  simp only [hkt, hr', hgt, hw', hs, exp_coe, ← EReal.coe_mul, coe_sum, ← EReal.coe_sub, ← EReal.coe_add]
  rfl

end Chunk

section Head

variable (w : BitVec 32) (i : grid0.Coords) (b0 b1 b2 : Vec Ideal S1x128x128 .bf16) (b4 b5 : Vec Ideal S1x128x128 .f32) (vb : Vec Ideal S1x128x128 .bf16) (sb : Vec Ideal S1x128x128 .f32)

/-- A head's summed decays, its betas, its summed decays as a row, and its whole decay. -/
def headCol : FVec Ideal S128x1 .f32 := colPick w (k0_pay15 i b4)
def headBeta : FVec Ideal S128x1 .f32 := colPick (Scalar.addi 32#32 w) (k0_pay14 b4)
def headRow : FVec Ideal S1x128 .f32 := rowPick w (k0_pay16 (k0_pay13 i) b5)
def headAll : FVec Ideal S1x1 .f32 := k0_pay21 (sumPick w (k0_pay14 b4))

/-- What a head's tokens hear of one another, and the inverse of the blocks of 8. -/
def headMat : FVec Ideal S128x128 .f32 := k0_pay23 (k0_pay8 b1) (k0_pay12 i) (headCol w i b4) (headBeta w b4) (headRow w i b5)
def headInv : FVec Ideal S128x128 .f32 := k0_pay26 (k0_pay8 b1) (k0_pay12 i) (headCol w i b4) (headBeta w b4) (headRow w i b5)

/-- A head's output of one chunk. -/
def headOut : FVec Ideal S128x128 .f32 :=
  k0_pay37 (k0_pay6 b1) (k0_pay7 b0) (headCol w i b4) (headBeta w b4) (k0_pay24 (k0_pay9 b0 b1) (k0_pay11 i) (headCol w i b4) (headRow w i b5))
    (k0_pay29 (headMat w i b1 b4 b5) k0_pay25 (headInv w i b1 b4 b5) k0_pay27 k0_pay28) (k0_pay30 (headMat w i b1 b4 b5) k0_pay25 (headInv w i b1 b4 b5) k0_pay27 k0_pay28)
    (k0_pay31 (headMat w i b1 b4 b5) k0_pay25 (headInv w i b1 b4 b5) k0_pay27 k0_pay28) vb sb

/-- A head's state after one chunk. -/
def headState : FVec Ideal S1x128x128 .f32 :=
  k0_pay38 (k0_pay5 b2) (k0_pay6 b1) (k0_pay7 b0) (headCol w i b4) (headBeta w b4) (headRow w i b5) (headAll w b4)
    (k0_pay29 (headMat w i b1 b4 b5) k0_pay25 (headInv w i b1 b4 b5) k0_pay27 k0_pay28) (k0_pay30 (headMat w i b1 b4 b5) k0_pay25 (headInv w i b1 b4 b5) k0_pay27 k0_pay28)
    (k0_pay31 (headMat w i b1 b4 b5) k0_pay25 (headInv w i b1 b4 b5) k0_pay27 k0_pay28) vb sb

/-- The numbers a head's blocks of one chunk hold. -/
structure Holds (q k v : Fin 128 → Fin 128 → ℝ) (g b : Fin 128 → ℝ) (S : Mat) (n n' : Fin 128) : Prop where
  word : w = BitVec.ofNat 32 n.val
  word' : Scalar.addi 32#32 w = BitVec.ofNat 32 n'.val
  hq : ∀ r a, b0 (ix3 0 r a) = ((q r a : ℝ) : EReal)
  hk : ∀ r a, b1 (ix3 0 r a) = ((k r a : ℝ) : EReal)
  hkt : ∀ a r, b2 (ix3 0 a r) = ((k r a : ℝ) : EReal)
  hv : ∀ r j, vb (ix3 0 r j) = ((v r j : ℝ) : EReal)
  hs : ∀ r j, sb (ix3 0 r j) = ((S r j : ℝ) : EReal)
  hg : ∀ s, b4 (ix3 0 s n) = ((g s : ℝ) : EReal)
  hb : ∀ s, b4 (ix3 0 s n') = ((b s : ℝ) : EReal)
  hgt : ∀ s, b5 (ix3 0 n s) = ((g s : ℝ) : EReal)

variable {w i b0 b1 b2 b4 b5 vb sb} {q k v : Fin 128 → Fin 128 → ℝ} {g b : Fin 128 → ℝ} {S : Mat} {n n' : Fin 128}

theorem Holds.col (H : Holds w b0 b1 b2 b4 b5 vb sb q k v g b S n n') : IsCol (headCol w i b4) (gsum (dirOf i) g) := fun r => by
  unfold headCol
  rw [H.word, colPick_apply]
  exact pay15_apply i b4 n g H.hg r

theorem Holds.beta (H : Holds w b0 b1 b2 b4 b5 vb sb q k v g b S n n') : IsCol (headBeta w b4) b := fun r => by
  unfold headBeta
  rw [H.word', colPick_apply]
  pointwise [k0_pay14]
  exact H.hb r

theorem Holds.row (H : Holds w b0 b1 b2 b4 b5 vb sb q k v g b S n n') : IsRow (headRow w i b5) (gsum (dirOf i) g) := fun r => by
  unfold headRow
  rw [H.word, rowPick_apply]
  exact pay16_apply i b5 n g H.hgt r

theorem Holds.all (H : Holds w b0 b1 b2 b4 b5 vb sb q k v g b S n n') : headAll w b4 (ix2 0 0) = ((∑ s, g s : ℝ) : EReal) := by
  have h : headAll w b4 (ix2 0 0) = sumPick w (k0_pay14 b4) (ix3 0 0 0) := by
    unfold headAll
    pointwise [k0_pay21]
  rw [h, H.word, sumPick_apply]
  refine (Finset.sum_congr rfl fun s _ => ?_).trans (coe_sum g)
  pointwise [k0_pay14]
  exact H.hg s

theorem Holds.mat (H : Holds w b0 b1 b2 b4 b5 vb sb q k v g b S n n') : Is (headMat w i b1 b4 b5) (Delta.decayed (dirOf i) k g b) :=
  decayed_apply i (kk_apply H.hk) H.col H.beta H.row

theorem Holds.writes (H : Holds w b0 b1 b2 b4 b5 vb sb q k v g b S n n') :
    Is (k0_pay36 (k0_pay6 b1) (k0_pay7 b0) (headCol w i b4) (headBeta w b4)
      (k0_pay29 (headMat w i b1 b4 b5) k0_pay25 (headInv w i b1 b4 b5) k0_pay27 k0_pay28) (k0_pay30 (headMat w i b1 b4 b5) k0_pay25 (headInv w i b1 b4 b5) k0_pay27 k0_pay28)
      (k0_pay31 (headMat w i b1 b4 b5) k0_pay25 (headInv w i b1 b4 b5) k0_pay27 k0_pay28) vb sb) (Delta.writes (dirOf i) k v g b S) := by
  have h32 := grow32_is (H.mat (i := i)) (inv8_is (H.mat (i := i)))
  exact writes_apply (fun r a => by pointwise [k0_pay6, k0_pay4]; exact H.hk r a) H.col H.beta
    (grow_is 3 (H.mat (i := i)) h32) H.hv H.hs

theorem Holds.out (H : Holds w b0 b1 b2 b4 b5 vb sb q k v g b S n n') : Is (headOut w i b0 b1 b4 b5 vb sb) (Delta.reads (dirOf i) q k v g b S) :=
  reads_apply (fun r a => by pointwise [k0_pay7, k0_pay3]; exact H.hq r a) H.col (heard_apply i (qk_apply H.hq H.hk) H.col H.row) H.writes H.hs

theorem Holds.state (H : Holds w b0 b1 b2 b4 b5 vb sb q k v g b S n n') (r j : Fin 128) :
    headState w i b0 b1 b2 b4 b5 vb sb (ix3 0 r j) = ((Delta.after (dirOf i) k v g b S r j : ℝ) : EReal) :=
  after_apply (fun a r => by pointwise [k0_pay5]; exact H.hkt a r) H.row H.all H.writes H.hs r j

end Head

end Cert.GdnScanIdeal.RefValue

end
-- ==== Proof.GdnScanFrame.lean ====
/- The DeltaNet scan's kernel: what one step writes back and keeps. -/
module

public import proofs.«01_k».proof.Proof.GdnScanChunk
public import Idealize.ShloMosaic.Lib.StableHlo.Run
public import Idealize.ShloMosaic.Lib.Pipeline.ReadBack
public import Idealize.ShloMosaic.Lib.Pipeline.ValueKit.Acc
public import Idealize.ShloMosaic.Lib.Pipeline.ValueKit.Tiles

@[expose] public section

set_option maxRecDepth 16384

noncomputable section

namespace Cert.GdnScanIdeal.RefValue

open Cert.GdnScanIdeal Cert.GdnScanIdeal.Gen Cert.Scan Cert.Softmax Idealize.ShloMosaic Idealize.ShloMosaic.TcCoe Idealize.ShloMosaic.Pointwise Idealize.SL.Sem
open Idealize.ShloMosaic.Pipeline (Dat)

/-- The second head's payloads are the first's. -/
theorem pay60_eq : @k0_pay60 = @k0_pay37 := rfl
theorem pay61_eq : @k0_pay61 = @k0_pay38 := rfl
theorem pay54_eq : @k0_pay54 = @k0_pay31 := rfl
theorem pay53_eq : @k0_pay53 = @k0_pay30 := rfl
theorem pay52_eq : @k0_pay52 = @k0_pay29 := rfl
theorem pay51_eq : @k0_pay51 = @k0_pay28 := rfl
theorem pay50_eq : @k0_pay50 = @k0_pay27 := rfl
theorem pay49_eq : @k0_pay49 = @k0_pay26 := rfl
theorem pay48_eq : @k0_pay48 = @k0_pay25 := rfl
theorem pay47_eq : @k0_pay47 = @k0_pay24 := rfl
theorem pay46_eq : @k0_pay46 = @k0_pay23 := rfl
theorem pay44_eq : @k0_pay44 = @k0_pay21 := rfl
theorem pay1_eq : @k0_pay1 = @k0_pay39 := rfl

/-- A kernel step's key head. -/
def keyOf (i : grid0.Coords) : Fin 8 := ⟨(i 2).val, (i 2).isLt⟩

/-- The word of a head's lane. -/
def word (i : grid0.Coords) (j : Fin 2) : BitVec 32 := laneW (dirOf i) (keyOf i) j

section
variable (i : grid0.Coords) (v : FVec Ideal S128x128 .f32) (b : Vec Ideal S1x128x128 .f32)
theorem pay17_eq : k0_pay17 (BitVec.ofNat 32 (i 0).val) (BitVec.ofNat 32 (i 2).val) v = colPick (word i 0) v := rfl
theorem pay18_eq : k0_pay18 (BitVec.ofNat 32 (i 0).val) (BitVec.ofNat 32 (i 2).val) v = colPick (Scalar.addi 32#32 (word i 0)) v := rfl
theorem pay19_eq : k0_pay19 (BitVec.ofNat 32 (i 0).val) (BitVec.ofNat 32 (i 2).val) (k0_pay13 i) b = rowPick (word i 0) (k0_pay16 (k0_pay13 i) b) := rfl
theorem pay20_eq : k0_pay20 (BitVec.ofNat 32 (i 0).val) (BitVec.ofNat 32 (i 2).val) v = sumPick (word i 0) v := rfl
theorem pay40_eq : k0_pay40 (BitVec.ofNat 32 (i 0).val) (BitVec.ofNat 32 (i 2).val) v (iota .tc S1x128 32 [1] iota_S1x128_d1_w32) = colPick (word i 1) v := rfl
theorem pay41_eq : k0_pay41 (BitVec.ofNat 32 (i 0).val) (BitVec.ofNat 32 (i 2).val) v (iota .tc S1x128 32 [1] iota_S1x128_d1_w32) = colPick (Scalar.addi 32#32 (word i 1)) v := rfl
theorem pay42_eq : k0_pay42 (BitVec.ofNat 32 (i 0).val) (BitVec.ofNat 32 (i 2).val) v (iota .tc S128x1 32 [0] iota_S128x1_d0_w32) = rowPick (word i 1) v := rfl
theorem pay43_eq : k0_pay43 (BitVec.ofNat 32 (i 0).val) (BitVec.ofNat 32 (i 2).val) v (iota .tc S1x128 32 [1] iota_S1x128_d1_w32) = sumPick (word i 1) v := rfl
end

theorem box0 (r a : Fin 128) : (Rect.unit (s := S2x128x128) ![0, 0, 0] ![1, 128, 128] inb_S2x128x128_S1x128x128_0_0_0).emb (ix3 0 r a : S1x128x128.Idx) = (ix3 0 r a : S2x128x128.Idx) := by
  funext x
  match x with
  | ⟨0, _⟩ => rfl
  | ⟨1, _⟩ => exact Fin.ext (show 0 + 1 * r.val = r.val by omega)
  | ⟨2, _⟩ => exact Fin.ext (show 0 + 1 * a.val = a.val by omega)

theorem box1 (r a : Fin 128) : (Rect.unit (s := S2x128x128) ![1, 0, 0] ![1, 128, 128] inb_S2x128x128_S1x128x128_1_0_0).emb (ix3 0 r a : S1x128x128.Idx) = (ix3 1 r a : S2x128x128.Idx) := by
  funext x
  match x with
  | ⟨0, _⟩ => rfl
  | ⟨1, _⟩ => exact Fin.ext (show 0 + 1 * r.val = r.val by omega)
  | ⟨2, _⟩ => exact Fin.ext (show 0 + 1 * a.val = a.val by omega)

theorem box_all (y : S2x128x128.Idx) : (Rect.unit (s := S2x128x128) ![0, 0, 0] ![2, 128, 128] inb_S2x128x128_S2x128x128_0_0_0).emb (y : S2x128x128.Idx) = y := by
  funext x
  match x with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)

/-- The first head's box misses the second's, and the other way round. -/
theorem box0_miss (r a : Fin 128) : (ix3 0 r a : S2x128x128.Idx) ∉ (Rect.unit (s := S2x128x128) ![1, 0, 0] ![1, 128, 128] inb_S2x128x128_S1x128x128_1_0_0).set := fun h => by
  have h1 : 1 ≤ 0 := (Rect.mem_set_unit.mp h 0).1
  omega

theorem box1_miss (r a : Fin 128) : (ix3 1 r a : S2x128x128.Idx) ∉ (Rect.unit (s := S2x128x128) ![0, 0, 0] ![1, 128, 128] inb_S2x128x128_S1x128x128_0_0_0).set := fun h => by
  have h1 : 1 < 0 + 1 := (Rect.mem_set_unit.mp h 0).2
  omega

section
variable (p q : S1x128x128.Idx → Elt Ideal .f32) (L : List (View.Piece (Elt Ideal) S2x128x128 .f32)) (r a : Fin 128)

/-- The second head's state, stored last. -/
theorem stored1 : View.canon (⟨Rect.unit (s := S2x128x128) ![1, 0, 0] ![1, 128, 128] inb_S2x128x128_S1x128x128_1_0_0, q⟩ :: L) (ix3 1 r a : S2x128x128.Idx) = q (ix3 0 r a) := by
  have e := View.canon_cons_emb (Rect.unit (s := S2x128x128) ![1, 0, 0] ![1, 128, 128] inb_S2x128x128_S1x128x128_1_0_0) q L (ix3 0 r a : S1x128x128.Idx)
  rw [box1] at e
  exact e

/-- The first head's state, stored last. -/
theorem stored : View.canon (⟨Rect.unit (s := S2x128x128) ![0, 0, 0] ![1, 128, 128] inb_S2x128x128_S1x128x128_0_0_0, p⟩ :: L) (ix3 0 r a : S2x128x128.Idx) = p (ix3 0 r a) := by
  have e := View.canon_cons_emb (Rect.unit (s := S2x128x128) ![0, 0, 0] ![1, 128, 128] inb_S2x128x128_S1x128x128_0_0_0) p L (ix3 0 r a : S1x128x128.Idx)
  rw [box0] at e
  exact e

/-- The first head's, stored before the second's. -/
theorem stored0 : View.canon (⟨Rect.unit (s := S2x128x128) ![1, 0, 0] ![1, 128, 128] inb_S2x128x128_S1x128x128_1_0_0, q⟩ :: ⟨Rect.unit (s := S2x128x128) ![0, 0, 0] ![1, 128, 128] inb_S2x128x128_S1x128x128_0_0_0, p⟩ :: L) (ix3 0 r a : S2x128x128.Idx) = p (ix3 0 r a) := by
  exact (View.canon_cons_of_not_mem (⟨Rect.unit (s := S2x128x128) ![1, 0, 0] ![1, 128, 128] inb_S2x128x128_S1x128x128_1_0_0, q⟩ : View.Piece (Elt Ideal) S2x128x128 .f32)
    (⟨Rect.unit (s := S2x128x128) ![0, 0, 0] ![1, 128, 128] inb_S2x128x128_S1x128x128_0_0_0, p⟩ :: L) (y := (ix3 0 r a : S2x128x128.Idx)) (box0_miss r a)).trans (stored p L r a)

/-- An emptied state holds nothing. -/
theorem emptied (y : S2x128x128.Idx) : View.canon [(⟨Rect.unit (s := S2x128x128) ![0, 0, 0] ![2, 128, 128] inb_S2x128x128_S2x128x128_0_0_0, (k0_pay2 : FVec Ideal S2x128x128 .f32)⟩ : View.Piece (Elt Ideal) S2x128x128 .f32)] y = (0 : EReal) := by
  have e := View.canon_cons_emb (Val := Elt Ideal) (e := .f32) (Rect.unit (s := S2x128x128) ![0, 0, 0] ![2, 128, 128] inb_S2x128x128_S2x128x128_0_0_0) (k0_pay2 : FVec Ideal S2x128x128 .f32) [] y
  rw [box_all] at e
  refine e.trans ?_
  pointwise [k0_pay2]

/-- What a first step reads of the state: nothing. -/
theorem empty0 : (View.whole cc0_scratch0).readCov [(⟨Rect.unit (s := S2x128x128) ![0, 0, 0] ![2, 128, 128] inb_S2x128x128_S2x128x128_0_0_0, (k0_pay2 : FVec Ideal S2x128x128 .f32)⟩ : View.Piece (Elt Ideal) S2x128x128 .f32)]
    (Rect.unit (s := S2x128x128) ![0, 0, 0] ![1, 128, 128] inb_S2x128x128_S1x128x128_0_0_0).toLoadRect (ix3 0 r a : S1x128x128.Idx) = (0 : EReal) := by
  rw [View.readCov_eq_canon']
  exact emptied _

theorem empty1 : (View.whole cc0_scratch0).readCov [(⟨Rect.unit (s := S2x128x128) ![0, 0, 0] ![1, 128, 128] inb_S2x128x128_S1x128x128_0_0_0, p⟩ : View.Piece (Elt Ideal) S2x128x128 .f32), ⟨Rect.unit (s := S2x128x128) ![0, 0, 0] ![2, 128, 128] inb_S2x128x128_S2x128x128_0_0_0, (k0_pay2 : FVec Ideal S2x128x128 .f32)⟩]
    (Rect.unit (s := S2x128x128) ![1, 0, 0] ![1, 128, 128] inb_S2x128x128_S1x128x128_1_0_0).toLoadRect (ix3 0 r a : S1x128x128.Idx) = (0 : EReal) := by
  rw [View.readCov_eq_canon']
  have e : (Rect.unit (s := S2x128x128) ![1, 0, 0] ![1, 128, 128] inb_S2x128x128_S1x128x128_1_0_0).toLoadRect.idx (ix3 0 r a : S1x128x128.Idx) = (ix3 1 r a : S2x128x128.Idx) := box1 r a
  show View.canon _ ((Rect.unit (s := S2x128x128) ![1, 0, 0] ![1, 128, 128] inb_S2x128x128_S1x128x128_1_0_0).toLoadRect.idx (ix3 0 r a : S1x128x128.Idx)) = _
  rw [e, View.canon_cons_of_not_mem _ _ (box1_miss r a)]
  exact emptied _
end

/-- A head's columns of the values' block. -/
theorem vals0 (X : Vec Ideal S1x128x256 .bf16) (r a : Fin 128) :
    View.ld X (Rect.unit (s := S1x128x256) ![0, 0, 0] ![1, 128, 128] inb_S1x128x256_S1x128x128_0_0_0) (ix3 0 r a : S1x128x128.Idx) = X (ix3 0 r ⟨(0 : Fin 2).val * 128 + a.val, by omega⟩) :=
  View.ld_unit_apply_of X _ _ inb_S1x128x256_S1x128x128_0_0_0 _ _ fun x => by
    match x with
    | ⟨0, _⟩ => rfl
    | ⟨1, _⟩ => exact (Nat.zero_add _).symm
    | ⟨2, _⟩ => show 0 * 128 + a.val = 0 + a.val; omega

theorem vals1 (X : Vec Ideal S1x128x256 .bf16) (r a : Fin 128) :
    View.ld X (Rect.unit (s := S1x128x256) ![0, 0, 128] ![1, 128, 128] inb_S1x128x256_S1x128x128_0_0_128) (ix3 0 r a : S1x128x128.Idx) = X (ix3 0 r ⟨(1 : Fin 2).val * 128 + a.val, by omega⟩) :=
  View.ld_unit_apply_of X _ _ inb_S1x128x256_S1x128x128_0_0_128 _ _ fun x => by
    match x with
    | ⟨0, _⟩ => rfl
    | ⟨1, _⟩ => exact (Nat.zero_add _).symm
    | ⟨2, _⟩ => show 1 * 128 + a.val = 128 + a.val; omega

/-- A head's state of the step before. -/
theorem prev0 (X : Vec Ideal S2x128x128 .f32) (r a : Fin 128) :
    View.ld X (Rect.unit (s := S2x128x128) ![0, 0, 0] ![1, 128, 128] inb_S2x128x128_S1x128x128_0_0_0) (ix3 0 r a : S1x128x128.Idx) = X (ix3 0 r a) :=
  View.ld_unit_apply_of X _ _ inb_S2x128x128_S1x128x128_0_0_0 _ _ fun x => by
    match x with
    | ⟨0, _⟩ => rfl
    | ⟨1, _⟩ => exact (Nat.zero_add _).symm
    | ⟨2, _⟩ => exact (Nat.zero_add _).symm

theorem prev1 (X : Vec Ideal S2x128x128 .f32) (r a : Fin 128) :
    View.ld X (Rect.unit (s := S2x128x128) ![1, 0, 0] ![1, 128, 128] inb_S2x128x128_S1x128x128_1_0_0) (ix3 0 r a : S1x128x128.Idx) = X (ix3 1 r a) :=
  View.ld_unit_apply_of X _ _ inb_S2x128x128_S1x128x128_1_0_0 _ _ fun x => by
    match x with
    | ⟨0, _⟩ => rfl
    | ⟨1, _⟩ => exact (Nat.zero_add _).symm
    | ⟨2, _⟩ => exact (Nat.zero_add _).symm

section
variable (p q : S1x1x128x128.Idx → Elt Ideal .bf16) (L : List (View.Piece (Elt Ideal) S1x1x128x256 .bf16)) (r a : Fin 128)

theorem obox0 : (Rect.unit (s := S1x1x128x256) ![0, 0, 0, 0] ![1, 1, 128, 128] inb_S1x1x128x256_S1x1x128x128_0_0_0_0).emb (ix4 0 0 r a : S1x1x128x128.Idx) = (ix4 0 0 r ⟨(0 : Fin 2).val * 128 + a.val, by omega⟩ : S1x1x128x256.Idx) := by
  funext x
  match x with
  | ⟨0, _⟩ => rfl
  | ⟨1, _⟩ => rfl
  | ⟨2, _⟩ => exact Fin.ext (show 0 + 1 * r.val = r.val by omega)
  | ⟨3, _⟩ => exact Fin.ext (show 0 + 1 * a.val = 0 * 128 + a.val by omega)

theorem obox1 : (Rect.unit (s := S1x1x128x256) ![0, 0, 0, 128] ![1, 1, 128, 128] inb_S1x1x128x256_S1x1x128x128_0_0_0_128).emb (ix4 0 0 r a : S1x1x128x128.Idx) = (ix4 0 0 r ⟨(1 : Fin 2).val * 128 + a.val, by omega⟩ : S1x1x128x256.Idx) := by
  funext x
  match x with
  | ⟨0, _⟩ => rfl
  | ⟨1, _⟩ => rfl
  | ⟨2, _⟩ => exact Fin.ext (show 0 + 1 * r.val = r.val by omega)
  | ⟨3, _⟩ => exact Fin.ext (show 128 + 1 * a.val = 1 * 128 + a.val by omega)

theorem obox0_miss : (ix4 0 0 r ⟨(0 : Fin 2).val * 128 + a.val, by omega⟩ : S1x1x128x256.Idx) ∉ (Rect.unit (s := S1x1x128x256) ![0, 0, 0, 128] ![1, 1, 128, 128] inb_S1x1x128x256_S1x1x128x128_0_0_0_128).set := fun h => by
  have h1 : 128 ≤ 0 * 128 + a.val := (Rect.mem_set_unit.mp h 3).1
  omega

/-- A head's output, stored last. -/
theorem put1 : View.canon (⟨Rect.unit (s := S1x1x128x256) ![0, 0, 0, 128] ![1, 1, 128, 128] inb_S1x1x128x256_S1x1x128x128_0_0_0_128, q⟩ :: L) (ix4 0 0 r ⟨(1 : Fin 2).val * 128 + a.val, by omega⟩ : S1x1x128x256.Idx) = q (ix4 0 0 r a) := by
  have e := View.canon_cons_emb (Rect.unit (s := S1x1x128x256) ![0, 0, 0, 128] ![1, 1, 128, 128] inb_S1x1x128x256_S1x1x128x128_0_0_0_128) q L (ix4 0 0 r a : S1x1x128x128.Idx)
  rw [obox1] at e
  exact e

theorem put : View.canon (⟨Rect.unit (s := S1x1x128x256) ![0, 0, 0, 0] ![1, 1, 128, 128] inb_S1x1x128x256_S1x1x128x128_0_0_0_0, p⟩ :: L) (ix4 0 0 r ⟨(0 : Fin 2).val * 128 + a.val, by omega⟩ : S1x1x128x256.Idx) = p (ix4 0 0 r a) := by
  have e := View.canon_cons_emb (Rect.unit (s := S1x1x128x256) ![0, 0, 0, 0] ![1, 1, 128, 128] inb_S1x1x128x256_S1x1x128x128_0_0_0_0) p L (ix4 0 0 r a : S1x1x128x128.Idx)
  rw [obox0] at e
  exact e

theorem put0 : View.canon (⟨Rect.unit (s := S1x1x128x256) ![0, 0, 0, 128] ![1, 1, 128, 128] inb_S1x1x128x256_S1x1x128x128_0_0_0_128, q⟩ :: ⟨Rect.unit (s := S1x1x128x256) ![0, 0, 0, 0] ![1, 1, 128, 128] inb_S1x1x128x256_S1x1x128x128_0_0_0_0, p⟩ :: L) (ix4 0 0 r ⟨(0 : Fin 2).val * 128 + a.val, by omega⟩ : S1x1x128x256.Idx) = p (ix4 0 0 r a) :=
  (View.canon_cons_of_not_mem (⟨Rect.unit (s := S1x1x128x256) ![0, 0, 0, 128] ![1, 1, 128, 128] inb_S1x1x128x256_S1x1x128x128_0_0_0_128, q⟩ : View.Piece (Elt Ideal) S1x1x128x256 .bf16)
    (⟨Rect.unit (s := S1x1x128x256) ![0, 0, 0, 0] ![1, 1, 128, 128] inb_S1x1x128x256_S1x1x128x128_0_0_0_0, p⟩ :: L) (y := (ix4 0 0 r ⟨(0 : Fin 2).val * 128 + a.val, by omega⟩ : S1x1x128x256.Idx)) (obox0_miss r a)).trans (put p L r a)
end

theorem pay39_apply (x : FVec Ideal S128x128 .f32) (r a : Fin 128) : k0_pay39 x (ix4 0 0 r a) = x (ix2 r a) := by
  pointwise [k0_pay39]

variable (m : (ℓ : Loc nD τ sig) → Buf (Elt Ideal) ℓ)

/-- What a head's blocks of a step are, over the state the step starts with. -/
def Starts (c : Dev nD) (t : Fin cfg0.N) (j : Fin 2) (s : Fin 128 → Fin 128 → EReal) (vb : Vec Ideal S1x128x128 .bf16) (sb : Vec Ideal S1x128x128 .f32) : Prop :=
  (∀ r a, sb (ix3 0 r a) = s r a) ∧ ∀ r a : Fin 128, vb (ix3 0 r a) = (iblk m c 3 t : S1x128x256.Idx → EReal) (ix3 0 r ⟨j.val * 128 + a.val, by omega⟩)

/-- The first head's state after a first step. -/
def firstState (c : Dev nD) (t : Fin cfg0.N) : FVec Ideal S1x128x128 .f32 :=
  headState (word (grid0.coords t) 0) (grid0.coords t) (iblk m c 0 t) (iblk m c 1 t) (iblk m c 2 t) (iblk m c 4 t) (iblk m c 5 t)
    (View.ld (iblk m c 3 t) (Rect.unit (s := S1x128x256) ![0, 0, 0] ![1, 128, 128] inb_S1x128x256_S1x128x128_0_0_0))
    ((View.whole cc0_scratch0).readCov [(⟨Rect.unit (s := S2x128x128) ![0, 0, 0] ![2, 128, 128] inb_S2x128x128_S2x128x128_0_0_0, (k0_pay2 : FVec Ideal S2x128x128 .f32)⟩ : View.Piece (Elt Ideal) S2x128x128 .f32)]
      (Rect.unit (s := S2x128x128) ![0, 0, 0] ![1, 128, 128] inb_S2x128x128_S1x128x128_0_0_0).toLoadRect)

set_option maxHeartbeats 4000000 in
/-- A first step keeps what one chunk leaves of an empty state. -/
theorem kept_A (c : Dev nD) (n : ℕ) (hb : n < cfg0.N) (acc : Vec Ideal S2x128x128 .f32) (h : n % 33 = 0) (j : Fin 2) :
    ∃ vb sb, Starts m c ⟨n, hb⟩ j (fun _ _ => 0) vb sb
      ∧ ∀ r a, Value.scAt0_0 m c n hb acc (ix3 j r a) = headState (word (grid0.coords ⟨n, hb⟩) j) (grid0.coords ⟨n, hb⟩) (iblk m c 0 ⟨n, hb⟩) (iblk m c 1 ⟨n, hb⟩) (iblk m c 2 ⟨n, hb⟩) (iblk m c 4 ⟨n, hb⟩) (iblk m c 5 ⟨n, hb⟩) vb sb (ix3 0 r a) := by
  unfold Value.scAt0_0
  rw [dif_pos h]
  frame_out
  obtain rfl | rfl : j = 0 ∨ j = 1 := by omega
  · refine ⟨_, _, ⟨fun r a => empty0 r a, fun r a => vals0 _ r a⟩, fun r a => ?_⟩
    refine (stored0 _ _ _ r a).trans ?_
    rfl
  · simp only [pay61_eq, pay54_eq, pay53_eq, pay52_eq, pay51_eq, pay50_eq, pay49_eq, pay48_eq, pay46_eq, pay44_eq]
    refine ⟨_, _, ⟨fun r a => empty1 (firstState m c ⟨n, hb⟩) r a, fun r a => vals1 _ r a⟩, fun r a => ?_⟩
    refine (stored1 _ _ r a).trans ?_
    rfl

set_option maxHeartbeats 4000000 in
/-- A later step keeps what one chunk leaves of the state before. -/
theorem kept_B (c : Dev nD) (n : ℕ) (hb : n < cfg0.N) (acc : Vec Ideal S2x128x128 .f32) (h : ¬ n % 33 = 0) (j : Fin 2) :
    ∃ vb sb, Starts m c ⟨n, hb⟩ j (fun r a => acc (ix3 j r a)) vb sb
      ∧ ∀ r a, Value.scAt0_0 m c n hb acc (ix3 j r a) = headState (word (grid0.coords ⟨n, hb⟩) j) (grid0.coords ⟨n, hb⟩) (iblk m c 0 ⟨n, hb⟩) (iblk m c 1 ⟨n, hb⟩) (iblk m c 2 ⟨n, hb⟩) (iblk m c 4 ⟨n, hb⟩) (iblk m c 5 ⟨n, hb⟩) vb sb (ix3 0 r a) := by
  unfold Value.scAt0_0
  rw [dif_neg h]
  frame_out
  simp only [read_unread_whole]
  obtain rfl | rfl : j = 0 ∨ j = 1 := by omega
  · refine ⟨_, _, ⟨fun r a => prev0 _ r a, fun r a => vals0 _ r a⟩, fun r a => ?_⟩
    refine (stored0 _ _ _ r a).trans ?_
    rfl
  · simp only [pay61_eq, pay54_eq, pay53_eq, pay52_eq, pay51_eq, pay50_eq, pay49_eq, pay48_eq, pay46_eq, pay44_eq]
    refine ⟨_, _, ⟨fun r a => prev1 _ r a, fun r a => vals1 _ r a⟩, fun r a => ?_⟩
    refine (stored1 _ _ r a).trans ?_
    rfl

set_option maxHeartbeats 4000000 in
/-- A first step writes back what one chunk reads of an empty state. -/
theorem wrote_A (c : Dev nD) (t : Fin cfg0.N) (h : t.val % 33 = 0) (j : Fin 2) :
    ∃ vb sb, Starts m c t j (fun _ _ => 0) vb sb
      ∧ ∀ r a : Fin 128, ((dats m 0 c).flushed 6 t : S1x1x128x256.Idx → EReal) (ix4 0 0 r ⟨j.val * 128 + a.val, by omega⟩) = headOut (word (grid0.coords t) j) (grid0.coords t) (iblk m c 0 t) (iblk m c 1 t) (iblk m c 4 t) (iblk m c 5 t) vb sb (ix2 r a) := by
  rw [Value.flushed6_A m c t h]
  frame_out
  obtain rfl | rfl : j = 0 ∨ j = 1 := by omega
  · refine ⟨_, _, ⟨fun r a => empty0 r a, fun r a => vals0 _ r a⟩, fun r a => ?_⟩
    refine (put0 _ _ _ r a).trans ((pay39_apply _ r a).trans ?_)
    rfl
  · simp only [pay1_eq, pay60_eq, pay54_eq, pay53_eq, pay52_eq, pay51_eq, pay50_eq, pay49_eq, pay48_eq, pay47_eq, pay46_eq]
    refine ⟨_, _, ⟨fun r a => empty1 (firstState m c t) r a, fun r a => vals1 _ r a⟩, fun r a => ?_⟩
    refine (put1 _ _ r a).trans ((pay39_apply _ r a).trans ?_)
    rfl

set_option maxHeartbeats 4000000 in
/-- A later step writes back what one chunk reads of the state before. -/
theorem wrote_B (c : Dev nD) (t : Fin cfg0.N) (h : ¬ t.val % 33 = 0) (j : Fin 2) :
    ∃ vb sb, Starts m c t j (fun r a => (outsAt0 m c (t.val - 1) (Nat.lt_of_le_of_lt (Nat.sub_le _ _) t.isLt)).2 (ix3 j r a)) vb sb
      ∧ ∀ r a : Fin 128, ((dats m 0 c).flushed 6 t : S1x1x128x256.Idx → EReal) (ix4 0 0 r ⟨j.val * 128 + a.val, by omega⟩) = headOut (word (grid0.coords t) j) (grid0.coords t) (iblk m c 0 t) (iblk m c 1 t) (iblk m c 4 t) (iblk m c 5 t) vb sb (ix2 r a) := by
  rw [Value.flushed6_B m c t h]
  frame_out
  simp only [read_unread_whole]
  obtain rfl | rfl : j = 0 ∨ j = 1 := by omega
  · refine ⟨_, _, ⟨fun r a => prev0 _ r a, fun r a => vals0 _ r a⟩, fun r a => ?_⟩
    refine (put0 _ _ _ r a).trans ((pay39_apply _ r a).trans ?_)
    rfl
  · simp only [pay1_eq, pay60_eq, pay54_eq, pay53_eq, pay52_eq, pay51_eq, pay50_eq, pay49_eq, pay48_eq, pay47_eq, pay46_eq]
    refine ⟨_, _, ⟨fun r a => prev1 _ r a, fun r a => vals1 _ r a⟩, fun r a => ?_⟩
    refine (put1 _ _ r a).trans ((pay39_apply _ r a).trans ?_)
    rfl

end Cert.GdnScanIdeal.RefValue

end
-- ==== Proof.GdnScanBlocks.lean ====
/- The DeltaNet scan's kernel: its grid and the blocks of its operands. -/
module

public import proofs.«01_k».proof.Proof.GdnScanFrame

@[expose] public section

set_option maxRecDepth 16384

noncomputable section

namespace Cert.GdnScanIdeal.RefValue

open Cert.GdnScanIdeal Cert.GdnScanIdeal.Gen Cert.Scan Cert.Softmax Cert.Delta Idealize.ShloMosaic Idealize.ShloMosaic.TcCoe Idealize.ShloMosaic.Pointwise Idealize.SL.Sem
open Idealize.ShloMosaic.Pipeline (Dat)

theorem tlt (t : Fin grid0.N) : t.val < 8448 := lt_of_lt_of_eq t.isLt N_0

/-- A grid point's direction, batch, key head and chunk in the order of time. -/
def dt (t : Fin grid0.N) : Fin 2 := ⟨t.val / 4224, by have := tlt t; omega⟩
def bt (t : Fin grid0.N) : Fin 16 := ⟨t.val / 264 % 16, Nat.mod_lt _ (by omega)⟩
def kt (t : Fin grid0.N) : Fin 8 := ⟨t.val / 33 % 8, Nat.mod_lt _ (by omega)⟩
def ct (t : Fin grid0.N) : Fin 33 := ⟨t.val % 33, Nat.mod_lt _ (by omega)⟩

theorem coord0 (t : Fin grid0.N) : (grid0.coords t 0).val = (dt t).val := by
  have h := Pipeline.Grid.coords_val (G := grid0) t 0 (S := 4224) (B := 2) (by decide) rfl
  have := tlt t
  rw [h]
  show t.val / 4224 % 2 = t.val / 4224
  omega

theorem coord1 (t : Fin grid0.N) : (grid0.coords t 1).val = (bt t).val :=
  Pipeline.Grid.coords_val (G := grid0) t 1 (S := 264) (B := 16) (by decide) rfl

theorem coord2 (t : Fin grid0.N) : (grid0.coords t 2).val = (kt t).val :=
  Pipeline.Grid.coords_val (G := grid0) t 2 (S := 33) (B := 8) (by decide) rfl

theorem coord3 (t : Fin grid0.N) : (grid0.coords t 3).val = (ct t).val :=
  (Pipeline.Grid.coords_val (G := grid0) t 3 (S := 1) (B := 33) (by decide) rfl).trans (by rw [Nat.div_one]; rfl)

theorem dirOf_eq (t : Fin grid0.N) : dirOf (grid0.coords t) = dt t := Fin.ext (coord0 t)
theorem keyOf_eq (t : Fin grid0.N) : keyOf (grid0.coords t) = kt t := Fin.ext (coord2 t)

/-- The place of a direction's chunk among the chunks. -/
def chunk (d : Fin 2) (c : Fin 33) : ℕ := if d = 0 then c.val else 32 - c.val

theorem chunk_lt (d : Fin 2) (c : Fin 33) : chunk d c < 33 := by
  unfold chunk
  split_ifs <;> omega

theorem chunk_word : ∀ (d : Fin 2) (c : Fin 33),
    (Scalar.addi (BitVec.ofNat 32 c.val) (Scalar.muli (BitVec.ofNat 32 d.val) (Scalar.subi 32#32 (Scalar.muli 2#32 (BitVec.ofNat 32 c.val))))).toNat = chunk d c := by
  decide +kernel

theorem small_word (n : ℕ) (h : n < 33) : (BitVec.ofNat 32 n).toNat = n := by
  rw [BitVec.toNat_ofNat]
  omega

/-- A window's blocks, along the axes that move. -/
theorem at_batch (t : Fin grid0.N) : (BitVec.ofNat 32 (grid0.coords t 1).val).toNat = (bt t).val := by
  rw [coord1]
  exact small_word _ (by omega)

theorem at_key (t : Fin grid0.N) : (BitVec.ofNat 32 (grid0.coords t 2).val).toNat = (kt t).val := by
  rw [coord2]
  exact small_word _ (by omega)

theorem at_dir (t : Fin grid0.N) : (BitVec.ofNat 32 (grid0.coords t 0).val).toNat = (dt t).val := by
  rw [coord0]
  exact small_word _ (by omega)

theorem at_chunk (t : Fin grid0.N) :
    (Scalar.addi (BitVec.ofNat 32 (grid0.coords t 3).val) (Scalar.muli (BitVec.ofNat 32 (grid0.coords t 0).val) (Scalar.subi 32#32 (Scalar.muli 2#32 (BitVec.ofNat 32 (grid0.coords t 3).val))))).toNat = chunk (dt t) (ct t) := by
  rw [coord0, coord3]
  exact chunk_word _ _

/-- A row of a grid point's chunk, in the sequence. -/
def row (t : Fin grid0.N) (r : Fin 128) : Fin 4224 := ⟨chunk (dt t) (ct t) * 128 + r.val, by have := chunk_lt (dt t) (ct t); omega⟩

/-- One of a grid point's two heads. -/
def head (t : Fin grid0.N) (j : Fin 2) : Fin 16 := ⟨2 * (kt t).val + j.val, by omega⟩

theorem colK_head (t : Fin grid0.N) (j : Fin 2) (a : Fin 128) : (Scan.colK (head t j) a).val = (kt t).val * 128 + a.val :=
  show (2 * (kt t).val + j.val) / 2 * 128 + a.val = _ by
    have : (2 * (kt t).val + j.val) / 2 = (kt t).val := by omega
    rw [this]

variable (m : (ℓ : Loc nD τ sig) → Buf (Elt Ideal) ℓ)

/-- The four operands. -/
def inQ (c : Dev nD) : Fin 16 → Fin 4224 → Fin 1024 → EReal := fun b t e => (m ((c.tc : Thread nD τ).loc main_arg0) : S16x4224x1024.Idx → EReal) (ix3 b t e)
def inK (c : Dev nD) : Fin 16 → Fin 4224 → Fin 1024 → EReal := fun b t e => (m ((c.tc : Thread nD τ).loc main_arg1) : S16x4224x1024.Idx → EReal) (ix3 b t e)
def inV (c : Dev nD) : Fin 16 → Fin 4224 → Fin 2048 → EReal := fun b t e => (m ((c.tc : Thread nD τ).loc main_arg2) : S16x4224x2048.Idx → EReal) (ix3 b t e)
def inG (c : Dev nD) : Fin 16 → Fin 4224 → Fin 128 → EReal := fun b t e => (m ((c.tc : Thread nD τ).loc main_arg3) : S16x4224x128.Idx → EReal) (ix3 b t e)

theorem V_kt (c : Dev nD) : V m c main_v0 = transpose S16x1024x4224 [0, 2, 1] (m ((c : Thread nD τ).loc main_arg1)) transposes_S16x4224x1024_S16x1024x4224_0_2_1 := by
  unfold V hostOps0
  after_results

theorem V_gt (c : Dev nD) : V m c main_v1 = transpose S16x128x4224 [0, 2, 1] (m ((c : Thread nD τ).loc main_arg3)) transposes_S16x4224x128_S16x128x4224_0_2_1 := by
  unfold V hostOps0
  after_results

section
variable (c : Dev nD) (t : Fin cfg0.N) (j : Fin 2) (r a : Fin 128)

theorem blk0 : (iblk m c 0 t : S1x128x128.Idx → EReal) (ix3 0 r a) = inQ m c (bt t) (row t r) (Scan.colK (head t j) a) := by
  show (V m c main_arg0 : S16x4224x1024.Idx → EReal) ((win0_0.blk t).view.emb (ix3 0 r a)) = _
  rw [V_main_arg0]
  refine congrArg (m ((c.tc : Thread nD τ).loc main_arg0) : S16x4224x1024.Idx → EReal) (funext fun x => ?_)
  match x with
  | ⟨0, _⟩ => exact Fin.ext (show (BitVec.ofNat 32 (grid0.coords t 1).val).toNat * 1 + 1 * 0 = (bt t).val by rw [at_batch]; omega)
  | ⟨1, _⟩ => exact Fin.ext (show _ * 128 + 1 * r.val = (row t r).val from (congrArg (fun n => n * 128 + 1 * r.val) (at_chunk t)).trans (by rw [one_mul]; rfl))
  | ⟨2, _⟩ => exact Fin.ext (show (BitVec.ofNat 32 (grid0.coords t 2).val).toNat * 128 + 1 * a.val = (Scan.colK (head t j) a).val by rw [at_key, colK_head, one_mul])

theorem blk1 : (iblk m c 1 t : S1x128x128.Idx → EReal) (ix3 0 r a) = inK m c (bt t) (row t r) (Scan.colK (head t j) a) := by
  show (V m c main_arg1 : S16x4224x1024.Idx → EReal) ((win0_1.blk t).view.emb (ix3 0 r a)) = _
  rw [V_main_arg1]
  refine congrArg (m ((c.tc : Thread nD τ).loc main_arg1) : S16x4224x1024.Idx → EReal) (funext fun x => ?_)
  match x with
  | ⟨0, _⟩ => exact Fin.ext (show (BitVec.ofNat 32 (grid0.coords t 1).val).toNat * 1 + 1 * 0 = (bt t).val by rw [at_batch]; omega)
  | ⟨1, _⟩ => exact Fin.ext (show _ * 128 + 1 * r.val = (row t r).val from (congrArg (fun n => n * 128 + 1 * r.val) (at_chunk t)).trans (by rw [one_mul]; rfl))
  | ⟨2, _⟩ => exact Fin.ext (show (BitVec.ofNat 32 (grid0.coords t 2).val).toNat * 128 + 1 * a.val = (Scan.colK (head t j) a).val by rw [at_key, colK_head, one_mul])

theorem emb2 : (win0_2.blk t).view.emb (ix3 0 a r) = (ix3 (bt t) (Scan.colK (head t j) a) (row t r) : S16x1024x4224.Idx) := by
  funext x
  match x with
  | ⟨0, _⟩ => exact Fin.ext (show (BitVec.ofNat 32 (grid0.coords t 1).val).toNat * 1 + 1 * 0 = (bt t).val by rw [at_batch]; omega)
  | ⟨1, _⟩ => exact Fin.ext (show (BitVec.ofNat 32 (grid0.coords t 2).val).toNat * 128 + 1 * a.val = (Scan.colK (head t j) a).val by rw [at_key, colK_head, one_mul])
  | ⟨2, _⟩ => exact Fin.ext (show _ * 128 + 1 * r.val = (row t r).val from (congrArg (fun n => n * 128 + 1 * r.val) (at_chunk t)).trans (by rw [one_mul]; rfl))

theorem blk2 : (iblk m c 2 t : S1x128x128.Idx → EReal) (ix3 0 a r) = inK m c (bt t) (row t r) (Scan.colK (head t j) a) := by
  show (V m c main_v0 : S16x1024x4224.Idx → EReal) ((win0_2.blk t).view.emb (ix3 0 a r)) = _
  rw [emb2 t j, V_kt]
  pointwise []
  rfl

theorem blk3 : (iblk m c 3 t : S1x128x256.Idx → EReal) (ix3 0 r ⟨j.val * 128 + a.val, by omega⟩) = inV m c (bt t) (row t r) (colV (head t j) a) := by
  show (V m c main_arg2 : S16x4224x2048.Idx → EReal) ((win0_3.blk t).view.emb (ix3 0 r ⟨j.val * 128 + a.val, by omega⟩)) = _
  rw [V_main_arg2]
  refine congrArg (m ((c.tc : Thread nD τ).loc main_arg2) : S16x4224x2048.Idx → EReal) (funext fun x => ?_)
  match x with
  | ⟨0, _⟩ => exact Fin.ext (show (BitVec.ofNat 32 (grid0.coords t 1).val).toNat * 1 + 1 * 0 = (bt t).val by rw [at_batch]; omega)
  | ⟨1, _⟩ => exact Fin.ext (show _ * 128 + 1 * r.val = (row t r).val from (congrArg (fun n => n * 128 + 1 * r.val) (at_chunk t)).trans (by rw [one_mul]; rfl))
  | ⟨2, _⟩ => exact Fin.ext (show (BitVec.ofNat 32 (grid0.coords t 2).val).toNat * 256 + 1 * (j.val * 128 + a.val) = (2 * (kt t).val + j.val) * 128 + a.val by rw [at_key]; omega)

theorem blk4 : (iblk m c 4 t : S1x128x128.Idx → EReal) (ix3 0 r a) = inG m c (bt t) (row t r) a := by
  show (V m c main_arg3 : S16x4224x128.Idx → EReal) ((win0_4.blk t).view.emb (ix3 0 r a)) = _
  rw [V_main_arg3]
  refine congrArg (m ((c.tc : Thread nD τ).loc main_arg3) : S16x4224x128.Idx → EReal) (funext fun x => ?_)
  match x with
  | ⟨0, _⟩ => exact Fin.ext (show (BitVec.ofNat 32 (grid0.coords t 1).val).toNat * 1 + 1 * 0 = (bt t).val by rw [at_batch]; omega)
  | ⟨1, _⟩ => exact Fin.ext (show _ * 128 + 1 * r.val = (row t r).val from (congrArg (fun n => n * 128 + 1 * r.val) (at_chunk t)).trans (by rw [one_mul]; rfl))
  | ⟨2, _⟩ => exact Fin.ext (show 0 * 128 + 1 * a.val = a.val by omega)

theorem emb5 : (win0_5.blk t).view.emb (ix3 0 a r) = (ix3 (bt t) a (row t r) : S16x128x4224.Idx) := by
  funext x
  match x with
  | ⟨0, _⟩ => exact Fin.ext (show (BitVec.ofNat 32 (grid0.coords t 1).val).toNat * 1 + 1 * 0 = (bt t).val by rw [at_batch]; omega)
  | ⟨1, _⟩ => exact Fin.ext (show 0 * 128 + 1 * a.val = a.val by omega)
  | ⟨2, _⟩ => exact Fin.ext (show _ * 128 + 1 * r.val = (row t r).val from (congrArg (fun n => n * 128 + 1 * r.val) (at_chunk t)).trans (by rw [one_mul]; rfl))

theorem blk5 : (iblk m c 5 t : S1x128x128.Idx → EReal) (ix3 0 a r) = inG m c (bt t) (row t r) a := by
  show (V m c main_v1 : S16x128x4224.Idx → EReal) ((win0_5.blk t).view.emb (ix3 0 a r)) = _
  rw [emb5, V_gt]
  pointwise []
  rfl

theorem emb6 : (win0_6.blk t).view.emb (ix4 0 0 r ⟨j.val * 128 + a.val, by omega⟩) = (ix4 (dt t) (bt t) (row t r) (colV (head t j) a) : S2x16x4224x2048.Idx) := by
  funext x
  match x with
  | ⟨0, _⟩ => exact Fin.ext (show (BitVec.ofNat 32 (grid0.coords t 0).val).toNat * 1 + 1 * 0 = (dt t).val by rw [at_dir]; omega)
  | ⟨1, _⟩ => exact Fin.ext (show (BitVec.ofNat 32 (grid0.coords t 1).val).toNat * 1 + 1 * 0 = (bt t).val by rw [at_batch]; omega)
  | ⟨2, _⟩ => exact Fin.ext (show _ * 128 + 1 * r.val = (row t r).val from (congrArg (fun n => n * 128 + 1 * r.val) (at_chunk t)).trans (by rw [one_mul]; rfl))
  | ⟨3, _⟩ => exact Fin.ext (show (BitVec.ofNat 32 (grid0.coords t 2).val).toNat * 256 + 1 * (j.val * 128 + a.val) = (2 * (kt t).val + j.val) * 128 + a.val by rw [at_key]; omega)
end

end Cert.GdnScanIdeal.RefValue

end
-- ==== Proof.GdnScanFinal.lean ====
/- The DeltaNet scan's kernel: its result array, index by index. -/
module

public import proofs.«01_k».proof.Proof.GdnScanBlocks

@[expose] public section

set_option maxRecDepth 16384

noncomputable section

namespace Cert.Scan

open Cert.Delta Cert.Softmax

section
variable (q k : Fin 16 → Fin 4224 → Fin 1024 → EReal) (v : Fin 16 → Fin 4224 → Fin 2048 → EReal) (g : Fin 16 → Fin 4224 → Fin 128 → EReal)
variable (d : Fin 2) (b h : Fin 16) (c : ℕ)

/-- A chunk's rows, in the order of the sequence. -/
def rowsK (x : Fin 16 → Fin 4224 → Fin 1024 → EReal) (r a : Fin 128) : ℝ := vecK x d b h (128 * c + rank d r) a
def rowsV (r a : Fin 128) : ℝ := vecV v d b h (128 * c + rank d r) a
def rowsG (r : Fin 128) : ℝ := numG g d b h (128 * c + rank d r)
def rowsB (r : Fin 128) : ℝ := numB g d b h (128 * c + rank d r)

/-- A chunk's tokens one by one. -/
theorem st_chunk (n : ℕ) (hn : n ≤ 128) :
    st k v g d b h (128 * c + n)
      = closed d (rowsK d b h c k) (rowsV v d b h c) (rowsG g d b h c) (rowsB g d b h c) (st k v g d b h (128 * c)) n := by
  unfold st
  rw [state_add]
  refine state_closed d _ _ _ _ _ _ _ _ _ ?_ ?_ ?_ ?_ n hn
  · exact fun n => funext fun a => by unfold rowsK; rw [rank_tok]
  · exact fun n => funext fun a => by unfold rowsV; rw [rank_tok]
  · exact fun n => by unfold rowsG; rw [rank_tok]
  · exact fun n => by unfold rowsB; rw [rank_tok]

theorem after_chunk :
    after d (rowsK d b h c k) (rowsV v d b h c) (rowsG g d b h c) (rowsB g d b h c) (st k v g d b h (128 * c)) = st k v g d b h (128 * (c + 1)) := by
  rw [after_eq, ← st_chunk k v g d b h c 128 le_rfl]
  rfl

theorem reads_chunk (r j : Fin 128) :
    reads d (rowsK d b h c q) (rowsK d b h c k) (rowsV v d b h c) (rowsG g d b h c) (rowsB g d b h c) (st k v g d b h (128 * c)) r j
      = outAt q k v g d b h (128 * c + rank d r) j := by
  obtain ⟨n, rfl⟩ : ∃ n : Fin 128, r = tok d n := ⟨⟨rank d r, rank_lt d r⟩, (rank_eq_iff d r ⟨rank d r, rank_lt d r⟩).mp rfl⟩
  rw [reads_eq, ← st_chunk k v g d b h c (n.val + 1) (by omega)]
  unfold outAt rowsK
  rw [rank_tok]
  rfl
end

theorem pos_pos (d : Fin 2) (t : Fin 4224) : pos d (pos d t) = t := by
  unfold pos
  split_ifs
  · rfl
  · exact Fin.rev_rev t

end Cert.Scan

namespace Cert.GdnScanIdeal.RefValue

open Cert.GdnScanIdeal Cert.GdnScanIdeal.Gen Cert.Scan Cert.Softmax Cert.Delta Idealize.ShloMosaic Idealize.ShloMosaic.TcCoe Idealize.ShloMosaic.Pointwise Idealize.SL.Sem
open Idealize.ShloMosaic.Pipeline (Dat)

/-- A row of a chunk is a time of the direction's order. -/
theorem row_time (t : Fin grid0.N) (r : Fin 128) : 128 * (ct t).val + rank (dt t) r < 4224 := by
  have := rank_lt (dt t) r
  have := (ct t).isLt
  omega

theorem row_eq (t : Fin grid0.N) (r : Fin 128) : row t r = pos (dt t) (time (128 * (ct t).val + rank (dt t) r)) := by
  rw [time_of_lt (row_time t r)]
  have hc := (ct t).isLt
  have hd : dt t = 0 ∨ dt t = 1 := by omega
  refine Fin.ext ?_
  rcases hd with hd | hd
  · show chunk (dt t) (ct t) * 128 + r.val = _
    simp only [hd, chunk, pos, rank, if_true]
    omega
  · show chunk (dt t) (ct t) * 128 + r.val = _
    have h1 : (1 : Fin 2) ≠ 0 := by decide
    simp only [hd, chunk, pos, rank, if_neg h1, Fin.val_rev]
    omega

variable (m : (ℓ : Loc nD τ sig) → Buf (Elt Ideal) ℓ)

/-- The operands are numbers where the scan reads them. -/
structure Finite (c : Dev nD) : Prop where
  q : ∀ b t e, Fin' (inQ m c b t e)
  k : ∀ b t e, Fin' (inK m c b t e)
  v : ∀ b t e, Fin' (inV m c b t e)
  g : ∀ b t d h, Fin' (inG m c b t (colG d h))
  b : ∀ b t d h, Fin' (inG m c b t (colB d h))

/-- A head's state before a time. -/
def stAt (c : Dev nD) (t : Fin grid0.N) (j : Fin 2) (n : ℕ) : Mat := st (inK m c) (inV m c) (inG m c) (dt t) (bt t) (head t j) n

/-- The operands' blocks are a chunk's rows. -/
theorem holds (c : Dev nD) (F : Finite m c) (t : Fin cfg0.N) (j : Fin 2) (S : Mat) (vb : Vec Ideal S1x128x128 .bf16) (sb : Vec Ideal S1x128x128 .f32)
    (H : Starts m c t j (fun r a => ((S r a : ℝ) : EReal)) vb sb) :
    Holds (word (grid0.coords t) j) (iblk m c 0 t) (iblk m c 1 t) (iblk m c 2 t) (iblk m c 4 t) (iblk m c 5 t) vb sb
      (rowsK (dt t) (bt t) (head t j) (ct t).val (inQ m c)) (rowsK (dt t) (bt t) (head t j) (ct t).val (inK m c)) (rowsV (inV m c) (dt t) (bt t) (head t j) (ct t).val)
      (rowsG (inG m c) (dt t) (bt t) (head t j) (ct t).val) (rowsB (inG m c) (dt t) (bt t) (head t j) (ct t).val) S (colG (dt t) (head t j)) (colB (dt t) (head t j)) where
  word := by
    unfold word
    rw [dirOf_eq, keyOf_eq, laneW_eq]
    rfl
  word' := by
    unfold word
    rw [dirOf_eq, keyOf_eq, laneW_add]
    rfl
  hq r a := by
    unfold rowsK vecK
    rw [← row_eq, ← coe_toReal (F.q _ _ _)]
    exact blk0 m c t j r a
  hk r a := by
    unfold rowsK vecK
    rw [← row_eq, ← coe_toReal (F.k _ _ _)]
    exact blk1 m c t j r a
  hkt a r := by
    unfold rowsK vecK
    rw [← row_eq, ← coe_toReal (F.k _ _ _)]
    exact blk2 m c t j r a
  hv r a := by
    unfold rowsV vecV
    rw [← row_eq, ← coe_toReal (F.v _ _ _)]
    exact (H.2 r a).trans (blk3 m c t j r a)
  hs := H.1
  hg s := by
    unfold rowsG numG
    rw [← row_eq, ← coe_toReal (F.g _ _ _ _)]
    exact blk4 m c t s _
  hb s := by
    unfold rowsB numB
    rw [← row_eq, ← coe_toReal (F.b _ _ _ _)]
    exact blk4 m c t s _
  hgt s := by
    unfold rowsG numG
    rw [← row_eq, ← coe_toReal (F.g _ _ _ _)]
    exact blk5 m c t s _

theorem Starts.congr {c : Dev nD} {t : Fin cfg0.N} {j : Fin 2} {s s' : Fin 128 → Fin 128 → EReal} {vb : Vec Ideal S1x128x128 .bf16} {sb : Vec Ideal S1x128x128 .f32}
    (H : Starts m c t j s vb sb) (h : ∀ r a, s r a = s' r a) : Starts m c t j s' vb sb :=
  ⟨fun r a => (H.1 r a).trans (h r a), H.2⟩

/-- One step's state. -/
theorem next (c : Dev nD) (F : Finite m c) (t : Fin cfg0.N) (j : Fin 2) (vb : Vec Ideal S1x128x128 .bf16) (sb : Vec Ideal S1x128x128 .f32)
    (H : Starts m c t j (fun r a => ((stAt m c t j (128 * (ct t).val) r a : ℝ) : EReal)) vb sb) (r a : Fin 128) :
    headState (word (grid0.coords t) j) (grid0.coords t) (iblk m c 0 t) (iblk m c 1 t) (iblk m c 2 t) (iblk m c 4 t) (iblk m c 5 t) vb sb (ix3 0 r a)
      = ((stAt m c t j (128 * ((ct t).val + 1)) r a : ℝ) : EReal) := by
  rw [(holds m c F t j _ vb sb H).state r a, dirOf_eq]
  exact congrArg (fun x : Mat => ((x r a : ℝ) : EReal)) (after_chunk _ _ _ _ _ _ _)

/-- One step's output. -/
theorem output (c : Dev nD) (F : Finite m c) (t : Fin cfg0.N) (j : Fin 2) (vb : Vec Ideal S1x128x128 .bf16) (sb : Vec Ideal S1x128x128 .f32)
    (H : Starts m c t j (fun r a => ((stAt m c t j (128 * (ct t).val) r a : ℝ) : EReal)) vb sb) (r a : Fin 128) :
    headOut (word (grid0.coords t) j) (grid0.coords t) (iblk m c 0 t) (iblk m c 1 t) (iblk m c 4 t) (iblk m c 5 t) vb sb (ix2 r a)
      = ((outAt (inQ m c) (inK m c) (inV m c) (inG m c) (dt t) (bt t) (head t j) (128 * (ct t).val + rank (dt t) r) a : ℝ) : EReal) := by
  rw [(holds m c F t j _ vb sb H).out r a, dirOf_eq]
  exact congrArg (fun x : ℝ => (x : EReal)) (reads_chunk _ _ _ _ _ _ _ _ r a)

/-- The state of an empty sequence. -/
theorem stAt_zero (c : Dev nD) (t : Fin grid0.N) (j : Fin 2) (r a : Fin 128) : ((stAt m c t j 0 r a : ℝ) : EReal) = 0 := rfl

/-- Two grid points of one head. -/
theorem stAt_eq (c : Dev nD) {t t' : Fin grid0.N} (h : t.val / 33 = t'.val / 33) (j : Fin 2) (n : ℕ) : stAt m c t j n = stAt m c t' j n := by
  have hd : dt t = dt t' := Fin.ext (show t.val / 4224 = t'.val / 4224 by omega)
  have hb : bt t = bt t' := Fin.ext (show t.val / 264 % 16 = t'.val / 264 % 16 by omega)
  have hk : head t j = head t' j := Fin.ext (show 2 * (t.val / 33 % 8) + j.val = 2 * (t'.val / 33 % 8) + j.val by rw [h])
  unfold stAt
  rw [hd, hb, hk]

/-- What the kernel keeps after a chunk. -/
theorem kept (c : Dev nD) (F : Finite m c) (junk : Vec Ideal S2x128x128 .f32) (n : ℕ) (j : Fin 2) (r a : Fin 128) :
    ∀ (i : ℕ) (h : 33 * n + i < cfg0.N) (_ : i < 33),
      Pipeline.accAt (fun n h => Value.scAt0_0 m c n h junk) (Value.scAt0_0 m c) (33 * n) i h (ix3 j r a)
        = ((stAt m c ⟨33 * n + i, h⟩ j (128 * (i + 1)) r a : ℝ) : EReal) := by
  intro i
  induction i generalizing r a with
  | zero =>
    intro h _
    have hc : (ct ⟨33 * n + 0, h⟩).val = 0 := show (33 * n + 0) % 33 = 0 by omega
    obtain ⟨vb, sb, H, e⟩ := kept_A m c (33 * n + 0) h junk (by omega) j
    have e' := next m c F ⟨33 * n + 0, h⟩ j vb sb (H.congr m fun r a => by rw [hc]; rfl) r a
    rw [hc] at e'
    exact (e r a).trans e'
  | succ i ih =>
    intro h hi
    have hc : (ct ⟨33 * n + (i + 1), h⟩).val = i + 1 := show (33 * n + (i + 1)) % 33 = i + 1 by omega
    obtain ⟨vb, sb, H, e⟩ := kept_B m c (33 * n + (i + 1)) h (Pipeline.accAt (fun n h => Value.scAt0_0 m c n h junk) (Value.scAt0_0 m c) (33 * n) i (by omega)) (by omega) j
    have e' := next m c F ⟨33 * n + (i + 1), h⟩ j vb sb (H.congr m fun r a => by
      rw [hc, ih r a (by omega) (by omega)]
      exact congrArg (fun x : Mat => ((x r a : ℝ) : EReal)) (stAt_eq m c (show (33 * n + i) / 33 = (33 * n + (i + 1)) / 33 by omega) j _)) r a
    rw [hc] at e'
    exact (e r a).trans e'

/-- An entry of the result: a head's output at a time of a direction. -/
def entry (c : Dev nD) (d : Fin 2) (b : Fin 16) (t : Fin 4224) (e : Fin 2048) : EReal :=
  ((outAt (inQ m c) (inK m c) (inV m c) (inG m c) d b ⟨e.val / 128, by omega⟩ (pos d t).val ⟨e.val % 128, Nat.mod_lt _ (by omega)⟩ : ℝ) : EReal)

theorem entry_head (c : Dev nD) (d : Fin 2) (b : Fin 16) (t : Fin 4224) (h : Fin 16) (j : Fin 128) :
    entry m c d b t (colV h j) = ((outAt (inQ m c) (inK m c) (inV m c) (inG m c) d b h (pos d t).val j : ℝ) : EReal) := by
  unfold entry
  rw [colV_div, colV_mod]

/-- The result array. -/
def G (c : Dev nD) : Buf (Elt Ideal) ((c : Thread nD τ).loc main_v2) := fun i : S2x16x4224x2048.Idx => entry m c (i 0) (i 1) (i 2) (i 3)

theorem G_apply (c : Dev nD) (d : Fin 2) (b : Fin 16) (t : Fin 4224) (h : Fin 16) (j : Fin 128) :
    (G m c : S2x16x4224x2048.Idx → EReal) (ix4 d b t (colV h j)) = ((outAt (inQ m c) (inK m c) (inV m c) (inG m c) d b h (pos d t).val j : ℝ) : EReal) :=
  Eq.trans (b := entry m c d b t (colV h j)) rfl (entry_head m c d b t h j)

/-- What a grid point writes back. -/
theorem wrote (c : Dev nD) (F : Finite m c) (t : Fin cfg0.N) (j : Fin 2) (r a : Fin 128) :
    ((dats m 0 c).flushed 6 t : S1x1x128x256.Idx → EReal) (ix4 0 0 r ⟨j.val * 128 + a.val, by omega⟩)
      = ((outAt (inQ m c) (inK m c) (inV m c) (inG m c) (dt t) (bt t) (head t j) (128 * (ct t).val + rank (dt t) r) a : ℝ) : EReal) := by
  by_cases h : t.val % 33 = 0
  · obtain ⟨vb, sb, H, e⟩ := wrote_A m c t h j
    have hc : (ct t).val = 0 := h
    exact (e r a).trans (output m c F t j vb sb (H.congr m fun r a => by rw [hc]; rfl) r a)
  · obtain ⟨vb, sb, H, e⟩ := wrote_B m c t h j
    refine (e r a).trans (output m c F t j vb sb (H.congr m fun r a => ?_) r a)
    have hlt : t.val - 1 < cfg0.N := Nat.lt_of_le_of_lt (Nat.sub_le _ _) t.isLt
    have e1 := congrFun (Value.soutsAt0_0_eq m c ⟨t.val - 1, hlt⟩) (ix3 j r a)
    refine e1.trans ((kept m c F _ ((t.val - 1) / 33) j r a ((t.val - 1) % 33) _ (Nat.mod_lt _ (by omega))).trans ?_)
    have hn : 128 * ((t.val - 1) % 33 + 1) = 128 * (ct t).val := by
      show _ = 128 * (t.val % 33)
      omega
    rw [hn]
    exact congrArg (fun x : Mat => ((x r a : ℝ) : EReal)) (stAt_eq m c (show (33 * ((t.val - 1) / 33) + (t.val - 1) % 33) / 33 = t.val / 33 by omega) j _)

theorem flushed_eq (c : Dev nD) (F : Finite m c) (t : Fin cfg0.N) : (dats m 0 c).flushed 6 t = (win0_6.blk t).view.read (Elt Ideal) (G m c) := by
  funext y
  obtain ⟨r, j, a, rfl⟩ : ∃ (r : Fin 128) (j : Fin 2) (a : Fin 128), y = (ix4 0 0 r ⟨j.val * 128 + a.val, by omega⟩ : S1x1x128x256.Idx) := by
    have h3 : (y 3 : ℕ) < 256 := (y 3).isLt
    have h0 : (y 0 : ℕ) < 1 := (y 0).isLt
    have h1 : (y 1 : ℕ) < 1 := (y 1).isLt
    refine ⟨y 2, ⟨(y 3).val / 128, by omega⟩, ⟨(y 3).val % 128, Nat.mod_lt _ (by omega)⟩, funext fun x => ?_⟩
    match x with
    | ⟨0, _⟩ => exact Fin.ext (show (y 0).val = 0 by omega)
    | ⟨1, _⟩ => exact Fin.ext (show (y 1).val = 0 by omega)
    | ⟨2, _⟩ => rfl
    | ⟨3, _⟩ => exact Fin.ext (show (y 3).val = (y 3).val / 128 * 128 + (y 3).val % 128 by omega)
  refine (wrote m c F t j r a).trans ?_
  show _ = (G m c : S2x16x4224x2048.Idx → EReal) ((win0_6.blk t).view.emb (ix4 0 0 r ⟨j.val * 128 + a.val, by omega⟩))
  rw [emb6, G_apply, row_eq, pos_pos, time_of_lt (row_time t r)]

/-- Every chunk is a step's. -/
theorem chunk_onto (d : Fin 2) (n : ℕ) (h : n < 33) : ∃ c : Fin 33, chunk d c = n := by
  unfold chunk
  by_cases hd : d = 0
  · exact ⟨⟨n, h⟩, by rw [if_pos hd]⟩
  · exact ⟨⟨32 - n, by omega⟩, by rw [if_neg hd]; show 32 - (32 - n) = n; omega⟩

/-- The blocks cover the result array. -/
theorem cover (i : S2x16x4224x2048.Idx) : ∃ t : Fin cfg0.N, (cfg0.win 6).flush t = true ∧ i ∈ ((cfg0.win 6).blk t).view.set := by
  have h0 : (i 0).val < 2 := (i 0).isLt
  have h1 : (i 1).val < 16 := (i 1).isLt
  have h2 : (i 2).val < 4224 := (i 2).isLt
  have h3 : (i 3).val < 2048 := (i 3).isLt
  obtain ⟨c, hc⟩ := chunk_onto (i 0) ((i 2).val / 128) (by omega)
  let t : Fin cfg0.N := ⟨(i 0).val * 4224 + (i 1).val * 264 + (i 3).val / 256 * 33 + c.val, by show _ < grid0.N; rw [N_0]; omega⟩
  have hd : dt t = i 0 := Fin.ext (show ((i 0).val * 4224 + (i 1).val * 264 + (i 3).val / 256 * 33 + c.val) / 4224 = (i 0).val by omega)
  have hb : bt t = i 1 := Fin.ext (show ((i 0).val * 4224 + (i 1).val * 264 + (i 3).val / 256 * 33 + c.val) / 264 % 16 = (i 1).val by omega)
  have hk : (kt t).val = (i 3).val / 256 := show ((i 0).val * 4224 + (i 1).val * 264 + (i 3).val / 256 * 33 + c.val) / 33 % 8 = (i 3).val / 256 by omega
  have ht : ct t = c := Fin.ext (show ((i 0).val * 4224 + (i 1).val * 264 + (i 3).val / 256 * 33 + c.val) % 33 = c.val by omega)
  refine ⟨t, flush0_6 _, ?_⟩
  refine Finset.mem_map.mpr ⟨ix4 0 0 ⟨(i 2).val % 128, Nat.mod_lt _ (by decide)⟩ ⟨(⟨(i 3).val / 128 % 2, Nat.mod_lt _ (by decide)⟩ : Fin 2).val * 128 + (⟨(i 3).val % 128, Nat.mod_lt _ (by decide)⟩ : Fin 128).val, by omega⟩, Finset.mem_univ _, ?_⟩
  refine (emb6 t ⟨(i 3).val / 128 % 2, Nat.mod_lt _ (by decide)⟩ ⟨(i 2).val % 128, Nat.mod_lt _ (by decide)⟩ ⟨(i 3).val % 128, Nat.mod_lt _ (by decide)⟩).trans ?_
  funext x
  match x with
  | ⟨0, _⟩ => exact hd
  | ⟨1, _⟩ => exact hb
  | ⟨2, _⟩ => exact Fin.ext (show chunk (dt t) (ct t) * 128 + (i 2).val % 128 = (i 2).val by rw [hd, ht, hc]; omega)
  | ⟨3, _⟩ => exact Fin.ext (show (2 * (kt t).val + (i 3).val / 128 % 2) * 128 + (i 3).val % 128 = (i 3).val by rw [hk]; omega)

theorem final (c : Dev nD) (F : Finite m c) : (dats m 0 c).arrAt 6 cfg0.N = G m c :=
  (dats m 0 c).arrAt_eq_of_cover 6 (G m c) (fun t _ => flushed_eq m c F t) cover

end Cert.GdnScanIdeal.RefValue

end
-- ==== Proof.GdnScanReference.lean ====
/- The DeltaNet scan's reference: one trip of its loop over the tokens, index by index. -/
module

public import proofs.«01_k».proof.Proof.Gen.GdnScanReferenceIdeal
public import proofs.«01_k».proof.Proof.ScanSpec
public import Idealize.ShloMosaic.Lib.Pointwise
public import Idealize.ShloMosaic.Lib.DynamicIndex
public import Idealize.ShloMosaic.Lib.Pipeline.Value

@[expose] public section

set_option maxRecDepth 16384

noncomputable section

open Idealize.ShloMosaic Idealize.ShloMosaic.TcCoe Idealize.SL.Sem Idealize.ShloMosaic.Pointwise

namespace Cert.GdnScanReferenceIdeal.RefValue

open Cert.Scan Cert.GdnScanReferenceIdeal Cert.GdnScanReferenceIdeal.Gen

/-- The start of the slice at the counter's position, of an array of rank 5. -/
def start5 (n : (⟨S_, .i32⟩ : BufTy).Contents (Elt Ideal)) : Fin 5 → Int := fun k =>
  (((![n, constantI S_ 32 0#32, constantI S_ 32 0#32, constantI S_ 32 0#32, constantI S_ 32 0#32] : Fin 5 → (⟨S_, .i32⟩ : BufTy).Contents (Elt Ideal))) k (Shape.Idx.first h_S_)).toInt

/-- The same of an array of rank 4. -/
def start4 (n : (⟨S_, .i32⟩ : BufTy).Contents (Elt Ideal)) : Fin 4 → Int := fun k =>
  (((![n, constantI S_ 32 0#32, constantI S_ 32 0#32, constantI S_ 32 0#32] : Fin 4 → (⟨S_, .i32⟩ : BufTy).Contents (Elt Ideal))) k (Shape.Idx.first h_S_)).toInt

/-- The counter at `n`. -/
def ctr (n : Nat) : (⟨S_, .i32⟩ : BufTy).Contents (Elt Ideal) := fun _ => BitVec.ofNat 32 n

theorem start5_eq (n : Nat) (hn : n < 4224) (a : Fin 5) : start5 (ctr n) a = ((![n, 0, 0, 0, 0] : Fin 5 → Nat) a : Int) := by
  have e : (BitVec.ofNat 32 n).toInt = n := toInt_ofNat_of_lt (by omega)
  match a with
  | ⟨0, _⟩ => exact e
  | ⟨1, _⟩ => rfl
  | ⟨2, _⟩ => rfl
  | ⟨3, _⟩ => rfl
  | ⟨4, _⟩ => rfl

theorem start4_eq (n : Nat) (hn : n < 4224) (a : Fin 4) : start4 (ctr n) a = ((![n, 0, 0, 0] : Fin 4 → Nat) a : Int) := by
  have e : (BitVec.ofNat 32 n).toInt = n := toInt_ofNat_of_lt (by omega)
  match a with
  | ⟨0, _⟩ => exact e
  | ⟨1, _⟩ => rfl
  | ⟨2, _⟩ => rfl
  | ⟨3, _⟩ => rfl

theorem slices5 (n : Nat) (hn : n < 4224) : S4224x2x16x16x128.Slices ![n, 0, 0, 0, 0] S1x2x16x16x128 :=
  ⟨rfl, fun a => by
    match a with
    | ⟨0, _⟩ => show n + 1 ≤ 4224; omega
    | ⟨1, _⟩ => exact Nat.le_refl 2
    | ⟨2, _⟩ => exact Nat.le_refl 16
    | ⟨3, _⟩ => exact Nat.le_refl 16
    | ⟨4, _⟩ => exact Nat.le_refl 128⟩

theorem slices4 (n : Nat) (hn : n < 4224) : S4224x2x16x16.Slices ![n, 0, 0, 0] S1x2x16x16 :=
  ⟨rfl, fun a => by
    match a with
    | ⟨0, _⟩ => show n + 1 ≤ 4224; omega
    | ⟨1, _⟩ => exact Nat.le_refl 2
    | ⟨2, _⟩ => exact Nat.le_refl 16
    | ⟨3, _⟩ => exact Nat.le_refl 16⟩

/-- The counter's token of an array of vectors. -/
def at5 (x : FVec Ideal S4224x2x16x16x128 .f32) (n : (⟨S_, .i32⟩ : BufTy).Contents (Elt Ideal)) : FVec Ideal S2x16x16x128 .f32 :=
  shapeCast S2x16x16x128 (Host.dynamicSlice S1x2x16x16x128 x (start5 n) sliceFits_S4224x2x16x16x128_S1x2x16x16x128) shapeCasts_S1x2x16x16x128_S2x16x16x128

/-- The counter's token of an array of numbers. -/
def at4 (x : FVec Ideal S4224x2x16x16 .f32) (n : (⟨S_, .i32⟩ : BufTy).Contents (Elt Ideal)) : FVec Ideal S2x16x16 .f32 :=
  shapeCast S2x16x16 (Host.dynamicSlice S1x2x16x16 x (start4 n) sliceFits_S4224x2x16x16_S1x2x16x16) shapeCasts_S1x2x16x16_S2x16x16

theorem at5_apply (x : FVec Ideal S4224x2x16x16x128 .f32) (n : Nat) (hn : n < 4224) (d : Fin 2) (b h : Fin 16) (a : Fin 128) :
    at5 x (ctr n) (ix4 d b h a) = x (ix5 ⟨n, hn⟩ d b h a) := by
  unfold at5
  rw [Host.dynamicSlice_eq_extractStridedSlice S1x2x16x16x128 x (start5 (ctr n)) ![n, 0, 0, 0, 0] _ (slices5 n hn) (start5_eq n hn)]
  pointwise

theorem at4_apply (x : FVec Ideal S4224x2x16x16 .f32) (n : Nat) (hn : n < 4224) (d : Fin 2) (b h : Fin 16) :
    at4 x (ctr n) (ix3 d b h) = x (ix4 ⟨n, hn⟩ d b h) := by
  unfold at4
  rw [Host.dynamicSlice_eq_extractStridedSlice S1x2x16x16 x (start4 (ctr n)) ![n, 0, 0, 0] _ (slices4 n hn) (start4_eq n hn)]
  pointwise

/-- The decayed states. -/
def decay (S : FVec Ideal S2x16x16x128x128 .f32) (g : FVec Ideal S2x16x16 .f32) : FVec Ideal S2x16x16x128x128 .f32 :=
  mulf S (broadcastInDim S2x16x16x128x128 ![0, 1, 2, 3, 4] bcast_S2x16x16x1x1_S2x16x16x128x128_0_1_2_3_4 (broadcastInDim S2x16x16x1x1 ![0, 1, 2] bcast_S2x16x16_S2x16x16x1x1_0_1_2 (Host.exp g)))

/-- The new states. -/
def renew (D : FVec Ideal S2x16x16x128x128 .f32) (k v : FVec Ideal S2x16x16x128 .f32) (b : FVec Ideal S2x16x16 .f32) : FVec Ideal S2x16x16x128x128 .f32 :=
  addf D (mulf (broadcastInDim S2x16x16x128x128 ![0, 1, 2, 3, 4] bcast_S2x16x16x128x1_S2x16x16x128x128_0_1_2_3_4 (broadcastInDim S2x16x16x128x1 ![0, 1, 2, 3] bcast_S2x16x16x128_S2x16x16x128x1_0_1_2_3 k)) (broadcastInDim S2x16x16x128x128 ![0, 1, 2, 3, 4] bcast_S2x16x16x1x128_S2x16x16x128x128_0_1_2_3_4 (broadcastInDim S2x16x16x1x128 ![0, 1, 2, 4] bcast_S2x16x16x128_S2x16x16x1x128_0_1_2_4 (mulf (subf v (Host.dotGeneral dot_S2x16x16x128_S2x16x16x128x128_S2x16x16x128_3_3_n_4_012_012 none k D)) (broadcastInDim S2x16x16x128 ![0, 1, 2, 3] bcast_S2x16x16x1_S2x16x16x128_0_1_2_3 (broadcastInDim S2x16x16x1 ![0, 1, 2] bcast_S2x16x16_S2x16x16x1_0_1_2 b))))))

theorem decay_apply (S : FVec Ideal S2x16x16x128x128 .f32) (g : FVec Ideal S2x16x16 .f32) (d : Fin 2) (b h : Fin 16) (i j : Fin 128) :
    decay S g (ix5 d b h i j) = S (ix5 d b h i j) * Ideal.exp (g (ix3 d b h)) := by
  pointwise [decay]

theorem renew_apply (D : FVec Ideal S2x16x16x128x128 .f32) (k v : FVec Ideal S2x16x16x128 .f32) (β : FVec Ideal S2x16x16 .f32)
    (d : Fin 2) (b h : Fin 16) (i j : Fin 128) :
    renew D k v β (ix5 d b h i j) = D (ix5 d b h i j)
      + k (ix4 d b h i) * ((v (ix4 d b h j) - ∑ a, k (ix4 d b h a) * D (ix5 d b h a j)) * β (ix3 d b h)) := by
  pointwise [renew]

/-- The token's outputs written into the array of outputs. -/
def record (O : FVec Ideal S4224x2x16x16x128 .f32) (q : FVec Ideal S2x16x16x128 .f32) (S : FVec Ideal S2x16x16x128x128 .f32)
    (n : (⟨S_, .i32⟩ : BufTy).Contents (Elt Ideal)) : FVec Ideal S4224x2x16x16x128 .f32 :=
  Host.dynamicUpdateSlice O (broadcastInDim S1x2x16x16x128 ![1, 2, 3, 4] bcast_S2x16x16x128_S1x2x16x16x128_1_2_3_4 (Host.dotGeneral dot_S2x16x16x128_S2x16x16x128x128_S2x16x16x128_3_3_n_4_012_012 none q S)) (start5 n) updateFits_S4224x2x16x16x128_S1x2x16x16x128

theorem record_apply (O : FVec Ideal S4224x2x16x16x128 .f32) (q : FVec Ideal S2x16x16x128 .f32) (S : FVec Ideal S2x16x16x128x128 .f32)
    (n : Nat) (hn : n < 4224) (t : Fin 4224) (d : Fin 2) (b h : Fin 16) (j : Fin 128) :
    record O q S (ctr n) (ix5 t d b h j)
      = if t.val = n then ∑ a, q (ix4 d b h a) * S (ix5 d b h a j) else O (ix5 t d b h j) := by
  unfold record
  rw [Host.dynamicUpdateSlice_eq_updateSlice O _ (start5 (ctr n)) _ ![n, 0, 0, 0, 0] (fun a => by
    rw [start5_eq n hn]
    have := (slices5 n hn).2 a
    match a with
    | ⟨0, _⟩ => show (min (max (n : Int) 0) ((4224 - 1 : Nat) : Int)).toNat = n; omega
    | ⟨1, _⟩ => rfl
    | ⟨2, _⟩ => rfl
    | ⟨3, _⟩ => rfl
    | ⟨4, _⟩ => rfl) (slices5 n hn)]
  pointwise
  by_cases e : t.val = n
  · rw [dif_pos (by omega), if_pos e]
  · rw [dif_neg (by omega), if_neg e]

/-- An array forward and backward, time first. -/
def ways (x : FVec Ideal S16x4224x16x128 .f32) : FVec Ideal S4224x2x16x16x128 .f32 :=
  transpose S4224x2x16x16x128 [2, 0, 1, 3, 4] (concatenate S2x16x4224x16x128 0 [⟨S1x16x4224x16x128, broadcastInDim S1x16x4224x16x128 ![1, 2, 3, 4] bcast_S16x4224x16x128_S1x16x4224x16x128_1_2_3_4 x⟩, ⟨S1x16x4224x16x128, broadcastInDim S1x16x4224x16x128 ![1, 2, 3, 4] bcast_S16x4224x16x128_S1x16x4224x16x128_1_2_3_4 (Host.reverse [1] x)⟩] concatenates_S1x16x4224x16x128_S1x16x4224x16x128_S2x16x4224x16x128_d0) transposes_S2x16x4224x16x128_S4224x2x16x16x128_2_0_1_3_4

/-- The numbers of the two directions, time first. -/
def ways3 (x y : FVec Ideal S16x4224x16 .f32) : FVec Ideal S4224x2x16x16 .f32 :=
  transpose S4224x2x16x16 [2, 0, 1, 3] (concatenate S2x16x4224x16 0 [⟨S1x16x4224x16, broadcastInDim S1x16x4224x16 ![1, 2, 3] bcast_S16x4224x16_S1x16x4224x16_1_2_3 x⟩, ⟨S1x16x4224x16, broadcastInDim S1x16x4224x16 ![1, 2, 3] bcast_S16x4224x16_S1x16x4224x16_1_2_3 (Host.reverse [1] y)⟩] concatenates_S1x16x4224x16_S1x16x4224x16_S2x16x4224x16_d0) transposes_S2x16x4224x16_S4224x2x16x16_2_0_1_3

/-- The queries or keys, head by head. -/
def headsK (q : FVec Ideal S16x4224x1024 .bf16) : FVec Ideal S16x4224x16x128 .f32 :=
  shapeCast S16x4224x16x128 (broadcastInDim S16x4224x8x2x128 ![0, 1, 2, 4] bcast_S16x4224x8x128_S16x4224x8x2x128_0_1_2_4 (shapeCast S16x4224x8x128 (extf .f32 q bitsLt_bf16_f32) shapeCasts_S16x4224x1024_S16x4224x8x128)) shapeCasts_S16x4224x8x2x128_S16x4224x16x128

/-- The values, head by head. -/
def headsV (v : FVec Ideal S16x4224x2048 .bf16) : FVec Ideal S16x4224x16x128 .f32 :=
  shapeCast S16x4224x16x128 (extf .f32 v bitsLt_bf16_f32) shapeCasts_S16x4224x2048_S16x4224x16x128

theorem ways_apply (x : FVec Ideal S16x4224x16x128 .f32) (t : Fin 4224) (d : Fin 2) (b h : Fin 16) (a : Fin 128) :
    ways x (ix5 t d b h a) = x (ix4 b (pos d t) h a) := by
  match d with
  | ⟨0, _⟩ => pointwise [ways]; rfl
  | ⟨1, _⟩ => pointwise [ways]; rfl

theorem ways3_apply (x y : FVec Ideal S16x4224x16 .f32) (t : Fin 4224) (d : Fin 2) (b h : Fin 16) :
    ways3 x y (ix4 t d b h) = (if d = 0 then x else y) (ix3 b (pos d t) h) := by
  match d with
  | ⟨0, _⟩ => pointwise [ways3]; rfl
  | ⟨1, _⟩ => pointwise [ways3]; rfl

theorem headsK_apply (q : FVec Ideal S16x4224x1024 .bf16) (b h : Fin 16) (t : Fin 4224) (a : Fin 128) :
    headsK q (ix4 b t h a) = q (ix3 b t (colK h a)) := by
  pointwise [headsK]
  rfl

theorem headsV_apply (v : FVec Ideal S16x4224x2048 .bf16) (b h : Fin 16) (t : Fin 4224) (a : Fin 128) :
    headsV v (ix4 b t h a) = v (ix3 b t (colV h a)) := by
  pointwise [headsV]
  rfl

/-- The outputs in the layout of the result, both directions in the tokens' order. -/
def collect (O : FVec Ideal S4224x2x16x16x128 .f32) : FVec Ideal S2x16x4224x2048 .bf16 :=
  truncf .bf16 (concatenate S2x16x4224x2048 0 [⟨S1x16x4224x2048, (broadcastInDim S1x16x4224x2048 ![1, 2, 3] bcast_S16x4224x2048_S1x16x4224x2048_1_2_3 (shapeCast S16x4224x2048 (extractStridedSlice S1x16x4224x2048 ![0, 0, 0, 0] (shapeCast S2x16x4224x2048 (transpose S2x16x4224x16x128 [1, 2, 0, 3, 4] O transposes_S4224x2x16x16x128_S2x16x4224x16x128_1_2_0_3_4) shapeCasts_S2x16x4224x16x128_S2x16x4224x2048) slices_S2x16x4224x2048_S1x16x4224x2048_0_0_0_0) shapeCasts_S1x16x4224x2048_S16x4224x2048))⟩, ⟨S1x16x4224x2048, (broadcastInDim S1x16x4224x2048 ![1, 2, 3] bcast_S16x4224x2048_S1x16x4224x2048_1_2_3 (Host.reverse [1] (shapeCast S16x4224x2048 (extractStridedSlice S1x16x4224x2048 ![1, 0, 0, 0] (shapeCast S2x16x4224x2048 (transpose S2x16x4224x16x128 [1, 2, 0, 3, 4] O transposes_S4224x2x16x16x128_S2x16x4224x16x128_1_2_0_3_4) shapeCasts_S2x16x4224x16x128_S2x16x4224x2048) slices_S2x16x4224x2048_S1x16x4224x2048_1_0_0_0) shapeCasts_S1x16x4224x2048_S16x4224x2048)))⟩] concatenates_S1x16x4224x2048_S1x16x4224x2048_S2x16x4224x2048_d0) bitsLt_bf16_f32

theorem collect_apply (O : FVec Ideal S4224x2x16x16x128 .f32) (d : Fin 2) (b : Fin 16) (t : Fin 4224) (h : Fin 16) (j : Fin 128) :
    collect O (ix4 d b t (colV h j)) = O (ix5 (pos d t) d b h j) := by
  match d with
  | ⟨0, _⟩ => pointwise [collect]; simp only [colV_div, colV_mod]; rfl
  | ⟨1, _⟩ =>
    pointwise [collect]
    exact congrArg₂ (fun x y => O (ix5 t.rev 1 b x y)) (colV_div h j _) (colV_mod h j _)

end Cert.GdnScanReferenceIdeal.RefValue

end
-- ==== Proof.GdnScanLoop.lean ====
/- The DeltaNet scan's reference: the loop over all tokens, and its result. -/
module

public import proofs.«01_k».proof.Proof.Gen.GdnScanReferenceIdeal.Run
public import proofs.«01_k».proof.Proof.GdnScanReference

@[expose] public section

set_option maxRecDepth 16384

noncomputable section

open Idealize.ShloMosaic Idealize.ShloMosaic.TcCoe Idealize.SL.Sem Idealize.ShloMosaic.Pointwise

namespace Cert.GdnScanReferenceIdeal.RefValue

open Cert.Scan Cert.Softmax Cert.GdnScanReferenceIdeal Cert.GdnScanReferenceIdeal.Gen Cert.GdnScanReferenceIdeal.Value
open Idealize.ShloMosaic.StableHlo Idealize.ShloMosaic.HostLoop

/-- The six arrays of a trip and its counter. -/
theorem trip_state (V : Valuation τ sig (Elt Ideal)) :
    STEP V (Proc.devRef .tc main_v41_6)
      = renew (decay (V (Proc.devRef .tc main_v41_6)) (at4 (V (Proc.devRef .tc main_v41_3)) (V (Proc.devRef .tc main_v41_5))))
          (at5 (V (Proc.devRef .tc main_v41_1)) (V (Proc.devRef .tc main_v41_5)))
          (at5 (V (Proc.devRef .tc main_v41_2)) (V (Proc.devRef .tc main_v41_5)))
          (at4 (V (Proc.devRef .tc main_v41_4)) (V (Proc.devRef .tc main_v41_5))) :=
  (STEP_main_v41_6 V).trans rfl

theorem trip_outputs (V : Valuation τ sig (Elt Ideal)) :
    STEP V (Proc.devRef .tc main_v41_7)
      = record (V (Proc.devRef .tc main_v41_7)) (at5 (V (Proc.devRef .tc main_v41_0)) (V (Proc.devRef .tc main_v41_5)))
          (STEP V (Proc.devRef .tc main_v41_6)) (V (Proc.devRef .tc main_v41_5)) := by
  rw [STEP_main_v41_6]
  exact (STEP_main_v41_7 V).trans rfl

theorem trip_counter (V : Valuation τ sig (Elt Ideal)) (n : ℕ) (h : V (Proc.devRef .tc main_v41_5) = ctr n) :
    STEP V (Proc.devRef .tc main_v41_5) = ctr (n + 1) := by
  rw [STEP_main_v41_5]
  show addi (V (Proc.devRef .tc main_v41_5)) (constantI S_ 32 1#32) = _
  rw [h]
  funext y
  exact (BitVec.ofNat_add n 1).symm

/-- What holds before the `n`-th trip. -/
structure Inv (q k : Fin 16 → Fin 4224 → Fin 1024 → EReal) (v : Fin 16 → Fin 4224 → Fin 2048 → EReal) (g : Fin 16 → Fin 4224 → Fin 128 → EReal)
    (n : ℕ) (V : Valuation τ sig (Elt Ideal)) : Prop where
  fq : ∀ (t : Fin 4224) (d : Fin 2) (b h : Fin 16) (a : Fin 128), (V (Proc.devRef .tc main_v41_0) : FVec Ideal S4224x2x16x16x128 .f32) (ix5 t d b h a) = ((vecK q d b h t.val a : ℝ) : EReal)
  fk : ∀ (t : Fin 4224) (d : Fin 2) (b h : Fin 16) (a : Fin 128), (V (Proc.devRef .tc main_v41_1) : FVec Ideal S4224x2x16x16x128 .f32) (ix5 t d b h a) = ((vecK k d b h t.val a : ℝ) : EReal)
  fv : ∀ (t : Fin 4224) (d : Fin 2) (b h : Fin 16) (a : Fin 128), (V (Proc.devRef .tc main_v41_2) : FVec Ideal S4224x2x16x16x128 .f32) (ix5 t d b h a) = ((vecV v d b h t.val a : ℝ) : EReal)
  fg : ∀ (t : Fin 4224) (d : Fin 2) (b h : Fin 16), (V (Proc.devRef .tc main_v41_3) : FVec Ideal S4224x2x16x16 .f32) (ix4 t d b h) = ((numG g d b h t.val : ℝ) : EReal)
  fb : ∀ (t : Fin 4224) (d : Fin 2) (b h : Fin 16), (V (Proc.devRef .tc main_v41_4) : FVec Ideal S4224x2x16x16 .f32) (ix4 t d b h) = ((numB g d b h t.val : ℝ) : EReal)
  fc : V (Proc.devRef .tc main_v41_5) = ctr n
  fs : ∀ (d : Fin 2) (b h : Fin 16) (i j : Fin 128), (V (Proc.devRef .tc main_v41_6) : FVec Ideal S2x16x16x128x128 .f32) (ix5 d b h i j) = ((st k v g d b h n i j : ℝ) : EReal)
  fo : ∀ (t : Fin 4224), t.val < n → ∀ (d : Fin 2) (b h : Fin 16) (j : Fin 128), (V (Proc.devRef .tc main_v41_7) : FVec Ideal S4224x2x16x16x128 .f32) (ix5 t d b h j) = ((outAt q k v g d b h t.val j : ℝ) : EReal)

variable {q k : Fin 16 → Fin 4224 → Fin 1024 → EReal} {v : Fin 16 → Fin 4224 → Fin 2048 → EReal} {g : Fin 16 → Fin 4224 → Fin 128 → EReal}

theorem Inv.trip {n : ℕ} (hn : n < 4224) {V : Valuation τ sig (Elt Ideal)} (I : Inv q k v g n V) : Inv q k v g (n + 1) (STEP V) := by
  have hs : ∀ (d : Fin 2) (b h : Fin 16) (i j : Fin 128), (STEP V (Proc.devRef .tc main_v41_6) : FVec Ideal S2x16x16x128x128 .f32) (ix5 d b h i j) = ((st k v g d b h (n + 1) i j : ℝ) : EReal) := by
    intro d b h i j
    rw [trip_state, I.fc, renew_apply, at5_apply _ n hn, at5_apply _ n hn, at4_apply _ n hn, I.fk, I.fv, I.fb]
    simp only [decay_apply, at5_apply _ n hn, at4_apply _ n hn, I.fk, I.fg, I.fs]
    show _ = ((Delta.step _ _ _ _ _ i j : ℝ) : EReal)
    unfold Delta.step
    simp only [EReal.coe_add, EReal.coe_mul, EReal.coe_sub, ← coe_sum]
    rfl
  refine ⟨?_, ?_, ?_, ?_, ?_, trip_counter V n I.fc, hs, ?_⟩
  · rw [STEP_main_v41_0]; exact I.fq
  · rw [STEP_main_v41_1]; exact I.fk
  · rw [STEP_main_v41_2]; exact I.fv
  · rw [STEP_main_v41_3]; exact I.fg
  · rw [STEP_main_v41_4]; exact I.fb
  · intro t ht d b h j
    rw [trip_outputs, I.fc, record_apply _ _ _ n hn]
    by_cases e : t.val = n
    · rw [if_pos e]
      simp only [hs, at5_apply _ n hn, I.fq]
      unfold outAt
      simp only [e, EReal.coe_mul, ← coe_sum]
    · rw [if_neg e]
      exact I.fo t (by omega) d b h j

theorem Inv.trips {V : Valuation τ sig (Elt Ideal)} (I : Inv q k v g 0 V) : ∀ n, n ≤ 4224 → Inv q k v g n (STEP^[n] V)
  | 0, _ => I
  | n + 1, h => by
    rw [Function.iterate_succ_apply']
    exact (Inv.trips I n (by omega)).trip (by omega)

theorem result_eq (V : Valuation τ sig (Elt Ideal)) : out_main_v52 V = collect (V (Proc.devRef .tc main_v41_7)) := rfl

variable (m : (ℓ : Loc nD τ sig) → Buf (Elt Ideal) ℓ)

/-- The loop's arrays at its entry: the arguments head by head, in both directions. -/
theorem entry_q (c : Dev nD) : entryContents preI m c (Proc.devRef .tc main_v41_0)
    = ways (headsK (m ((c.tc : Thread nD τ).loc main_arg0))) := by
  simp only [entryContents, preI, afterL_cons, afterL_nil, hostOps0, hostOps0_1, hostOps0_2, hostOps0_3, hostOps0_4, hostOps0_5, hostOps0_6, hostOps0_7, hostOps0_8, hostOps0_9, hostOps0_10]
  after_results_entrywise []

theorem entry_k (c : Dev nD) : entryContents preI m c (Proc.devRef .tc main_v41_1)
    = ways (headsK (m ((c.tc : Thread nD τ).loc main_arg1))) := by
  simp only [entryContents, preI, afterL_cons, afterL_nil, hostOps0, hostOps0_1, hostOps0_2, hostOps0_3, hostOps0_4, hostOps0_5, hostOps0_6, hostOps0_7, hostOps0_8, hostOps0_9, hostOps0_10]
  after_results_entrywise []

theorem entry_v (c : Dev nD) : entryContents preI m c (Proc.devRef .tc main_v41_2)
    = ways (headsV (m ((c.tc : Thread nD τ).loc main_arg2))) := by
  simp only [entryContents, preI, afterL_cons, afterL_nil, hostOps0, hostOps0_1, hostOps0_2, hostOps0_3, hostOps0_4, hostOps0_5, hostOps0_6, hostOps0_7, hostOps0_8, hostOps0_9, hostOps0_10]
  after_results_entrywise []

theorem entry_g (c : Dev nD) : entryContents preI m c (Proc.devRef .tc main_v41_3)
    = ways3 (extractStridedSlice S16x4224x16 ![0, 0, 0] (m ((c.tc : Thread nD τ).loc main_arg3)) slices_S16x4224x128_S16x4224x16_0_0_0)
        (extractStridedSlice S16x4224x16 ![0, 0, 16] (m ((c.tc : Thread nD τ).loc main_arg3)) slices_S16x4224x128_S16x4224x16_0_0_16) := by
  simp only [entryContents, preI, afterL_cons, afterL_nil, hostOps0, hostOps0_1, hostOps0_2, hostOps0_3, hostOps0_4, hostOps0_5, hostOps0_6, hostOps0_7, hostOps0_8, hostOps0_9, hostOps0_10]
  after_results_entrywise []

theorem entry_b (c : Dev nD) : entryContents preI m c (Proc.devRef .tc main_v41_4)
    = ways3 (extractStridedSlice S16x4224x16 ![0, 0, 32] (m ((c.tc : Thread nD τ).loc main_arg3)) slices_S16x4224x128_S16x4224x16_0_0_32)
        (extractStridedSlice S16x4224x16 ![0, 0, 48] (m ((c.tc : Thread nD τ).loc main_arg3)) slices_S16x4224x128_S16x4224x16_0_0_48) := by
  simp only [entryContents, preI, afterL_cons, afterL_nil, hostOps0, hostOps0_1, hostOps0_2, hostOps0_3, hostOps0_4, hostOps0_5, hostOps0_6, hostOps0_7, hostOps0_8, hostOps0_9, hostOps0_10]
  after_results_entrywise []

theorem entry_s (c : Dev nD) : entryContents preI m c (Proc.devRef .tc main_v41_6)
    = broadcastInDim S2x16x16x128x128 ![] bcast_S_S2x16x16x128x128 (constant (F := Ideal) S_ .f32 0x00000000#32) := by
  simp only [entryContents, preI, afterL_cons, afterL_nil, hostOps0, hostOps0_1, hostOps0_2, hostOps0_3, hostOps0_4, hostOps0_5, hostOps0_6, hostOps0_7, hostOps0_8, hostOps0_9, hostOps0_10]
  after_results_entrywise []

/-- The arguments as functions of their indices. -/
def argQ (c : Dev nD) : Fin 16 → Fin 4224 → Fin 1024 → EReal := fun b t e => (m ((c.tc : Thread nD τ).loc main_arg0) : FVec Ideal S16x4224x1024 .bf16) (ix3 b t e)
def argK (c : Dev nD) : Fin 16 → Fin 4224 → Fin 1024 → EReal := fun b t e => (m ((c.tc : Thread nD τ).loc main_arg1) : FVec Ideal S16x4224x1024 .bf16) (ix3 b t e)
def argV (c : Dev nD) : Fin 16 → Fin 4224 → Fin 2048 → EReal := fun b t e => (m ((c.tc : Thread nD τ).loc main_arg2) : FVec Ideal S16x4224x2048 .bf16) (ix3 b t e)
def argG (c : Dev nD) : Fin 16 → Fin 4224 → Fin 128 → EReal := fun b t e => (m ((c.tc : Thread nD τ).loc main_arg3) : FVec Ideal S16x4224x128 .f32) (ix3 b t e)

theorem time_val (t : Fin 4224) : time t.val = t := time_of_lt t.isLt

theorem slice_apply (x : FVec Ideal S16x4224x128 .f32) (o : ℕ) (h : S16x4224x128.Slices ![0, 0, o] S16x4224x16) (b : Fin 16) (t : Fin 4224) (i : Fin 16) (e : Fin 128)
    (he : e.val = o + i.val) : extractStridedSlice S16x4224x16 ![0, 0, o] x h (ix3 b t i) = x (ix3 b t e) := by
  pointwise
  exact congrArg (fun f => x (ix3 b t f)) (Fin.ext he.symm)

theorem entry_inv (c : Dev nD) (hq : ∀ b t e, Fin' (argQ m c b t e)) (hk : ∀ b t e, Fin' (argK m c b t e)) (hv : ∀ b t e, Fin' (argV m c b t e))
    (hg : ∀ b t d h, Fin' (argG m c b t (colG d h))) (hb : ∀ b t d h, Fin' (argG m c b t (colB d h))) :
    Inv (argQ m c) (argK m c) (argV m c) (argG m c) 0 (entryContents preI m c) := by
  refine ⟨?_, ?_, ?_, ?_, ?_, ctr_entry m c, ?_, fun t h => absurd h (Nat.not_lt_zero _)⟩
  · intro t d b h a
    rw [entry_q, ways_apply, headsK_apply]
    unfold vecK
    rw [time_val]
    exact coe_toReal (hq b (pos d t) (colK h a))
  · intro t d b h a
    rw [entry_k, ways_apply, headsK_apply]
    unfold vecK
    rw [time_val]
    exact coe_toReal (hk b (pos d t) (colK h a))
  · intro t d b h a
    rw [entry_v, ways_apply, headsV_apply]
    unfold vecV
    rw [time_val]
    exact coe_toReal (hv b (pos d t) (colV h a))
  · intro t d b h
    unfold numG
    rw [entry_g, ways3_apply, time_val, ← coe_toReal (hg b (pos d t) d h)]
    match d with
    | ⟨0, _⟩ => exact slice_apply _ 0 slices_S16x4224x128_S16x4224x16_0_0_0 b _ h (colG 0 h) (by show 0 * 16 + h.val = _; omega)
    | ⟨1, _⟩ => exact slice_apply _ 16 slices_S16x4224x128_S16x4224x16_0_0_16 b _ h (colG 1 h) (by show 1 * 16 + h.val = _; omega)
  · intro t d b h
    unfold numB
    rw [entry_b, ways3_apply, time_val, ← coe_toReal (hb b (pos d t) d h)]
    match d with
    | ⟨0, _⟩ => exact slice_apply _ 32 slices_S16x4224x128_S16x4224x16_0_0_32 b _ h (colB 0 h) (by show 32 + (0 * 16 + h.val) = _; omega)
    | ⟨1, _⟩ => exact slice_apply _ 48 slices_S16x4224x128_S16x4224x16_0_0_48 b _ h (colB 1 h) (by show 32 + (1 * 16 + h.val) = _; omega)
  · intro d b h i j
    rw [entry_s]
    pointwise
    rfl

/-- The reference's result, from finite arguments. -/
theorem result_apply (c : Dev nD) (hq : ∀ b t e, Fin' (argQ m c b t e)) (hk : ∀ b t e, Fin' (argK m c b t e)) (hv : ∀ b t e, Fin' (argV m c b t e))
    (hg : ∀ b t d h, Fin' (argG m c b t (colG d h))) (hb : ∀ b t d h, Fin' (argG m c b t (colB d h)))
    (d : Fin 2) (b : Fin 16) (t : Fin 4224) (h : Fin 16) (j : Fin 128) :
    (out_main_v52 (STEP^[4224] (entryContents preI m c)) : FVec Ideal S2x16x4224x2048 .bf16) (ix4 d b t (colV h j))
      = ((outAt (argQ m c) (argK m c) (argV m c) (argG m c) d b h (pos d t).val j : ℝ) : EReal) := by
  rw [result_eq, collect_apply]
  exact ((entry_inv m c hq hk hv hg hb).trips 4224 (le_refl _)).fo (pos d t) (pos d t).isLt d b h j

end Cert.GdnScanReferenceIdeal.RefValue

end
-- ==== Proof.GdnScan.lean ====
/- The DeltaNet scan: what the precondition says, and the agreement of kernel and reference. -/
module

public import proofs.«01_k».proof.Defs
public import proofs.«01_k».proof.Proof.Gen.GdnScan.Frame
public import proofs.«01_k».proof.Proof.Gen.Pre_scan_finite
public import proofs.«01_k».proof.Proof.Attention
public import proofs.«01_k».proof.Proof.GdnScanFinal
public import proofs.«01_k».proof.Proof.GdnScanLoop

@[expose] public section

set_option maxRecDepth 16384

noncomputable section

open Idealize.ShloMosaic Idealize.ShloMosaic.TcCoe Idealize.SL.Sem Idealize.ShloMosaic.Pointwise

namespace Cert.Pre_scan_finite

open Cert.Softmax Cert.Scan
open Cert.Pre_attention_finite (all_fin and_one)

attribute [local instance] Cert.Pre_scan_finite.Gen.facts

/-- A logarithmic decay's or a step size's column. -/
def low (e : Fin 64) : Fin 128 := ⟨e.val, by omega⟩

/-- The precondition: queries, keys, values, logarithmic decays and step sizes are real numbers. -/
theorem facts_of (q k : FVec Ideal S16x4224x1024 .bf16) (v : FVec Ideal S16x4224x2048 .bf16) (g : FVec Ideal S16x4224x128 .f32)
    (h : fn (F := Ideal) q k v g = fun _ => 1#1) :
    (∀ b t e, Fin' (q (ix3 b t e))) ∧ (∀ b t e, Fin' (k (ix3 b t e))) ∧ (∀ b t e, Fin' (v (ix3 b t e))) ∧ ∀ b t (e : Fin 64), Fin' (g (ix3 b t (low e))) := by
  have e := congrFun h ix0
  obtain ⟨e, h4⟩ := and_one (show IntOp.andi _ _ = 1#1 from e)
  obtain ⟨e, h3⟩ := and_one (show IntOp.andi _ _ = 1#1 from e)
  obtain ⟨h1, h2⟩ := and_one (show IntOp.andi _ _ = 1#1 from e)
  refine ⟨fun b t e => all_fin _ _ _ _ _ h1 (ix3 b t e), fun b t e => all_fin _ _ _ _ _ h2 (ix3 b t e), fun b t e => all_fin _ _ _ _ _ h3 (ix3 b t e), fun b t e => ?_⟩
  have f := all_fin _ _ _ _ _ h4 (ix3 b t e)
  have e : (extractStridedSlice S16x4224x64 ![0, 0, 0] g Facts.slices_S16x4224x128_S16x4224x64_0_0_0) (ix3 b t e) = g (ix3 b t (low e)) := by
    pointwise
    rfl
  rw [← e]; exact f

end Cert.Pre_scan_finite

namespace Cert.Proof

open Cert.Softmax Cert.Scan

theorem frame_GdnScan : quiescent_GdnScan (hGdnScan := Cert.GdnScan.Gen.facts) := fun m ρ _ => Cert.GdnScan.Gen.frame m ρ

theorem frame_GdnScanIdeal : quiescent_GdnScanIdeal (hGdnScanIdeal := Cert.GdnScanIdeal.Gen.facts) := fun m ρ _ => Cert.GdnScanIdeal.Gen.frame m ρ

theorem frame_GdnScanReference : quiescent_GdnScanReferenceIdeal (hGdnScanReferenceIdeal := Cert.GdnScanReferenceIdeal.Gen.facts) := fun m ρ _ =>
  (θ_run Cert.GdnScanReferenceIdeal.defs _ _).mono
    (fun r h => ⟨fun c => (h c).2, sem_eq_zero_of_no_sems (by decide) r.2⟩) (Cert.GdnScanReferenceIdeal.Value.run (F := Ideal) m ρ)

theorem frame_GdnScanIdeal_pre : quiescent_GdnScanIdeal_pre_scan_finite (hGdnScanIdeal := Cert.GdnScanIdeal.Gen.facts)
    (hPre_scan_finite := Cert.Pre_scan_finite.Gen.facts) := fun m ρ _ => Cert.GdnScanIdeal.Gen.frame m ρ

theorem frame_GdnScanReference_pre : quiescent_GdnScanReferenceIdeal_pre_scan_finite (hGdnScanReferenceIdeal := Cert.GdnScanReferenceIdeal.Gen.facts)
    (hPre_scan_finite := Cert.Pre_scan_finite.Gen.facts) := fun m ρ _ => frame_GdnScanReference m ρ trivial

theorem preserves_GdnScan : preserves_GdnScan_GdnScanIdeal :=
  IdealRules.named_const.statement Cert.GdnScanIdeal.κ "mask" .f32 0xF149F2CA#32 ⊥ rfl

open Cert.GdnScanIdeal.RefValue Cert.GdnScanReferenceIdeal.RefValue in
theorem algebraic_GdnScan : algebraic_GdnScanIdeal_GdnScanReferenceIdeal_pre_scan_finite
    (hGdnScanIdeal := Cert.GdnScanIdeal.Gen.facts) (hGdnScanReferenceIdeal := Cert.GdnScanReferenceIdeal.Gen.facts)
    (hPre_scan_finite := Cert.Pre_scan_finite.Gen.facts) := by
  intro m ρ m' ρ' hpre hagree
  have F : ∀ c, Finite m c := fun c => by
    obtain ⟨hq, hk, hv, hg⟩ := Cert.Pre_scan_finite.facts_of _ _ _ _ (hpre c)
    exact ⟨hq, hk, hv, fun b t d h => hg b t ⟨d.val * 16 + h.val, by omega⟩, fun b t d h => hg b t ⟨32 + (d.val * 16 + h.val), by omega⟩⟩
  refine ⟨fun c => Cert.GdnScanIdeal.RefValue.G m c, (θ_run Cert.GdnScanIdeal.defs _ _).mono
      (fun _ h c => ⟨(h c).1.trans (Cert.GdnScanIdeal.RefValue.final m c (F c)), (h c).2⟩) (Cert.GdnScanIdeal.Value.run_blocks (F := Ideal) m ρ),
    (θ_run Cert.GdnScanReferenceIdeal.defs _ _).mono (fun _ h c => ⟨(h c).1.trans ?_, (h c).2⟩)
      (Cert.GdnScanReferenceIdeal.Value.run (F := Ideal) m' ρ')⟩
  obtain ⟨e0, e1, e2, e3⟩ := hagree c
  have eq : argQ m' c = inQ m c := funext fun b => funext fun t => funext fun e => congrFun e0 (ix3 b t e)
  have ek : argK m' c = inK m c := funext fun b => funext fun t => funext fun e => congrFun e1 (ix3 b t e)
  have ev : argV m' c = inV m c := funext fun b => funext fun t => funext fun e => congrFun e2 (ix3 b t e)
  have eg : argG m' c = inG m c := funext fun b => funext fun t => funext fun e => congrFun e3 (ix3 b t e)
  funext i
  obtain ⟨d, b, t, h, j, rfl⟩ : ∃ (d : Fin 2) (b : Fin 16) (t : Fin 4224) (h : Fin 16) (j : Fin 128), i = ix4 d b t (Cert.Scan.colV h j) := by
    have h3 : (i 3).val < 2048 := (i 3).isLt
    refine ⟨i 0, i 1, i 2, ⟨(i 3).val / 128, by omega⟩, ⟨(i 3).val % 128, Nat.mod_lt _ (by omega)⟩, funext fun a => ?_⟩
    match a with
    | ⟨0, _⟩ => rfl
    | ⟨1, _⟩ => rfl
    | ⟨2, _⟩ => rfl
    | ⟨3, _⟩ => exact Fin.ext (show (i 3).val = (i 3).val / 128 * 128 + (i 3).val % 128 by omega)
  refine (result_apply m' c (by rw [eq]; exact (F c).q) (by rw [ek]; exact (F c).k) (by rw [ev]; exact (F c).v)
    (by rw [eg]; exact (F c).g) (by rw [eg]; exact (F c).b) d b t h j).trans ?_
  rw [eq, ek, ev, eg]
  exact (G_apply m c d b t h j).symm

end Cert.Proof

end
-- ==== Proof.lean ====
/- The certificate: the side conditions of every program, then the frames, the preservations and the agreements. -/
module

public import proofs.«01_k».proof.Defs
public import proofs.«01_k».proof.Proof.Attention
public import proofs.«01_k».proof.Proof.InProj
public import proofs.«01_k».proof.Proof.InProjConformer
public import proofs.«01_k».proof.Proof.InProjGdn
public import proofs.«01_k».proof.Proof.OutProj
public import proofs.«01_k».proof.Proof.OutProjHyena
public import proofs.«01_k».proof.Proof.GdnOut
public import proofs.«01_k».proof.Proof.GdnScan

@[expose] public section

/-- Everything claimed: each program's frame, that each ideal program is its kernel over the extended reals,
    and that each kernel computes what its reference computes. -/
theorem Cert.Proof.claim : Cert.Claim :=
  ⟨Cert.Attention.Gen.facts, Cert.AttentionIdeal.Gen.facts, Cert.AttentionReferenceIdeal.Gen.facts,
    Cert.InProj.Gen.facts, Cert.InProjIdeal.Gen.facts, Cert.InProjReferenceIdeal.Gen.facts,
    Cert.InProjConformer.Gen.facts, Cert.InProjConformerIdeal.Gen.facts, Cert.InProjConformerReferenceIdeal.Gen.facts,
    Cert.InProjGdn.Gen.facts, Cert.InProjGdnIdeal.Gen.facts, Cert.InProjGdnReferenceIdeal.Gen.facts,
    Cert.OutProj.Gen.facts, Cert.OutProjIdeal.Gen.facts, Cert.OutProjReferenceIdeal.Gen.facts,
    Cert.OutProjHyena.Gen.facts, Cert.OutProjHyenaIdeal.Gen.facts, Cert.OutProjHyenaReferenceIdeal.Gen.facts,
    Cert.GdnOut.Gen.facts, Cert.GdnOutIdeal.Gen.facts, Cert.GdnOutReferenceIdeal.Gen.facts,
    Cert.GdnScan.Gen.facts, Cert.GdnScanIdeal.Gen.facts, Cert.GdnScanReferenceIdeal.Gen.facts,
    Cert.Pre_attention_finite.Gen.facts, Cert.Pre_scan_finite.Gen.facts,
    frame_Attention, frame_AttentionIdeal, frame_AttentionIdeal_pre, frame_AttentionReference, frame_AttentionReference_pre,
    frame_InProj, frame_InProjIdeal, frame_InProjReference,
    frame_InProjConformer, frame_InProjConformerIdeal, frame_InProjConformerReference,
    frame_InProjGdn, frame_InProjGdnIdeal, frame_InProjGdnReference,
    frame_OutProj, frame_OutProjIdeal, frame_OutProjReference,
    frame_OutProjHyena, frame_OutProjHyenaIdeal, frame_OutProjHyenaReference,
    frame_GdnOut, frame_GdnOutIdeal, frame_GdnOutReference,
    frame_GdnScan, frame_GdnScanIdeal, frame_GdnScanIdeal_pre, frame_GdnScanReference, frame_GdnScanReference_pre,
    preserves_Attention, algebraic_Attention,
    trivial, algebraic_InProj,
    trivial, algebraic_InProjConformer,
    trivial, algebraic_InProjGdn,
    trivial, algebraic_OutProj,
    trivial, algebraic_OutProjHyena,
    trivial, algebraic_GdnOut,
    preserves_GdnScan, algebraic_GdnScan⟩

end
